-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsRefIdeal (m : (ℓ : Loc Cert.StatsRefIdeal.nD Cert.StatsRefIdeal.τ Cert.StatsRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Qup (m : (ℓ : Loc Cert.Qup.nD Cert.Qup.τ Cert.Qup.sig) → Buf (Elt Bits) ℓ) : Prop :=
  True

def Pre_QupIdeal (m : (ℓ : Loc Cert.QupIdeal.nD Cert.QupIdeal.τ Cert.QupIdeal.sig) → Buf (Elt Ideal) ℓ) : Prop :=
  True

def Pre_QupRefIdeal (m : (ℓ : Loc Cert.QupRefIdeal.nD Cert.QupRefIdeal.τ Cert.QupRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2)
      ∧ r.2.mem ((c.tc : Thread Cert.Stats.nD Cert.Stats.τ).loc Cert.Stats.main_arg3) = m ((c.tc : Thread Cert.Stats.nD Cert.Stats.τ).loc Cert.Stats.main_arg3))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3))
      ∧ r.2.sem = fun _ => 0)

def quiescent_StatsRefIdeal [hStatsRefIdeal : Cert.StatsRefIdeal.Facts] : Prop :=
  ∀ (m : (ℓ : Loc Cert.StatsRefIdeal.nD Cert.StatsRefIdeal.τ Cert.StatsRefIdeal.sig) → Buf (Elt Ideal) ℓ) (g : Dev Cert.StatsRefIdeal.nD → PrngReg), Pre_StatsRefIdeal m →
    θ_run (Cert.StatsRefIdeal.defs (F := Ideal)) (onTc (τ := Cert.StatsRefIdeal.τ) (Cert.StatsRefIdeal.main (F := Ideal))) ⟨m, fun _ => 0, g⟩ (fun r => (∀ c : Dev Cert.StatsRefIdeal.nD,
      r.2.mem ((c.tc : Thread Cert.StatsRefIdeal.nD Cert.StatsRefIdeal.τ).loc Cert.StatsRefIdeal.main_arg0) = m ((c.tc : Thread Cert.StatsRefIdeal.nD Cert.StatsRefIdeal.τ).loc Cert.StatsRefIdeal.main_arg0)
      ∧ r.2.mem ((c.tc : Thread Cert.StatsRefIdeal.nD Cert.StatsRefIdeal.τ).loc Cert.StatsRefIdeal.main_arg1) = m ((c.tc : Thread Cert.StatsRefIdeal.nD Cert.StatsRefIdeal.τ).loc Cert.StatsRefIdeal.main_arg1)
      ∧ r.2.mem ((c.tc : Thread Cert.StatsRefIdeal.nD Cert.StatsRefIdeal.τ).loc Cert.StatsRefIdeal.main_arg2) = m ((c.tc : Thread Cert.StatsRefIdeal.nD Cert.StatsRefIdeal.τ).loc Cert.StatsRefIdeal.main_arg2)
      ∧ r.2.mem ((c.tc : Thread Cert.StatsRefIdeal.nD Cert.StatsRefIdeal.τ).loc Cert.StatsRefIdeal.main_arg3) = m ((c.tc : Thread Cert.StatsRefIdeal.nD Cert.StatsRefIdeal.τ).loc Cert.StatsRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Qup [hQup : Cert.Qup.Facts] : Prop :=
  ∀ (m : (ℓ : Loc Cert.Qup.nD Cert.Qup.τ Cert.Qup.sig) → Buf (Elt Bits) ℓ) (g : Dev Cert.Qup.nD → PrngReg), Pre_Qup m →
    θ_run (Cert.Qup.defs (F := Bits)) (onTc (τ := Cert.Qup.τ) (Cert.Qup.main (F := Bits))) ⟨m, fun _ => 0, g⟩ (fun r => (∀ c : Dev Cert.Qup.nD,
      r.2.mem ((c.tc : Thread Cert.Qup.nD Cert.Qup.τ).loc Cert.Qup.main_arg0) = m ((c.tc : Thread Cert.Qup.nD Cert.Qup.τ).loc Cert.Qup.main_arg0)
      ∧ r.2.mem ((c.tc : Thread Cert.Qup.nD Cert.Qup.τ).loc Cert.Qup.main_arg1) = m ((c.tc : Thread Cert.Qup.nD Cert.Qup.τ).loc Cert.Qup.main_arg1)
      ∧ r.2.mem ((c.tc : Thread Cert.Qup.nD Cert.Qup.τ).loc Cert.Qup.main_arg2) = m ((c.tc : Thread Cert.Qup.nD Cert.Qup.τ).loc Cert.Qup.main_arg2)
      ∧ r.2.mem ((c.tc : Thread Cert.Qup.nD Cert.Qup.τ).loc Cert.Qup.main_arg3) = m ((c.tc : Thread Cert.Qup.nD Cert.Qup.τ).loc Cert.Qup.main_arg3))
      ∧ r.2.sem = fun _ => 0)

def quiescent_QupIdeal [hQupIdeal : Cert.QupIdeal.Facts] : Prop :=
  ∀ (m : (ℓ : Loc Cert.QupIdeal.nD Cert.QupIdeal.τ Cert.QupIdeal.sig) → Buf (Elt Ideal) ℓ) (g : Dev Cert.QupIdeal.nD → PrngReg), Pre_QupIdeal m →
    θ_run (Cert.QupIdeal.defs (F := Ideal)) (onTc (τ := Cert.QupIdeal.τ) (Cert.QupIdeal.main (F := Ideal))) ⟨m, fun _ => 0, g⟩ (fun r => (∀ c : Dev Cert.QupIdeal.nD,
      r.2.mem ((c.tc : Thread Cert.QupIdeal.nD Cert.QupIdeal.τ).loc Cert.QupIdeal.main_arg0) = m ((c.tc : Thread Cert.QupIdeal.nD Cert.QupIdeal.τ).loc Cert.QupIdeal.main_arg0)
      ∧ r.2.mem ((c.tc : Thread Cert.QupIdeal.nD Cert.QupIdeal.τ).loc Cert.QupIdeal.main_arg1) = m ((c.tc : Thread Cert.QupIdeal.nD Cert.QupIdeal.τ).loc Cert.QupIdeal.main_arg1)
      ∧ r.2.mem ((c.tc : Thread Cert.QupIdeal.nD Cert.QupIdeal.τ).loc Cert.QupIdeal.main_arg2) = m ((c.tc : Thread Cert.QupIdeal.nD Cert.QupIdeal.τ).loc Cert.QupIdeal.main_arg2)
      ∧ r.2.mem ((c.tc : Thread Cert.QupIdeal.nD Cert.QupIdeal.τ).loc Cert.QupIdeal.main_arg3) = m ((c.tc : Thread Cert.QupIdeal.nD Cert.QupIdeal.τ).loc Cert.QupIdeal.main_arg3))
      ∧ r.2.sem = fun _ => 0)

def quiescent_QupRefIdeal [hQupRefIdeal : Cert.QupRefIdeal.Facts] : Prop :=
  ∀ (m : (ℓ : Loc Cert.QupRefIdeal.nD Cert.QupRefIdeal.τ Cert.QupRefIdeal.sig) → Buf (Elt Ideal) ℓ) (g : Dev Cert.QupRefIdeal.nD → PrngReg), Pre_QupRefIdeal m →
    θ_run (Cert.QupRefIdeal.defs (F := Ideal)) (onTc (τ := Cert.QupRefIdeal.τ) (Cert.QupRefIdeal.main (F := Ideal))) ⟨m, fun _ => 0, g⟩ (fun r => (∀ c : Dev Cert.QupRefIdeal.nD,
      r.2.mem ((c.tc : Thread Cert.QupRefIdeal.nD Cert.QupRefIdeal.τ).loc Cert.QupRefIdeal.main_arg0) = m ((c.tc : Thread Cert.QupRefIdeal.nD Cert.QupRefIdeal.τ).loc Cert.QupRefIdeal.main_arg0)
      ∧ r.2.mem ((c.tc : Thread Cert.QupRefIdeal.nD Cert.QupRefIdeal.τ).loc Cert.QupRefIdeal.main_arg1) = m ((c.tc : Thread Cert.QupRefIdeal.nD Cert.QupRefIdeal.τ).loc Cert.QupRefIdeal.main_arg1)
      ∧ r.2.mem ((c.tc : Thread Cert.QupRefIdeal.nD Cert.QupRefIdeal.τ).loc Cert.QupRefIdeal.main_arg2) = m ((c.tc : Thread Cert.QupRefIdeal.nD Cert.QupRefIdeal.τ).loc Cert.QupRefIdeal.main_arg2)
      ∧ r.2.mem ((c.tc : Thread Cert.QupRefIdeal.nD Cert.QupRefIdeal.τ).loc Cert.QupRefIdeal.main_arg3) = m ((c.tc : Thread Cert.QupRefIdeal.nD Cert.QupRefIdeal.τ).loc Cert.QupRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v14)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v14) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v15) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v17)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v17) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v17) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Stats_StatsIdeal : Prop :=
  True

def algebraic_StatsIdeal_StatsRefIdeal [hStatsIdeal : Cert.StatsIdeal.Facts] [hStatsRefIdeal : Cert.StatsRefIdeal.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsRefIdeal.nD Cert.StatsRefIdeal.τ Cert.StatsRefIdeal.sig) → Buf (Elt Ideal) ℓ) (g' : Dev Cert.StatsRefIdeal.nD → PrngReg), Pre_StatsIdeal m →
    (∀ c : Dev Cert.StatsIdeal.nD,
      m' ((c.tc : Thread Cert.StatsRefIdeal.nD Cert.StatsRefIdeal.τ).loc Cert.StatsRefIdeal.main_arg0) = m ((c.tc : Thread Cert.StatsIdeal.nD Cert.StatsIdeal.τ).loc Cert.StatsIdeal.main_arg0)
      ∧ m' ((c.tc : Thread Cert.StatsRefIdeal.nD Cert.StatsRefIdeal.τ).loc Cert.StatsRefIdeal.main_arg1) = m ((c.tc : Thread Cert.StatsIdeal.nD Cert.StatsIdeal.τ).loc Cert.StatsIdeal.main_arg1)
      ∧ m' ((c.tc : Thread Cert.StatsRefIdeal.nD Cert.StatsRefIdeal.τ).loc Cert.StatsRefIdeal.main_arg2) = m ((c.tc : Thread Cert.StatsIdeal.nD Cert.StatsIdeal.τ).loc Cert.StatsIdeal.main_arg2)
      ∧ m' ((c.tc : Thread Cert.StatsRefIdeal.nD Cert.StatsRefIdeal.τ).loc Cert.StatsRefIdeal.main_arg3) = m ((c.tc : Thread Cert.StatsIdeal.nD Cert.StatsIdeal.τ).loc Cert.StatsIdeal.main_arg3)) →
    ∃ (v0 : (c : Dev Cert.StatsIdeal.nD) → Buf (Elt Ideal) ((c.tc : Thread Cert.StatsIdeal.nD Cert.StatsIdeal.τ).loc Cert.StatsIdeal.main_v5_0)) (v1 : (c : Dev Cert.StatsIdeal.nD) → Buf (Elt Ideal) ((c.tc : Thread Cert.StatsIdeal.nD Cert.StatsIdeal.τ).loc Cert.StatsIdeal.main_v5_1)) (v2 : (c : Dev Cert.StatsIdeal.nD) → Buf (Elt Ideal) ((c.tc : Thread Cert.StatsIdeal.nD Cert.StatsIdeal.τ).loc Cert.StatsIdeal.main_v5_2)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v5_0) = v0 c
          ∧ r.2.mem ((c.tc : Thread Cert.StatsIdeal.nD Cert.StatsIdeal.τ).loc Cert.StatsIdeal.main_v5_1) = v1 c
          ∧ r.2.mem ((c.tc : Thread Cert.StatsIdeal.nD Cert.StatsIdeal.τ).loc Cert.StatsIdeal.main_v5_2) = v2 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
          ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3))
      ∧ θ_run (Cert.StatsRefIdeal.defs (F := Ideal)) (onTc (τ := Cert.StatsRefIdeal.τ) (Cert.StatsRefIdeal.main (F := Ideal))) ⟨m', fun _ => 0, g'⟩ (fun r => ∀ c : Dev Cert.StatsRefIdeal.nD,
          r.2.mem ((c.tc : Thread Cert.StatsRefIdeal.nD Cert.StatsRefIdeal.τ).loc Cert.StatsRefIdeal.main_v10) = v0 c
          ∧ r.2.mem ((c.tc : Thread Cert.StatsRefIdeal.nD Cert.StatsRefIdeal.τ).loc Cert.StatsRefIdeal.main_v15) = v1 c
          ∧ r.2.mem ((c.tc : Thread Cert.StatsRefIdeal.nD Cert.StatsRefIdeal.τ).loc Cert.StatsRefIdeal.main_v16) = v2 c
          ∧ r.2.mem ((c.tc : Thread Cert.StatsRefIdeal.nD Cert.StatsRefIdeal.τ).loc Cert.StatsRefIdeal.main_arg0) = m' ((c.tc : Thread Cert.StatsRefIdeal.nD Cert.StatsRefIdeal.τ).loc Cert.StatsRefIdeal.main_arg0)
          ∧ r.2.mem ((c.tc : Thread Cert.StatsRefIdeal.nD Cert.StatsRefIdeal.τ).loc Cert.StatsRefIdeal.main_arg1) = m' ((c.tc : Thread Cert.StatsRefIdeal.nD Cert.StatsRefIdeal.τ).loc Cert.StatsRefIdeal.main_arg1)
          ∧ r.2.mem ((c.tc : Thread Cert.StatsRefIdeal.nD Cert.StatsRefIdeal.τ).loc Cert.StatsRefIdeal.main_arg2) = m' ((c.tc : Thread Cert.StatsRefIdeal.nD Cert.StatsRefIdeal.τ).loc Cert.StatsRefIdeal.main_arg2)
          ∧ r.2.mem ((c.tc : Thread Cert.StatsRefIdeal.nD Cert.StatsRefIdeal.τ).loc Cert.StatsRefIdeal.main_arg3) = m' ((c.tc : Thread Cert.StatsRefIdeal.nD Cert.StatsRefIdeal.τ).loc Cert.StatsRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v15) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v12_0)) (v1 : (c : Dev Cert.DownIdeal.nD) → Buf (Elt Ideal) ((c.tc : Thread Cert.DownIdeal.nD Cert.DownIdeal.τ).loc Cert.DownIdeal.main_v12_1)) (v2 : (c : Dev Cert.DownIdeal.nD) → Buf (Elt Ideal) ((c.tc : Thread Cert.DownIdeal.nD Cert.DownIdeal.τ).loc Cert.DownIdeal.main_v12_2)) (v3 : (c : Dev Cert.DownIdeal.nD) → Buf (Elt Ideal) ((c.tc : Thread Cert.DownIdeal.nD Cert.DownIdeal.τ).loc Cert.DownIdeal.main_v12_3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v12_0) = v0 c
          ∧ r.2.mem ((c.tc : Thread Cert.DownIdeal.nD Cert.DownIdeal.τ).loc Cert.DownIdeal.main_v12_1) = v1 c
          ∧ r.2.mem ((c.tc : Thread Cert.DownIdeal.nD Cert.DownIdeal.τ).loc Cert.DownIdeal.main_v12_2) = v2 c
          ∧ r.2.mem ((c.tc : Thread Cert.DownIdeal.nD Cert.DownIdeal.τ).loc Cert.DownIdeal.main_v12_3) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v19) = v0 c
          ∧ r.2.mem ((c.tc : Thread Cert.DownRefIdeal.nD Cert.DownRefIdeal.τ).loc Cert.DownRefIdeal.main_v34) = v1 c
          ∧ r.2.mem ((c.tc : Thread Cert.DownRefIdeal.nD Cert.DownRefIdeal.τ).loc Cert.DownRefIdeal.main_v49) = v2 c
          ∧ r.2.mem ((c.tc : Thread Cert.DownRefIdeal.nD Cert.DownRefIdeal.τ).loc Cert.DownRefIdeal.main_v66) = v3 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v5_0)) (v1 : (c : Dev Cert.KvIdeal.nD) → Buf (Elt Ideal) ((c.tc : Thread Cert.KvIdeal.nD Cert.KvIdeal.τ).loc Cert.KvIdeal.main_v5_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v5_0) = v0 c
          ∧ r.2.mem ((c.tc : Thread Cert.KvIdeal.nD Cert.KvIdeal.τ).loc Cert.KvIdeal.main_v5_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v12) = v0 c
          ∧ r.2.mem ((c.tc : Thread Cert.KvRefIdeal.nD Cert.KvRefIdeal.τ).loc Cert.KvRefIdeal.main_v13) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Qup_QupIdeal : Prop :=
  IdealRules.named_const.Statement Cert.QupIdeal.κ "scale" .f32 0x3DD53B95#32 ((((Real.sqrt 192) * (Real.log 2))⁻¹ : ℝ) : EReal)

def algebraic_QupIdeal_QupRefIdeal [hQupIdeal : Cert.QupIdeal.Facts] [hQupRefIdeal : Cert.QupRefIdeal.Facts] : Prop :=
  ∀ (m : (ℓ : Loc Cert.QupIdeal.nD Cert.QupIdeal.τ Cert.QupIdeal.sig) → Buf (Elt Ideal) ℓ) (g : Dev Cert.QupIdeal.nD → PrngReg)
    (m' : (ℓ : Loc Cert.QupRefIdeal.nD Cert.QupRefIdeal.τ Cert.QupRefIdeal.sig) → Buf (Elt Ideal) ℓ) (g' : Dev Cert.QupRefIdeal.nD → PrngReg), Pre_QupIdeal m →
    (∀ c : Dev Cert.QupIdeal.nD,
      m' ((c.tc : Thread Cert.QupRefIdeal.nD Cert.QupRefIdeal.τ).loc Cert.QupRefIdeal.main_arg0) = m ((c.tc : Thread Cert.QupIdeal.nD Cert.QupIdeal.τ).loc Cert.QupIdeal.main_arg0)
      ∧ m' ((c.tc : Thread Cert.QupRefIdeal.nD Cert.QupRefIdeal.τ).loc Cert.QupRefIdeal.main_arg1) = m ((c.tc : Thread Cert.QupIdeal.nD Cert.QupIdeal.τ).loc Cert.QupIdeal.main_arg1)
      ∧ m' ((c.tc : Thread Cert.QupRefIdeal.nD Cert.QupRefIdeal.τ).loc Cert.QupRefIdeal.main_arg2) = m ((c.tc : Thread Cert.QupIdeal.nD Cert.QupIdeal.τ).loc Cert.QupIdeal.main_arg2)
      ∧ m' ((c.tc : Thread Cert.QupRefIdeal.nD Cert.QupRefIdeal.τ).loc Cert.QupRefIdeal.main_arg3) = m ((c.tc : Thread Cert.QupIdeal.nD Cert.QupIdeal.τ).loc Cert.QupIdeal.main_arg3)) →
    ∃ (v0 : (c : Dev Cert.QupIdeal.nD) → Buf (Elt Ideal) ((c.tc : Thread Cert.QupIdeal.nD Cert.QupIdeal.τ).loc Cert.QupIdeal.main_v7)),
      θ_run (Cert.QupIdeal.defs (F := Ideal)) (onTc (τ := Cert.QupIdeal.τ) (Cert.QupIdeal.main (F := Ideal))) ⟨m, fun _ => 0, g⟩ (fun r => ∀ c : Dev Cert.QupIdeal.nD,
          r.2.mem ((c.tc : Thread Cert.QupIdeal.nD Cert.QupIdeal.τ).loc Cert.QupIdeal.main_v7) = v0 c
          ∧ r.2.mem ((c.tc : Thread Cert.QupIdeal.nD Cert.QupIdeal.τ).loc Cert.QupIdeal.main_arg0) = m ((c.tc : Thread Cert.QupIdeal.nD Cert.QupIdeal.τ).loc Cert.QupIdeal.main_arg0)
          ∧ r.2.mem ((c.tc : Thread Cert.QupIdeal.nD Cert.QupIdeal.τ).loc Cert.QupIdeal.main_arg1) = m ((c.tc : Thread Cert.QupIdeal.nD Cert.QupIdeal.τ).loc Cert.QupIdeal.main_arg1)
          ∧ r.2.mem ((c.tc : Thread Cert.QupIdeal.nD Cert.QupIdeal.τ).loc Cert.QupIdeal.main_arg2) = m ((c.tc : Thread Cert.QupIdeal.nD Cert.QupIdeal.τ).loc Cert.QupIdeal.main_arg2)
          ∧ r.2.mem ((c.tc : Thread Cert.QupIdeal.nD Cert.QupIdeal.τ).loc Cert.QupIdeal.main_arg3) = m ((c.tc : Thread Cert.QupIdeal.nD Cert.QupIdeal.τ).loc Cert.QupIdeal.main_arg3))
      ∧ θ_run (Cert.QupRefIdeal.defs (F := Ideal)) (onTc (τ := Cert.QupRefIdeal.τ) (Cert.QupRefIdeal.main (F := Ideal))) ⟨m', fun _ => 0, g'⟩ (fun r => ∀ c : Dev Cert.QupRefIdeal.nD,
          r.2.mem ((c.tc : Thread Cert.QupRefIdeal.nD Cert.QupRefIdeal.τ).loc Cert.QupRefIdeal.main_v27) = v0 c
          ∧ r.2.mem ((c.tc : Thread Cert.QupRefIdeal.nD Cert.QupRefIdeal.τ).loc Cert.QupRefIdeal.main_arg0) = m' ((c.tc : Thread Cert.QupRefIdeal.nD Cert.QupRefIdeal.τ).loc Cert.QupRefIdeal.main_arg0)
          ∧ r.2.mem ((c.tc : Thread Cert.QupRefIdeal.nD Cert.QupRefIdeal.τ).loc Cert.QupRefIdeal.main_arg1) = m' ((c.tc : Thread Cert.QupRefIdeal.nD Cert.QupRefIdeal.τ).loc Cert.QupRefIdeal.main_arg1)
          ∧ r.2.mem ((c.tc : Thread Cert.QupRefIdeal.nD Cert.QupRefIdeal.τ).loc Cert.QupRefIdeal.main_arg2) = m' ((c.tc : Thread Cert.QupRefIdeal.nD Cert.QupRefIdeal.τ).loc Cert.QupRefIdeal.main_arg2)
          ∧ r.2.mem ((c.tc : Thread Cert.QupRefIdeal.nD Cert.QupRefIdeal.τ).loc Cert.QupRefIdeal.main_arg3) = m' ((c.tc : Thread Cert.QupRefIdeal.nD Cert.QupRefIdeal.τ).loc Cert.QupRefIdeal.main_arg3))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hInRefIdeal : Cert.InRefIdeal.Facts) (hGate : Cert.Gate.Facts) (hGateIdeal : Cert.GateIdeal.Facts) (hGateRefIdeal : Cert.GateRefIdeal.Facts) (hStats : Cert.Stats.Facts) (hStatsIdeal : Cert.StatsIdeal.Facts) (hStatsRefIdeal : Cert.StatsRefIdeal.Facts) (hOut : Cert.Out.Facts) (hOutIdeal : Cert.OutIdeal.Facts) (hOutRefIdeal : Cert.OutRefIdeal.Facts) (hDown : Cert.Down.Facts) (hDownIdeal : Cert.DownIdeal.Facts) (hDownRefIdeal : Cert.DownRefIdeal.Facts) (hKv : Cert.Kv.Facts) (hKvIdeal : Cert.KvIdeal.Facts) (hKvRefIdeal : Cert.KvRefIdeal.Facts) (hQup : Cert.Qup.Facts) (hQupIdeal : Cert.QupIdeal.Facts) (hQupRefIdeal : Cert.QupRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_In (hIn := hIn)
    ∧ quiescent_InIdeal (hInIdeal := hInIdeal)
    ∧ quiescent_InRefIdeal (hInRefIdeal := hInRefIdeal)
    ∧ quiescent_Gate (hGate := hGate)
    ∧ quiescent_GateIdeal (hGateIdeal := hGateIdeal)
    ∧ quiescent_GateRefIdeal (hGateRefIdeal := hGateRefIdeal)
    ∧ quiescent_Stats (hStats := hStats)
    ∧ quiescent_StatsIdeal (hStatsIdeal := hStatsIdeal)
    ∧ quiescent_StatsRefIdeal (hStatsRefIdeal := hStatsRefIdeal)
    ∧ quiescent_Out (hOut := hOut)
    ∧ quiescent_OutIdeal (hOutIdeal := hOutIdeal)
    ∧ quiescent_OutRefIdeal (hOutRefIdeal := hOutRefIdeal)
    ∧ quiescent_Down (hDown := hDown)
    ∧ quiescent_DownIdeal (hDownIdeal := hDownIdeal)
    ∧ quiescent_DownRefIdeal (hDownRefIdeal := hDownRefIdeal)
    ∧ quiescent_Kv (hKv := hKv)
    ∧ quiescent_KvIdeal (hKvIdeal := hKvIdeal)
    ∧ quiescent_KvRefIdeal (hKvRefIdeal := hKvRefIdeal)
    ∧ quiescent_Qup (hQup := hQup)
    ∧ quiescent_QupIdeal (hQupIdeal := hQupIdeal)
    ∧ quiescent_QupRefIdeal (hQupRefIdeal := hQupRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_In_InIdeal
    ∧ algebraic_InIdeal_InRefIdeal (hInIdeal := hInIdeal) (hInRefIdeal := hInRefIdeal)
    ∧ preserves_Gate_GateIdeal
    ∧ algebraic_GateIdeal_GateRefIdeal (hGateIdeal := hGateIdeal) (hGateRefIdeal := hGateRefIdeal)
    ∧ preserves_Stats_StatsIdeal
    ∧ algebraic_StatsIdeal_StatsRefIdeal (hStatsIdeal := hStatsIdeal) (hStatsRefIdeal := hStatsRefIdeal)
    ∧ preserves_Out_OutIdeal
    ∧ algebraic_OutIdeal_OutRefIdeal (hOutIdeal := hOutIdeal) (hOutRefIdeal := hOutRefIdeal)
    ∧ preserves_Down_DownIdeal
    ∧ algebraic_DownIdeal_DownRefIdeal (hDownIdeal := hDownIdeal) (hDownRefIdeal := hDownRefIdeal)
    ∧ preserves_Kv_KvIdeal
    ∧ algebraic_KvIdeal_KvRefIdeal (hKvIdeal := hKvIdeal) (hKvRefIdeal := hKvRefIdeal)
    ∧ preserves_Qup_QupIdeal
    ∧ algebraic_QupIdeal_QupRefIdeal (hQupIdeal := hQupIdeal) (hQupRefIdeal := hQupRefIdeal)
-- ==== Pre_finite_scores.lean ====
abbrev S2x8192x32x192 : Shape := ⟨4, ![2, 8192, 32, 192]⟩
abbrev S2x8192x32x128 : Shape := ⟨4, ![2, 8192, 32, 128]⟩
abbrev S2x8192x4096 : Shape := ⟨3, ![2, 8192, 4096]⟩
abbrev S_ : Shape := ⟨0, ![]⟩

class Facts : Prop where
  bcast_S_S2x8192x32x192 : S_.BroadcastsInDim S2x8192x32x192 (![] : Fin 0 → Fin S2x8192x32x192.rank)
  reducesTo_S2x8192x32x192_S_d0_1_2_3 : S2x8192x32x192.ReducesTo [0, 1, 2, 3] S_
  h_S_ : 0 < S_.numel

variable [Facts]

def fn {F : FTy → Type} [FloatOps F] (main_arg0 : FVec F S2x8192x32x192 .f32) (main_arg1 : FVec F S2x8192x32x192 .f32) (main_arg2 : FVec F S2x8192x32x128 .f32) (main_arg3 : FVec F S2x8192x4096 .f32) : IVec S_ 1 :=
  let main_v0 : FVec F S2x8192x32x192 .f32 := Host.absf main_arg0
  let main_cst : FVec F S_ .f32 := constant S_ .f32 0x7F800000#32
  let main_v1 : FVec F S2x8192x32x192 .f32 := broadcastInDim S2x8192x32x192 ![] bcast_S_S2x8192x32x192 main_cst
  let main_v2 : IVec S2x8192x32x192 1 := cmpf .olt main_v0 main_v1
  let main_c : IVec S_ 1 := constantI S_ 1 1#1
  let main_v3 : IVec S_ 1 := (fun x v => Host.reduce IntOp.andi x v reducesTo_S2x8192x32x192_S_d0_1_2_3 h_S_) main_v2 main_c
  let main_v4 : FVec F S2x8192x32x192 .f32 := Host.absf main_arg1
  let main_cst_0 : FVec F S_ .f32 := constant S_ .f32 0x7F800000#32
  let main_v5 : FVec F S2x8192x32x192 .f32 := broadcastInDim S2x8192x32x192 ![] bcast_S_S2x8192x32x192 main_cst_0
  let main_v6 : IVec S2x8192x32x192 1 := cmpf .olt main_v4 main_v5
  let main_c_1 : IVec S_ 1 := constantI S_ 1 1#1
  let main_v7 : IVec S_ 1 := (fun x v => Host.reduce IntOp.andi x v reducesTo_S2x8192x32x192_S_d0_1_2_3 h_S_) main_v6 main_c_1
  let main_v8 : IVec S_ 1 := andi main_v3 main_v7
  main_v8
-- ==== Kernel.lean ====
abbrev S2x8192x32x192 : Shape := ⟨4, ![2, 8192, 32, 192]⟩
abbrev S2x8192x32x128 : Shape := ⟨4, ![2, 8192, 32, 128]⟩
abbrev S2x8192x4096 : Shape := ⟨3, ![2, 8192, 4096]⟩
abbrev S_ : Shape := ⟨0, ![]⟩
abbrev S2x32x192x8192 : Shape := ⟨4, ![2, 32, 192, 8192]⟩
abbrev S2x32x8192x192 : Shape := ⟨4, ![2, 32, 8192, 192]⟩
abbrev S2x32x16x8192 : Shape := ⟨4, ![2, 32, 16, 8192]⟩
abbrev S2x32x128x8192 : Shape := ⟨4, ![2, 32, 128, 8192]⟩
abbrev S2x32x144x8192 : Shape := ⟨4, ![2, 32, 144, 8192]⟩
abbrev S16384x4096 : Shape := ⟨2, ![16384, 4096]⟩
abbrev S1x1x192x1024 : Shape := ⟨4, ![1, 1, 192, 1024]⟩
abbrev S1x1x8192x192 : Shape := ⟨4, ![1, 1, 8192, 192]⟩
abbrev S1x1x144x8192 : Shape := ⟨4, ![1, 1, 144, 8192]⟩
abbrev S1024x128 : Shape := ⟨2, ![1024, 128]⟩
abbrev S2x512x1024 : Shape := ⟨3, ![2, 512, 1024]⟩
abbrev S2x1x1024 : Shape := ⟨3, ![2, 1, 1024]⟩
abbrev S1x1024 : Shape := ⟨2, ![1, 1024]⟩
abbrev S144x1024 : Shape := ⟨2, ![144, 1024]⟩
abbrev S1x1x512x192 : Shape := ⟨4, ![1, 1, 512, 192]⟩
abbrev S512x192 : Shape := ⟨2, ![512, 192]⟩
abbrev S192x1024 : Shape := ⟨2, ![192, 1024]⟩
abbrev S512x1024 : Shape := ⟨2, ![512, 1024]⟩
abbrev S1x512x1024 : Shape := ⟨3, ![1, 512, 1024]⟩
abbrev S1024 : Shape := ⟨1, ![1024]⟩
abbrev S1x1x1024 : Shape := ⟨3, ![1, 1, 1024]⟩
abbrev S1x1x144x512 : Shape := ⟨4, ![1, 1, 144, 512]⟩
abbrev S144x512 : Shape := ⟨2, ![144, 512]⟩
abbrev S1x1x192x512 : Shape := ⟨4, ![1, 1, 192, 512]⟩
abbrev S192x512 : Shape := ⟨2, ![192, 512]⟩
abbrev S512x512 : Shape := ⟨2, ![512, 512]⟩
abbrev S1x512x512 : Shape := ⟨3, ![1, 512, 512]⟩
abbrev S512 : Shape := ⟨1, ![512]⟩
abbrev S1x512 : Shape := ⟨2, ![1, 512]⟩
abbrev S1x1x512 : Shape := ⟨3, ![1, 1, 512]⟩
abbrev S128x1024 : Shape := ⟨2, ![128, 1024]⟩

abbrev nBuf : Space → Nat
  | .hbm => 25
  | .vmem => 14
  | .smem => 0
  | _ => 0

abbrev bufTy : (tb : Table) → Fin (tcTables nBuf tb) → BufTy
  | .hbm, ⟨0, _⟩ => ⟨S2x8192x32x192, .f32⟩
  | .hbm, ⟨1, _⟩ => ⟨S2x8192x32x192, .f32⟩
  | .hbm, ⟨2, _⟩ => ⟨S2x8192x32x128, .f32⟩
  | .hbm, ⟨3, _⟩ => ⟨S2x8192x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x32x192x8192, .f32⟩
  | .hbm, ⟨12, _⟩ => ⟨S2x32x192x8192, .f32⟩
  | .hbm, ⟨13, _⟩ => ⟨S2x32x192x8192, .f32⟩
  | .hbm, ⟨14, _⟩ => ⟨S2x32x192x8192, .bf16⟩
  | .hbm, ⟨15, _⟩ => ⟨S2x32x8192x192, .f32⟩
  | .hbm, ⟨16, _⟩ => ⟨S2x32x8192x192, .bf16⟩
  | .hbm, ⟨17, _⟩ => ⟨S_, .f32⟩
  | .hbm, ⟨18, _⟩ => ⟨S2x32x16x8192, .f32⟩
  | .hbm, ⟨19, _⟩ => ⟨S2x32x128x8192, .f32⟩
  | .hbm, ⟨20, _⟩ => ⟨S2x32x144x8192, .f32⟩
  | .hbm, ⟨21, _⟩ => ⟨S2x32x144x8192, .bf16⟩
  | .hbm, ⟨22, _⟩ => ⟨S16384x4096, .f32⟩
  | .hbm, ⟨23, _⟩ => ⟨S16384x4096, .bf16⟩
  | .hbm, ⟨24, _⟩ => ⟨S16384x4096, .bf16⟩
  | .local _ .vmem, ⟨0, _⟩ => ⟨S1x1x192x1024, .bf16⟩
  | .local _ .vmem, ⟨1, _⟩ => ⟨S1x1x192x1024, .bf16⟩
  | .local _ .vmem, ⟨2, _⟩ => ⟨S1x1x8192x192, .bf16⟩
  | .local _ .vmem, ⟨3, _⟩ => ⟨S1x1x8192x192, .bf16⟩
  | .local _ .vmem, ⟨4, _⟩ => ⟨S1x1x144x8192, .bf16⟩
  | .local _ .vmem, ⟨5, _⟩ => ⟨S1x1x144x8192, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S2x512x1024, .f32⟩
  | .local _ .vmem, ⟨11, _⟩ => ⟨S2x1x1024, .f32⟩
  | .local _ .vmem, ⟨12, _⟩ => ⟨S1x1024, .f32⟩
  | .local _ .vmem, ⟨13, _⟩ => ⟨S144x1024, .f32⟩
  | _, _ => ⟨S2x8192x32x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 32, 8], ![false, false, false]⟩

def k0_cond1 (i : grid0.Coords) : BitVec 1 :=
  let arg2 : BitVec 32 := BitVec.ofNat 32 (i 2).val
  let c0_i32 : BitVec 32 := 0#32
  let v9 : BitVec 1 := Scalar.cmpi .eq arg2 c0_i32
  let v10 : BitVec 32 := Scalar.extui v9
  let c0_i32_4 : BitVec 32 := 0#32
  let v11 : BitVec 1 := Scalar.cmpi .ne v10 c0_i32_4
  v11

def k0_mult1 : BitVec 32 :=
  let c0_i32_93 : BitVec 32 := 0#32
  c0_i32_93
def k0_cond2 (i : grid0.Coords) : BitVec 1 :=
  let arg2 : BitVec 32 := BitVec.ofNat 32 (i 2).val
  let c0_i32_5 : BitVec 32 := 0#32
  let v12 : BitVec 1 := Scalar.cmpi .sgt arg2 c0_i32_5
  let v13 : BitVec 32 := Scalar.extui v12
  let c0_i32_6 : BitVec 32 := 0#32
  let v14 : BitVec 1 := Scalar.cmpi .ne v13 c0_i32_6
  v14

def k0_mult2 : BitVec 32 :=
  let c0_i32_93 : BitVec 32 := 0#32
  c0_i32_93
@[reducible] def k0_t1_loop (i : grid0.Coords) : Scf.Loop 32 :=
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_18 : BitVec 32 := 1#32
  ⟨c0_i32_16, v38, c1_i32_18⟩
def k0_mult3 (i : grid0.Coords) (k0_t1 : Fin (k0_t1_loop i).trips) : BitVec 32 :=
  let c2_i32_94 : BitVec 32 := 2#32
  let c2_i32_93 : BitVec 32 := 2#32
  let c0_i32_16 : BitVec 32 := 0#32
  let c1_i32_18 : BitVec 32 := 1#32
  let arg12 : BitVec 32 := Scf.iv c0_i32_16 c1_i32_18 k0_t1
  let v149 : BitVec 32 := Scalar.muli c2_i32_93 arg12
  let v150 : BitVec 32 := Scalar.muli c2_i32_94 v149
  let c1_i32_95 : BitVec 32 := 1#32
  let v151 : BitVec 32 := Scalar.addi v150 c1_i32_95
  let c512_i32_96 : BitVec 32 := 512#32
  let v152 : BitVec 32 := Scalar.muli v151 c512_i32_96
  v152
def k0_off1 (i : grid0.Coords) (k0_t1 : Fin (k0_t1_loop i).trips) (c1_i32_95 : BitVec 32) : Fin 4 → Nat :=
  let c0_97 : Index := 0#32
  let c0_98 : Index := 0#32
  let c2_i32_94 : BitVec 32 := 2#32
  let c2_i32_93 : BitVec 32 := 2#32
  let c0_i32_16 : BitVec 32 := 0#32
  let c1_i32_18 : BitVec 32 := 1#32
  let arg12 : BitVec 32 := Scf.iv c0_i32_16 c1_i32_18 k0_t1
  let v149 : BitVec 32 := Scalar.muli c2_i32_93 arg12
  let v150 : BitVec 32 := Scalar.muli c2_i32_94 v149
  let v151 : BitVec 32 := Scalar.addi v150 c1_i32_95
  let c512_i32_96 : BitVec 32 := 512#32
  let v152 : BitVec 32 := Scalar.muli v151 c512_i32_96
  let v153 : BitVec 32 := v152
  let v154 : Index := Scalar.indexCast v153
  let c0_99 : Index := 0#32
  ![0, 0, v154.toNat, 0]
def k0_mult4 (i : grid0.Coords) (k0_t1 : Fin (k0_t1_loop i).trips) : BitVec 32 :=
  let c2_i32_112 : BitVec 32 := 2#32
  let c2_i32_93 : BitVec 32 := 2#32
  let c0_i32_16 : BitVec 32 := 0#32
  let c1_i32_18 : BitVec 32 := 1#32
  let arg12 : BitVec 32 := Scf.iv c0_i32_16 c1_i32_18 k0_t1
  let v149 : BitVec 32 := Scalar.muli c2_i32_93 arg12
  let v168 : BitVec 32 := Scalar.muli c2_i32_112 v149
  let c512_i32_116 : BitVec 32 := 512#32
  let v171 : BitVec 32 := Scalar.muli v168 c512_i32_116
  v171
def k0_off2 (i : grid0.Coords) (k0_t1 : Fin (k0_t1_loop i).trips) : Fin 4 → Nat :=
  let c0_117 : Index := 0#32
  let c0_118 : Index := 0#32
  let c0_119 : Index := 0#32
  let c2_i32_112 : BitVec 32 := 2#32
  let c2_i32_93 : BitVec 32 := 2#32
  let c0_i32_16 : BitVec 32 := 0#32
  let c1_i32_18 : BitVec 32 := 1#32
  let arg12 : BitVec 32 := Scf.iv c0_i32_16 c1_i32_18 k0_t1
  let v149 : BitVec 32 := Scalar.muli c2_i32_93 arg12
  let v168 : BitVec 32 := Scalar.muli c2_i32_112 v149
  let c512_i32_116 : BitVec 32 := 512#32
  let v171 : BitVec 32 := Scalar.muli v168 c512_i32_116
  let v172 : BitVec 32 := v171
  let v173 : Index := Scalar.indexCast v172
  ![0, 0, 0, v173.toNat]
def k0_mult5 (i : grid0.Coords) (k0_t1 : Fin (k0_t1_loop i).trips) : BitVec 32 :=
  let c2_i32_132 : BitVec 32 := 2#32
  let c2_i32_93 : BitVec 32 := 2#32
  let c0_i32_16 : BitVec 32 := 0#32
  let c1_i32_18 : BitVec 32 := 1#32
  let arg12 : BitVec 32 := Scf.iv c0_i32_16 c1_i32_18 k0_t1
  let v149 : BitVec 32 := Scalar.muli c2_i32_93 arg12
  let v197 : BitVec 32 := Scalar.muli c2_i32_132 v149
  let c2_i32_133 : BitVec 32 := 2#32
  let v198 : BitVec 32 := Scalar.addi v197 c2_i32_133
  let c512_i32_134 : BitVec 32 := 512#32
  let v199 : BitVec 32 := Scalar.muli v198 c512_i32_134
  v199
def k0_mult6 (i : grid0.Coords) (k0_t1 : Fin (k0_t1_loop i).trips) : BitVec 32 :=
  let c2_i32_150 : BitVec 32 := 2#32
  let c2_i32_93 : BitVec 32 := 2#32
  let c0_i32_16 : BitVec 32 := 0#32
  let c1_i32_18 : BitVec 32 := 1#32
  let arg12 : BitVec 32 := Scf.iv c0_i32_16 c1_i32_18 k0_t1
  let v149 : BitVec 32 := Scalar.muli c2_i32_93 arg12
  let v215 : BitVec 32 := Scalar.muli c2_i32_150 v149
  let c1_i32_151 : BitVec 32 := 1#32
  let v216 : BitVec 32 := Scalar.addi v215 c1_i32_151
  let c512_i32_155 : BitVec 32 := 512#32
  let v219 : BitVec 32 := Scalar.muli v216 c512_i32_155
  v219
def k0_off3 (i : grid0.Coords) (k0_t1 : Fin (k0_t1_loop i).trips) : Fin 4 → Nat :=
  let c0_156 : Index := 0#32
  let c0_157 : Index := 0#32
  let c0_158 : Index := 0#32
  let c2_i32_150 : BitVec 32 := 2#32
  let c2_i32_93 : BitVec 32 := 2#32
  let c0_i32_16 : BitVec 32 := 0#32
  let c1_i32_18 : BitVec 32 := 1#32
  let arg12 : BitVec 32 := Scf.iv c0_i32_16 c1_i32_18 k0_t1
  let v149 : BitVec 32 := Scalar.muli c2_i32_93 arg12
  let v215 : BitVec 32 := Scalar.muli c2_i32_150 v149
  let c1_i32_151 : BitVec 32 := 1#32
  let v216 : BitVec 32 := Scalar.addi v215 c1_i32_151
  let c512_i32_155 : BitVec 32 := 512#32
  let v219 : BitVec 32 := Scalar.muli v216 c512_i32_155
  let v220 : BitVec 32 := v219
  let v221 : Index := Scalar.indexCast v220
  ![0, 0, 0, v221.toNat]
def k0_mult7 (i : grid0.Coords) (k0_t1 : Fin (k0_t1_loop i).trips) : BitVec 32 :=
  let c2_i32_173 : BitVec 32 := 2#32
  let c2_i32_171 : BitVec 32 := 2#32
  let c0_i32_16 : BitVec 32 := 0#32
  let c1_i32_18 : BitVec 32 := 1#32
  let arg12 : BitVec 32 := Scf.iv c0_i32_16 c1_i32_18 k0_t1
  let v245 : BitVec 32 := Scalar.muli c2_i32_171 arg12
  let c1_i32_172 : BitVec 32 := 1#32
  let v246 : BitVec 32 := Scalar.addi v245 c1_i32_172
  let v247 : BitVec 32 := Scalar.muli c2_i32_173 v246
  let c1_i32_174 : BitVec 32 := 1#32
  let v248 : BitVec 32 := Scalar.addi v247 c1_i32_174
  let c512_i32_175 : BitVec 32 := 512#32
  let v249 : BitVec 32 := Scalar.muli v248 c512_i32_175
  v249
def k0_off4 (i : grid0.Coords) (k0_t1 : Fin (k0_t1_loop i).trips) (c1_i32_174 : BitVec 32) : Fin 4 → Nat :=
  let c0_176 : Index := 0#32
  let c0_177 : Index := 0#32
  let c2_i32_173 : BitVec 32 := 2#32
  let c2_i32_171 : BitVec 32 := 2#32
  let c0_i32_16 : BitVec 32 := 0#32
  let c1_i32_18 : BitVec 32 := 1#32
  let arg12 : BitVec 32 := Scf.iv c0_i32_16 c1_i32_18 k0_t1
  let v245 : BitVec 32 := Scalar.muli c2_i32_171 arg12
  let c1_i32_172 : BitVec 32 := 1#32
  let v246 : BitVec 32 := Scalar.addi v245 c1_i32_172
  let v247 : BitVec 32 := Scalar.muli c2_i32_173 v246
  let v248 : BitVec 32 := Scalar.addi v247 c1_i32_174
  let c512_i32_175 : BitVec 32 := 512#32
  let v249 : BitVec 32 := Scalar.muli v248 c512_i32_175
  let v250 : BitVec 32 := v249
  let v251 : Index := Scalar.indexCast v250
  let c0_178 : Index := 0#32
  ![0, 0, v251.toNat, 0]
def k0_mult8 (i : grid0.Coords) (k0_t1 : Fin (k0_t1_loop i).trips) : BitVec 32 :=
  let c2_i32_191 : BitVec 32 := 2#32
  let c2_i32_171 : BitVec 32 := 2#32
  let c0_i32_16 : BitVec 32 := 0#32
  let c1_i32_18 : BitVec 32 := 1#32
  let arg12 : BitVec 32 := Scf.iv c0_i32_16 c1_i32_18 k0_t1
  let v245 : BitVec 32 := Scalar.muli c2_i32_171 arg12
  let c1_i32_172 : BitVec 32 := 1#32
  let v246 : BitVec 32 := Scalar.addi v245 c1_i32_172
  let v265 : BitVec 32 := Scalar.muli c2_i32_191 v246
  let c512_i32_195 : BitVec 32 := 512#32
  let v268 : BitVec 32 := Scalar.muli v265 c512_i32_195
  v268
def k0_off5 (i : grid0.Coords) (k0_t1 : Fin (k0_t1_loop i).trips) : Fin 4 → Nat :=
  let c0_196 : Index := 0#32
  let c0_197 : Index := 0#32
  let c0_198 : Index := 0#32
  let c2_i32_191 : BitVec 32 := 2#32
  let c2_i32_171 : BitVec 32 := 2#32
  let c0_i32_16 : BitVec 32 := 0#32
  let c1_i32_18 : BitVec 32 := 1#32
  let arg12 : BitVec 32 := Scf.iv c0_i32_16 c1_i32_18 k0_t1
  let v245 : BitVec 32 := Scalar.muli c2_i32_171 arg12
  let c1_i32_172 : BitVec 32 := 1#32
  let v246 : BitVec 32 := Scalar.addi v245 c1_i32_172
  let v265 : BitVec 32 := Scalar.muli c2_i32_191 v246
  let c512_i32_195 : BitVec 32 := 512#32
  let v268 : BitVec 32 := Scalar.muli v265 c512_i32_195
  let v269 : BitVec 32 := v268
  let v270 : Index := Scalar.indexCast v269
  ![0, 0, 0, v270.toNat]
def k0_mult9 (i : grid0.Coords) (k0_t1 : Fin (k0_t1_loop i).trips) : BitVec 32 :=
  let c2_i32_211 : BitVec 32 := 2#32
  let c2_i32_171 : BitVec 32 := 2#32
  let c0_i32_16 : BitVec 32 := 0#32
  let c1_i32_18 : BitVec 32 := 1#32
  let arg12 : BitVec 32 := Scf.iv c0_i32_16 c1_i32_18 k0_t1
  let v245 : BitVec 32 := Scalar.muli c2_i32_171 arg12
  let c1_i32_172 : BitVec 32 := 1#32
  let v246 : BitVec 32 := Scalar.addi v245 c1_i32_172
  let v294 : BitVec 32 := Scalar.muli c2_i32_211 v246
  let c2_i32_212 : BitVec 32 := 2#32
  let v295 : BitVec 32 := Scalar.addi v294 c2_i32_212
  let c512_i32_213 : BitVec 32 := 512#32
  let v296 : BitVec 32 := Scalar.muli v295 c512_i32_213
  v296
def k0_mult10 (i : grid0.Coords) (k0_t1 : Fin (k0_t1_loop i).trips) : BitVec 32 :=
  let c2_i32_229 : BitVec 32 := 2#32
  let c2_i32_171 : BitVec 32 := 2#32
  let c0_i32_16 : BitVec 32 := 0#32
  let c1_i32_18 : BitVec 32 := 1#32
  let arg12 : BitVec 32 := Scf.iv c0_i32_16 c1_i32_18 k0_t1
  let v245 : BitVec 32 := Scalar.muli c2_i32_171 arg12
  let c1_i32_172 : BitVec 32 := 1#32
  let v246 : BitVec 32 := Scalar.addi v245 c1_i32_172
  let v312 : BitVec 32 := Scalar.muli c2_i32_229 v246
  let c1_i32_230 : BitVec 32 := 1#32
  let v313 : BitVec 32 := Scalar.addi v312 c1_i32_230
  let c512_i32_234 : BitVec 32 := 512#32
  let v316 : BitVec 32 := Scalar.muli v313 c512_i32_234
  v316
def k0_off6 (i : grid0.Coords) (k0_t1 : Fin (k0_t1_loop i).trips) : Fin 4 → Nat :=
  let c0_235 : Index := 0#32
  let c0_236 : Index := 0#32
  let c0_237 : Index := 0#32
  let c2_i32_229 : BitVec 32 := 2#32
  let c2_i32_171 : BitVec 32 := 2#32
  let c0_i32_16 : BitVec 32 := 0#32
  let c1_i32_18 : BitVec 32 := 1#32
  let arg12 : BitVec 32 := Scf.iv c0_i32_16 c1_i32_18 k0_t1
  let v245 : BitVec 32 := Scalar.muli c2_i32_171 arg12
  let c1_i32_172 : BitVec 32 := 1#32
  let v246 : BitVec 32 := Scalar.addi v245 c1_i32_172
  let v312 : BitVec 32 := Scalar.muli c2_i32_229 v246
  let c1_i32_230 : BitVec 32 := 1#32
  let v313 : BitVec 32 := Scalar.addi v312 c1_i32_230
  let c512_i32_234 : BitVec 32 := 512#32
  let v316 : BitVec 32 := Scalar.muli v313 c512_i32_234
  let v317 : BitVec 32 := v316
  let v318 : Index := Scalar.indexCast v317
  ![0, 0, 0, v318.toNat]
@[reducible] def k0_t2_loop (i : grid0.Coords) : Scf.Loop 32 :=
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let v35 : BitVec 32 := Scalar.addi c0_i32_16 v34
  let c1_i32_19 : BitVec 32 := 1#32
  ⟨v38, v35, c1_i32_19⟩
def k0_mult11 (i : grid0.Coords) (k0_t2 : Fin (k0_t2_loop i).trips) : BitVec 32 :=
  let c2_i32_94 : BitVec 32 := 2#32
  let c2_i32_93 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v149 : BitVec 32 := Scalar.muli c2_i32_93 arg12
  let v150 : BitVec 32 := Scalar.muli c2_i32_94 v149
  let c1_i32_95 : BitVec 32 := 1#32
  let v151 : BitVec 32 := Scalar.addi v150 c1_i32_95
  let c512_i32_96 : BitVec 32 := 512#32
  let v152 : BitVec 32 := Scalar.muli v151 c512_i32_96
  v152
def k0_off7 (i : grid0.Coords) (k0_t2 : Fin (k0_t2_loop i).trips) (c1_i32_95 : BitVec 32) : Fin 4 → Nat :=
  let c0_97 : Index := 0#32
  let c0_98 : Index := 0#32
  let c2_i32_94 : BitVec 32 := 2#32
  let c2_i32_93 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v149 : BitVec 32 := Scalar.muli c2_i32_93 arg12
  let v150 : BitVec 32 := Scalar.muli c2_i32_94 v149
  let v151 : BitVec 32 := Scalar.addi v150 c1_i32_95
  let c512_i32_96 : BitVec 32 := 512#32
  let v152 : BitVec 32 := Scalar.muli v151 c512_i32_96
  let v153 : BitVec 32 := v152
  let v154 : Index := Scalar.indexCast v153
  let c0_99 : Index := 0#32
  ![0, 0, v154.toNat, 0]
def k0_mult12 (i : grid0.Coords) (k0_t2 : Fin (k0_t2_loop i).trips) : BitVec 32 :=
  let c2_i32_112 : BitVec 32 := 2#32
  let c2_i32_93 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v149 : BitVec 32 := Scalar.muli c2_i32_93 arg12
  let v168 : BitVec 32 := Scalar.muli c2_i32_112 v149
  let c512_i32_116 : BitVec 32 := 512#32
  let v171 : BitVec 32 := Scalar.muli v168 c512_i32_116
  v171
def k0_off8 (i : grid0.Coords) (k0_t2 : Fin (k0_t2_loop i).trips) : Fin 4 → Nat :=
  let c0_117 : Index := 0#32
  let c0_118 : Index := 0#32
  let c0_119 : Index := 0#32
  let c2_i32_112 : BitVec 32 := 2#32
  let c2_i32_93 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v149 : BitVec 32 := Scalar.muli c2_i32_93 arg12
  let v168 : BitVec 32 := Scalar.muli c2_i32_112 v149
  let c512_i32_116 : BitVec 32 := 512#32
  let v171 : BitVec 32 := Scalar.muli v168 c512_i32_116
  let v172 : BitVec 32 := v171
  let v173 : Index := Scalar.indexCast v172
  ![0, 0, 0, v173.toNat]
def k0_mult13 (i : grid0.Coords) (k0_t2 : Fin (k0_t2_loop i).trips) : BitVec 32 :=
  let c2_i32_132 : BitVec 32 := 2#32
  let c2_i32_93 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v149 : BitVec 32 := Scalar.muli c2_i32_93 arg12
  let v197 : BitVec 32 := Scalar.muli c2_i32_132 v149
  let c2_i32_133 : BitVec 32 := 2#32
  let v198 : BitVec 32 := Scalar.addi v197 c2_i32_133
  let c512_i32_134 : BitVec 32 := 512#32
  let v199 : BitVec 32 := Scalar.muli v198 c512_i32_134
  v199
def k0_mult14 (i : grid0.Coords) (k0_t2 : Fin (k0_t2_loop i).trips) : BitVec 32 :=
  let c2_i32_150 : BitVec 32 := 2#32
  let c2_i32_93 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v149 : BitVec 32 := Scalar.muli c2_i32_93 arg12
  let v215 : BitVec 32 := Scalar.muli c2_i32_150 v149
  let c1_i32_151 : BitVec 32 := 1#32
  let v216 : BitVec 32 := Scalar.addi v215 c1_i32_151
  let c512_i32_155 : BitVec 32 := 512#32
  let v219 : BitVec 32 := Scalar.muli v216 c512_i32_155
  v219
def k0_off9 (i : grid0.Coords) (k0_t2 : Fin (k0_t2_loop i).trips) : Fin 4 → Nat :=
  let c0_156 : Index := 0#32
  let c0_157 : Index := 0#32
  let c0_158 : Index := 0#32
  let c2_i32_150 : BitVec 32 := 2#32
  let c2_i32_93 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v149 : BitVec 32 := Scalar.muli c2_i32_93 arg12
  let v215 : BitVec 32 := Scalar.muli c2_i32_150 v149
  let c1_i32_151 : BitVec 32 := 1#32
  let v216 : BitVec 32 := Scalar.addi v215 c1_i32_151
  let c512_i32_155 : BitVec 32 := 512#32
  let v219 : BitVec 32 := Scalar.muli v216 c512_i32_155
  let v220 : BitVec 32 := v219
  let v221 : Index := Scalar.indexCast v220
  ![0, 0, 0, v221.toNat]
def k0_mult15 (i : grid0.Coords) (k0_t2 : Fin (k0_t2_loop i).trips) : BitVec 32 :=
  let c2_i32_173 : BitVec 32 := 2#32
  let c2_i32_171 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v245 : BitVec 32 := Scalar.muli c2_i32_171 arg12
  let c1_i32_172 : BitVec 32 := 1#32
  let v246 : BitVec 32 := Scalar.addi v245 c1_i32_172
  let v247 : BitVec 32 := Scalar.muli c2_i32_173 v246
  let c1_i32_174 : BitVec 32 := 1#32
  let v248 : BitVec 32 := Scalar.addi v247 c1_i32_174
  let c512_i32_175 : BitVec 32 := 512#32
  let v249 : BitVec 32 := Scalar.muli v248 c512_i32_175
  v249
def k0_off10 (i : grid0.Coords) (k0_t2 : Fin (k0_t2_loop i).trips) (c1_i32_174 : BitVec 32) : Fin 4 → Nat :=
  let c0_176 : Index := 0#32
  let c0_177 : Index := 0#32
  let c2_i32_173 : BitVec 32 := 2#32
  let c2_i32_171 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v245 : BitVec 32 := Scalar.muli c2_i32_171 arg12
  let c1_i32_172 : BitVec 32 := 1#32
  let v246 : BitVec 32 := Scalar.addi v245 c1_i32_172
  let v247 : BitVec 32 := Scalar.muli c2_i32_173 v246
  let v248 : BitVec 32 := Scalar.addi v247 c1_i32_174
  let c512_i32_175 : BitVec 32 := 512#32
  let v249 : BitVec 32 := Scalar.muli v248 c512_i32_175
  let v250 : BitVec 32 := v249
  let v251 : Index := Scalar.indexCast v250
  let c0_178 : Index := 0#32
  ![0, 0, v251.toNat, 0]
def k0_mult16 (i : grid0.Coords) (k0_t2 : Fin (k0_t2_loop i).trips) : BitVec 32 :=
  let c2_i32_191 : BitVec 32 := 2#32
  let c2_i32_171 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v245 : BitVec 32 := Scalar.muli c2_i32_171 arg12
  let c1_i32_172 : BitVec 32 := 1#32
  let v246 : BitVec 32 := Scalar.addi v245 c1_i32_172
  let v265 : BitVec 32 := Scalar.muli c2_i32_191 v246
  let c512_i32_195 : BitVec 32 := 512#32
  let v268 : BitVec 32 := Scalar.muli v265 c512_i32_195
  v268
def k0_off11 (i : grid0.Coords) (k0_t2 : Fin (k0_t2_loop i).trips) : Fin 4 → Nat :=
  let c0_196 : Index := 0#32
  let c0_197 : Index := 0#32
  let c0_198 : Index := 0#32
  let c2_i32_191 : BitVec 32 := 2#32
  let c2_i32_171 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v245 : BitVec 32 := Scalar.muli c2_i32_171 arg12
  let c1_i32_172 : BitVec 32 := 1#32
  let v246 : BitVec 32 := Scalar.addi v245 c1_i32_172
  let v265 : BitVec 32 := Scalar.muli c2_i32_191 v246
  let c512_i32_195 : BitVec 32 := 512#32
  let v268 : BitVec 32 := Scalar.muli v265 c512_i32_195
  let v269 : BitVec 32 := v268
  let v270 : Index := Scalar.indexCast v269
  ![0, 0, 0, v270.toNat]
def k0_mult17 (i : grid0.Coords) (k0_t2 : Fin (k0_t2_loop i).trips) : BitVec 32 :=
  let c2_i32_211 : BitVec 32 := 2#32
  let c2_i32_171 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v245 : BitVec 32 := Scalar.muli c2_i32_171 arg12
  let c1_i32_172 : BitVec 32 := 1#32
  let v246 : BitVec 32 := Scalar.addi v245 c1_i32_172
  let v294 : BitVec 32 := Scalar.muli c2_i32_211 v246
  let c2_i32_212 : BitVec 32 := 2#32
  let v295 : BitVec 32 := Scalar.addi v294 c2_i32_212
  let c512_i32_213 : BitVec 32 := 512#32
  let v296 : BitVec 32 := Scalar.muli v295 c512_i32_213
  v296
def k0_mult18 (i : grid0.Coords) (k0_t2 : Fin (k0_t2_loop i).trips) : BitVec 32 :=
  let c2_i32_229 : BitVec 32 := 2#32
  let c2_i32_171 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v245 : BitVec 32 := Scalar.muli c2_i32_171 arg12
  let c1_i32_172 : BitVec 32 := 1#32
  let v246 : BitVec 32 := Scalar.addi v245 c1_i32_172
  let v312 : BitVec 32 := Scalar.muli c2_i32_229 v246
  let c1_i32_230 : BitVec 32 := 1#32
  let v313 : BitVec 32 := Scalar.addi v312 c1_i32_230
  let c512_i32_234 : BitVec 32 := 512#32
  let v316 : BitVec 32 := Scalar.muli v313 c512_i32_234
  v316
def k0_off12 (i : grid0.Coords) (k0_t2 : Fin (k0_t2_loop i).trips) : Fin 4 → Nat :=
  let c0_235 : Index := 0#32
  let c0_236 : Index := 0#32
  let c0_237 : Index := 0#32
  let c2_i32_229 : BitVec 32 := 2#32
  let c2_i32_171 : BitVec 32 := 2#32
  let c0_i32_16 : BitVec 32 := 0#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c2_i32_8 : BitVec 32 := 2#32
  let c0_i32_11 : BitVec 32 := 0#32
  let v23 : BitVec 1 := Scalar.cmpi .sgt c2_i32_8 c0_i32_11
  let v24 : BitVec 32 := Scalar.extui v23
  let c0_i32_12 : BitVec 32 := 0#32
  let v25 : BitVec 1 := Scalar.cmpi .slt c2_i32_8 c0_i32_12
  let v26 : BitVec 32 := Scalar.extui v25
  let v27 : BitVec 32 := Scalar.subi v24 v26
  let v28 : BitVec 1 := Scalar.cmpi .ne v22 v27
  let v29 : BitVec 32 := Scalar.remsi v16 c2_i32_8
  let c0_i32_13 : BitVec 32 := 0#32
  let v30 : BitVec 1 := Scalar.cmpi .ne v29 c0_i32_13
  let v31 : BitVec 1 := Scalar.andi v28 v30
  let v17 : BitVec 32 := Scalar.divsi v16 c2_i32_8
  let c1_i32_14 : BitVec 32 := 1#32
  let v32 : BitVec 32 := Scalar.subi v17 c1_i32_14
  let v33 : BitVec 32 := Scalar.select v31 v32 v17
  let v34 : BitVec 32 := Scalar.subi v33 c0_i32_16
  let c1_i32_17 : BitVec 32 := 1#32
  let v36 : BitVec 32 := Scalar.divsi v34 c1_i32_17
  let v37 : BitVec 32 := Scalar.muli v36 c1_i32_17
  let v38 : BitVec 32 := Scalar.addi c0_i32_16 v37
  let c1_i32_19 : BitVec 32 := 1#32
  let arg12 : BitVec 32 := Scf.iv v38 c1_i32_19 k0_t2
  let v245 : BitVec 32 := Scalar.muli c2_i32_171 arg12
  let c1_i32_172 : BitVec 32 := 1#32
  let v246 : BitVec 32 := Scalar.addi v245 c1_i32_172
  let v312 : BitVec 32 := Scalar.muli c2_i32_229 v246
  let c1_i32_230 : BitVec 32 := 1#32
  let v313 : BitVec 32 := Scalar.addi v312 c1_i32_230
  let c512_i32_234 : BitVec 32 := 512#32
  let v316 : BitVec 32 := Scalar.muli v313 c512_i32_234
  let v317 : BitVec 32 := v316
  let v318 : Index := Scalar.indexCast v317
  ![0, 0, 0, v318.toNat]
def k0_cond3 (i : grid0.Coords) : BitVec 1 :=
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c2_i32_20 : BitVec 32 := 2#32
  let c0_i32_21 : BitVec 32 := 0#32
  let v39 : BitVec 1 := Scalar.cmpi .eq c2_i32_20 c0_i32_21
  let c1_i32_22 : BitVec 32 := 1#32
  let v40 : BitVec 32 := Scalar.select v39 c1_i32_22 c2_i32_20
  let v41 : BitVec 32 := Scalar.remsi v16 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let c1_i32_26 : BitVec 32 := 1#32
  let v49 : BitVec 1 := Scalar.cmpi .eq v48 c1_i32_26
  let v50 : BitVec 32 := Scalar.extui v49
  let c0_i32_27 : BitVec 32 := 0#32
  let v51 : BitVec 1 := Scalar.cmpi .ne v50 c0_i32_27
  v51

def k0_mult19 (i : grid0.Coords) : BitVec 32 :=
  let c2_i32_94 : BitVec 32 := 2#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c1_i32_93 : BitVec 32 := 1#32
  let v149 : BitVec 32 := Scalar.subi v16 c1_i32_93
  let v150 : BitVec 32 := Scalar.muli c2_i32_94 v149
  let c1_i32_95 : BitVec 32 := 1#32
  let v151 : BitVec 32 := Scalar.addi v150 c1_i32_95
  let c512_i32_96 : BitVec 32 := 512#32
  let v152 : BitVec 32 := Scalar.muli v151 c512_i32_96
  v152
def k0_off13 (i : grid0.Coords) (c1_i32_95 : BitVec 32) : Fin 4 → Nat :=
  let c0_97 : Index := 0#32
  let c0_98 : Index := 0#32
  let c2_i32_94 : BitVec 32 := 2#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c1_i32_93 : BitVec 32 := 1#32
  let v149 : BitVec 32 := Scalar.subi v16 c1_i32_93
  let v150 : BitVec 32 := Scalar.muli c2_i32_94 v149
  let v151 : BitVec 32 := Scalar.addi v150 c1_i32_95
  let c512_i32_96 : BitVec 32 := 512#32
  let v152 : BitVec 32 := Scalar.muli v151 c512_i32_96
  let v153 : BitVec 32 := v152
  let v154 : Index := Scalar.indexCast v153
  let c0_99 : Index := 0#32
  ![0, 0, v154.toNat, 0]
def k0_mult20 (i : grid0.Coords) : BitVec 32 :=
  let c2_i32_112 : BitVec 32 := 2#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c1_i32_93 : BitVec 32 := 1#32
  let v149 : BitVec 32 := Scalar.subi v16 c1_i32_93
  let v168 : BitVec 32 := Scalar.muli c2_i32_112 v149
  let c512_i32_116 : BitVec 32 := 512#32
  let v171 : BitVec 32 := Scalar.muli v168 c512_i32_116
  v171
def k0_off14 (i : grid0.Coords) : Fin 4 → Nat :=
  let c0_117 : Index := 0#32
  let c0_118 : Index := 0#32
  let c0_119 : Index := 0#32
  let c2_i32_112 : BitVec 32 := 2#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c1_i32_93 : BitVec 32 := 1#32
  let v149 : BitVec 32 := Scalar.subi v16 c1_i32_93
  let v168 : BitVec 32 := Scalar.muli c2_i32_112 v149
  let c512_i32_116 : BitVec 32 := 512#32
  let v171 : BitVec 32 := Scalar.muli v168 c512_i32_116
  let v172 : BitVec 32 := v171
  let v173 : Index := Scalar.indexCast v172
  ![0, 0, 0, v173.toNat]
def k0_mult21 (i : grid0.Coords) : BitVec 32 :=
  let c2_i32_132 : BitVec 32 := 2#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c1_i32_93 : BitVec 32 := 1#32
  let v149 : BitVec 32 := Scalar.subi v16 c1_i32_93
  let v197 : BitVec 32 := Scalar.muli c2_i32_132 v149
  let c2_i32_133 : BitVec 32 := 2#32
  let v198 : BitVec 32 := Scalar.addi v197 c2_i32_133
  let c512_i32_134 : BitVec 32 := 512#32
  let v199 : BitVec 32 := Scalar.muli v198 c512_i32_134
  v199
def k0_mult22 (i : grid0.Coords) : BitVec 32 :=
  let c2_i32_150 : BitVec 32 := 2#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c1_i32_93 : BitVec 32 := 1#32
  let v149 : BitVec 32 := Scalar.subi v16 c1_i32_93
  let v215 : BitVec 32 := Scalar.muli c2_i32_150 v149
  let c1_i32_151 : BitVec 32 := 1#32
  let v216 : BitVec 32 := Scalar.addi v215 c1_i32_151
  let c512_i32_155 : BitVec 32 := 512#32
  let v219 : BitVec 32 := Scalar.muli v216 c512_i32_155
  v219
def k0_off15 (i : grid0.Coords) : Fin 4 → Nat :=
  let c0_156 : Index := 0#32
  let c0_157 : Index := 0#32
  let c0_158 : Index := 0#32
  let c2_i32_150 : BitVec 32 := 2#32
  let arg2 : BitVec 32 := BitVec.ofNat 32 (i 2).val
  let c1_i32 : BitVec 32 := 1#32
  let v15 : BitVec 32 := Scalar.subi arg2 c1_i32
  let c0_i32_7 : BitVec 32 := 0#32
  let v16 : BitVec 32 := Scalar.maxsi v15 c0_i32_7
  let c1_i32_93 : BitVec 32 := 1#32
  let v149 : BitVec 32 := Scalar.subi v16 c1_i32_93
  let v215 : BitVec 32 := Scalar.muli c2_i32_150 v149
  let c1_i32_151 : BitVec 32 := 1#32
  let v216 : BitVec 32 := Scalar.addi v215 c1_i32_151
  let c512_i32_155 : BitVec 32 := 512#32
  let v219 : BitVec 32 := Scalar.muli v216 c512_i32_155
  let v220 : BitVec 32 := v219
  let v221 : Index := Scalar.indexCast v220
  ![0, 0, 0, v221.toNat]
def k0_cond4 (i : grid0.Coords) : BitVec 1 :=
  let arg2 : BitVec 32 := BitVec.ofNat 32 (i 2).val
  let c0_i32_28 : BitVec 32 := 0#32
  let v52 : BitVec 1 := Scalar.cmpi .sgt arg2 c0_i32_28
  let v53 : BitVec 32 := Scalar.extui v52
  let c0_i32_29 : BitVec 32 := 0#32
  let v54 : BitVec 1 := Scalar.cmpi .ne v53 c0_i32_29
  v54

def k0_mult23 (i : grid0.Coords) : BitVec 32 :=
  let c2_i32_94 : BitVec 32 := 2#32
  let arg2 : BitVec 32 := BitVec.ofNat 32 (i 2).val
  let c1_i32_93 : BitVec 32 := 1#32
  let v149 : BitVec 32 := Scalar.subi arg2 c1_i32_93
  let v150 : BitVec 32 := Scalar.muli c2_i32_94 v149
  let c1_i32_95 : BitVec 32 := 1#32
  let v151 : BitVec 32 := Scalar.addi v150 c1_i32_95
  let c512_i32_96 : BitVec 32 := 512#32
  let v152 : BitVec 32 := Scalar.muli v151 c512_i32_96
  v152
def k0_off16 (i : grid0.Coords) (c1_i32_95 : BitVec 32) : Fin 4 → Nat :=
  let c0_97 : Index := 0#32
  let c0_98 : Index := 0#32
  let c2_i32_94 : BitVec 32 := 2#32
  let arg2 : BitVec 32 := BitVec.ofNat 32 (i 2).val
  let c1_i32_93 : BitVec 32 := 1#32
  let v149 : BitVec 32 := Scalar.subi arg2 c1_i32_93
  let v150 : BitVec 32 := Scalar.muli c2_i32_94 v149
  let v151 : BitVec 32 := Scalar.addi v150 c1_i32_95
  let c512_i32_96 : BitVec 32 := 512#32
  let v152 : BitVec 32 := Scalar.muli v151 c512_i32_96
  let v153 : BitVec 32 := v152
  let v154 : Index := Scalar.indexCast v153
  let c0_99 : Index := 0#32
  ![0, 0, v154.toNat, 0]
def k0_mult24 (i : grid0.Coords) : BitVec 32 :=
  let c2_i32_112 : BitVec 32 := 2#32
  let arg2 : BitVec 32 := BitVec.ofNat 32 (i 2).val
  let c1_i32_93 : BitVec 32 := 1#32
  let v149 : BitVec 32 := Scalar.subi arg2 c1_i32_93
  let v168 : BitVec 32 := Scalar.muli c2_i32_112 v149
  let c512_i32_116 : BitVec 32 := 512#32
  let v171 : BitVec 32 := Scalar.muli v168 c512_i32_116
  v171
def k0_off17 (i : grid0.Coords) : Fin 4 → Nat :=
  let c0_117 : Index := 0#32
  let c0_118 : Index := 0#32
  let c0_119 : Index := 0#32
  let c2_i32_112 : BitVec 32 := 2#32
  let arg2 : BitVec 32 := BitVec.ofNat 32 (i 2).val
  let c1_i32_93 : BitVec 32 := 1#32
  let v149 : BitVec 32 := Scalar.subi arg2 c1_i32_93
  let v168 : BitVec 32 := Scalar.muli c2_i32_112 v149
  let c512_i32_116 : BitVec 32 := 512#32
  let v171 : BitVec 32 := Scalar.muli v168 c512_i32_116
  let v172 : BitVec 32 := v171
  let v173 : Index := Scalar.indexCast v172
  ![0, 0, 0, v173.toNat]
def k0_mult25 (i : grid0.Coords) : BitVec 32 :=
  let c2_i32_132 : BitVec 32 := 2#32
  let arg2 : BitVec 32 := BitVec.ofNat 32 (i 2).val
  let c1_i32_93 : BitVec 32 := 1#32
  let v149 : BitVec 32 := Scalar.subi arg2 c1_i32_93
  let v197 : BitVec 32 := Scalar.muli c2_i32_132 v149
  let c2_i32_133 : BitVec 32 := 2#32
  let v198 : BitVec 32 := Scalar.addi v197 c2_i32_133
  let c512_i32_134 : BitVec 32 := 512#32
  let v199 : BitVec 32 := Scalar.muli v198 c512_i32_134
  v199
def k0_mult26 (i : grid0.Coords) : BitVec 32 :=
  let c2_i32_152 : BitVec 32 := 2#32
  let arg2 : BitVec 32 := BitVec.ofNat 32 (i 2).val
  let c1_i32_93 : BitVec 32 := 1#32
  let v149 : BitVec 32 := Scalar.subi arg2 c1_i32_93
  let v222 : BitVec 32 := Scalar.muli c2_i32_152 v149
  let c1_i32_153 : BitVec 32 := 1#32
  let v223 : BitVec 32 := Scalar.addi v222 c1_i32_153
  let c512_i32_157 : BitVec 32 := 512#32
  let v226 : BitVec 32 := Scalar.muli v223 c512_i32_157
  v226
def k0_off18 (i : grid0.Coords) : Fin 4 → Nat :=
  let c0_158 : Index := 0#32
  let c0_159 : Index := 0#32
  let c0_160 : Index := 0#32
  let c2_i32_152 : BitVec 32 := 2#32
  let arg2 : BitVec 32 := BitVec.ofNat 32 (i 2).val
  let c1_i32_93 : BitVec 32 := 1#32
  let v149 : BitVec 32 := Scalar.subi arg2 c1_i32_93
  let v222 : BitVec 32 := Scalar.muli c2_i32_152 v149
  let c1_i32_153 : BitVec 32 := 1#32
  let v223 : BitVec 32 := Scalar.addi v222 c1_i32_153
  let c512_i32_157 : BitVec 32 := 512#32
  let v226 : BitVec 32 := Scalar.muli v223 c512_i32_157
  let v227 : BitVec 32 := v226
  let v228 : Index := Scalar.indexCast v227
  ![0, 0, 0, v228.toNat]
def k0_mult27 (i : grid0.Coords) : BitVec 32 :=
  let c2_i32 : BitVec 32 := 2#32
  let arg2 : BitVec 32 := BitVec.ofNat 32 (i 2).val
  let v0 : BitVec 32 := Scalar.muli c2_i32 arg2
  let c1_i32_30 : BitVec 32 := 1#32
  let v55 : BitVec 32 := Scalar.addi v0 c1_i32_30
  let c512_i32 : BitVec 32 := 512#32
  let v56 : BitVec 32 := Scalar.muli v55 c512_i32
  v56
def k0_off19 (i : grid0.Coords) : Fin 4 → Nat :=
  let c0_31 : Index := 0#32
  let c0_32 : Index := 0#32
  let c2_i32 : BitVec 32 := 2#32
  let arg2 : BitVec 32 := BitVec.ofNat 32 (i 2).val
  let v0 : BitVec 32 := Scalar.muli c2_i32 arg2
  let c1_i32_30 : BitVec 32 := 1#32
  let v55 : BitVec 32 := Scalar.addi v0 c1_i32_30
  let c512_i32 : BitVec 32 := 512#32
  let v56 : BitVec 32 := Scalar.muli v55 c512_i32
  let v57 : BitVec 32 := v56
  let v58 : Index := Scalar.indexCast v57
  let c0_33 : Index := 0#32
  ![0, 0, v58.toNat, 0]
def k0_mult28 (i : grid0.Coords) : BitVec 32 :=
  let c2_i32 : BitVec 32 := 2#32
  let arg2 : BitVec 32 := BitVec.ofNat 32 (i 2).val
  let v0 : BitVec 32 := Scalar.muli c2_i32 arg2
  let c512_i32_49 : BitVec 32 := 512#32
  let v81 : BitVec 32 := Scalar.muli v0 c512_i32_49
  v81
def k0_off20 (i : grid0.Coords) : Fin 4 → Nat :=
  let c0_50 : Index := 0#32
  let c0_51 : Index := 0#32
  let c0_52 : Index := 0#32
  let c2_i32 : BitVec 32 := 2#32
  let arg2 : BitVec 32 := BitVec.ofNat 32 (i 2).val
  let v0 : BitVec 32 := Scalar.muli c2_i32 arg2
  let c512_i32_49 : BitVec 32 := 512#32
  let v81 : BitVec 32 := Scalar.muli v0 c512_i32_49
  let v82 : BitVec 32 := v81
  let v83 : Index := Scalar.indexCast v82
  ![0, 0, 0, v83.toNat]
def k0_mult29 (i : grid0.Coords) : BitVec 32 :=
  let c2_i32 : BitVec 32 := 2#32
  let arg2 : BitVec 32 := BitVec.ofNat 32 (i 2).val
  let v0 : BitVec 32 := Scalar.muli c2_i32 arg2
  let c1_i32_65 : BitVec 32 := 1#32
  let v107 : BitVec 32 := Scalar.addi v0 c1_i32_65
  let c512_i32_69 : BitVec 32 := 512#32
  let v110 : BitVec 32 := Scalar.muli v107 c512_i32_69
  v110
def k0_off21 (i : grid0.Coords) : Fin 4 → Nat :=
  let c0_70 : Index := 0#32
  let c0_71 : Index := 0#32
  let c0_72 : Index := 0#32
  let c2_i32 : BitVec 32 := 2#32
  let arg2 : BitVec 32 := BitVec.ofNat 32 (i 2).val
  let v0 : BitVec 32 := Scalar.muli c2_i32 arg2
  let c1_i32_65 : BitVec 32 := 1#32
  let v107 : BitVec 32 := Scalar.addi v0 c1_i32_65
  let c512_i32_69 : BitVec 32 := 512#32
  let v110 : BitVec 32 := Scalar.muli v107 c512_i32_69
  let v111 : BitVec 32 := v110
  let v112 : Index := Scalar.indexCast v111
  ![0, 0, 0, v112.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x1x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x144x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x32x192 : Shape := ⟨4, ![2, 8192, 32, 192]⟩
abbrev S2x8192x32x128 : Shape := ⟨4, ![2, 8192, 32, 128]⟩
abbrev S2x8192x4096 : Shape := ⟨3, ![2, 8192, 4096]⟩
abbrev S2x32x8192x8192 : Shape := ⟨4, ![2, 32, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x32x8192 : Shape := ⟨3, ![2, 32, 8192]⟩
abbrev S2x32x8192x1 : Shape := ⟨4, ![2, 32, 8192, 1]⟩
abbrev S2x32x128x8192 : Shape := ⟨4, ![2, 32, 128, 8192]⟩
abbrev S16384x4096 : Shape := ⟨2, ![16384, 4096]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x32x192, .f32⟩
  | .hbm, ⟨1, _⟩ => ⟨S2x8192x32x192, .f32⟩
  | .hbm, ⟨2, _⟩ => ⟨S2x8192x32x128, .f32⟩
  | .hbm, ⟨3, _⟩ => ⟨S2x8192x4096, .f32⟩
  | .hbm, ⟨4, _⟩ => ⟨S2x32x8192x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x32x8192x8192, .f32⟩
  | .hbm, ⟨10, _⟩ => ⟨S2x32x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x1x8192x8192, .i1⟩
  | .hbm, ⟨18, _⟩ => ⟨S_, .f32⟩
  | .hbm, ⟨19, _⟩ => ⟨S_, .f32⟩
  | .hbm, ⟨20, _⟩ => ⟨S2x32x8192x8192, .i1⟩
  | .hbm, ⟨21, _⟩ => ⟨S2x32x8192x8192, .f32⟩
  | .hbm, ⟨22, _⟩ => ⟨S2x32x8192x8192, .f32⟩
  | .hbm, ⟨23, _⟩ => ⟨S_, .f32⟩
  | .hbm, ⟨24, _⟩ => ⟨S2x32x8192, .f32⟩
  | .hbm, ⟨25, _⟩ => ⟨S_, .f32⟩
  | .hbm, ⟨26, _⟩ => ⟨S2x32x8192, .f32⟩
  | .hbm, ⟨27, _⟩ => ⟨S2x32x8192, .f32⟩
  | .hbm, ⟨28, _⟩ => ⟨S2x32x8192x1, .f32⟩
  | .hbm, ⟨29, _⟩ => ⟨S2x32x8192x8192, .f32⟩
  | .hbm, ⟨30, _⟩ => ⟨S2x32x8192x8192, .f32⟩
  | .hbm, ⟨31, _⟩ => ⟨S2x32x8192x8192, .f32⟩
  | .hbm, ⟨32, _⟩ => ⟨S_, .f32⟩
  | .hbm, ⟨33, _⟩ => ⟨S2x32x8192, .f32⟩
  | .hbm, ⟨34, _⟩ => ⟨S2x32x8192x1, .f32⟩
  | .hbm, ⟨35, _⟩ => ⟨S2x32x8192x8192, .f32⟩
  | .hbm, ⟨36, _⟩ => ⟨S2x32x8192x8192, .f32⟩
  | .hbm, ⟨37, _⟩ => ⟨S2x32x128x8192, .f32⟩
  | .hbm, ⟨38, _⟩ => ⟨S2x8192x32x128, .f32⟩
  | .hbm, ⟨39, _⟩ => ⟨S2x8192x4096, .f32⟩
  | .hbm, ⟨40, _⟩ => ⟨S2x8192x4096, .f32⟩
  | .hbm, ⟨41, _⟩ => ⟨S16384x4096, .f32⟩
  | .hbm, ⟨42, _⟩ => ⟨S16384x4096, .bf16⟩
  | _, _ => ⟨S2x8192x32x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== In.lean ====
abbrev S2x8192x4096 : Shape := ⟨3, ![2, 8192, 4096]⟩
abbrev S4096 : Shape := ⟨1, ![4096]⟩
abbrev S4096x16384 : Shape := ⟨2, ![4096, 16384]⟩
abbrev S16384x4096 : Shape := ⟨2, ![16384, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S16384x16384 : Shape := ⟨2, ![16384, 16384]⟩
abbrev S1024x4096 : Shape := ⟨2, ![1024, 4096]⟩
abbrev S4096x1024 : Shape := ⟨2, ![4096, 1024]⟩
abbrev S1024x1 : Shape := ⟨2, ![1024, 1]⟩
abbrev S1024x1024 : Shape := ⟨2, ![1024, 1024]⟩

abbrev nBuf : Space → Nat
  | .hbm => 21
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x16384, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S4096x16384, .bf16⟩
  | .hbm, ⟨20, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1, .f32⟩
  | .local _ .vmem, ⟨5, _⟩ => ⟨S1024x1, .f32⟩
  | .local _ .vmem, ⟨6, _⟩ => ⟨S1024x1024, .bf16⟩
  | .local _ .vmem, ⟨7, _⟩ => ⟨S1024x1024, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InRefIdeal.lean ====
abbrev S2x8192x4096 : Shape := ⟨3, ![2, 8192, 4096]⟩
abbrev S4096 : Shape := ⟨1, ![4096]⟩
abbrev S4096x16384 : Shape := ⟨2, ![4096, 16384]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x16384 : Shape := ⟨3, ![2, 8192, 16384]⟩
abbrev S16384x16384 : Shape := ⟨2, ![16384, 16384]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x16384, .f32⟩
  | .hbm, ⟨3, _⟩ => ⟨S2x8192x4096, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x4096, .f32⟩
  | .hbm, ⟨15, _⟩ => ⟨S2x8192x4096, .f32⟩
  | .hbm, ⟨16, _⟩ => ⟨S1x1x4096, .f32⟩
  | .hbm, ⟨17, _⟩ => ⟨S2x8192x4096, .f32⟩
  | .hbm, ⟨18, _⟩ => ⟨S2x8192x4096, .f32⟩
  | .hbm, ⟨19, _⟩ => ⟨S2x8192x16384, .f32⟩
  | .hbm, ⟨20, _⟩ => ⟨S16384x16384, .f32⟩
  | .hbm, ⟨21, _⟩ => ⟨S16384x16384, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Gate.lean ====
abbrev S2x8192x4096 : Shape := ⟨3, ![2, 8192, 4096]⟩
abbrev S4096 : Shape := ⟨1, ![4096]⟩
abbrev S4096x5696 : Shape := ⟨2, ![4096, 5696]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x5696, .f32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .bf16⟩
  | .hbm, ⟨21, _⟩ => ⟨S4096x4096, .f32⟩
  | .hbm, ⟨22, _⟩ => ⟨S4096x4096, .bf16⟩
  | .hbm, ⟨23, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S2x8192x4096 : Shape := ⟨3, ![2, 8192, 4096]⟩
abbrev S4096 : Shape := ⟨1, ![4096]⟩
abbrev S4096x5696 : Shape := ⟨2, ![4096, 5696]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x5696 : Shape := ⟨3, ![2, 8192, 5696]⟩
abbrev S16384x4096 : Shape := ⟨2, ![16384, 4096]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x5696, .f32⟩
  | .hbm, ⟨3, _⟩ => ⟨S2x8192x4096, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x4096, .f32⟩
  | .hbm, ⟨15, _⟩ => ⟨S2x8192x4096, .f32⟩
  | .hbm, ⟨16, _⟩ => ⟨S1x1x4096, .f32⟩
  | .hbm, ⟨17, _⟩ => ⟨S2x8192x4096, .f32⟩
  | .hbm, ⟨18, _⟩ => ⟨S2x8192x4096, .f32⟩
  | .hbm, ⟨19, _⟩ => ⟨S2x8192x5696, .f32⟩
  | .hbm, ⟨20, _⟩ => ⟨S2x8192x4096, .f32⟩
  | .hbm, ⟨21, _⟩ => ⟨S2x8192x4096, .f32⟩
  | .hbm, ⟨22, _⟩ => ⟨S2x8192x4096, .f32⟩
  | .hbm, ⟨23, _⟩ => ⟨S_, .f32⟩
  | .hbm, ⟨24, _⟩ => ⟨S2x8192x4096, .f32⟩
  | .hbm, ⟨25, _⟩ => ⟨S2x8192x4096, .f32⟩
  | .hbm, ⟨26, _⟩ => ⟨S_, .f32⟩
  | .hbm, ⟨27, _⟩ => ⟨S2x8192x4096, .f32⟩
  | .hbm, ⟨28, _⟩ => ⟨S2x8192x4096, .f32⟩
  | .hbm, ⟨29, _⟩ => ⟨S2x8192x4096, .f32⟩
  | .hbm, ⟨30, _⟩ => ⟨S16384x4096, .f32⟩
  | .hbm, ⟨31, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Stats.lean ====
abbrev S2x8192x4096 : Shape := ⟨3, ![2, 8192, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S16384x1 : Shape := ⟨2, ![16384, 1]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩
abbrev S1024x1 : Shape := ⟨2, ![1024, 1]⟩
abbrev S1024 : Shape := ⟨1, ![1024]⟩

abbrev nBuf : Space → Nat
  | .hbm => 12
  | .vmem => 15
  | .smem => 0
  | _ => 0

abbrev bufTy : (tb : Table) → Fin (tcTables nBuf tb) → BufTy
  | .hbm, ⟨0, _⟩ => ⟨S2x8192x4096, .f32⟩
  | .hbm, ⟨1, _⟩ => ⟨S4096x4096, .f32⟩
  | .hbm, ⟨2, _⟩ => ⟨S2x8192x4096, .f32⟩
  | .hbm, ⟨3, _⟩ => ⟨S4096, .f32⟩
  | .hbm, ⟨4, _⟩ => ⟨S16384x4096, .f32⟩
  | .hbm, ⟨5, _⟩ => ⟨S16384x4096, .bf16⟩
  | .hbm, ⟨6, _⟩ => ⟨S4096x4096, .bf16⟩
  | .hbm, ⟨7, _⟩ => ⟨S16384x4096, .f32⟩
  | .hbm, ⟨8, _⟩ => ⟨S1x4096, .f32⟩
  | .hbm, ⟨9, _⟩ => ⟨S16384x4096, .f32⟩
  | .hbm, ⟨10, _⟩ => ⟨S16384x4096, .bf16⟩
  | .hbm, ⟨11, _⟩ => ⟨S16384x1, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== StatsRefIdeal.lean ====
abbrev S2x8192x4096 : Shape := ⟨3, ![2, 8192, 4096]⟩
abbrev S4096x4096 : Shape := ⟨2, ![4096, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S16384x4096 : Shape := ⟨2, ![16384, 4096]⟩
abbrev S1x1x4096 : Shape := ⟨3, ![1, 1, 4096]⟩
abbrev S16384x1 : Shape := ⟨2, ![16384, 1]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x4096, .f32⟩
  | .hbm, ⟨2, _⟩ => ⟨S2x8192x4096, .f32⟩
  | .hbm, ⟨3, _⟩ => ⟨S4096, .f32⟩
  | .hbm, ⟨4, _⟩ => ⟨S2x8192x4096, .f32⟩
  | .hbm, ⟨5, _⟩ => ⟨S2x8192x4096, .f32⟩
  | .hbm, ⟨6, _⟩ => ⟨S2x8192x4096, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S16384x4096, .f32⟩
  | .hbm, ⟨18, _⟩ => ⟨S1x1x4096, .f32⟩
  | .hbm, ⟨19, _⟩ => ⟨S2x8192x4096, .f32⟩
  | .hbm, ⟨20, _⟩ => ⟨S2x8192x4096, .f32⟩
  | .hbm, ⟨21, _⟩ => ⟨S16384x4096, .f32⟩
  | .hbm, ⟨22, _⟩ => ⟨S16384x4096, .bf16⟩
  | .hbm, ⟨23, _⟩ => ⟨S16384x1, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Out.lean ====
abbrev S2x8192x4096 : Shape := ⟨3, ![2, 8192, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S512x4096 : Shape := ⟨2, ![512, 4096]⟩
abbrev S4096x1024 : Shape := ⟨2, ![4096, 1024]⟩
abbrev S512x1024 : Shape := ⟨2, ![512, 1024]⟩
abbrev S512x1 : Shape := ⟨2, ![512, 1]⟩
abbrev S512 : Shape := ⟨1, ![512]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S4096x4096, .f32⟩
  | .hbm, ⟨2, _⟩ => ⟨S2x8192x4096, .f32⟩
  | .hbm, ⟨3, _⟩ => ⟨S4096, .f32⟩
  | .hbm, ⟨4, _⟩ => ⟨S16384x4096, .f32⟩
  | .hbm, ⟨5, _⟩ => ⟨S16384x4096, .bf16⟩
  | .hbm, ⟨6, _⟩ => ⟨S4096x4096, .bf16⟩
  | .hbm, ⟨7, _⟩ => ⟨S16384x4096, .f32⟩
  | .hbm, ⟨8, _⟩ => ⟨S1x4096, .f32⟩
  | .hbm, ⟨9, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S512x1, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c1024_i32 : BitVec 32 := 1024#32
  let v8 : BitVec 32 := Scalar.muli arg1 c1024_i32
  v8
def k0_off1 (i : grid0.Coords) : Fin 2 → Nat :=
  let c0_5 : Index := 0#32
  let arg1 : BitVec 32 := BitVec.ofNat 32 (i 1).val
  let c1024_i32 : BitVec 32 := 1024#32
  let v8 : BitVec 32 := Scalar.muli arg1 c1024_i32
  let v9 : BitVec 32 := v8
  let v10 : Index := Scalar.indexCast v9
  ![0, v10.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== OutRefIdeal.lean ====
abbrev S2x8192x4096 : Shape := ⟨3, ![2, 8192, 4096]⟩
abbrev S4096x4096 : Shape := ⟨2, ![4096, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x4096, .f32⟩
  | .hbm, ⟨2, _⟩ => ⟨S2x8192x4096, .f32⟩
  | .hbm, ⟨3, _⟩ => ⟨S4096, .f32⟩
  | .hbm, ⟨4, _⟩ => ⟨S2x8192x4096, .f32⟩
  | .hbm, ⟨5, _⟩ => ⟨S2x8192x4096, .f32⟩
  | .hbm, ⟨6, _⟩ => ⟨S2x8192x4096, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x4096, .f32⟩
  | .hbm, ⟨18, _⟩ => ⟨S2x8192x4096, .f32⟩
  | .hbm, ⟨19, _⟩ => ⟨S1x1x4096, .f32⟩
  | .hbm, ⟨20, _⟩ => ⟨S2x8192x4096, .f32⟩
  | .hbm, ⟨21, _⟩ => ⟨S2x8192x4096, .f32⟩
  | .hbm, ⟨22, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Down.lean ====
abbrev S2x8192x4096 : Shape := ⟨3, ![2, 8192, 4096]⟩
abbrev S4096 : Shape := ⟨1, ![4096]⟩
abbrev S4096x5696 : Shape := ⟨2, ![4096, 5696]⟩
abbrev S1024 : Shape := ⟨1, ![1024]⟩
abbrev S512 : Shape := ⟨1, ![512]⟩
abbrev S2x8192x32 : Shape := ⟨3, ![2, 8192, 32]⟩
abbrev S4096x1664 : Shape := ⟨2, ![4096, 1664]⟩
abbrev S2x8192x128 : Shape := ⟨3, ![2, 8192, 128]⟩
abbrev S16384x128 : Shape := ⟨2, ![16384, 128]⟩
abbrev S16384x4096 : Shape := ⟨2, ![16384, 4096]⟩
abbrev S1x4096 : Shape := ⟨2, ![1, 4096]⟩
abbrev S1x1024 : Shape := ⟨2, ![1, 1024]⟩
abbrev S1x512 : Shape := ⟨2, ![1, 512]⟩
abbrev S16384x1024 : Shape := ⟨2, ![16384, 1024]⟩
abbrev S16384x512 : Shape := ⟨2, ![16384, 512]⟩
abbrev S256x4096 : Shape := ⟨2, ![256, 4096]⟩
abbrev S256x128 : Shape := ⟨2, ![256, 128]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x1664 : Shape := ⟨2, ![256, 1664]⟩

abbrev nBuf : Space → Nat
  | .hbm => 23
  | .vmem => 18
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x5696, .f32⟩
  | .hbm, ⟨3, _⟩ => ⟨S1024, .f32⟩
  | .hbm, ⟨4, _⟩ => ⟨S512, .f32⟩
  | .hbm, ⟨5, _⟩ => ⟨S2x8192x32, .f32⟩
  | .hbm, ⟨6, _⟩ => ⟨S2x8192x32, .f32⟩
  | .hbm, ⟨7, _⟩ => ⟨S4096x1664, .f32⟩
  | .hbm, ⟨8, _⟩ => ⟨S4096x1664, .bf16⟩
  | .hbm, ⟨9, _⟩ => ⟨S2x8192x128, .f32⟩
  | .hbm, ⟨10, _⟩ => ⟨S16384x128, .f32⟩
  | .hbm, ⟨11, _⟩ => ⟨S2x8192x32, .f32⟩
  | .hbm, ⟨12, _⟩ => ⟨S2x8192x32, .f32⟩
  | .hbm, ⟨13, _⟩ => ⟨S2x8192x128, .f32⟩
  | .hbm, ⟨14, _⟩ => ⟨S16384x128, .f32⟩
  | .hbm, ⟨15, _⟩ => ⟨S16384x4096, .f32⟩
  | .hbm, ⟨16, _⟩ => ⟨S1x4096, .f32⟩
  | .hbm, ⟨17, _⟩ => ⟨S1x1024, .f32⟩
  | .hbm, ⟨18, _⟩ => ⟨S1x512, .f32⟩
  | .hbm, ⟨19, _⟩ => ⟨S16384x4096, .bf16⟩
  | .hbm, ⟨20, _⟩ => ⟨S16384x1024, .bf16⟩
  | .hbm, ⟨21, _⟩ => ⟨S16384x512, .bf16⟩
  | .hbm, ⟨22, _⟩ => ⟨S16384x128, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x1664, .bf16⟩
  | .local _ .vmem, ⟨4, _⟩ => ⟨S1x1024, .f32⟩
  | .local _ .vmem, ⟨5, _⟩ => ⟨S1x512, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x4096, .bf16⟩
  | .local _ .vmem, ⟨11, _⟩ => ⟨S256x4096, .bf16⟩
  | .local _ .vmem, ⟨12, _⟩ => ⟨S256x1024, .bf16⟩
  | .local _ .vmem, ⟨13, _⟩ => ⟨S256x1024, .bf16⟩
  | .local _ .vmem, ⟨14, _⟩ => ⟨S256x512, .bf16⟩
  | .local _ .vmem, ⟨15, _⟩ => ⟨S256x512, .bf16⟩
  | .local _ .vmem, ⟨16, _⟩ => ⟨S256x128, .bf16⟩
  | .local _ .vmem, ⟨17, _⟩ => ⟨S256x128, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== DownRefIdeal.lean ====
abbrev S2x8192x4096 : Shape := ⟨3, ![2, 8192, 4096]⟩
abbrev S4096 : Shape := ⟨1, ![4096]⟩
abbrev S4096x5696 : Shape := ⟨2, ![4096, 5696]⟩
abbrev S1024 : Shape := ⟨1, ![1024]⟩
abbrev S512 : Shape := ⟨1, ![512]⟩
abbrev S2x8192x32 : Shape := ⟨3, ![2, 8192, 32]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x5696 : Shape := ⟨3, ![2, 8192, 5696]⟩
abbrev S2x8192x1024 : Shape := ⟨3, ![2, 8192, 1024]⟩
abbrev S2x8192x512 : Shape := ⟨3, ![2, 8192, 512]⟩
abbrev S2x8192x128 : Shape := ⟨3, ![2, 8192, 128]⟩
abbrev S2x8192x2x64 : Shape := ⟨4, ![2, 8192, 2, 64]⟩
abbrev S16384x4096 : Shape := ⟨2, ![16384, 4096]⟩
abbrev S1x1x1024 : Shape := ⟨3, ![1, 1, 1024]⟩
abbrev S16384x1024 : Shape := ⟨2, ![16384, 1024]⟩
abbrev S1x1x512 : Shape := ⟨3, ![1, 1, 512]⟩
abbrev S16384x512 : Shape := ⟨2, ![16384, 512]⟩
abbrev S2x8192x1x32 : Shape := ⟨4, ![2, 8192, 1, 32]⟩
abbrev S2x8192x2x32 : Shape := ⟨4, ![2, 8192, 2, 32]⟩
abbrev S16384x128 : Shape := ⟨2, ![16384, 128]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096x5696, .f32⟩
  | .hbm, ⟨3, _⟩ => ⟨S1024, .f32⟩
  | .hbm, ⟨4, _⟩ => ⟨S512, .f32⟩
  | .hbm, ⟨5, _⟩ => ⟨S2x8192x32, .f32⟩
  | .hbm, ⟨6, _⟩ => ⟨S2x8192x32, .f32⟩
  | .hbm, ⟨7, _⟩ => ⟨S2x8192x4096, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x4096, .f32⟩
  | .hbm, ⟨19, _⟩ => ⟨S2x8192x4096, .f32⟩
  | .hbm, ⟨20, _⟩ => ⟨S1x1x4096, .f32⟩
  | .hbm, ⟨21, _⟩ => ⟨S2x8192x4096, .f32⟩
  | .hbm, ⟨22, _⟩ => ⟨S2x8192x4096, .f32⟩
  | .hbm, ⟨23, _⟩ => ⟨S2x8192x5696, .f32⟩
  | .hbm, ⟨24, _⟩ => ⟨S2x8192x1024, .f32⟩
  | .hbm, ⟨25, _⟩ => ⟨S2x8192x512, .f32⟩
  | .hbm, ⟨26, _⟩ => ⟨S2x8192x128, .f32⟩
  | .hbm, ⟨27, _⟩ => ⟨S2x8192x2x64, .f32⟩
  | .hbm, ⟨28, _⟩ => ⟨S16384x4096, .f32⟩
  | .hbm, ⟨29, _⟩ => ⟨S16384x4096, .bf16⟩
  | .hbm, ⟨30, _⟩ => ⟨S2x8192x1024, .f32⟩
  | .hbm, ⟨31, _⟩ => ⟨S_, .f32⟩
  | .hbm, ⟨32, _⟩ => ⟨S2x8192, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x1, .f32⟩
  | .hbm, ⟨41, _⟩ => ⟨S2x8192x1024, .f32⟩
  | .hbm, ⟨42, _⟩ => ⟨S2x8192x1024, .f32⟩
  | .hbm, ⟨43, _⟩ => ⟨S1x1x1024, .f32⟩
  | .hbm, ⟨44, _⟩ => ⟨S2x8192x1024, .f32⟩
  | .hbm, ⟨45, _⟩ => ⟨S2x8192x1024, .f32⟩
  | .hbm, ⟨46, _⟩ => ⟨S16384x1024, .f32⟩
  | .hbm, ⟨47, _⟩ => ⟨S16384x1024, .bf16⟩
  | .hbm, ⟨48, _⟩ => ⟨S2x8192x512, .f32⟩
  | .hbm, ⟨49, _⟩ => ⟨S_, .f32⟩
  | .hbm, ⟨50, _⟩ => ⟨S2x8192, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1, .f32⟩
  | .hbm, ⟨59, _⟩ => ⟨S2x8192x512, .f32⟩
  | .hbm, ⟨60, _⟩ => ⟨S2x8192x512, .f32⟩
  | .hbm, ⟨61, _⟩ => ⟨S1x1x512, .f32⟩
  | .hbm, ⟨62, _⟩ => ⟨S2x8192x512, .f32⟩
  | .hbm, ⟨63, _⟩ => ⟨S2x8192x512, .f32⟩
  | .hbm, ⟨64, _⟩ => ⟨S16384x512, .f32⟩
  | .hbm, ⟨65, _⟩ => ⟨S16384x512, .bf16⟩
  | .hbm, ⟨66, _⟩ => ⟨S2x8192x1x32, .f32⟩
  | .hbm, ⟨67, _⟩ => ⟨S2x8192x1x32, .f32⟩
  | .hbm, ⟨68, _⟩ => ⟨S2x8192x2x32, .f32⟩
  | .hbm, ⟨69, _⟩ => ⟨S2x8192x2x32, .f32⟩
  | .hbm, ⟨70, _⟩ => ⟨S2x8192x2x32, .f32⟩
  | .hbm, ⟨71, _⟩ => ⟨S2x8192x2x32, .f32⟩
  | .hbm, ⟨72, _⟩ => ⟨S2x8192x2x32, .f32⟩
  | .hbm, ⟨73, _⟩ => ⟨S2x8192x2x32, .f32⟩
  | .hbm, ⟨74, _⟩ => ⟨S2x8192x2x32, .f32⟩
  | .hbm, ⟨75, _⟩ => ⟨S2x8192x2x32, .f32⟩
  | .hbm, ⟨76, _⟩ => ⟨S2x8192x2x32, .f32⟩
  | .hbm, ⟨77, _⟩ => ⟨S2x8192x2x32, .f32⟩
  | .hbm, ⟨78, _⟩ => ⟨S2x8192x2x32, .f32⟩
  | .hbm, ⟨79, _⟩ => ⟨S2x8192x2x32, .f32⟩
  | .hbm, ⟨80, _⟩ => ⟨S2x8192x2x64, .f32⟩
  | .hbm, ⟨81, _⟩ => ⟨S16384x128, .f32⟩
  | .hbm, ⟨82, _⟩ => ⟨S16384x128, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Kv.lean ====
abbrev S2x8192x512 : Shape := ⟨3, ![2, 8192, 512]⟩
abbrev S512x8192 : Shape := ⟨2, ![512, 8192]⟩
abbrev S2x8192x128 : Shape := ⟨3, ![2, 8192, 128]⟩
abbrev S16384x512 : Shape := ⟨2, ![16384, 512]⟩
abbrev S16384x128 : Shape := ⟨2, ![16384, 128]⟩
abbrev S2x32x8192x192 : Shape := ⟨4, ![2, 32, 8192, 192]⟩
abbrev S2x32x144x8192 : Shape := ⟨4, ![2, 32, 144, 8192]⟩
abbrev S1024x512 : Shape := ⟨2, ![1024, 512]⟩
abbrev S512x1024 : Shape := ⟨2, ![512, 1024]⟩
abbrev S1024x128 : Shape := ⟨2, ![1024, 128]⟩
abbrev S1x4x1024x192 : Shape := ⟨4, ![1, 4, 1024, 192]⟩
abbrev S1x4x144x1024 : Shape := ⟨4, ![1, 4, 144, 1024]⟩
abbrev S1024x1024 : Shape := ⟨2, ![1024, 1024]⟩
abbrev S1024x64 : Shape := ⟨2, ![1024, 64]⟩
abbrev S1x1x1024x128 : Shape := ⟨4, ![1, 1, 1024, 128]⟩
abbrev S1x1x1024x64 : Shape := ⟨4, ![1, 1, 1024, 64]⟩
abbrev S128x1024 : Shape := ⟨2, ![128, 1024]⟩
abbrev S1x1x128x1024 : Shape := ⟨4, ![1, 1, 128, 1024]⟩
abbrev S16x1024 : Shape := ⟨2, ![16, 1024]⟩
abbrev S1x1x16x1024 : Shape := ⟨4, ![1, 1, 16, 1024]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x512, .f32⟩
  | .hbm, ⟨1, _⟩ => ⟨S512x8192, .f32⟩
  | .hbm, ⟨2, _⟩ => ⟨S2x8192x128, .f32⟩
  | .hbm, ⟨3, _⟩ => ⟨S16384x512, .f32⟩
  | .hbm, ⟨4, _⟩ => ⟨S16384x512, .bf16⟩
  | .hbm, ⟨5, _⟩ => ⟨S512x8192, .bf16⟩
  | .hbm, ⟨6, _⟩ => ⟨S16384x128, .f32⟩
  | .hbm, ⟨7, _⟩ => ⟨S16384x128, .bf16⟩
  | .hbm, ⟨8, _⟩ => ⟨S2x32x8192x192, .bf16⟩
  | .hbm, ⟨9, _⟩ => ⟨S2x32x144x8192, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x128, .bf16⟩
  | .local _ .vmem, ⟨5, _⟩ => ⟨S1024x128, .bf16⟩
  | .local _ .vmem, ⟨6, _⟩ => ⟨S1x4x1024x192, .bf16⟩
  | .local _ .vmem, ⟨7, _⟩ => ⟨S1x4x1024x192, .bf16⟩
  | .local _ .vmem, ⟨8, _⟩ => ⟨S1x4x144x1024, .bf16⟩
  | .local _ .vmem, ⟨9, _⟩ => ⟨S1x4x144x1024, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x1024x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x144x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KvRefIdeal.lean ====
abbrev S2x8192x512 : Shape := ⟨3, ![2, 8192, 512]⟩
abbrev S512x8192 : Shape := ⟨2, ![512, 8192]⟩
abbrev S2x8192x128 : Shape := ⟨3, ![2, 8192, 128]⟩
abbrev S2x8192x8192 : Shape := ⟨3, ![2, 8192, 8192]⟩
abbrev S2x8192x32x256 : Shape := ⟨4, ![2, 8192, 32, 256]⟩
abbrev S2x8192x32x128 : Shape := ⟨4, ![2, 8192, 32, 128]⟩
abbrev S2x8192x64 : Shape := ⟨3, ![2, 8192, 64]⟩
abbrev S2x8192x1x64 : Shape := ⟨4, ![2, 8192, 1, 64]⟩
abbrev S2x8192x32x64 : Shape := ⟨4, ![2, 8192, 32, 64]⟩
abbrev S2x8192x32x192 : Shape := ⟨4, ![2, 8192, 32, 192]⟩
abbrev S_ : Shape := ⟨0, ![]⟩
abbrev S2x32x16x8192 : Shape := ⟨4, ![2, 32, 16, 8192]⟩
abbrev S2x32x128x8192 : Shape := ⟨4, ![2, 32, 128, 8192]⟩
abbrev S2x32x144x8192 : Shape := ⟨4, ![2, 32, 144, 8192]⟩
abbrev S2x32x8192x192 : Shape := ⟨4, ![2, 32, 8192, 192]⟩

abbrev nBuf : Space → Nat
  | .hbm => 18
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S512x8192, .f32⟩
  | .hbm, ⟨2, _⟩ => ⟨S2x8192x128, .f32⟩
  | .hbm, ⟨3, _⟩ => ⟨S2x8192x8192, .f32⟩
  | .hbm, ⟨4, _⟩ => ⟨S2x8192x32x256, .f32⟩
  | .hbm, ⟨5, _⟩ => ⟨S2x8192x32x128, .f32⟩
  | .hbm, ⟨6, _⟩ => ⟨S2x8192x32x128, .f32⟩
  | .hbm, ⟨7, _⟩ => ⟨S2x8192x64, .f32⟩
  | .hbm, ⟨8, _⟩ => ⟨S2x8192x1x64, .f32⟩
  | .hbm, ⟨9, _⟩ => ⟨S2x8192x32x64, .f32⟩
  | .hbm, ⟨10, _⟩ => ⟨S2x8192x32x192, .f32⟩
  | .hbm, ⟨11, _⟩ => ⟨S_, .f32⟩
  | .hbm, ⟨12, _⟩ => ⟨S2x32x16x8192, .f32⟩
  | .hbm, ⟨13, _⟩ => ⟨S2x32x128x8192, .f32⟩
  | .hbm, ⟨14, _⟩ => ⟨S2x32x144x8192, .f32⟩
  | .hbm, ⟨15, _⟩ => ⟨S2x32x8192x192, .f32⟩
  | .hbm, ⟨16, _⟩ => ⟨S2x32x8192x192, .bf16⟩
  | .hbm, ⟨17, _⟩ => ⟨S2x32x144x8192, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Qup.lean ====
abbrev S2x8192x1024 : Shape := ⟨3, ![2, 8192, 1024]⟩
abbrev S1024x6144 : Shape := ⟨2, ![1024, 6144]⟩
abbrev S2x8192x32 : Shape := ⟨3, ![2, 8192, 32]⟩
abbrev S16384x1024 : Shape := ⟨2, ![16384, 1024]⟩
abbrev S16384x32 : Shape := ⟨2, ![16384, 32]⟩
abbrev S32x16384 : Shape := ⟨2, ![32, 16384]⟩
abbrev S2x32x192x8192 : Shape := ⟨4, ![2, 32, 192, 8192]⟩
abbrev S1024x1024 : Shape := ⟨2, ![1024, 1024]⟩
abbrev S1024x768 : Shape := ⟨2, ![1024, 768]⟩
abbrev S32x1024 : Shape := ⟨2, ![32, 1024]⟩
abbrev S1x4x192x1024 : Shape := ⟨4, ![1, 4, 192, 1024]⟩
abbrev S1024x128 : Shape := ⟨2, ![1024, 128]⟩
abbrev S128x1024 : Shape := ⟨2, ![128, 1024]⟩
abbrev S768x1024 : Shape := ⟨2, ![768, 1024]⟩
abbrev S1x1x128x1024 : Shape := ⟨4, ![1, 1, 128, 1024]⟩
abbrev S1x1x32x1024 : Shape := ⟨4, ![1, 1, 32, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024x6144, .f32⟩
  | .hbm, ⟨2, _⟩ => ⟨S2x8192x32, .f32⟩
  | .hbm, ⟨3, _⟩ => ⟨S2x8192x32, .f32⟩
  | .hbm, ⟨4, _⟩ => ⟨S16384x1024, .f32⟩
  | .hbm, ⟨5, _⟩ => ⟨S16384x1024, .bf16⟩
  | .hbm, ⟨6, _⟩ => ⟨S1024x6144, .bf16⟩
  | .hbm, ⟨7, _⟩ => ⟨S16384x32, .f32⟩
  | .hbm, ⟨8, _⟩ => ⟨S32x16384, .f32⟩
  | .hbm, ⟨9, _⟩ => ⟨S16384x32, .f32⟩
  | .hbm, ⟨10, _⟩ => ⟨S32x16384, .f32⟩
  | .hbm, ⟨11, _⟩ => ⟨S2x32x192x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S1x4x192x1024, .bf16⟩
  | .local _ .vmem, ⟨9, _⟩ => ⟨S1x4x192x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x192x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QupIdeal.lean ====
variable {F : FTy → Type} [FloatOps F] [Named F]
def κ : String → Option EReal := fun
  | "scale" => some ((((Real.sqrt 192) * (Real.log 2))⁻¹ : ℝ) : EReal)
  | _ => none
-- ==== QupRefIdeal.lean ====
abbrev S2x8192x1024 : Shape := ⟨3, ![2, 8192, 1024]⟩
abbrev S1024x6144 : Shape := ⟨2, ![1024, 6144]⟩
abbrev S2x8192x32 : Shape := ⟨3, ![2, 8192, 32]⟩
abbrev S2x8192x6144 : Shape := ⟨3, ![2, 8192, 6144]⟩
abbrev S2x8192x32x192 : Shape := ⟨4, ![2, 8192, 32, 192]⟩
abbrev S2x8192x32x128 : Shape := ⟨4, ![2, 8192, 32, 128]⟩
abbrev S2x8192x32x64 : Shape := ⟨4, ![2, 8192, 32, 64]⟩
abbrev S2x8192x1x32 : Shape := ⟨4, ![2, 8192, 1, 32]⟩
abbrev S2x8192x32x32 : Shape := ⟨4, ![2, 8192, 32, 32]⟩
abbrev S_ : Shape := ⟨0, ![]⟩
abbrev S2x32x192x8192 : Shape := ⟨4, ![2, 32, 192, 8192]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x6144, .f32⟩
  | .hbm, ⟨2, _⟩ => ⟨S2x8192x32, .f32⟩
  | .hbm, ⟨3, _⟩ => ⟨S2x8192x32, .f32⟩
  | .hbm, ⟨4, _⟩ => ⟨S2x8192x6144, .f32⟩
  | .hbm, ⟨5, _⟩ => ⟨S2x8192x32x192, .f32⟩
  | .hbm, ⟨6, _⟩ => ⟨S2x8192x32x128, .f32⟩
  | .hbm, ⟨7, _⟩ => ⟨S2x8192x32x64, .f32⟩
  | .hbm, ⟨8, _⟩ => ⟨S2x8192x1x32, .f32⟩
  | .hbm, ⟨9, _⟩ => ⟨S2x8192x1x32, .f32⟩
  | .hbm, ⟨10, _⟩ => ⟨S2x8192x32x32, .f32⟩
  | .hbm, ⟨11, _⟩ => ⟨S2x8192x32x32, .f32⟩
  | .hbm, ⟨12, _⟩ => ⟨S2x8192x32x32, .f32⟩
  | .hbm, ⟨13, _⟩ => ⟨S2x8192x32x32, .f32⟩
  | .hbm, ⟨14, _⟩ => ⟨S2x8192x32x32, .f32⟩
  | .hbm, ⟨15, _⟩ => ⟨S2x8192x32x32, .f32⟩
  | .hbm, ⟨16, _⟩ => ⟨S2x8192x32x32, .f32⟩
  | .hbm, ⟨17, _⟩ => ⟨S2x8192x32x32, .f32⟩
  | .hbm, ⟨18, _⟩ => ⟨S2x8192x32x32, .f32⟩
  | .hbm, ⟨19, _⟩ => ⟨S2x8192x32x32, .f32⟩
  | .hbm, ⟨20, _⟩ => ⟨S2x8192x32x32, .f32⟩
  | .hbm, ⟨21, _⟩ => ⟨S2x8192x32x32, .f32⟩
  | .hbm, ⟨22, _⟩ => ⟨S2x8192x32x64, .f32⟩
  | .hbm, ⟨23, _⟩ => ⟨S2x8192x32x192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x8192x32x192, .f32⟩
  | .hbm, ⟨32, _⟩ => ⟨S2x8192x32x192, .f32⟩
  | .hbm, ⟨33, _⟩ => ⟨S2x32x192x8192, .f32⟩
  | .hbm, ⟨34, _⟩ => ⟨S2x32x192x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Attn.Sem.lean ====
/- What the attention body leaves, as plain functions of the blocks it is handed: the tile of scores of one block of
   keys, its row of maxima, and the running maximum and the running sums after the first `n` blocks of keys. -/
module

public import proofs.«01_k».proof.Proof.Gen.KernelIdeal.Skeleton
public import Idealize.ShloMosaic.Lib.VecWindow

@[expose] public section

noncomputable section

namespace Cert.KernelIdeal.Attn

open Cert.KernelIdeal Cert.KernelIdeal.Gen
open Idealize.ShloMosaic Idealize.ShloMosaic.TcCoe
open Idealize.ShloMosaic.VecWindow (window put)

variable {F : FTy → Type} [FloatOps F] [Named F]

/-- Where block `n` of the keys begins (past the last block: the last). -/
abbrev koff (n : ℕ) : Fin 4 → ℕ := ![0, 0, 512 * min n 15, 0]
/-- Where block `n` of the values begins (past the last block: the last). -/
abbrev voff (n : ℕ) : Fin 4 → ℕ := ![0, 0, 0, 512 * min n 15]

theorem koff_inb (n : ℕ) : ∀ a, koff n a + S1x1x512x192.size a ≤ S1x1x8192x192.size a := fun a => by
  match a with
  | ⟨0, _⟩ => show (0 : ℕ) + 1 ≤ 1; omega
  | ⟨1, _⟩ => show (0 : ℕ) + 1 ≤ 1; omega
  | ⟨2, _⟩ => show 512 * min n 15 + 512 ≤ 8192; omega
  | ⟨3, _⟩ => show (0 : ℕ) + 192 ≤ 192; omega

theorem voff_inb (n : ℕ) : ∀ a, voff n a + S1x1x144x512.size a ≤ S1x1x144x8192.size a := fun a => by
  match a with
  | ⟨0, _⟩ => show (0 : ℕ) + 1 ≤ 1; omega
  | ⟨1, _⟩ => show (0 : ℕ) + 1 ≤ 1; omega
  | ⟨2, _⟩ => show (0 : ℕ) + 144 ≤ 144; omega
  | ⟨3, _⟩ => show 512 * min n 15 + 512 ≤ 8192; omega

/-- Block `n` of the keys. -/
def kblk (K : Vec F S1x1x8192x192 .bf16) (n : ℕ) : Vec F S1x1x512x192 .bf16 := window K (koff n) S1x1x512x192.size (koff_inb n)
/-- Block `n` of the values. -/
def vblk (V : Vec F S1x1x144x8192 .bf16) (n : ℕ) : Vec F S1x1x144x512 .bf16 := window V (voff n) S1x1x144x512.size (voff_inb n)

/-- The running maximum after one more tile, whose own maxima are `x`. -/
def stepM (m : Vec F S1x1024 .f32) (x : Vec F S1x1x1024 .f32) : Vec F S1x1024 .f32 := k0_pay9 m x
/-- The running sums after one more tile `t` of scores with maxima `x` and values `v`. -/
def stepA (t : Vec F S1x512x1024 .f32) (x : Vec F S1x1x1024 .f32) (v : Vec F S1x1x144x512 .bf16) (m : Vec F S1x1024 .f32)
    (a : Vec F S144x1024 .f32) : Vec F S144x1024 .f32 := k0_pay10 (k0_pay6 t) (k0_pay7 v) m x a

/-- The running maximum and the running sums. -/
abbrev St (F : FTy → Type) : Type := Vec F S1x1024 .f32 × Vec F S144x1024 .f32

/-- One block of keys below the diagonal taken up. -/
def step (Q : Vec F S1x1x192x1024 .bf16) (K : Vec F S1x1x8192x192 .bf16) (V : Vec F S1x1x144x8192 .bf16) (n : ℕ) (p : St F) : St F :=
  (stepM p.1 (k0_pay5 (kblk K n) Q), stepA (k0_pay4 (kblk K n) Q) (k0_pay5 (kblk K n) Q) (vblk V n) p.1 p.2)

/-- The running maximum and sums after the first `n` blocks of keys, all below the diagonal. -/
def st (Q : Vec F S1x1x192x1024 .bf16) (K : Vec F S1x1x8192x192 .bf16) (V : Vec F S1x1x144x8192 .bf16) : ℕ → St F
  | 0 => (k0_pay94, k0_pay95)
  | n + 1 => step Q K V n (st Q K V n)

/-- The first half of the scores' buffer. -/
abbrev slot0 (S : Vec F S2x512x1024 .f32) : Vec F S1x512x1024 .f32 := window S ![0, 0, 0] S1x512x1024.size inb_S2x512x1024_S1x512x1024_0_0_0
/-- The first half of the maxima's buffer. -/
abbrev slotM0 (S : Vec F S2x1x1024 .f32) : Vec F S1x1x1024 .f32 := window S ![0, 0, 0] S1x1x1024.size inb_S2x1x1024_S1x1x1024_0_0_0

/-- The block of keys that begins at the diagonal taken up. -/
def dstep (Q : Vec F S1x1x192x1024 .bf16) (K : Vec F S1x1x8192x192 .bf16) (V : Vec F S1x1x144x8192 .bf16) (i : ℕ) (p : St F) : St F :=
  (stepM p.1 (k0_pay98 (kblk K (2 * i)) Q), stepA (k0_pay97 (kblk K (2 * i)) Q) (k0_pay98 (kblk K (2 * i)) Q) (vblk V (2 * i)) p.1 p.2)

/-- The later half of the queries. -/
def qhalf (Q : Vec F S1x1x192x1024 .bf16) : Vec F S1x1x192x512 .bf16 := window Q ![0, 0, 0, 512] S1x1x192x512.size inb_S1x1x192x1024_S1x1x192x512_0_0_0_512

/-- The running sums after the last block of keys, which only the later half of the queries sees. -/
def hacc (Q : Vec F S1x1x192x1024 .bf16) (K : Vec F S1x1x8192x192 .bf16) (V : Vec F S1x1x144x8192 .bf16) (i : ℕ) (p : St F) : Vec F S144x1024 .f32 :=
  put p.2 ![0, 512] S144x512.size (k0_pay1 (k0_pay118 (k0_pay108 (k0_pay106 (kblk K (2 * i + 1)) (qhalf Q))) (vblk V (2 * i + 1))
    (window p.1 ![0, 512] S1x512.size inb_S1x1024_S1x512_0_512) (k0_pay109 (k0_pay106 (kblk K (2 * i + 1)) (qhalf Q)))
    (window p.2 ![0, 512] S144x512.size inb_S144x1024_S144x512_0_512)))

/-- What is written of the running sums `a`: the sums over their last row's, by the gate. -/
def fin (a : Vec F S144x1024 .f32) (G : Vec F S1024x128 .bf16) : Vec F S1024x128 .bf16 :=
  k0_pay2 (window a ![0, 0] S128x1024.size inb_S144x1024_S128x1024_0_0) (window a ![128, 0] S1x1024.size inb_S144x1024_S1x1024_128_0) G

/-- The block of results of block `i` of the queries. -/
def out (Q : Vec F S1x1x192x1024 .bf16) (K : Vec F S1x1x8192x192 .bf16) (V : Vec F S1x1x144x8192 .bf16) (G : Vec F S1024x128 .bf16) (i : ℕ) :
    Vec F S1024x128 .bf16 := fin (hacc Q K V i (dstep Q K V i (st Q K V (2 * i)))) G

end Cert.KernelIdeal.Attn

end
-- ==== Proof.Attn.Words.lean ====
/- The body's integer side: the trips of its loop, its conditions, and the offsets of its loads, as numbers. -/
module

public import proofs.«01_k».proof.Proof.Attn.Sem

@[expose] public section

noncomputable section

namespace Cert.KernelIdeal.Attn

open Cert.KernelIdeal Cert.KernelIdeal.Gen
open Idealize.ShloMosaic Idealize.ShloMosaic.TcCoe

theorem lt8 (i : grid0.Coords) : (i 2).val < 8 := (i 2).isLt

theorem t1_trips (i : grid0.Coords) : (k0_t1_loop i).trips = ((i 2).val - 1) / 2 := by
  have h := lt8 i
  unfold k0_t1_loop
  generalize (i 2).val = n at *
  interval_cases n <;> rfl

theorem t2_trips (i : grid0.Coords) : (k0_t2_loop i).trips = 0 := by
  have h := lt8 i
  unfold k0_t2_loop
  generalize (i 2).val = n at *
  interval_cases n <;> rfl

theorem cond1_iff (i : grid0.Coords) : k0_cond1 i = 1#1 ↔ (i 2).val = 0 := by
  have h := lt8 i
  unfold k0_cond1
  generalize (i 2).val = n at *
  interval_cases n <;> decide

theorem cond2_iff (i : grid0.Coords) : k0_cond2 i = 1#1 ↔ 0 < (i 2).val := by
  have h := lt8 i
  unfold k0_cond2
  generalize (i 2).val = n at *
  interval_cases n <;> decide

theorem cond3_iff (i : grid0.Coords) : k0_cond3 i = 1#1 ↔ 0 < (i 2).val ∧ (i 2).val % 2 = 0 := by
  have h := lt8 i
  unfold k0_cond3
  generalize (i 2).val = n at *
  interval_cases n <;> decide

theorem cond4_iff (i : grid0.Coords) : k0_cond4 i = 1#1 ↔ 0 < (i 2).val := by
  have h := lt8 i
  unfold k0_cond4
  generalize (i 2).val = n at *
  interval_cases n <;> decide

theorem t1_lt (i : grid0.Coords) (k : Fin (k0_t1_loop i).trips) : k.val < 3 := by
  have h := k.isLt.trans_eq (t1_trips i); have := lt8 i; omega

/-- An offset that counts the loop's trips is compared at each of the three trips. -/
theorem off1_1 (i : grid0.Coords) (k : Fin (k0_t1_loop i).trips) : k0_off1 i k 1#32 = koff (4 * k.val + 1) := by
  have h := t1_lt i k
  unfold k0_off1 Scf.iv
  generalize k.val = n at *
  interval_cases n <;> rfl

theorem off1_2 (i : grid0.Coords) (k : Fin (k0_t1_loop i).trips) : k0_off1 i k 2#32 = koff (4 * k.val + 2) := by
  have h := t1_lt i k
  unfold k0_off1 Scf.iv
  generalize k.val = n at *
  interval_cases n <;> rfl

theorem off4_1 (i : grid0.Coords) (k : Fin (k0_t1_loop i).trips) : k0_off4 i k 1#32 = koff (4 * k.val + 3) := by
  have h := t1_lt i k
  unfold k0_off4 Scf.iv
  generalize k.val = n at *
  interval_cases n <;> rfl

theorem off4_2 (i : grid0.Coords) (k : Fin (k0_t1_loop i).trips) : k0_off4 i k 2#32 = koff (4 * k.val + 4) := by
  have h := t1_lt i k
  unfold k0_off4 Scf.iv
  generalize k.val = n at *
  interval_cases n <;> rfl

theorem off2_eq (i : grid0.Coords) (k : Fin (k0_t1_loop i).trips) : k0_off2 i k = voff (4 * k.val) := by
  have h := t1_lt i k
  unfold k0_off2 Scf.iv
  generalize k.val = n at *
  interval_cases n <;> rfl

theorem off3_eq (i : grid0.Coords) (k : Fin (k0_t1_loop i).trips) : k0_off3 i k = voff (4 * k.val + 1) := by
  have h := t1_lt i k
  unfold k0_off3 Scf.iv
  generalize k.val = n at *
  interval_cases n <;> rfl

theorem off5_eq (i : grid0.Coords) (k : Fin (k0_t1_loop i).trips) : k0_off5 i k = voff (4 * k.val + 2) := by
  have h := t1_lt i k
  unfold k0_off5 Scf.iv
  generalize k.val = n at *
  interval_cases n <;> rfl

theorem off6_eq (i : grid0.Coords) (k : Fin (k0_t1_loop i).trips) : k0_off6 i k = voff (4 * k.val + 3) := by
  have h := t1_lt i k
  unfold k0_off6 Scf.iv
  generalize k.val = n at *
  interval_cases n <;> rfl

section Point
variable (i : grid0.Coords)

theorem off13_1 (hi : 2 ≤ (i 2).val) : k0_off13 i 1#32 = koff (2 * ((i 2).val - 2) + 1) := by
  have h := lt8 i
  unfold k0_off13
  generalize (i 2).val = n at *
  interval_cases n <;> rfl

theorem off13_2 (hi : 2 ≤ (i 2).val) : k0_off13 i 2#32 = koff (2 * ((i 2).val - 2) + 2) := by
  have h := lt8 i
  unfold k0_off13
  generalize (i 2).val = n at *
  interval_cases n <;> rfl

theorem off14_eq (hi : 2 ≤ (i 2).val) : k0_off14 i = voff (2 * ((i 2).val - 2)) := by
  have h := lt8 i
  unfold k0_off14
  generalize (i 2).val = n at *
  interval_cases n <;> rfl

theorem off15_eq (hi : 2 ≤ (i 2).val) : k0_off15 i = voff (2 * ((i 2).val - 2) + 1) := by
  have h := lt8 i
  unfold k0_off15
  generalize (i 2).val = n at *
  interval_cases n <;> rfl

theorem off16_1 (hi : 0 < (i 2).val) : k0_off16 i 1#32 = koff (2 * ((i 2).val - 1) + 1) := by
  have h := lt8 i
  unfold k0_off16
  generalize (i 2).val = n at *
  interval_cases n <;> rfl

theorem off16_2 (hi : 0 < (i 2).val) : k0_off16 i 2#32 = koff (2 * (i 2).val) := by
  have h := lt8 i
  unfold k0_off16
  generalize (i 2).val = n at *
  interval_cases n <;> rfl

theorem off17_eq (hi : 0 < (i 2).val) : k0_off17 i = voff (2 * ((i 2).val - 1)) := by
  have h := lt8 i
  unfold k0_off17
  generalize (i 2).val = n at *
  interval_cases n <;> rfl

theorem off18_eq (hi : 0 < (i 2).val) : k0_off18 i = voff (2 * ((i 2).val - 1) + 1) := by
  have h := lt8 i
  unfold k0_off18
  generalize (i 2).val = n at *
  interval_cases n <;> rfl

theorem off19_eq : k0_off19 i = koff (2 * (i 2).val + 1) := by
  have h := lt8 i
  unfold k0_off19
  generalize (i 2).val = n at *
  interval_cases n <;> rfl

theorem off20_eq : k0_off20 i = voff (2 * (i 2).val) := by
  have h := lt8 i
  unfold k0_off20
  generalize (i 2).val = n at *
  interval_cases n <;> rfl

theorem off21_eq : k0_off21 i = voff (2 * (i 2).val + 1) := by
  have h := lt8 i
  unfold k0_off21
  generalize (i 2).val = n at *
  interval_cases n <;> rfl

end Point

end Cert.KernelIdeal.Attn

end
-- ==== Proof.Attn.Read.lean ====
/- Loads and stores of the body's scratch buffers, by values. -/
module

public import proofs.«01_k».proof.Proof.Attn.Words

@[expose] public section

noncomputable section

namespace Cert.KernelIdeal.Attn

open Cert.KernelIdeal Cert.KernelIdeal.Gen
open Idealize.ShloMosaic Idealize.ShloMosaic.TcCoe
open Idealize.ShloMosaic.VecWindow (window put window_put_same window_put_of_disjoint)

section View
variable {sig : RefSig} {κ : Kind} {sp : Space} {s : Shape} {e : EltTy} {Val : EltTy → Type}

/-- What a view reads after one more store. -/
theorem read_cons (v : View sig κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

/-- A load is a window of what the view reads. -/
theorem load_window (v : View sig κ sp s e) (f : v.ty.Contents Val) {off size : Fin s.rank → ℕ} (inb : ∀ a, off a + size a ≤ s.size a) :
    v.readAt Val (Rect.unit off size inb).toLoadRect f = window (v.read Val f) off size inb :=
  View.readAt_unit v f inb rfl inb

end View

variable {α : Type}

/-- A window of the shape's own sizes is the whole. -/
theorem window_full {s : Shape} (x : s.Idx → α) {off : Fin s.rank → ℕ} (inb : ∀ a, off a + s.size a ≤ s.size a) :
    window x off s.size inb = x := funext fun y => congrArg x (Rect.emb_unit_full inb y)

/-- A store of the shape's own sizes leaves the payload. -/
theorem put_full {s : Shape} (x : s.Idx → α) {off : Fin s.rank → ℕ} (inb : ∀ a, off a + s.size a ≤ s.size a) (w : s.Idx → α) :
    put x off s.size w = w := by
  have := VecWindow.window_put_same x off s.size inb w
  rwa [window_full] at this

theorem m_window (x : S1x1024.Idx → α) (inb) : window x ![0, 0] ![1, 1024] inb = x := window_full x inb
theorem m_put (x w : S1x1024.Idx → α) : put x ![0, 0] ![1, 1024] w = w := put_full x inb_S1x1024_S1x1024_0_0 w
theorem a_window (x : S144x1024.Idx → α) (inb) : window x ![0, 0] ![144, 1024] inb = x := window_full x inb
theorem a_put (x w : S144x1024.Idx → α) : put x ![0, 0] ![144, 1024] w = w := put_full x inb_S144x1024_S144x1024_0_0 w
theorem q_window (x : S1x1x192x1024.Idx → α) (inb) : window x ![0, 0, 0, 0] ![1, 1, 192, 1024] inb = x := window_full x inb
theorem g_window (x : S1024x128.Idx → α) (inb) : window x ![0, 0] ![1024, 128] inb = x := window_full x inb
theorem g_put (x w : S1024x128.Idx → α) : put x ![0, 0] ![1024, 128] w = w := put_full x inb_S1024x128_S1024x128_0_0 w

theorem s00 (x : S2x512x1024.Idx → α) (w : S1x512x1024.Idx → α) (inb) :
    window (put x ![0, 0, 0] ![1, 512, 1024] w) ![0, 0, 0] ![1, 512, 1024] inb = w := window_put_same x _ _ inb w
theorem s11 (x : S2x512x1024.Idx → α) (w : S1x512x1024.Idx → α) (inb) :
    window (put x ![1, 0, 0] ![1, 512, 1024] w) ![1, 0, 0] ![1, 512, 1024] inb = w := window_put_same x _ _ inb w
theorem s01 (x : S2x512x1024.Idx → α) (w : S1x512x1024.Idx → α) (inb) :
    window (put x ![1, 0, 0] ![1, 512, 1024] w) ![0, 0, 0] ![1, 512, 1024] inb = window x ![0, 0, 0] ![1, 512, 1024] inb :=
  window_put_of_disjoint x _ _ _ _ inb w 0 (.inl (by decide))
theorem s10 (x : S2x512x1024.Idx → α) (w : S1x512x1024.Idx → α) (inb) :
    window (put x ![0, 0, 0] ![1, 512, 1024] w) ![1, 0, 0] ![1, 512, 1024] inb = window x ![1, 0, 0] ![1, 512, 1024] inb :=
  window_put_of_disjoint x _ _ _ _ inb w 0 (.inr (by decide))
theorem shh (x : S2x512x1024.Idx → α) (w : S1x512x512.Idx → α) (inb) :
    window (put x ![1, 0, 512] ![1, 512, 512] w) ![1, 0, 512] ![1, 512, 512] inb = w := window_put_same x _ _ inb w
theorem s0h (x : S2x512x1024.Idx → α) (w : S1x512x512.Idx → α) (inb) :
    window (put x ![1, 0, 512] ![1, 512, 512] w) ![0, 0, 0] ![1, 512, 1024] inb = window x ![0, 0, 0] ![1, 512, 1024] inb :=
  window_put_of_disjoint x _ _ _ _ inb w 0 (.inl (by decide))

theorem x00 (x : S2x1x1024.Idx → α) (w : S1x1x1024.Idx → α) (inb) :
    window (put x ![0, 0, 0] ![1, 1, 1024] w) ![0, 0, 0] ![1, 1, 1024] inb = w := window_put_same x _ _ inb w
theorem x11 (x : S2x1x1024.Idx → α) (w : S1x1x1024.Idx → α) (inb) :
    window (put x ![1, 0, 0] ![1, 1, 1024] w) ![1, 0, 0] ![1, 1, 1024] inb = w := window_put_same x _ _ inb w
theorem x01 (x : S2x1x1024.Idx → α) (w : S1x1x1024.Idx → α) (inb) :
    window (put x ![1, 0, 0] ![1, 1, 1024] w) ![0, 0, 0] ![1, 1, 1024] inb = window x ![0, 0, 0] ![1, 1, 1024] inb :=
  window_put_of_disjoint x _ _ _ _ inb w 0 (.inl (by decide))
theorem x10 (x : S2x1x1024.Idx → α) (w : S1x1x1024.Idx → α) (inb) :
    window (put x ![0, 0, 0] ![1, 1, 1024] w) ![1, 0, 0] ![1, 1, 1024] inb = window x ![1, 0, 0] ![1, 1, 1024] inb :=
  window_put_of_disjoint x _ _ _ _ inb w 0 (.inr (by decide))
theorem xhh (x : S2x1x1024.Idx → α) (w : S1x1x512.Idx → α) (inb) :
    window (put x ![1, 0, 512] ![1, 1, 512] w) ![1, 0, 512] ![1, 1, 512] inb = w := window_put_same x _ _ inb w
theorem x0h (x : S2x1x1024.Idx → α) (w : S1x1x512.Idx → α) (inb) :
    window (put x ![1, 0, 512] ![1, 1, 512] w) ![0, 0, 0] ![1, 1, 1024] inb = window x ![0, 0, 0] ![1, 1, 1024] inb :=
  window_put_of_disjoint x _ _ _ _ inb w 0 (.inl (by decide))

variable {F : FTy → Type} [FloatOps F] [Named F]

/-- The keys loaded at block `n`'s offsets are block `n` of the keys. -/
theorem kwin (K : Vec F S1x1x8192x192 .bf16) {off : Fin 4 → ℕ} (n : ℕ) (h : off = koff n) (inb) :
    window K off ![1, 1, 512, 192] inb = kblk K n := by subst h; rfl
/-- The values loaded at block `n`'s offsets are block `n` of the values. -/
theorem vwin (V : Vec F S1x1x144x8192 .bf16) {off : Fin 4 → ℕ} (n : ℕ) (h : off = voff n) (inb) :
    window V off ![1, 1, 144, 512] inb = vblk V n := by subst h; rfl
/-- The later half of the queries, loaded. -/
theorem qwin (Q : Vec F S1x1x192x1024 .bf16) {off : Fin 4 → ℕ} (h : off = ![0, 0, 0, 512]) (inb) :
    window Q off ![1, 1, 192, 512] inb = qhalf Q := by subst h; rfl

end Cert.KernelIdeal.Attn

end
-- ==== Proof.Attn.Trip.lean ====
/- One trip of the loop over blocks of keys: four blocks are taken up, and the tile of the next is left ready. -/
module

public import proofs.«01_k».proof.Proof.Attn.Read
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄G" => MT nD τ sig Unit (Elt F) ℕ (UR sig nD τ) ℕ

/-- One trip, from the tile of block `4k` in the first half of the buffers to the tile of block `4k + 4` there. -/
theorem trip (𝒱 : Variants) (c : Dev nD) (bd : Option 𝒱.V) (E : Set ℕ) (i : grid0.Coords) (arg3 : Memref sig .tc .vmem S1x1x192x1024 .bf16) (harg3 : arg3.IsWhole) (arg4 : Memref sig .tc .vmem S1x1x8192x192 .bf16) (harg4 : arg4.IsWhole) (arg5 : Memref sig .tc .vmem S1x1x144x8192 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S2x512x1024 .f32) (harg8 : arg8.IsWhole) (arg9 : Memref sig .tc .vmem S2x1x1024 .f32) (harg9 : arg9.IsWhole) (arg10 : Memref sig .tc .vmem S1x1024 .f32) (harg10 : arg10.IsWhole) (arg11 : Memref sig .tc .vmem S144x1024 .f32) (harg11 : arg11.IsWhole) (arg2 : BitVec 32) (v0 : BitVec 32) (v16 : BitVec 32) (v17 : BitVec 32) (v31 : BitVec 1) (v32 : BitVec 32)
    (Q : Vec F S1x1x192x1024 .bf16) (K : Vec F S1x1x8192x192 .bf16) (V : Vec F S1x1x144x8192 .bf16) (k : Fin (k0_t1_loop i).trips)
    (S : Vec F S2x512x1024 .f32) (X : Vec F S2x1x1024 .f32) (p : St F)
    (hS : slot0 S = k0_pay4 (kblk K (4 * k.val)) Q) (hX : slotM0 X = k0_pay5 (kblk K (4 * k.val)) Q) :
    iprop((arg3.view.loc (c : Thread nD τ) ↦[arg3.view.set]{fullShare} arg3.view.rep Q) ∗ (arg4.view.loc (c : Thread nD τ) ↦[arg4.view.set]{fullShare} arg4.view.rep K)
      ∗ (arg5.view.loc (c : Thread nD τ) ↦[arg5.view.set]{fullShare} arg5.view.rep V) ∗ (arg8.view.loc (c : Thread nD τ) ↦[arg8.view.set]{fullShare} arg8.view.rep S)
      ∗ (arg9.view.loc (c : Thread nD τ) ↦[arg9.view.set]{fullShare} arg9.view.rep X) ∗ (arg10.view.loc (c : Thread nD τ) ↦[arg10.view.set]{fullShare} arg10.view.rep p.1)
      ∗ (arg11.view.loc (c : Thread nD τ) ↦[arg11.view.set]{fullShare} arg11.view.rep p.2) : sProp 𝕄G)
    ⊢ wp Idealize.ShloMosaic.frame (wpE (defs₀ (F := F)) 𝒱 (c : Thread nD τ) bd) E
        (k0_t1_body (F := F) i arg3 harg3 arg4 harg4 arg5 harg5 arg6 harg6 arg7 harg7 arg8 harg8 arg9 harg9 arg10 harg10 arg11 harg11 arg2 v0 v16 v17 v31 v32 k PUnit.unit)
        (fun _ => iprop((arg3.view.loc (c : Thread nD τ) ↦[arg3.view.set]{fullShare} arg3.view.rep Q) ∗ (arg4.view.loc (c : Thread nD τ) ↦[arg4.view.set]{fullShare} arg4.view.rep K)
          ∗ (arg5.view.loc (c : Thread nD τ) ↦[arg5.view.set]{fullShare} arg5.view.rep V)
          ∗ (∃ S' : Vec F S2x512x1024 .f32, (arg8.view.loc (c : Thread nD τ) ↦[arg8.view.set]{fullShare} arg8.view.rep S') ∗ ⌜slot0 S' = k0_pay4 (kblk K (4 * (k.val + 1))) Q⌝)
          ∗ (∃ X' : Vec F S2x1x1024 .f32, (arg9.view.loc (c : Thread nD τ) ↦[arg9.view.set]{fullShare} arg9.view.rep X') ∗ ⌜slotM0 X' = k0_pay5 (kblk K (4 * (k.val + 1))) Q⌝)
          ∗ (arg10.view.loc (c : Thread nD τ) ↦[arg10.view.set]{fullShare} arg10.view.rep (step Q K V (4 * k.val + 3) (step Q K V (4 * k.val + 2) (step Q K V (4 * k.val + 1) (step Q K V (4 * k.val) p)))).1)
          ∗ (arg11.view.loc (c : Thread nD τ) ↦[arg11.view.set]{fullShare} arg11.view.rep (step Q K V (4 * k.val + 3) (step Q K V (4 * k.val + 2) (step Q K V (4 * k.val + 1) (step Q K V (4 * k.val) p)))).2))) := by
  have hS' : window S ![0, 0, 0] ![1, 512, 1024] inb_S2x512x1024_S1x512x1024_0_0_0 = k0_pay4 (kblk K (4 * k.val)) Q := hS
  have hX' : window X ![0, 0, 0] ![1, 1, 1024] inb_S2x1x1024_S1x1x1024_0_0_0 = k0_pay5 (kblk K (4 * k.val)) Q := hX
  unfold k0_t1_body
  iintro ⟨H3, H4, H5, H8, H9, H10, H11⟩
  sl_exec
  sl_step
  isplitl [H3]; · iexact H3
  isplitl [H4]; · iexact H4
  isplitl [H5]; · iexact H5
  isplitl [H8]
  · iexists _; isplitl [H8]
    · iapply (pointsTo_rep_of_read (c : Thread nD τ) arg8 _ _ _ rfl); iexact H8
    ipureintro
    sl_unfold_run_names
    simp only [View.readCov, read_cons, load_window, View.writes_nil, View.read_rep, s00, s11, s01, s10, x00, x11, x01, x10, m_window, m_put, a_window, a_put, q_window, hS', hX', kwin _ _ (off1_1 i k), kwin _ _ (off1_2 i k), kwin _ _ (off4_1 i k), kwin _ _ (off4_2 i k)]
    exact (s00 _ _ _).trans rfl
  isplitl [H9]
  · iexists _; isplitl [H9]
    · iapply (pointsTo_rep_of_read (c : Thread nD τ) arg9 _ _ _ rfl); iexact H9
    ipureintro
    sl_unfold_run_names
    simp only [View.readCov, read_cons, load_window, View.writes_nil, View.read_rep, s00, s11, s01, s10, x00, x11, x01, x10, m_window, m_put, a_window, a_put, q_window, hS', hX', kwin _ _ (off1_1 i k), kwin _ _ (off1_2 i k), kwin _ _ (off4_1 i k), kwin _ _ (off4_2 i k)]
    exact (x00 _ _ _).trans rfl
  isplitl [H10]
  · iapply (pointsTo_rep_of_read (c : Thread nD τ) arg10 _ _ _ ?_); rotate_left; · iexact H10
    sl_unfold_run_names
    simp only [View.readCov, read_cons, load_window, View.writes_nil, View.read_rep, s00, s11, s01, s10, x00, x11, x01, x10, m_window, m_put, a_window, a_put, q_window, hS', hX', kwin _ _ (off1_1 i k), kwin _ _ (off1_2 i k), kwin _ _ (off4_1 i k), kwin _ _ (off4_2 i k)]
    rfl
  iapply (pointsTo_rep_of_read (c : Thread nD τ) arg11 _ _ _ ?_); rotate_left; · iexact H11
  sl_unfold_run_names
  simp only [View.readCov, read_cons, load_window, View.writes_nil, View.read_rep, s00, s11, s01, s10, x00, x11, x01, x10, m_window, m_put, a_window, a_put, q_window, hS', hX', kwin _ _ (off1_1 i k), kwin _ _ (off1_2 i k), kwin _ _ (off4_1 i k), kwin _ _ (off4_2 i k), vwin _ _ (off2_eq i k), vwin _ _ (off3_eq i k), vwin _ _ (off5_eq i k), vwin _ _ (off6_eq i k)]
  rfl

end Cert.KernelIdeal.Attn

end
-- ==== Proof.Attn.Mem.lean ====
/- What a grid point of the attention holds. -/
module

public import proofs.«01_k».proof.Proof.Attn.Trip
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄G" => MT nD τ sig Unit (Elt F) ℕ (UR sig nD τ) ℕ

section
variable (𝒱 : Variants) (c : Dev nD) (bd : Option 𝒱.V) (E : Set ℕ) (i : grid0.Coords) (arg3 : Memref sig .tc .vmem S1x1x192x1024 .bf16) (harg3 : arg3.IsWhole) (arg4 : Memref sig .tc .vmem S1x1x8192x192 .bf16) (harg4 : arg4.IsWhole) (arg5 : Memref sig .tc .vmem S1x1x144x8192 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S2x512x1024 .f32) (harg8 : arg8.IsWhole) (arg9 : Memref sig .tc .vmem S2x1x1024 .f32) (harg9 : arg9.IsWhole) (arg10 : Memref sig .tc .vmem S1x1024 .f32) (harg10 : arg10.IsWhole) (arg11 : Memref sig .tc .vmem S144x1024 .f32) (harg11 : arg11.IsWhole)
    (Q : Vec F S1x1x192x1024 .bf16) (K : Vec F S1x1x8192x192 .bf16) (V : Vec F S1x1x144x8192 .bf16) (G : Vec F S1024x128 .bf16)

/-- The point's memory: the four blocks handed in, and what the other five buffers hold. -/
abbrev Mem (o : arg7.view.ty.Contents (Elt F)) (s : arg8.view.ty.Contents (Elt F)) (x : arg9.view.ty.Contents (Elt F)) (m : arg10.view.ty.Contents (Elt F)) (a : arg11.view.ty.Contents (Elt F)) : sProp 𝕄G :=
  iprop((arg3.view.loc (c : Thread nD τ) ↦[arg3.view.set]{fullShare} arg3.view.rep Q) ∗ (arg4.view.loc (c : Thread nD τ) ↦[arg4.view.set]{fullShare} arg4.view.rep K) ∗ (arg5.view.loc (c : Thread nD τ) ↦[arg5.view.set]{fullShare} arg5.view.rep V) ∗ (arg6.view.loc (c : Thread nD τ) ↦[arg6.view.set]{fullShare} arg6.view.rep G) ∗ (arg7.view.loc (c : Thread nD τ) ↦[arg7.view.set]{fullShare} o) ∗ (arg8.view.loc (c : Thread nD τ) ↦[arg8.view.set]{fullShare} s) ∗ (arg9.view.loc (c : Thread nD τ) ↦[arg9.view.set]{fullShare} x) ∗ (arg10.view.loc (c : Thread nD τ) ↦[arg10.view.set]{fullShare} m) ∗ (arg11.view.loc (c : Thread nD τ) ↦[arg11.view.set]{fullShare} a))

/-- The point's memory at its end: the block of results written, the buffers at whatever they hold. -/
abbrev Post : sProp 𝕄G :=
  iprop(∃ s x m a, Mem c arg3 arg4 arg5 arg6 arg7 arg8 arg9 arg10 arg11 Q K V G (arg7.view.rep (out Q K V G (i 2).val)) s x m a)
end
end Cert.KernelIdeal.Attn

end
-- ==== Proof.Attn.Zero.lean ====
/- The body at a grid point of the first block of queries, from its blocks to the block it writes. -/
module

public import proofs.«01_k».proof.Proof.Attn.Mem
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄G" => MT nD τ sig Unit (Elt F) ℕ (UR sig nD τ) ℕ

section
variable (𝒱 : Variants) (c : Dev nD) (bd : Option 𝒱.V) (E : Set ℕ) (i : grid0.Coords) (arg3 : Memref sig .tc .vmem S1x1x192x1024 .bf16) (harg3 : arg3.IsWhole) (arg4 : Memref sig .tc .vmem S1x1x8192x192 .bf16) (harg4 : arg4.IsWhole) (arg5 : Memref sig .tc .vmem S1x1x144x8192 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S2x512x1024 .f32) (harg8 : arg8.IsWhole) (arg9 : Memref sig .tc .vmem S2x1x1024 .f32) (harg9 : arg9.IsWhole) (arg10 : Memref sig .tc .vmem S1x1024 .f32) (harg10 : arg10.IsWhole) (arg11 : Memref sig .tc .vmem S144x1024 .f32) (harg11 : arg11.IsWhole)
    (Q : Vec F S1x1x192x1024 .bf16) (K : Vec F S1x1x8192x192 .bf16) (V : Vec F S1x1x144x8192 .bf16) (G : Vec F S1024x128 .bf16)

/-- The body at the first block of queries. -/
theorem body_zero (hi : (i 2).val = 0) (o s x m a) :
    Mem c arg3 arg4 arg5 arg6 arg7 arg8 arg9 arg10 arg11 Q K V G o s x m a
    ⊢ wp Idealize.ShloMosaic.frame (wpE (defs₀ (F := F)) 𝒱 (c : Thread nD τ) bd) E
        (cc0_attention (F := F) i arg3 harg3 arg4 harg4 arg5 harg5 arg6 harg6 arg7 harg7 arg8 harg8 arg9 harg9 arg10 harg10 arg11 harg11)
        (fun _ => Post c i arg3 arg4 arg5 arg6 arg7 arg8 arg9 arg10 arg11 Q K V G) := by
  have hc1 : k0_cond1 i = 1#1 := (cond1_iff i).mpr hi
  have hc2 : ¬ k0_cond2 i = 1#1 := fun h => absurd ((cond2_iff i).mp h) (by omega)
  have hc3 : ¬ k0_cond3 i = 1#1 := fun h => absurd ((cond3_iff i).mp h).1 (by omega)
  have hc4 : ¬ k0_cond4 i = 1#1 := fun h => absurd ((cond4_iff i).mp h) (by omega)
  have ht1 : (k0_t1_loop i).trips = 0 := by rw [t1_trips]; omega
  have ht2 : (k0_t2_loop i).trips = 0 := t2_trips i
  unfold Mem
  iintro ⟨H3, H4, H5, H6, H7, H8, H9, H10, H11⟩
  sl_exec
  sl_step
  iexists _, _, _, _
  unfold Mem
  isplitl [H3]; · iexact H3
  isplitl [H4]; · iexact H4
  isplitl [H5]; · iexact H5
  isplitl [H6]; · iexact H6
  isplitl [H7]
  · iapply (pointsTo_rep_of_read (c : Thread nD τ) arg7 _ _ _ ?_); rotate_left; · iexact H7
    sl_unfold_run_names
    simp only [View.readCov, read_cons, load_window, View.writes_nil, View.read_rep, s00, s11, s01, s10, shh, s0h, x00, x11, x01, x10, xhh, x0h, m_window, m_put, a_window, a_put, q_window, g_window, g_put, kwin (off := ![0, 0, 0, 0]) _ 0 rfl, qwin (off := ![0, 0, 0, 512]) _ rfl, kwin _ _ (off19_eq i), vwin _ _ (off20_eq i), vwin _ _ (off21_eq i)]
    rw [hi]
    simp only [out, fin, hacc, dstep, stepM, stepA, st, k0_pay112, k0_pay113, k0_pay114, k0_pay110, k0_pay111, k0_pay1, k0_pay118, k0_pay116, k0_pay9, k0_pay10, k0_pay8, k0_pay6, k0_pay7]
  isplitl [H8]; · iexact H8
  isplitl [H9]; · iexact H9
  isplitl [H10]; · iexact H10
  iexact H11
end
end Cert.KernelIdeal.Attn

end
-- ==== Proof.Attn.Loop.lean ====
/- The loop over blocks of keys below the diagonal, through all its trips. -/
module

public import proofs.«01_k».proof.Proof.Attn.Trip
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄G" => MT nD τ sig Unit (Elt F) ℕ (UR sig nD τ) ℕ

section
variable (𝒱 : Variants) (c : Dev nD) (bd : Option 𝒱.V) (E : Set ℕ) (i : grid0.Coords) (arg3 : Memref sig .tc .vmem S1x1x192x1024 .bf16) (harg3 : arg3.IsWhole) (arg4 : Memref sig .tc .vmem S1x1x8192x192 .bf16) (harg4 : arg4.IsWhole) (arg5 : Memref sig .tc .vmem S1x1x144x8192 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S2x512x1024 .f32) (harg8 : arg8.IsWhole) (arg9 : Memref sig .tc .vmem S2x1x1024 .f32) (harg9 : arg9.IsWhole) (arg10 : Memref sig .tc .vmem S1x1024 .f32) (harg10 : arg10.IsWhole) (arg11 : Memref sig .tc .vmem S144x1024 .f32) (harg11 : arg11.IsWhole)
    (Q : Vec F S1x1x192x1024 .bf16) (K : Vec F S1x1x8192x192 .bf16) (V : Vec F S1x1x144x8192 .bf16)

/-- Before trip `k`: the running maximum and sums of the first `4k` blocks, and the tile of block `4k` ready. -/
def inv (k : ℕ) : sProp 𝕄G :=
  iprop(∃ (S : Vec F S2x512x1024 .f32) (X : Vec F S2x1x1024 .f32), (arg3.view.loc (c : Thread nD τ) ↦[arg3.view.set]{fullShare} arg3.view.rep Q) ∗ (arg4.view.loc (c : Thread nD τ) ↦[arg4.view.set]{fullShare} arg4.view.rep K) ∗ (arg5.view.loc (c : Thread nD τ) ↦[arg5.view.set]{fullShare} arg5.view.rep V) ∗ (arg8.view.loc (c : Thread nD τ) ↦[arg8.view.set]{fullShare} arg8.view.rep S) ∗ (arg9.view.loc (c : Thread nD τ) ↦[arg9.view.set]{fullShare} arg9.view.rep X)
    ∗ (arg10.view.loc (c : Thread nD τ) ↦[arg10.view.set]{fullShare} arg10.view.rep (st Q K V (4 * k)).1) ∗ (arg11.view.loc (c : Thread nD τ) ↦[arg11.view.set]{fullShare} arg11.view.rep (st Q K V (4 * k)).2)
    ∗ ⌜slot0 S = k0_pay4 (kblk K (4 * k)) Q ∧ slotM0 X = k0_pay5 (kblk K (4 * k)) Q⌝)

theorem inv_step (arg2 v0 v16 v17 : BitVec 32) (v31 : BitVec 1) (v32 : BitVec 32) (k : Fin (k0_t1_loop i).trips) (acc : Unit) :
    inv c arg3 arg4 arg5 arg8 arg9 arg10 arg11 Q K V k.val
    ⊢ wp Idealize.ShloMosaic.frame (wpE (defs₀ (F := F)) 𝒱 (c : Thread nD τ) bd) E
        (k0_t1_body (F := F) i arg3 harg3 arg4 harg4 arg5 harg5 arg6 harg6 arg7 harg7 arg8 harg8 arg9 harg9 arg10 harg10 arg11 harg11 arg2 v0 v16 v17 v31 v32 k acc)
        (fun _ => inv c arg3 arg4 arg5 arg8 arg9 arg10 arg11 Q K V (k.val + 1)) := by
  unfold inv
  iintro ⟨%S, %X, H3, H4, H5, H8, H9, H10, H11, %h⟩
  iapply (wp_wand_r Idealize.ShloMosaic.frame (wpE (defs₀ (F := F)) 𝒱 (c : Thread nD τ) bd) E)
  isplitl [H3 H4 H5 H8 H9 H10 H11]
  · iapply (trip 𝒱 c bd E i arg3 harg3 arg4 harg4 arg5 harg5 arg6 harg6 arg7 harg7 arg8 harg8 arg9 harg9 arg10 harg10 arg11 harg11 arg2 v0 v16 v17 v31 v32 Q K V k S X (st Q K V (4 * k.val)) h.1 h.2)
    iframe
  · iintro %_ ⟨H3, H4, H5, ⟨%S', H8, %hS⟩, ⟨%X', H9, %hX⟩, H10, H11⟩
    iexists S', X'
    isplitl [H3]; · iexact H3
    isplitl [H4]; · iexact H4
    isplitl [H5]; · iexact H5
    isplitl [H8]; · iexact H8
    isplitl [H9]; · iexact H9
    isplitl [H10]; · iexact H10
    isplitl [H11]; · iexact H11
    ipureintro; exact ⟨hS, hX⟩

/-- The whole loop, before any continuation. -/
theorem loop (arg2 v0 v16 v17 : BitVec 32) (v31 : BitVec 1) (v32 : BitVec 32) {β : Type} {kk : Unit → Prog (TpuEff nD τ sig (Elt F) Λ₀ .tc) β} {R : β → sProp 𝕄G} :
    inv c arg3 arg4 arg5 arg8 arg9 arg10 arg11 Q K V 0
    ⊢ iprop((∀ acc, inv c arg3 arg4 arg5 arg8 arg9 arg10 arg11 Q K V (k0_t1_loop i).trips -∗ wp Idealize.ShloMosaic.frame (wpE (defs₀ (F := F)) 𝒱 (c : Thread nD τ) bd) E (kk acc) R)
      -∗ wp Idealize.ShloMosaic.frame (wpE (defs₀ (F := F)) 𝒱 (c : Thread nD τ) bd) E
        (Scf.Loop.for (k0_t1_loop i) (k0_t1_ok i) PUnit.unit (k0_t1_body (F := F) i arg3 harg3 arg4 harg4 arg5 harg5 arg6 harg6 arg7 harg7 arg8 harg8 arg9 harg9 arg10 harg10 arg11 harg11 arg2 v0 v16 v17 v31 v32) >>= kk) R) :=
  Scf.wp_for_bind Idealize.ShloMosaic.frame (wpE (defs₀ (F := F)) 𝒱 (c : Thread nD τ) bd) E _ _ _ _ _ _
    (fun k _ => inv c arg3 arg4 arg5 arg8 arg9 arg10 arg11 Q K V k)
    (fun k acc => inv_step 𝒱 c bd E i arg3 harg3 arg4 harg4 arg5 harg5 arg6 harg6 arg7 harg7 arg8 harg8 arg9 harg9 arg10 harg10 arg11 harg11 Q K V arg2 v0 v16 v17 v31 v32 k acc)

end
end Cert.KernelIdeal.Attn

end
-- ==== Proof.Attn.Odd.lean ====
/- The body at a grid point past the first block of queries, from its blocks to the block it writes. -/
module

public import proofs.«01_k».proof.Proof.Attn.Loop
public import proofs.«01_k».proof.Proof.Attn.Mem
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄G" => MT nD τ sig Unit (Elt F) ℕ (UR sig nD τ) ℕ

section
variable (𝒱 : Variants) (c : Dev nD) (bd : Option 𝒱.V) (E : Set ℕ) (i : grid0.Coords) (arg3 : Memref sig .tc .vmem S1x1x192x1024 .bf16) (harg3 : arg3.IsWhole) (arg4 : Memref sig .tc .vmem S1x1x8192x192 .bf16) (harg4 : arg4.IsWhole) (arg5 : Memref sig .tc .vmem S1x1x144x8192 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S2x512x1024 .f32) (harg8 : arg8.IsWhole) (arg9 : Memref sig .tc .vmem S2x1x1024 .f32) (harg9 : arg9.IsWhole) (arg10 : Memref sig .tc .vmem S1x1024 .f32) (harg10 : arg10.IsWhole) (arg11 : Memref sig .tc .vmem S144x1024 .f32) (harg11 : arg11.IsWhole)
    (Q : Vec F S1x1x192x1024 .bf16) (K : Vec F S1x1x8192x192 .bf16) (V : Vec F S1x1x144x8192 .bf16) (G : Vec F S1024x128 .bf16)

/-- The body at an odd block of queries. -/
theorem body_odd (hi : 0 < (i 2).val) (hi2 : (i 2).val % 2 = 1) (o s x m a) :
    Mem c arg3 arg4 arg5 arg6 arg7 arg8 arg9 arg10 arg11 Q K V G o s x m a
    ⊢ wp Idealize.ShloMosaic.frame (wpE (defs₀ (F := F)) 𝒱 (c : Thread nD τ) bd) E
        (cc0_attention (F := F) i arg3 harg3 arg4 harg4 arg5 harg5 arg6 harg6 arg7 harg7 arg8 harg8 arg9 harg9 arg10 harg10 arg11 harg11)
        (fun _ => Post c i arg3 arg4 arg5 arg6 arg7 arg8 arg9 arg10 arg11 Q K V G) := by
  have hc1 : ¬ k0_cond1 i = 1#1 := fun h => absurd ((cond1_iff i).mp h) (by omega)
  have hc2 : k0_cond2 i = 1#1 := (cond2_iff i).mpr hi
  have hc3 : ¬ k0_cond3 i = 1#1 := fun h => absurd ((cond3_iff i).mp h).2 (by omega)
  have hc4 : k0_cond4 i = 1#1 := (cond4_iff i).mpr hi
  have ht2 : (k0_t2_loop i).trips = 0 := t2_trips i
  obtain ⟨j, hj⟩ : ∃ j, (i 2).val = j + 1 := ⟨(i 2).val - 1, by omega⟩
  have ht1 : 4 * (k0_t1_loop i).trips = 2 * j := by rw [t1_trips]; omega
  unfold Mem
  iintro ⟨H3, H4, H5, H6, H7, H8, H9, H10, H11⟩
  sl_exec
  iapply (loop 𝒱 c bd E i arg3 harg3 arg4 harg4 arg5 harg5 arg6 harg6 arg7 harg7 arg8 harg8 arg9 harg9 arg10 harg10 arg11 harg11 Q K V _ _ _ _ _ _) $$ [H3 H4 H5 H8 H9 H10 H11]
  · unfold inv
    iexists _, _
    isplitl [H3]; · iexact H3
    isplitl [H4]; · iexact H4
    isplitl [H5]; · iexact H5
    isplitl [H8]
    · iapply (pointsTo_rep_of_read (c : Thread nD τ) arg8 _ _ _ rfl); iexact H8
    isplitl [H9]
    · iapply (pointsTo_rep_of_read (c : Thread nD τ) arg9 _ _ _ rfl); iexact H9
    isplitl [H10]
    · iapply (pointsTo_rep_of_read (c : Thread nD τ) arg10 _ _ _ ?_); rotate_left; · iexact H10
      sl_unfold_run_names
      simp only [read_cons, View.writes_nil, m_put]
      rfl
    isplitl [H11]
    · iapply (pointsTo_rep_of_read (c : Thread nD τ) arg11 _ _ _ ?_); rotate_left; · iexact H11
      sl_unfold_run_names
      simp only [read_cons, View.writes_nil, a_put]
      rfl
    ipureintro
    sl_unfold_run_names
    simp only [View.readCov, read_cons, load_window, View.writes_nil, View.read_rep, q_window, kwin (off := ![0, 0, 0, 0]) _ 0 rfl]
    exact ⟨(s00 _ _ _).trans rfl, (x00 _ _ _).trans rfl⟩
  unfold inv
  rw [ht1]
  iintro %_ ⟨%S, %X, H3, H4, H5, H8, H9, H10, H11, %h⟩
  have hS' : window S ![0, 0, 0] ![1, 512, 1024] inb_S2x512x1024_S1x512x1024_0_0_0 = k0_pay4 (kblk K (2 * j)) Q := h.1
  have hX' : window X ![0, 0, 0] ![1, 1, 1024] inb_S2x1x1024_S1x1x1024_0_0_0 = k0_pay5 (kblk K (2 * j)) Q := h.2
  generalize hp : st Q K V (2 * j) = p
  sl_exec
  sl_step
  iexists _, _, _, _
  isplitl [H3]; · iexact H3
  isplitl [H4]; · iexact H4
  isplitl [H5]; · iexact H5
  isplitl [H6]; · iexact H6
  isplitl [H7]
  · iapply (pointsTo_rep_of_read (c : Thread nD τ) arg7 _ _ _ ?_); rotate_left; · iexact H7
    sl_unfold_run_names
    simp only [View.readCov, read_cons, load_window, View.writes_nil, View.read_rep, s00, s11, s01, s10, shh, s0h, x00, x11, x01, x10, xhh, x0h, m_window, m_put, a_window, a_put, q_window, g_window, g_put, hS', hX', kwin (off := ![0, 0, 0, 0]) _ 0 rfl, qwin (off := ![0, 0, 0, 512]) _ rfl, kwin _ _ (off19_eq i), vwin _ _ (off20_eq i), vwin _ _ (off21_eq i), kwin _ _ (off16_1 i hi), kwin _ _ (off16_2 i hi), vwin _ _ (off17_eq i hi), vwin _ _ (off18_eq i hi)]
    rw [hj]
    have e : st Q K V (2 * (j + 1)) = step Q K V (2 * j + 1) (step Q K V (2 * j) p) := by rw [← hp]; rfl
    simp only [out, fin, hacc, dstep, stepM, stepA, e, step, Nat.add_sub_cancel, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  isplitl [H8]; · iexact H8
  isplitl [H9]; · iexact H9
  isplitl [H10]; · iexact H10
  iexact H11

end
end Cert.KernelIdeal.Attn

end
-- ==== Proof.Attn.Even.lean ====
/- The body at a grid point past the first block of queries, from its blocks to the block it writes. -/
module

public import proofs.«01_k».proof.Proof.Attn.Loop
public import proofs.«01_k».proof.Proof.Attn.Mem
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄G" => MT nD τ sig Unit (Elt F) ℕ (UR sig nD τ) ℕ

section
variable (𝒱 : Variants) (c : Dev nD) (bd : Option 𝒱.V) (E : Set ℕ) (i : grid0.Coords) (arg3 : Memref sig .tc .vmem S1x1x192x1024 .bf16) (harg3 : arg3.IsWhole) (arg4 : Memref sig .tc .vmem S1x1x8192x192 .bf16) (harg4 : arg4.IsWhole) (arg5 : Memref sig .tc .vmem S1x1x144x8192 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S2x512x1024 .f32) (harg8 : arg8.IsWhole) (arg9 : Memref sig .tc .vmem S2x1x1024 .f32) (harg9 : arg9.IsWhole) (arg10 : Memref sig .tc .vmem S1x1024 .f32) (harg10 : arg10.IsWhole) (arg11 : Memref sig .tc .vmem S144x1024 .f32) (harg11 : arg11.IsWhole)
    (Q : Vec F S1x1x192x1024 .bf16) (K : Vec F S1x1x8192x192 .bf16) (V : Vec F S1x1x144x8192 .bf16) (G : Vec F S1024x128 .bf16)

/-- The body at an even block of queries past the first. -/
theorem body_even (hi : 0 < (i 2).val) (hi2 : (i 2).val % 2 = 0) (o s x m a) :
    Mem c arg3 arg4 arg5 arg6 arg7 arg8 arg9 arg10 arg11 Q K V G o s x m a
    ⊢ wp Idealize.ShloMosaic.frame (wpE (defs₀ (F := F)) 𝒱 (c : Thread nD τ) bd) E
        (cc0_attention (F := F) i arg3 harg3 arg4 harg4 arg5 harg5 arg6 harg6 arg7 harg7 arg8 harg8 arg9 harg9 arg10 harg10 arg11 harg11)
        (fun _ => Post c i arg3 arg4 arg5 arg6 arg7 arg8 arg9 arg10 arg11 Q K V G) := by
  have hc1 : ¬ k0_cond1 i = 1#1 := fun h => absurd ((cond1_iff i).mp h) (by omega)
  have hc2 : k0_cond2 i = 1#1 := (cond2_iff i).mpr hi
  have hi3 : 2 ≤ (i 2).val := by omega
  have hc3 : k0_cond3 i = 1#1 := (cond3_iff i).mpr ⟨hi, hi2⟩
  have hc4 : k0_cond4 i = 1#1 := (cond4_iff i).mpr hi
  have ht2 : (k0_t2_loop i).trips = 0 := t2_trips i
  obtain ⟨j, hj⟩ : ∃ j, (i 2).val = j + 2 := ⟨(i 2).val - 2, by omega⟩
  have ht1 : 4 * (k0_t1_loop i).trips = 2 * j := by rw [t1_trips]; omega
  unfold Mem
  iintro ⟨H3, H4, H5, H6, H7, H8, H9, H10, H11⟩
  sl_exec
  iapply (loop 𝒱 c bd E i arg3 harg3 arg4 harg4 arg5 harg5 arg6 harg6 arg7 harg7 arg8 harg8 arg9 harg9 arg10 harg10 arg11 harg11 Q K V _ _ _ _ _ _) $$ [H3 H4 H5 H8 H9 H10 H11]
  · unfold inv
    iexists _, _
    isplitl [H3]; · iexact H3
    isplitl [H4]; · iexact H4
    isplitl [H5]; · iexact H5
    isplitl [H8]
    · iapply (pointsTo_rep_of_read (c : Thread nD τ) arg8 _ _ _ rfl); iexact H8
    isplitl [H9]
    · iapply (pointsTo_rep_of_read (c : Thread nD τ) arg9 _ _ _ rfl); iexact H9
    isplitl [H10]
    · iapply (pointsTo_rep_of_read (c : Thread nD τ) arg10 _ _ _ ?_); rotate_left; · iexact H10
      sl_unfold_run_names
      simp only [read_cons, View.writes_nil, m_put]
      rfl
    isplitl [H11]
    · iapply (pointsTo_rep_of_read (c : Thread nD τ) arg11 _ _ _ ?_); rotate_left; · iexact H11
      sl_unfold_run_names
      simp only [read_cons, View.writes_nil, a_put]
      rfl
    ipureintro
    sl_unfold_run_names
    simp only [View.readCov, read_cons, load_window, View.writes_nil, View.read_rep, q_window, kwin (off := ![0, 0, 0, 0]) _ 0 rfl]
    exact ⟨(s00 _ _ _).trans rfl, (x00 _ _ _).trans rfl⟩
  unfold inv
  rw [ht1]
  iintro %_ ⟨%S, %X, H3, H4, H5, H8, H9, H10, H11, %h⟩
  have hS' : window S ![0, 0, 0] ![1, 512, 1024] inb_S2x512x1024_S1x512x1024_0_0_0 = k0_pay4 (kblk K (2 * j)) Q := h.1
  have hX' : window X ![0, 0, 0] ![1, 1, 1024] inb_S2x1x1024_S1x1x1024_0_0_0 = k0_pay5 (kblk K (2 * j)) Q := h.2
  generalize hp : st Q K V (2 * j) = p
  sl_exec
  sl_step
  iexists _, _, _, _
  isplitl [H3]; · iexact H3
  isplitl [H4]; · iexact H4
  isplitl [H5]; · iexact H5
  isplitl [H6]; · iexact H6
  isplitl [H7]
  · iapply (pointsTo_rep_of_read (c : Thread nD τ) arg7 _ _ _ ?_); rotate_left; · iexact H7
    sl_unfold_run_names
    simp only [View.readCov, read_cons, load_window, View.writes_nil, View.read_rep, s00, s11, s01, s10, shh, s0h, x00, x11, x01, x10, xhh, x0h, m_window, m_put, a_window, a_put, q_window, g_window, g_put, hS', hX', kwin (off := ![0, 0, 0, 0]) _ 0 rfl, qwin (off := ![0, 0, 0, 512]) _ rfl, kwin _ _ (off19_eq i), vwin _ _ (off20_eq i), vwin _ _ (off21_eq i), kwin _ _ (off16_1 i hi), kwin _ _ (off16_2 i hi), vwin _ _ (off17_eq i hi), vwin _ _ (off18_eq i hi), kwin _ _ (off13_1 i hi3), kwin _ _ (off13_2 i hi3), vwin _ _ (off14_eq i hi3), vwin _ _ (off15_eq i hi3)]
    rw [hj]
    have e : st Q K V (2 * (j + 2)) = step Q K V (2 * j + 3) (step Q K V (2 * j + 2) (step Q K V (2 * j + 1) (step Q K V (2 * j) p))) := by rw [← hp]; rfl
    simp only [out, fin, hacc, dstep, stepM, stepA, e, step, Nat.add_sub_cancel, show j + 2 - 1 = j + 1 from rfl, show 2 * (j + 1) = 2 * j + 2 from rfl, k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  isplitl [H8]; · iexact H8
  isplitl [H9]; · iexact H9
  isplitl [H10]; · iexact H10
  iexact H11

end
end Cert.KernelIdeal.Attn

end
-- ==== Proof.Attn.Run.lean ====
/- The launch of the attention: its frame, and what its result array ends at. -/
module

public import proofs.«01_k».proof.Proof.Attn.Zero
public import proofs.«01_k».proof.Proof.Attn.Odd
public import proofs.«01_k».proof.Proof.Attn.Even
public import proofs.«01_k».proof.Proof.Gen.KernelIdeal.Frame
public import Idealize.ShloMosaic.Lib.Pipeline.TableIdle
public import Idealize.ShloMosaic.Lib.Claim

public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄G" => MT nD τ sig Unit (Elt F) ℕ (UR sig nD τ) ℕ

section
variable (𝒱 : Variants) (c : Dev nD) (bd : Option 𝒱.V) (E : Set ℕ) (i : grid0.Coords) (arg3 : Memref sig .tc .vmem S1x1x192x1024 .bf16) (harg3 : arg3.IsWhole) (arg4 : Memref sig .tc .vmem S1x1x8192x192 .bf16) (harg4 : arg4.IsWhole) (arg5 : Memref sig .tc .vmem S1x1x144x8192 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S2x512x1024 .f32) (harg8 : arg8.IsWhole) (arg9 : Memref sig .tc .vmem S2x1x1024 .f32) (harg9 : arg9.IsWhole) (arg10 : Memref sig .tc .vmem S1x1024 .f32) (harg10 : arg10.IsWhole) (arg11 : Memref sig .tc .vmem S144x1024 .f32) (harg11 : arg11.IsWhole)
    (Q : Vec F S1x1x192x1024 .bf16) (K : Vec F S1x1x8192x192 .bf16) (V : Vec F S1x1x144x8192 .bf16) (G : Vec F S1024x128 .bf16)

/-- The body at any point, on the blocks it is handed: the block of results is `out` of them. -/
theorem body (o s x m a) :
    Mem c arg3 arg4 arg5 arg6 arg7 arg8 arg9 arg10 arg11 Q K V G o s x m a
    ⊢ wp Idealize.ShloMosaic.frame (wpE (defs₀ (F := F)) 𝒱 (c : Thread nD τ) bd) E
        (cc0_attention (F := F) i arg3 harg3 arg4 harg4 arg5 harg5 arg6 harg6 arg7 harg7 arg8 harg8 arg9 harg9 arg10 harg10 arg11 harg11)
        (fun _ => Post c i arg3 arg4 arg5 arg6 arg7 arg8 arg9 arg10 arg11 Q K V G) := by
  rcases Nat.eq_zero_or_pos (i 2).val with hi | hi
  · exact body_zero 𝒱 c bd E i arg3 harg3 arg4 harg4 arg5 harg5 arg6 harg6 arg7 harg7 arg8 harg8 arg9 harg9 arg10 harg10 arg11 harg11 Q K V G hi o s x m a
  · rcases Nat.mod_two_eq_zero_or_one (i 2).val with h2 | h2
    · exact body_even 𝒱 c bd E i arg3 harg3 arg4 harg4 arg5 harg5 arg6 harg6 arg7 harg7 arg8 harg8 arg9 harg9 arg10 harg10 arg11 harg11 Q K V G hi h2 o s x m a
    · exact body_odd 𝒱 c bd E i arg3 harg3 arg4 harg4 arg5 harg5 arg6 harg6 arg7 harg7 arg8 harg8 arg9 harg9 arg10 harg10 arg11 harg11 Q K V G hi h2 o s x m a

/-- The point's memory at its end, as memrefs owned at contents. -/
theorem post_owns : Post c i arg3 arg4 arg5 arg6 arg7 arg8 arg9 arg10 arg11 Q K V G
    ⊢ iprop(owns (c : Thread nD τ) arg3 fullShare Q ∗ owns (c : Thread nD τ) arg4 fullShare K ∗ owns (c : Thread nD τ) arg5 fullShare V ∗ owns (c : Thread nD τ) arg6 fullShare G ∗ owns (c : Thread nD τ) arg7 fullShare (out Q K V G (i 2).val) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X)) := by
  unfold Post Mem
  iintro ⟨%s, %x, %m, %a, H3, H4, H5, H6, H7, H8, H9, H10, H11⟩
  simp only [owns_eq_rep]
  isplitl [H3]; · iexact H3
  isplitl [H4]; · iexact H4
  isplitl [H5]; · iexact H5
  isplitl [H6]; · iexact H6
  isplitl [H7]; · iexact H7
  simp only [← owns_eq_rep]
  isplitl [H8]
  · unfold owns; iexists _, _; isplitr; swap; · iexact H8
    ipureintro; rfl
  isplitl [H9]
  · unfold owns; iexists _, _; isplitr; swap; · iexact H9
    ipureintro; rfl
  isplitl [H10]
  · unfold owns; iexists _, _; isplitr; swap; · iexact H10
    ipureintro; rfl
  unfold owns; iexists _, _; isplitr; swap; · iexact H11
  ipureintro; rfl

/-- The same of memrefs owned at contents. -/
theorem body_owns :
    (iprop(owns (c : Thread nD τ) arg3 fullShare Q ∗ owns (c : Thread nD τ) arg4 fullShare K ∗ owns (c : Thread nD τ) arg5 fullShare V ∗ owns (c : Thread nD τ) arg6 fullShare G ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X)) : sProp 𝕄G)
    ⊢ wp Idealize.ShloMosaic.frame (wpE (defs₀ (F := F)) 𝒱 (c : Thread nD τ) bd) E
        (cc0_attention (F := F) i arg3 harg3 arg4 harg4 arg5 harg5 arg6 harg6 arg7 harg7 arg8 harg8 arg9 harg9 arg10 harg10 arg11 harg11)
        (fun _ => iprop(owns (c : Thread nD τ) arg3 fullShare Q ∗ owns (c : Thread nD τ) arg4 fullShare K ∗ owns (c : Thread nD τ) arg5 fullShare V ∗ owns (c : Thread nD τ) arg6 fullShare G ∗ owns (c : Thread nD τ) arg7 fullShare (out Q K V G (i 2).val) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X))) := by
  iintro ⟨H3, H4, H5, H6, ⟨%X7, H7⟩, ⟨%X8, H8⟩, ⟨%X9, H9⟩, ⟨%X10, H10⟩, ⟨%X11, H11⟩⟩
  simp only [owns_eq_rep]
  iapply (wp_wand_r Idealize.ShloMosaic.frame (wpE (defs₀ (F := F)) 𝒱 (c : Thread nD τ) bd) E (Q := fun _ => Post c i arg3 arg4 arg5 arg6 arg7 arg8 arg9 arg10 arg11 Q K V G))
  isplitl [H3 H4 H5 H6 H7 H8 H9 H10 H11]
  · iapply (body 𝒱 c bd E i arg3 harg3 arg4 harg4 arg5 harg5 arg6 harg6 arg7 harg7 arg8 harg8 arg9 harg9 arg10 harg10 arg11 harg11 Q K V G _ _ _ _ _)
    unfold Mem
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ H
    simp only [← owns_eq_rep]
    iapply (post_owns c i arg3 arg4 arg5 arg6 arg7 arg8 arg9 arg10 arg11 Q K V G)
    iexact H
end

variable (m : (ℓ : Loc nD τ sig) → Buf (Elt F) ℓ) (ρ : Dev nD → PrngReg)

open Idealize.ShloMosaic.Pipeline (Dat Cfg Window BodyObligation cellOf)

/-- The block of results at a point: `out` of the point's four blocks. -/
def outs (c : Dev nD) (t : Fin cfg0.N) : Vec F S1024x128 .bf16 :=
  out (iblk m c 0 t) (iblk m c 1 t) (iblk m c 2 t) (iblk m c 3 t) ((grid0.coords t) 2).val

/-- The region's proof data: the arrays as the region finds them; after the body the four blocks and the results. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outs m c t
  Φ _ := Pipeline.ΦA spec0 c
  q _ := fullShare
  owed _ := 0

theorem A_eq (c : Dev nD) (w : Fin cfg0.W) : (dats m 0 c).A w = Gen.V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = outs m c t := by dsimp only [dats]

/-- What the body is called with at a point, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The invariant with the four scratch buffers as memrefs owned at some contents. -/
theorem inv_eq (c : Dev nD) : (Pipeline.ΦA spec0 c : sProp 𝕄G)
    = iprop(((∃ X, owns (c : Thread nD τ) (Memref.whole cc0_scratch0) fullShare X) ∗ (∃ X, owns (c : Thread nD τ) (Memref.whole cc0_scratch1) fullShare X)
      ∗ (∃ X, owns (c : Thread nD τ) (Memref.whole cc0_scratch2) fullShare X) ∗ (∃ X, owns (c : Thread nD τ) (Memref.whole cc0_scratch3) fullShare X))
      ∗ ∃ r, prngReg c r) := by
  unfold Pipeline.ΦA
  rw [scopedRest0_eq]; simp only [owns_whole]; try rfl

/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (Pipeline.ΦA spec0 c : sProp 𝕄G) from rfl, show (dats m 0 c).Φ t.castSucc = (Pipeline.ΦA spec0 c : sProp 𝕄G) from rfl,
    show (dats m 0 c).owesAt () t.succ = (dats m 0 c).owesAt () t.castSucc from rfl, after_0, after_1, after_2, after_3, after_4, inv_eq]
  unfold outs
  iintro ⟨⟨⟨S0, S1, S2, S3⟩, Hr⟩, Ho, ⟨%d0, H0⟩, ⟨%d1, H1⟩, ⟨%d2, H2⟩, ⟨%d3, H3⟩, ⟨%d4, H4⟩⟩
  iapply (wp_wand_r Idealize.ShloMosaic.frame (wpE (defs₀ (F := F)) Variants.none (c : Thread nD τ) none) Set.univ)
  isplitl [S0 S1 S2 S3 H0 H1 H2 H3 H4]
  · iapply (body_owns Variants.none c none Set.univ (grid0.coords t) _ _ _ _ _ _ _ _ _ _ _ _ _ _ _ _ _ _ (iblk m c 0 t) (iblk m c 1 t) (iblk m c 2 t) (iblk m c 3 t))
    isplitl [H0]; · iexact H0
    isplitl [H1]; · iexact H1
    isplitl [H2]; · iexact H2
    isplitl [H3]; · iexact H3
    isplitl [H4]; · iexists _; iexact H4
    isplitl [S0]; · iexact S0
    isplitl [S1]; · iexact S1
    isplitl [S2]; · iexact S2
    iexact S3
  · iintro %_ ⟨H0, H1, H2, H3, H4, S0, S1, S2, S3⟩
    isplitl [S0 S1 S2 S3 Hr]
    · isplitl [S0 S1 S2 S3]
      · isplitl [S0]; · iexact S0
        isplitl [S1]; · iexact S1
        isplitl [S2]; · iexact S2
        iexact S3
      · iexact Hr
    isplitl [Ho]; · iexact Ho
    isplitl [H0]; · iexact H0
    isplitl [H1]; · iexact H1
    isplitl [H2]; · iexact H2
    isplitl [H3]; · iexact H3
    iexact H4

/-- The body table's row at a point. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The run: every array ends at what the proof data says, every counter at zero. -/
theorem run_quiet : θ_run defs (onTc (τ := τ) (main (F := F))) (s₀ m ρ) (fun r => (Pipeline.FramePost cfgs (dats m) 0 (Gen.V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := Gen.V m) (hmain := hmain m Variants.none) (hA := A_eq m) (hΦ := fun _ _ => rfl)

/-- The frame, with the counters. -/
theorem frame_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) (A_eq m)) (run_quiet m ρ)

end Cert.KernelIdeal.Attn

end
-- ==== Proof.Attn.Online.lean ====
/- The running softmax over the extended reals: what the running maximum and a running sum hold after some of the keys,
   how one more block of keys keeps it, and what the quotient of two such sums is. -/
module

public import Idealize.ShloMosaic.PureOps.Ideal

@[expose] public section

noncomputable section

namespace Cert.KernelIdeal.Attn

open Idealize.ShloMosaic

/-- After the first `n` keys, of scores `S` and values `v`: a real shift `m`, and the sum of the weighted values at it. -/
def Acc (S v : ℕ → EReal) (n : ℕ) (m a : EReal) : Prop :=
  ∃ μ : ℝ, m = (μ : EReal) ∧ a = ∑ j ∈ Finset.range n, Ideal.exp2 (S j - (μ : EReal)) * v j

/-- A nonnegative real factor goes into a sum. -/
theorem coe_mul_sum {ι : Type} (ρ : ℝ) (h : 0 ≤ ρ) (s : Finset ι) (f : ι → EReal) :
    (ρ : EReal) * ∑ i ∈ s, f i = ∑ i ∈ s, (ρ : EReal) * f i := by
  classical
  induction s using Finset.induction_on with
  | empty => simp
  | insert a s ha ih =>
    rw [Finset.sum_insert ha, Finset.sum_insert ha,
      EReal.left_distrib_of_nonneg_of_ne_top (by exact_mod_cast h) (EReal.coe_ne_top ρ), ih]

/-- A sum of reals is real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Moving the shift of a weight. -/
theorem exp2_shift (s : EReal) (hs : s ≠ ⊤) (μ μ' : ℝ) :
    ((Real.rpow 2 (μ - μ') : ℝ) : EReal) * Ideal.exp2 (s - (μ : EReal)) = Ideal.exp2 (s - (μ' : EReal)) := by
  induction s using EReal.rec with
  | bot => rw [EReal.bot_sub, EReal.bot_sub, Ideal.exp2_bot, mul_zero]
  | top => exact absurd rfl hs
  | coe σ =>
    rw [← EReal.coe_sub, ← EReal.coe_sub, Ideal.exp2_coe, Ideal.exp2_coe, ← EReal.coe_mul]
    congr 1
    show (2 : ℝ) ^ (μ - μ') * (2 : ℝ) ^ (σ - μ) = (2 : ℝ) ^ (σ - μ')
    rw [← Real.rpow_add (by norm_num)]
    congr 1; ring

/-- The greater of two that are not `⊤`, one of them real, is real. -/
theorem real_max {x y : EReal} (hx : x ≠ ⊤) (hy : y ≠ ⊤) (h : x ≠ ⊥ ∨ y ≠ ⊥) : ∃ μ : ℝ, max x y = (μ : EReal) := by
  have h1 : max x y ≠ ⊤ := by
    rcases max_choice x y with e | e <;> rw [e] <;> assumption
  have h2 : max x y ≠ ⊥ := by
    intro e
    rcases max_eq_bot.mp e with ⟨a, b⟩
    rcases h with h | h
    · exact h a
    · exact h b
  exact ⟨(max x y).toReal, (EReal.coe_toReal h1 h2).symm⟩

/-- The sum over one more block, split off. -/
theorem sum_block (n B : ℕ) (f : ℕ → EReal) :
    ∑ j ∈ Finset.range (n + B), f j = ∑ j ∈ Finset.range n, f j + ∑ x : Fin B, f (n + x.val) := by
  rw [Finset.sum_range_add, Finset.sum_range (fun x => f (n + x))]

/-- One more block of keys, none of whose scores is `⊤`. -/
theorem Acc.step {S v : ℕ → EReal} {n B : ℕ} {m a mx : EReal} (h : Acc S v n m a) (hS : ∀ j, S j ≠ ⊤) (hx : mx ≠ ⊤) :
    Acc S v (n + B) (max m mx) (Ideal.exp2 (m - max m mx) * a
      + ∑ x : Fin B, v (n + x.val) * Ideal.exp2 (S (n + x.val) - max m mx)) := by
  obtain ⟨μ, rfl, rfl⟩ := h
  obtain ⟨μ', e⟩ := real_max (EReal.coe_ne_top μ) hx (.inl (EReal.coe_ne_bot μ))
  refine ⟨μ', e, ?_⟩
  rw [e, sum_block, ← EReal.coe_sub, Ideal.exp2_coe, coe_mul_sum (Real.rpow 2 (μ - μ')) (Real.rpow_nonneg (by norm_num) _)]
  congr 1
  · refine Finset.sum_congr rfl fun j _ => ?_
    rw [← mul_assoc, exp2_shift _ (hS j)]
  · exact Finset.sum_congr rfl fun x _ => mul_comm _ _

/-- The first block of keys, its greatest score real. -/
theorem Acc.first {S v : ℕ → EReal} {B : ℕ} {mx : EReal} (hx : mx ≠ ⊤) (hb : mx ≠ ⊥) :
    Acc S v B (max ⊥ mx) (Ideal.exp2 (⊥ - max ⊥ mx) * 0
      + ∑ x : Fin B, v x.val * Ideal.exp2 (S x.val - max ⊥ mx)) := by
  obtain ⟨μ', e⟩ := real_max (x := ⊥) (y := mx) (by simp) hx (.inr hb)
  refine ⟨μ', e, ?_⟩
  rw [e, mul_zero, zero_add, Finset.sum_range]
  exact Finset.sum_congr rfl fun x _ => mul_comm _ _

/-- Keys whose scores are `⊥` add nothing. -/
theorem Acc.extend {S v : ℕ → EReal} {n N : ℕ} {m a : EReal} (h : Acc S v n m a) (hn : n ≤ N)
    (hS : ∀ j, n ≤ j → S j = ⊥) : Acc S v N m a := by
  obtain ⟨μ, rfl, rfl⟩ := h
  refine ⟨μ, rfl, ?_⟩
  refine Finset.sum_subset (Finset.range_subset_range.mpr hn) fun j _ hj => ?_
  rw [hS j (by simpa using hj), EReal.bot_sub, Ideal.exp2_bot, zero_mul]

/-- The greatest of finitely many, none `⊤`, is not `⊤`. -/
theorem fold_max_ne_top {n : ℕ} (f : Fin n → EReal) (h : ∀ x, f x ≠ ⊤) : Finset.univ.fold max (⊥ : EReal) f ≠ ⊤ := by
  rw [← lt_top_iff_ne_top, Finset.fold_max_lt]
  exact ⟨by simp, fun x _ => lt_top_iff_ne_top.mpr (h x)⟩

/-- The greatest of finitely many, one not `⊥`, is not `⊥`. -/
theorem fold_max_ne_bot {n : ℕ} (f : Fin n → EReal) (x : Fin n) (h : f x ≠ ⊥) : Finset.univ.fold max (⊥ : EReal) f ≠ ⊥ := by
  intro e
  have : f x ≤ Finset.univ.fold max (⊥ : EReal) f := (Finset.le_fold_max _).mpr (.inr ⟨x, Finset.mem_univ _, le_rfl⟩)
  rw [e] at this
  exact h (le_bot_iff.mp this)

theorem div_coe (x : EReal) {y : ℝ} (hy : y ≠ 0) : Ideal.div x (y : EReal) = x * ((y⁻¹ : ℝ) : EReal) := by
  unfold Ideal.div
  rw [if_neg (by exact_mod_cast hy), EReal.coe_inv]

/-- The quotient of the weighted sum and the sum of the weights is the sum weighted by the softmax: the one in powers of
    two at one shift, the other in powers of `e` at another. -/
theorem finish {S T v : ℕ → EReal} {σ : ℕ → ℝ} {r N : ℕ} (hr : r < N)
    (hS : ∀ j, S j = if j ≤ r then (σ j : EReal) else ⊥)
    (hT : ∀ j, T j = if j ≤ r then ((σ j * Real.log 2 : ℝ) : EReal) else ⊥) (μ M : ℝ) :
    (∑ j ∈ Finset.range N, Ideal.exp2 (S j - (μ : EReal)) * v j)
        * Ideal.div 1 (∑ j ∈ Finset.range N, Ideal.exp2 (S j - (μ : EReal)) * 1)
      = ∑ j ∈ Finset.range N, v j * Ideal.div (Ideal.exp (T j - (M : EReal)))
          (∑ j ∈ Finset.range N, Ideal.exp (T j - (M : EReal))) := by
  set w : ℕ → ℝ := fun j => if j ≤ r then (2 : ℝ) ^ (σ j - μ) else 0 with hw
  set C : ℝ := Real.exp (μ * Real.log 2 - M) with hC
  have e1 : ∀ j, Ideal.exp2 (S j - (μ : EReal)) = (w j : EReal) := by
    intro j
    rw [hS j, hw]
    by_cases h : j ≤ r
    · simp only [if_pos h]; rw [← EReal.coe_sub, Ideal.exp2_coe]; rfl
    · simp only [if_neg h]; rw [EReal.bot_sub, Ideal.exp2_bot, EReal.coe_zero]
  have e2 : ∀ j, Ideal.exp (T j - (M : EReal)) = ((C * w j : ℝ) : EReal) := by
    intro j
    rw [hT j, hw]
    by_cases h : j ≤ r
    · simp only [if_pos h]; rw [← EReal.coe_sub, Ideal.exp_coe, hC, Real.rpow_def_of_pos (by norm_num), ← Real.exp_add]
      congr 2; ring
    · simp only [if_neg h]; rw [EReal.bot_sub, Ideal.exp_bot, mul_zero, EReal.coe_zero]
  have hw0 : ∀ j, 0 ≤ w j := by
    intro j; rw [hw]; dsimp only; split
    · exact Real.rpow_nonneg (by norm_num) _
    · exact le_rfl
  have hW : 0 < ∑ j ∈ Finset.range N, w j := by
    refine Finset.sum_pos' (fun j _ => hw0 j) ⟨r, Finset.mem_range.mpr hr, ?_⟩
    rw [hw]; simp only [le_refl, if_true]; exact Real.rpow_pos_of_pos (by norm_num) _
  have hC0 : 0 < C := Real.exp_pos _
  simp only [e1, e2, mul_one]
  rw [coe_sum, coe_sum, ← Finset.mul_sum, div_coe _ hW.ne', one_mul, mul_comm (∑ j ∈ Finset.range N, _),
    coe_mul_sum _ (inv_nonneg.mpr hW.le)]
  refine Finset.sum_congr rfl fun j _ => ?_
  rw [div_coe _ (mul_pos hC0 hW).ne', mul_comm (v j), ← mul_assoc, ← EReal.coe_mul, ← EReal.coe_mul]
  congr 2
  field_simp

end Cert.KernelIdeal.Attn

end
-- ==== Proof.Attn.Tile.lean ====
/- The attention body's tiles read at an index: what one block of keys adds to the running maximum and sums of one query. -/
module

public import proofs.«01_k».proof.Proof.Attn.Sem
public import proofs.«01_k».proof.Proof.Attn.Online
public import Idealize.ShloMosaic.Lib.Pointwise
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe
open Idealize.ShloMosaic.VecWindow (window put)

/-- The mask's value. -/
theorem mask_eq : Named.named (F := Ideal) κ "mask" (φ := .f32) 0xF149F2CA#32 = (⊥ : EReal) :=
  show (κ "mask").getD _ = _ from congrArg (fun o : Option EReal => o.getD (Ideal.ofBits .f32 0xF149F2CA#32)) (rfl : κ "mask" = some ⊥)

/-- The power of two. -/
theorem exp2_eq (x : EReal) : FloatOps.exp2 (F := Ideal) (φ := .f32) x = Ideal.exp2 x := rfl

/-- The least value the maxima start from. -/
theorem ninf_eq : Ideal.ofBits .f32 0xFF800000#32 = (⊥ : EReal) := by simp [Ideal.ofBits, Ideal.ieee]

theorem pay3_apply (k : Vec Ideal S1x1x512x192 .bf16) (q : Vec Ideal S1x1x192x1024 .bf16) (x : Fin 512) (c : Fin 1024) :
    k0_pay3 k q (ix2 x c) = ∑ d : Fin 192, k (ix4 0 0 x d) * q (ix4 0 0 d c) := by
  pointwise [k0_pay3]

theorem pay4_apply (k : Vec Ideal S1x1x512x192 .bf16) (q : Vec Ideal S1x1x192x1024 .bf16) (x : Fin 512) (c : Fin 1024) :
    k0_pay4 k q (ix3 0 x c) = k0_pay3 k q (ix2 x c) := by
  pointwise [k0_pay4]

theorem pay5_apply (k : Vec Ideal S1x1x512x192 .bf16) (q : Vec Ideal S1x1x192x1024 .bf16) (c : Fin 1024) :
    k0_pay5 k q (ix3 0 0 c) = Finset.univ.fold max (⊥ : EReal) fun x : Fin 512 => k0_pay3 k q (ix2 x c) := by
  pointwise [k0_pay5, ninf_eq]

theorem stepM_apply (m : Vec Ideal S1x1024 .f32) (x : Vec Ideal S1x1x1024 .f32) (c : Fin 1024) :
    stepM m x (ix2 0 c) = max (m (ix2 0 c) : EReal) (x (ix3 0 0 c)) := by
  pointwise [stepM, k0_pay9, k0_pay8]

theorem stepA_apply (t : Vec Ideal S1x512x1024 .f32) (x : Vec Ideal S1x1x1024 .f32) (v : Vec Ideal S1x1x144x512 .bf16)
    (m : Vec Ideal S1x1024 .f32) (a : Vec Ideal S144x1024 .f32) (e : Fin 144) (c : Fin 1024) :
    stepA t x v m a (ix2 e c) = Ideal.exp2 (m (ix2 0 c) - max (m (ix2 0 c)) (x (ix3 0 0 c))) * a (ix2 e c) +
      ∑ y : Fin 512, v (ix4 0 0 e y) * Ideal.exp2 (t (ix3 0 y c) - max (m (ix2 0 c)) (x (ix3 0 0 c))) := by
  pointwise [stepA, k0_pay10, k0_pay8, k0_pay6, k0_pay7, exp2_eq]

theorem pay96_apply (k : Vec Ideal S1x1x512x192 .bf16) (q : Vec Ideal S1x1x192x1024 .bf16) (x : Fin 512) (c : Fin 1024) :
    k0_pay96 k q (ix2 x c) = if x.val ≤ c.val then k0_pay3 k q (ix2 x c) else (⊥ : EReal) := by
  pointwise [k0_pay96, k0_pay3, mask_eq]
  rw [show IntOp.addi (BitVec.ofNat 32 x.val) 0#32 = BitVec.ofNat 32 x.val from BitVec.add_zero _,
    WordCmp.cmpi_sle_ofNat (by have := x.isLt; norm_num; omega) (by have := c.isLt; norm_num; omega)]
  pointwise

theorem pay97_apply (k : Vec Ideal S1x1x512x192 .bf16) (q : Vec Ideal S1x1x192x1024 .bf16) (x : Fin 512) (c : Fin 1024) :
    k0_pay97 k q (ix3 0 x c) = k0_pay96 k q (ix2 x c) := by
  pointwise [k0_pay97]

theorem pay98_apply (k : Vec Ideal S1x1x512x192 .bf16) (q : Vec Ideal S1x1x192x1024 .bf16) (c : Fin 1024) :
    k0_pay98 k q (ix3 0 0 c) = Finset.univ.fold max (⊥ : EReal) fun x : Fin 512 => k0_pay96 k q (ix2 x c) := by
  pointwise [k0_pay98, ninf_eq]

theorem pay94_apply (c : Fin 1024) : k0_pay94 (F := Ideal) (ix2 0 c) = (⊥ : EReal) := by
  pointwise [k0_pay94, mask_eq]

theorem pay95_apply (e : Fin 144) (c : Fin 1024) : k0_pay95 (F := Ideal) (ix2 e c) = (0 : EReal) := by
  pointwise [k0_pay95]

/-- The later half's tile. -/
theorem pay106_apply (k : Vec Ideal S1x1x512x192 .bf16) (q : Vec Ideal S1x1x192x512 .bf16) (x c : Fin 512) :
    k0_pay106 k q (ix2 x c) = ∑ d : Fin 192, k (ix4 0 0 x d) * q (ix4 0 0 d c) := by
  pointwise [k0_pay106]

theorem pay107_apply (s : FVec Ideal S512x512 .f32) (x c : Fin 512) :
    k0_pay107 s (ix2 x c) = if x.val ≤ c.val then s (ix2 x c) else (⊥ : EReal) := by
  pointwise [k0_pay107, mask_eq]
  rw [show IntOp.addi (BitVec.ofNat 32 x.val) 0#32 = BitVec.ofNat 32 x.val from BitVec.add_zero _,
    WordCmp.cmpi_sle_ofNat (by have := x.isLt; norm_num; omega) (by have := c.isLt; norm_num; omega)]
  pointwise

theorem pay108_apply (s : FVec Ideal S512x512 .f32) (x c : Fin 512) :
    k0_pay108 s (ix3 0 x c) = k0_pay107 s (ix2 x c) := by
  pointwise [k0_pay108]

theorem pay109_apply (s : FVec Ideal S512x512 .f32) (c : Fin 512) :
    k0_pay109 s (ix3 0 0 c) = Finset.univ.fold max (⊥ : EReal) fun x : Fin 512 => k0_pay107 s (ix2 x c) := by
  pointwise [k0_pay109, ninf_eq]

theorem pay118_apply (t : Vec Ideal S1x512x512 .f32) (x : Vec Ideal S1x1x512 .f32) (v : Vec Ideal S1x1x144x512 .bf16)
    (m : Vec Ideal S1x512 .f32) (a : Vec Ideal S144x512 .f32) (e : Fin 144) (c : Fin 512) :
    k0_pay1 (k0_pay118 t v m x a) (ix2 e c) = Ideal.exp2 (m (ix2 0 c) - max (m (ix2 0 c)) (x (ix3 0 0 c))) * a (ix2 e c) +
      ∑ y : Fin 512, v (ix4 0 0 e y) * Ideal.exp2 (t (ix3 0 y c) - max (m (ix2 0 c)) (x (ix3 0 0 c))) := by
  pointwise [k0_pay1, k0_pay118, k0_pay116, exp2_eq]

theorem one_eq : Ideal.ofBits .f32 0x3F800000#32 = (1 : EReal) := by
  simp [Ideal.ofBits, Ideal.ieee]
  rw [← EReal.coe_mul]; norm_num

theorem pay2_apply (a : Vec Ideal S128x1024 .f32) (l : Vec Ideal S1x1024 .f32) (g : Vec Ideal S1024x128 .bf16) (c : Fin 1024) (d : Fin 128) :
    k0_pay2 a l g (ix2 c d) = a (ix2 d c) * Ideal.div 1 (l (ix2 0 c)) * g (ix2 c d) := by
  pointwise [k0_pay2, one_eq]

/-- The key at a number. -/
abbrev key (j : ℕ) : Fin 8192 := Fin.ofNat 8192 j

theorem kblk_apply (K : Vec Ideal S1x1x8192x192 .bf16) (n : ℕ) (hn : n ≤ 15) (x : Fin 512) (d : Fin 192) :
    kblk K n (ix4 0 0 x d) = K (ix4 0 0 (key (512 * n + x.val)) d) := by
  refine congrArg K (funext fun a => Fin.ext ?_)
  have hx := x.isLt
  match a with
  | ⟨0, _⟩ => rfl
  | ⟨1, _⟩ => rfl
  | ⟨2, _⟩ => show 512 * min n 15 + 1 * x.val = (512 * n + x.val) % 8192; rw [min_eq_left hn]; omega
  | ⟨3, _⟩ => show 0 + 1 * d.val = d.val; omega

theorem vblk_apply (V : Vec Ideal S1x1x144x8192 .bf16) (n : ℕ) (hn : n ≤ 15) (e : Fin 144) (x : Fin 512) :
    vblk V n (ix4 0 0 e x) = V (ix4 0 0 e (key (512 * n + x.val))) := by
  refine congrArg V (funext fun a => Fin.ext ?_)
  have hx := x.isLt
  match a with
  | ⟨0, _⟩ => rfl
  | ⟨1, _⟩ => rfl
  | ⟨2, _⟩ => show 0 + 1 * e.val = e.val; omega
  | ⟨3, _⟩ => show 512 * min n 15 + 1 * x.val = (512 * n + x.val) % 8192; rw [min_eq_left hn]; omega

theorem qhalf_apply (Q : Vec Ideal S1x1x192x1024 .bf16) (d : Fin 192) (c : Fin 512) :
    qhalf Q (ix4 0 0 d c) = Q (ix4 0 0 d ⟨512 + c.val, by have := c.isLt; omega⟩) := by
  refine congrArg Q (funext fun a => Fin.ext ?_)
  match a with
  | ⟨0, _⟩ => rfl
  | ⟨1, _⟩ => rfl
  | ⟨2, _⟩ => show 0 + 1 * d.val = d.val; omega
  | ⟨3, _⟩ => show 512 + 1 * c.val = 512 + c.val; omega

/-- The later half of a row of maxima. -/
theorem mhalf_apply (m : Vec Ideal S1x1024 .f32) (c : Fin 512) :
    window m ![0, 512] S1x512.size inb_S1x1024_S1x512_0_512 (ix2 0 c) = m (ix2 0 ⟨512 + c.val, by have := c.isLt; omega⟩) := by
  refine congrArg m (funext fun a => Fin.ext ?_)
  match a with
  | ⟨0, _⟩ => rfl
  | ⟨1, _⟩ => show 512 + 1 * c.val = 512 + c.val; omega

/-- The later half of the sums. -/
theorem ahalf_apply (m : Vec Ideal S144x1024 .f32) (e : Fin 144) (c : Fin 512) :
    window m ![0, 512] S144x512.size inb_S144x1024_S144x512_0_512 (ix2 e c) = m (ix2 e ⟨512 + c.val, by have := c.isLt; omega⟩) := by
  refine congrArg m (funext fun a => Fin.ext ?_)
  match a with
  | ⟨0, _⟩ => show 0 + 1 * e.val = e.val; omega
  | ⟨1, _⟩ => show 512 + 1 * c.val = 512 + c.val; omega

/-- A column of the first half is kept. -/
theorem put_low (p : Vec Ideal S144x1024 .f32) (w : Vec Ideal S144x512 .f32) (e : Fin 144) (c : Fin 1024) (h : c.val < 512) :
    put p ![0, 512] S144x512.size w (ix2 e c) = p (ix2 e c) := by
  unfold put
  rw [dif_neg]
  intro hh
  have := (hh 1).1
  have h2 : 512 ≤ c.val := this
  omega

/-- A column of the later half is the new one's. -/
theorem put_high (p : Vec Ideal S144x1024 .f32) (w : Vec Ideal S144x512 .f32) (e : Fin 144) (c : Fin 512) :
    put p ![0, 512] S144x512.size w (ix2 e ⟨512 + c.val, by have := c.isLt; omega⟩) = w (ix2 e c) := by
  unfold put
  rw [dif_pos]
  · refine congrArg w (funext fun a => Fin.ext ?_)
    match a with
    | ⟨0, _⟩ => show e.val - 0 = e.val; omega
    | ⟨1, _⟩ => show 512 + c.val - 512 = c.val; omega
  · intro a
    have he := e.isLt
    have hc := c.isLt
    match a with
    | ⟨0, _⟩ => show 0 ≤ e.val ∧ e.val < 0 + 144; omega
    | ⟨1, _⟩ => show 512 ≤ 512 + c.val ∧ 512 + c.val < 512 + 512; omega

theorem fin_apply (a : Vec Ideal S144x1024 .f32) (G : Vec Ideal S1024x128 .bf16) (c : Fin 1024) (d : Fin 128) :
    fin a G (ix2 c d) = a (ix2 ⟨d.val, by have := d.isLt; omega⟩ c) * Ideal.div 1 (a (ix2 128 c)) * G (ix2 c d) := by
  unfold fin
  rw [pay2_apply]
  congr 2
  · refine congrArg a (funext fun x => Fin.ext ?_)
    match x with
    | ⟨0, _⟩ => show 0 + 1 * d.val = d.val; omega
    | ⟨1, _⟩ => show 0 + 1 * c.val = c.val; omega
  · refine congrArg (fun z => Ideal.div 1 (a z)) (funext fun x => Fin.ext ?_)
    match x with
    | ⟨0, _⟩ => rfl
    | ⟨1, _⟩ => show 0 + 1 * c.val = c.val; omega

/-- The product of a key and a query. -/
def sc (Q : Vec Ideal S1x1x192x1024 .bf16) (K : Vec Ideal S1x1x8192x192 .bf16) (c : Fin 1024) (j : ℕ) : EReal :=
  ∑ d : Fin 192, K (ix4 0 0 (key j) d) * Q (ix4 0 0 d c)

/-- The score of a key for a query of block `i`: nothing past the query. -/
def score (Q : Vec Ideal S1x1x192x1024 .bf16) (K : Vec Ideal S1x1x8192x192 .bf16) (i : ℕ) (c : Fin 1024) (j : ℕ) : EReal :=
  if j ≤ 1024 * i + c.val then sc Q K c j else ⊥

/-- Row `e` of the values. -/
def vrow (V : Vec Ideal S1x1x144x8192 .bf16) (e : Fin 144) (j : ℕ) : EReal := V (ix4 0 0 e (key j))

theorem tile_eq (Q : Vec Ideal S1x1x192x1024 .bf16) (K : Vec Ideal S1x1x8192x192 .bf16) (n : ℕ) (hn : n ≤ 15) (x : Fin 512) (c : Fin 1024) :
    k0_pay3 (kblk K n) Q (ix2 x c) = sc Q K c (512 * n + x.val) := by
  rw [pay3_apply]
  exact Finset.sum_congr rfl fun d _ => by rw [kblk_apply K n hn]

end Cert.KernelIdeal.Attn

end
-- ==== Proof.Attn.Rows.lean ====
/- What the running maximum and sums hold for one query after the blocks of keys it sees, and so what is written of it. -/
module

public import proofs.«01_k».proof.Proof.Attn.Tile

@[expose] public section

set_option maxRecDepth 16384

noncomputable section

namespace Cert.KernelIdeal.Attn

open Cert.KernelIdeal Cert.KernelIdeal.Gen
open Idealize.ShloMosaic Idealize.ShloMosaic.TcCoe
open Idealize.ShloMosaic.VecWindow (window put)

variable {Q : Vec Ideal S1x1x192x1024 .bf16} {K : Vec Ideal S1x1x8192x192 .bf16} {V : Vec Ideal S1x1x144x8192 .bf16}

theorem score_ne_top {c : Fin 1024} (hs : ∀ j, sc Q K c j ≠ ⊤) (i j : ℕ) : score Q K i c j ≠ ⊤ := by
  unfold score; split
  · exact hs j
  · simp

theorem score_zero (i : ℕ) (c : Fin 1024) : score Q K i c 0 = sc Q K c 0 := if_pos (Nat.zero_le _)

/-- One block of a tile `t` of the scores from key `512 n` on, whose column maximum is `mx`. -/
theorem acc_stepA {i n : ℕ} (hn : n ≤ 15) {c : Fin 1024} {e : Fin 144} (hs : ∀ j, sc Q K c j ≠ ⊤) (h0 : sc Q K c 0 ≠ ⊥)
    (t : Vec Ideal S1x512x1024 .f32) (x : Vec Ideal S1x1x1024 .f32)
    (ht : ∀ y : Fin 512, t (ix3 0 y c) = score Q K i c (512 * n + y.val))
    (hx : x (ix3 0 0 c) = Finset.univ.fold max (⊥ : EReal) fun y : Fin 512 => score Q K i c (512 * n + y.val))
    (m : Vec Ideal S1x1024 .f32) (a : Vec Ideal S144x1024 .f32)
    (h : (n = 0 ∧ m = k0_pay94 (F := Ideal) ∧ a = k0_pay95 (F := Ideal)) ∨ Acc (score Q K i c) (vrow V e) (512 * n) (m (ix2 0 c)) (a (ix2 e c))) :
    Acc (score Q K i c) (vrow V e) (512 * (n + 1)) (stepM m x (ix2 0 c)) (stepA t x (vblk V n) m a (ix2 e c)) := by
  have hS := score_ne_top hs i
  have hxt : x (ix3 0 0 c) ≠ (⊤ : EReal) := by rw [hx]; exact fold_max_ne_top _ fun y => hS _
  rw [stepM_apply, stepA_apply]
  have hv : ∀ y : Fin 512, vblk V n (ix4 0 0 e y) = vrow V e (512 * n + y.val) := fun y => vblk_apply V n hn e y
  simp only [hv, ht]
  rcases h with ⟨rfl, rfl, rfl⟩ | h
  · have hxb : x (ix3 0 0 c) ≠ (⊥ : EReal) := by
      rw [hx]
      refine fold_max_ne_bot _ 0 ?_
      show score Q K i c 0 ≠ ⊥
      rw [score_zero]; exact h0
    rw [pay94_apply, pay95_apply]
    have := Acc.first (S := score Q K i c) (v := vrow V e) (B := 512) hxt hxb
    simpa using this
  · exact h.step hS hxt

/-- After the blocks below the diagonal. -/
theorem acc_st {i : ℕ} (hi : i ≤ 7) {c : Fin 1024} {e : Fin 144} (hs : ∀ j, sc Q K c j ≠ ⊤) (h0 : sc Q K c 0 ≠ ⊥) (n : ℕ)
    (hn : n ≤ 2 * i) : (n = 0 ∧ (st Q K V n).1 = k0_pay94 (F := Ideal) ∧ (st Q K V n).2 = k0_pay95 (F := Ideal))
      ∨ Acc (score Q K i c) (vrow V e) (512 * n) ((st Q K V n).1 (ix2 0 c)) ((st Q K V n).2 (ix2 e c)) := by
  induction n with
  | zero => exact .inl ⟨rfl, rfl, rfl⟩
  | succ n ih =>
    right
    have h15 : n ≤ 15 := by omega
    have hsc : ∀ y : Fin 512, k0_pay3 (kblk K n) Q (ix2 y c) = score Q K i c (512 * n + y.val) := fun y => by
      rw [tile_eq Q K n h15]
      exact (if_pos (by have := y.isLt; omega)).symm
    refine acc_stepA h15 hs h0 _ _ (fun y => ?_) ?_ _ _ (ih (by omega))
    · rw [pay4_apply, hsc]
    · rw [pay5_apply]; simp only [hsc]

/-- After the block that begins at the diagonal. -/
theorem acc_dstep {i : ℕ} (hi : i ≤ 7) {c : Fin 1024} {e : Fin 144} (hs : ∀ j, sc Q K c j ≠ ⊤) (h0 : sc Q K c 0 ≠ ⊥) :
    Acc (score Q K i c) (vrow V e) (512 * (2 * i + 1)) ((dstep Q K V i (st Q K V (2 * i))).1 (ix2 0 c))
      ((dstep Q K V i (st Q K V (2 * i))).2 (ix2 e c)) := by
  have h15 : 2 * i ≤ 15 := by omega
  have hsc : ∀ y : Fin 512, k0_pay96 (kblk K (2 * i)) Q (ix2 y c) = score Q K i c (512 * (2 * i) + y.val) := fun y => by
    rw [pay96_apply, tile_eq Q K _ h15]
    unfold score
    by_cases h : y.val ≤ c.val
    · rw [if_pos h, if_pos (by omega)]
    · rw [if_neg h, if_neg (by omega)]
  refine acc_stepA h15 hs h0 _ _ (fun y => ?_) ?_ _ _ (acc_st hi hs h0 (2 * i) le_rfl)
  · rw [pay97_apply, hsc]
  · rw [pay98_apply]; simp only [hsc]

/-- After the last block: all the keys, those past the query adding nothing. -/
theorem acc_hacc {i : ℕ} (hi : i ≤ 7) {c : Fin 1024} {e : Fin 144} (hs : ∀ j, sc Q K c j ≠ ⊤) (h0 : sc Q K c 0 ≠ ⊥) :
    ∃ m : EReal, (∀ e' : Fin 144, Acc (score Q K i c) (vrow V e') 8192 m
      (hacc Q K V i (dstep Q K V i (st Q K V (2 * i))) (ix2 e' c))) := by
  by_cases hc : c.val < 512
  · refine ⟨(dstep Q K V i (st Q K V (2 * i))).1 (ix2 0 c), fun e' => ?_⟩
    unfold hacc
    rw [put_low _ _ e' c hc]
    refine (acc_dstep hi hs h0).extend (by omega) fun j hj => if_neg (by omega)
  · have hc' := c.isLt
    obtain ⟨c2, hlt, rfl⟩ : ∃ c2 : Fin 512, ∃ hlt : 512 + c2.val < 1024, c = ⟨512 + c2.val, hlt⟩ :=
      ⟨⟨c.val - 512, by omega⟩, by show 512 + (c.val - 512) < 1024; omega, Fin.ext (by show c.val = 512 + (c.val - 512); omega)⟩
    have hc2 := c2.isLt
    have h15 : 2 * i + 1 ≤ 15 := by omega
    have hS := score_ne_top hs i
    have hsc : ∀ y : Fin 512, k0_pay107 (k0_pay106 (kblk K (2 * i + 1)) (qhalf Q)) (ix2 y c2)
        = score Q K i ⟨512 + c2.val, by omega⟩ (512 * (2 * i + 1) + y.val) := fun y => by
      rw [pay107_apply, pay106_apply]
      unfold score
      by_cases h : y.val ≤ c2.val
      · rw [if_pos h, if_pos (by show _ ≤ 1024 * i + (512 + c2.val); omega)]
        exact Finset.sum_congr rfl fun d _ => by rw [kblk_apply K _ h15, qhalf_apply]
      · rw [if_neg h, if_neg (by show ¬ _ ≤ 1024 * i + (512 + c2.val); omega)]
    refine ⟨max ((dstep Q K V i (st Q K V (2 * i))).1 (ix2 0 ⟨512 + c2.val, by omega⟩))
      (Finset.univ.fold max (⊥ : EReal) fun y : Fin 512 => score Q K i ⟨512 + c2.val, by omega⟩ (512 * (2 * i + 1) + y.val)), fun e' => ?_⟩
    unfold hacc
    rw [put_high, pay118_apply, mhalf_apply, ahalf_apply]
    have hv : ∀ y : Fin 512, vblk V (2 * i + 1) (ix4 0 0 e' y) = vrow V e' (512 * (2 * i + 1) + y.val) :=
      fun y => vblk_apply V _ h15 e' y
    simp only [pay109_apply, pay108_apply, hsc, hv]
    exact ((acc_dstep hi hs h0).step hS (fold_max_ne_top _ fun y => hS _)).extend (by omega)
      fun j hj => if_neg (by show ¬ j ≤ 1024 * i + (512 + c2.val); omega)

/-- What is written of a query: the sum of the values over the sum of the weights, by the gate. -/
theorem out_apply {i : ℕ} (hi : i ≤ 7) (c : Fin 1024) (hs : ∀ j, sc Q K c j ≠ ⊤) (h0 : sc Q K c 0 ≠ ⊥)
    (G : Vec Ideal S1024x128 .bf16) (d : Fin 128) (h1 : ∀ j, vrow V 128 j = 1) : ∃ μ : ℝ,
    out Q K V G i (ix2 c d) = (∑ j ∈ Finset.range 8192, Ideal.exp2 (score Q K i c j - (μ : EReal)) * vrow V ⟨d.val, by have := d.isLt; omega⟩ j)
      * Ideal.div 1 (∑ j ∈ Finset.range 8192, Ideal.exp2 (score Q K i c j - (μ : EReal)) * 1) * G (ix2 c d) := by
  obtain ⟨m, h⟩ := acc_hacc (V := V) (e := 0) hi hs h0
  obtain ⟨μ, rfl, hl⟩ := h 128
  obtain ⟨μ', e, ha⟩ := h ⟨d.val, by have := d.isLt; omega⟩
  obtain rfl : μ = μ' := by exact_mod_cast e
  refine ⟨μ, ?_⟩
  simp only [h1] at hl
  unfold out
  rw [fin_apply, ha, hl]

end Cert.KernelIdeal.Attn

end
-- ==== Proof.Attn.Blocks.lean ====
/- The blocks the attention body is handed at a point, at an index, of the host's arrays. -/
module

public import proofs.«01_k».proof.Proof.Attn.Run
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F] [Named F]
variable (m : (ℓ : Loc nD τ sig) → Buf (Elt F) ℓ) (c : Dev nD)

theorem lt_N (t : Fin cfg0.N) : t.val < 512 := lt_of_lt_of_eq t.isLt (show cfg0.N = 512 from N_0)

/-- A point's coordinates. -/
theorem coords_eq : ∀ t : Fin grid0.N, ((grid0.coords t) 0).val = t.val / 256 ∧ ((grid0.coords t) 1).val = t.val / 8 % 32
    ∧ ((grid0.coords t) 2).val = t.val % 8 := by decide +kernel

theorem idx0 : ∀ t : Fin grid0.N, win0_0.index t 0 = t.val / 256 ∧ win0_0.index t 1 = t.val / 8 % 32 ∧ win0_0.index t 2 = 0
    ∧ win0_0.index t 3 = t.val % 8 := by decide +kernel
theorem idx1 : ∀ t : Fin grid0.N, win0_1.index t 0 = t.val / 256 ∧ win0_1.index t 1 = t.val / 8 % 32 ∧ win0_1.index t 2 = 0
    ∧ win0_1.index t 3 = 0 := by decide +kernel
theorem idx2 : ∀ t : Fin grid0.N, win0_2.index t 0 = t.val / 256 ∧ win0_2.index t 1 = t.val / 8 % 32 ∧ win0_2.index t 2 = 0
    ∧ win0_2.index t 3 = 0 := by decide +kernel
theorem idx3 : ∀ t : Fin grid0.N, win0_3.index t 0 = t.val / 256 * 8 + t.val % 8 ∧ win0_3.index t 1 = t.val / 8 % 32 := by decide +kernel
theorem idx4 : ∀ t : Fin grid0.N, win0_4.index t 0 = t.val / 256 * 8 + t.val % 8 ∧ win0_4.index t 1 = t.val / 8 % 32 := by decide +kernel

/-- A point's batch and head. -/
def bOf (t : Fin cfg0.N) : Fin 2 := ⟨t.val / 256, by have := lt_N t; omega⟩
def hOf (t : Fin cfg0.N) : Fin 32 := ⟨t.val / 8 % 32, by omega⟩
/-- The query at a column of a point's block. -/
def rOf (t : Fin cfg0.N) (x : Fin 1024) : Fin 8192 := ⟨t.val % 8 * 1024 + x.val, by have := x.isLt; omega⟩

theorem blk0 (t : Fin cfg0.N) (d : Fin 192) (x : Fin 1024) :
    (iblk m c 0 t : S1x1x192x1024.Idx → F .bf16) (ix4 0 0 d x) = (V m c main_v7 : S2x32x192x8192.Idx → F .bf16) (ix4 (bOf t) (hOf t) d (rOf t x)) := by
  obtain ⟨e0, e1, e2, e3⟩ := idx0 t
  refine congrArg (V m c main_v7 : S2x32x192x8192.Idx → F .bf16) (funext fun a => Fin.ext ?_)
  match a with
  | ⟨0, _⟩ => show win0_0.index t 0 * 1 + 1 * 0 = t.val / 256; rw [e0]; omega
  | ⟨1, _⟩ => show win0_0.index t 1 * 1 + 1 * 0 = t.val / 8 % 32; rw [e1]; omega
  | ⟨2, _⟩ => show win0_0.index t 2 * 192 + 1 * d.val = d.val; rw [e2]; omega
  | ⟨3, _⟩ => show win0_0.index t 3 * 1024 + 1 * x.val = t.val % 8 * 1024 + x.val; rw [e3]; omega

theorem blk1 (t : Fin cfg0.N) (r : Fin 8192) (d : Fin 192) :
    (iblk m c 1 t : S1x1x8192x192.Idx → F .bf16) (ix4 0 0 r d) = (V m c main_v9 : S2x32x8192x192.Idx → F .bf16) (ix4 (bOf t) (hOf t) r d) := by
  obtain ⟨e0, e1, e2, e3⟩ := idx1 t
  refine congrArg (V m c main_v9 : S2x32x8192x192.Idx → F .bf16) (funext fun a => Fin.ext ?_)
  match a with
  | ⟨0, _⟩ => show win0_1.index t 0 * 1 + 1 * 0 = t.val / 256; rw [e0]; omega
  | ⟨1, _⟩ => show win0_1.index t 1 * 1 + 1 * 0 = t.val / 8 % 32; rw [e1]; omega
  | ⟨2, _⟩ => show win0_1.index t 2 * 8192 + 1 * r.val = r.val; rw [e2]; omega
  | ⟨3, _⟩ => show win0_1.index t 3 * 192 + 1 * d.val = d.val; rw [e3]; omega

theorem blk2 (t : Fin cfg0.N) (e : Fin 144) (r : Fin 8192) :
    (iblk m c 2 t : S1x1x144x8192.Idx → F .bf16) (ix4 0 0 e r) = (V m c main_v13 : S2x32x144x8192.Idx → F .bf16) (ix4 (bOf t) (hOf t) e r) := by
  obtain ⟨e0, e1, e2, e3⟩ := idx2 t
  refine congrArg (V m c main_v13 : S2x32x144x8192.Idx → F .bf16) (funext fun a => Fin.ext ?_)
  match a with
  | ⟨0, _⟩ => show win0_2.index t 0 * 1 + 1 * 0 = t.val / 256; rw [e0]; omega
  | ⟨1, _⟩ => show win0_2.index t 1 * 1 + 1 * 0 = t.val / 8 % 32; rw [e1]; omega
  | ⟨2, _⟩ => show win0_2.index t 2 * 144 + 1 * e.val = e.val; rw [e2]; omega
  | ⟨3, _⟩ => show win0_2.index t 3 * 8192 + 1 * r.val = r.val; rw [e3]; omega

/-- The row of the result at a row of a point's block, and its column. -/
def rowOf (t : Fin cfg0.N) (x : Fin 1024) : Fin 16384 :=
  ⟨(t.val / 256 * 8 + t.val % 8) * 1024 + x.val, by have := lt_N t; have := x.isLt; omega⟩
def colOf (t : Fin cfg0.N) (d : Fin 128) : Fin 4096 := ⟨t.val / 8 % 32 * 128 + d.val, by have := d.isLt; omega⟩

theorem blk3 (t : Fin cfg0.N) (x : Fin 1024) (d : Fin 128) :
    (iblk m c 3 t : S1024x128.Idx → F .bf16) (ix2 x d) = (V m c main_v15 : S16384x4096.Idx → F .bf16) (ix2 (rowOf t x) (colOf t d)) := by
  obtain ⟨e0, e1⟩ := idx3 t
  refine congrArg (V m c main_v15 : S16384x4096.Idx → F .bf16) (funext fun a => Fin.ext ?_)
  match a with
  | ⟨0, _⟩ => show win0_3.index t 0 * 1024 + 1 * x.val = (t.val / 256 * 8 + t.val % 8) * 1024 + x.val; rw [e0]; omega
  | ⟨1, _⟩ => show win0_3.index t 1 * 128 + 1 * d.val = t.val / 8 % 32 * 128 + d.val; rw [e1]; omega

/-- Where an index of a point's block of results lies in the result. -/
theorem emb4 (t : Fin cfg0.N) (x : Fin 1024) (d : Fin 128) :
    ((cfg0.win 4).blk t).view.emb (ix2 x d : S1024x128.Idx) = (ix2 (rowOf t x) (colOf t d) : S16384x4096.Idx) := by
  obtain ⟨e0, e1⟩ := idx4 t
  refine funext fun a => Fin.ext ?_
  match a with
  | ⟨0, _⟩ => show win0_4.index t 0 * 1024 + 1 * x.val = (t.val / 256 * 8 + t.val % 8) * 1024 + x.val; rw [e0]; omega
  | ⟨1, _⟩ => show win0_4.index t 1 * 128 + 1 * d.val = t.val / 8 % 32 * 128 + d.val; rw [e1]; omega

/-- The result array after the run is `G`, if every point leaves its block of `G`. -/
theorem final4 (G : S16384x4096.Idx → F .bf16)
    (hG : ∀ (t : Fin cfg0.N) (x : Fin 1024) (d : Fin 128),
      out (iblk m c 0 t) (iblk m c 1 t) (iblk m c 2 t) (iblk m c 3 t) (t.val % 8) (ix2 x d) = G (ix2 (rowOf t x) (colOf t d))) :
    (dats m 0 c).arrAt 4 cfg0.N = G := by
  refine (dats m 0 c).arrAt_eq_of_covers 4 G (by decide +kernel) fun t hf y => ?_
  obtain ⟨x, d, rfl⟩ : ∃ (x : Fin 1024) (d : Fin 128), y = (ix2 x d : S1024x128.Idx) := ⟨y 0, y 1, eq_ix2 (n0 := 1024) (n1 := 128) y⟩
  refine Eq.trans ?_ ((hG t x d).trans (congrArg G (emb4 t x d)).symm)
  show (dats m 0 c).after 4 t (ix2 x d : S1024x128.Idx) = _
  rw [after_4]
  unfold outs
  rw [(coords_eq t).2.2]

end Cert.KernelIdeal.Attn

end
-- ==== Proof.Attn.Host.lean ====
/- What the host hands the attention: its four arrays at an index, of the arguments. -/
module

public import proofs.«01_k».proof.Proof.Gen.KernelIdeal.Frame
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe

variable (m : (ℓ : Loc nD τ sig) → Buf (Elt Ideal) ℓ) (c : Dev nD)

/-- The arguments, as arrays of extended reals. -/
abbrev argQ : S2x8192x32x192.Idx → EReal := m ((c : Thread nD τ).loc main_arg0)
abbrev argK : S2x8192x32x192.Idx → EReal := m ((c : Thread nD τ).loc main_arg1)
abbrev argV : S2x8192x32x128.Idx → EReal := m ((c : Thread nD τ).loc main_arg2)
abbrev argG : S2x8192x4096.Idx → EReal := m ((c : Thread nD τ).loc main_arg3)

/-- The scale, as the host computes it. -/
def scale : EReal := Ideal.div 1 (Ideal.sqrt (Ideal.ofBits .f32 0x43400000#32) * Ideal.log (Ideal.ofBits .f32 0x40000000#32))

theorem hostQ (b : Fin 2) (h : Fin 32) (d : Fin 192) (r : Fin 8192) :
    (V m c main_v7 : S2x32x192x8192.Idx → EReal) (ix4 b h d r) = argQ m c (ix4 b r h d) * scale := by
  dsimp only [V, hostOps0]
  after_results
  pointwise
  rfl

theorem hostK (b : Fin 2) (h : Fin 32) (r : Fin 8192) (d : Fin 192) :
    (V m c main_v9 : S2x32x8192x192.Idx → EReal) (ix4 b h r d) = argK m c (ix4 b r h d) := by
  dsimp only [V, hostOps0]
  after_results
  pointwise

theorem hostV (b : Fin 2) (h : Fin 32) (e : Fin 144) (r : Fin 8192) (he : e.val < 128) :
    (V m c main_v13 : S2x32x144x8192.Idx → EReal) (ix4 b h e r) = argV m c (ix4 b r h ⟨e.val, he⟩) := by
  dsimp only [V, hostOps0]
  after_results
  pointwise
  rw [dif_pos he]

theorem hostOne (b : Fin 2) (h : Fin 32) (r : Fin 8192) :
    (V m c main_v13 : S2x32x144x8192.Idx → EReal) (ix4 b h 128 r) = (1 : EReal) := by
  dsimp only [V, hostOps0]
  after_results
  pointwise

theorem hostG (r : Fin 16384) (x : Fin 4096) :
    (V m c main_v15 : S16384x4096.Idx → EReal) (ix2 r x)
      = argG m c (ix3 ⟨r.val / 8192, by have := r.isLt; omega⟩ ⟨r.val % 8192, by omega⟩ x) := by
  dsimp only [V, hostOps0]
  after_results
  pointwise

end Cert.KernelIdeal.Attn

end
-- ==== Proof.Attn.Ref.lean ====
/- The reference at an index: the softmax of the scores by the values, by the gate. -/
module

public import proofs.«01_k».proof.Proof.Gen.ReferenceIdeal.Read
public import proofs.«01_k».proof.Proof.Attn.Online
public import Idealize.ShloMosaic.Lib.Pointwise
public import Idealize.ShloMosaic.Lib.WordCmp
public import Idealize.ShloMosaic.Lib.KernelVsHost

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe

variable (q k : S2x8192x32x192.Idx → EReal) (v : S2x8192x32x128.Idx → EReal) (g : S2x8192x4096.Idx → EReal)

/-- The reference's scale, as it computes it. -/
def rscale : EReal := Ideal.div 1 (Ideal.sqrt (Ideal.ofBits .f32 0x43400000#32))

theorem ninf_eq : Ideal.ofBits .f32 0xFF800000#32 = (⊥ : EReal) := by simp [Ideal.ofBits, Ideal.ieee]

/-- The score of a key for a query: nothing past the query. -/
def rscore (b : Fin 2) (h : Fin 32) (r j : Fin 8192) : EReal :=
  if j.val ≤ r.val then (∑ d : Fin 192, q (ix4 b r h d) * k (ix4 b j h d)) * rscale else ⊥

theorem v12_eq (b : Fin 2) (h : Fin 32) (r j : Fin 8192) :
    val_main_v12 (F := Ideal) q k (ix4 b h r j) = rscore q k b h r j := by
  pointwise [val_main_v12, val_main_call0_v1, val_main_v11, val_main_v10, val_main_v8, val_main_v9, val_main_v6, val_main_v7, val_main_v5,
    val_main_v4, val_main_v0, val_main_v3, val_main_v2, val_main_cst_0, val_main_v1, val_main_cst, val_main_call0_v2, val_main_call0_v0, val_main_cst_1, ninf_eq]
  rw [WordCmp.cmpi_sle_ofNat (by have := j.isLt; omega) (by have := r.isLt; omega)]
  change Scalar.select _ _ (Ideal.ofBits .f32 0xFF800000#32 : EReal) = _
  rw [ninf_eq]
  pointwise
  rfl

/-- The reference's row maximum. -/
def rmax (b : Fin 2) (h : Fin 32) (r : Fin 8192) : EReal :=
  max ⊥ (Finset.univ.fold max (⊥ : EReal) fun j : Fin 8192 => rscore q k b h r j)

theorem fold_eq {n : ℕ} {z : EReal} (hz : z = ⊥) {f f' : Fin n → EReal} (hf : ∀ j, f j = f' j) :
    (Finset.univ : Finset (Fin n)).fold max z f = Finset.univ.fold max ⊥ f' := by
  rw [hz, funext hf]

/-- The maximum over the keys of any array of scores. -/
theorem max_eq (y : FVec Ideal S2x32x8192x8192 .f32) (b : Fin 2) (h : Fin 32) (r : Fin 8192) :
    Host.reduce FloatOps.maximumf y (constant S_ .f32 0xFF800000#32 : FVec Ideal S_ .f32) reducesTo_S2x32x8192x8192_S2x32x8192_d3 h_S_ (ix3 b h r)
      = Finset.univ.fold max (⊥ : EReal) fun j : Fin 8192 => (y (ix4 b h r j) : EReal) := by
  have h' : S2x32x8192x8192.Reduces [3] S2x32x8192 := by decide
  rw [hostReduce_maximumf_eq_multiReduction (F := Ideal) (φ := .f32) y 0xFF800000#32 reducesTo_S2x32x8192x8192_S2x32x8192_d3 h_S_ h' (by decide) (by decide)]
  rw [Ideal.multiReduction_maximumf_single]
  refine fold_eq (n := 8192) ninf_eq fun j => ?_
  exact congrArg y (funext fun a => Fin.ext (by match a with | ⟨0, _⟩ => rfl | ⟨1, _⟩ => rfl | ⟨2, _⟩ => rfl | ⟨3, _⟩ => rfl))

theorem v13_eq (b : Fin 2) (h : Fin 32) (r : Fin 8192) :
    val_main_v13 (F := Ideal) q k (ix3 b h r) = Finset.univ.fold max (⊥ : EReal) fun j : Fin 8192 => rscore q k b h r j := by
  unfold val_main_v13 val_main_cst_2
  have hy : ∀ j, val_main_v12 (F := Ideal) q k (ix4 b h r j) = rscore q k b h r j := v12_eq q k b h r
  generalize val_main_v12 (F := Ideal) q k = y at hy ⊢
  rw [← funext hy]
  exact max_eq y b h r

theorem v14_eq (i : S2x32x8192.Idx) : val_main_v14 (F := Ideal) i = (⊥ : EReal) := by
  rw [val_main_v14_apply, val_main_cst_3_apply]
  exact ninf_eq

theorem v15_eq (b : Fin 2) (h : Fin 32) (r : Fin 8192) :
    val_main_v15 (F := Ideal) q k (ix3 b h r) = rmax q k b h r := by
  rw [val_main_v15_apply, v14_eq, v13_eq]
  rfl

theorem v19_eq (b : Fin 2) (h : Fin 32) (r j : Fin 8192) :
    val_main_v19 (F := Ideal) q k (ix4 b h r j) = Ideal.exp (rscore q k b h r j - rmax q k b h r) := by
  pointwise [val_main_v19, val_main_v18, val_main_v17, val_main_v16, v12_eq, v15_eq]

theorem v23_eq (b : Fin 2) (h : Fin 32) (r j : Fin 8192) :
    val_main_v23 (F := Ideal) q k (ix4 b h r j) = Ideal.div (Ideal.exp (rscore q k b h r j - rmax q k b h r))
      (∑ j : Fin 8192, Ideal.exp (rscore q k b h r j - rmax q k b h r)) := by
  pointwise [val_main_v23, val_main_v22, val_main_v21, val_main_v20, val_main_cst_4, v19_eq]

theorem v29_eq (b : Fin 2) (h : Fin 32) (r : Fin 8192) (d : Fin 128) (R : Fin 16384) (X : Fin 4096)
    (hR : R.val = b.val * 8192 + r.val) (hX : X.val = h.val * 128 + d.val) :
    val_main_v29 (F := Ideal) q k v g (ix2 R X) = (∑ j : Fin 8192, v (ix4 b j h d) * Ideal.div (Ideal.exp (rscore q k b h r j - rmax q k b h r))
      (∑ j : Fin 8192, Ideal.exp (rscore q k b h r j - rmax q k b h r))) * g (ix3 b r X) := by
  pointwise [val_main_v29, val_main_v28, val_main_v27, val_main_v26, val_main_v25, val_main_v24, v23_eq]
  have e1 : ∀ p, (⟨R.val / 8192, p⟩ : Fin 2) = b := fun _ => Fin.ext (by show R.val / 8192 = b.val; have := r.isLt; omega)
  have e2 : ∀ p, (⟨R.val % 8192, p⟩ : Fin 8192) = r := fun _ => Fin.ext (by show R.val % 8192 = r.val; have := r.isLt; omega)
  have e3 : ∀ p, (⟨X.val / 128, p⟩ : Fin 32) = h := fun _ => Fin.ext (by show X.val / 128 = h.val; have := d.isLt; omega)
  have e4 : ∀ p, (⟨X.val % 128, p⟩ : Fin 128) = d := fun _ => Fin.ext (by show X.val % 128 = d.val; have := d.isLt; omega)
  simp only [e1, e2, e3, e4]

end Cert.ReferenceIdeal.Attn

end
-- ==== Proof.Attn.Value.lean ====
/- The attention's value: what the kernel writes is what the reference computes. -/
module

public import proofs.«01_k».proof.Proof.Attn.Rows
public import proofs.«01_k».proof.Proof.Attn.Blocks
public import proofs.«01_k».proof.Proof.Attn.Host
public import proofs.«01_k».proof.Proof.Attn.Run
public import proofs.«01_k».proof.Proof.Attn.Ref
public import proofs.«01_k».proof.Proof.Attn.Online

@[expose] public section

set_option maxRecDepth 16384

noncomputable section

namespace Cert.KernelIdeal.Attn

open Cert.KernelIdeal Cert.KernelIdeal.Gen
open Idealize.ShloMosaic Idealize.ShloMosaic.TcCoe
open Cert.ReferenceIdeal.Attn (rscale rscore rmax v29_eq)

theorem head_eq : Ideal.ofBits .f32 0x43400000#32 = ((192 : ℝ) : EReal) := by
  simp [Ideal.ofBits, Ideal.ieee]
  rw [← EReal.coe_mul]; norm_num

theorem two_eq : Ideal.ofBits .f32 0x40000000#32 = ((2 : ℝ) : EReal) := by
  simp [Ideal.ofBits, Ideal.ieee]
  rw [← EReal.coe_mul]; norm_num

theorem log_two_ne : Real.log 2 ≠ 0 := (Real.log_pos (by norm_num)).ne'
theorem sqrt_ne : Real.sqrt 192 ≠ 0 := (Real.sqrt_pos.2 (by norm_num)).ne'

theorem rscale_eq : rscale = (((Real.sqrt 192)⁻¹ : ℝ) : EReal) := by
  unfold rscale
  rw [head_eq, Ideal.sqrt_coe, if_neg (by norm_num), div_coe _ sqrt_ne, one_mul]

theorem scale_eq : scale = (((Real.sqrt 192 * Real.log 2)⁻¹ : ℝ) : EReal) := by
  unfold scale
  rw [head_eq, two_eq, Ideal.sqrt_coe, if_neg (by norm_num), Ideal.log_coe, if_neg (by norm_num), ← EReal.coe_mul,
    div_coe _ (mul_ne_zero sqrt_ne log_two_ne), one_mul]

theorem key_val (j : Fin 8192) : key j.val = j := Fin.ext (Nat.mod_eq_of_lt j.isLt)

variable (qr kr : S2x8192x32x192.Idx → ℝ)

/-- A score, scaled for powers of two. -/
def sig2 (b : Fin 2) (h : Fin 32) (r : Fin 8192) (j : ℕ) : ℝ :=
  (∑ d : Fin 192, qr (ix4 b r h d) * kr (ix4 b (key j) h d)) * (Real.sqrt 192 * Real.log 2)⁻¹

/-- The reference's score, by the same number. -/
theorem rscore_eq (q k : S2x8192x32x192.Idx → EReal) (hq : ∀ i, q i = ((qr i : ℝ) : EReal)) (hk : ∀ i, k i = ((kr i : ℝ) : EReal))
    (b : Fin 2) (h : Fin 32) (r j : Fin 8192) :
    rscore q k b h r j = if j.val ≤ r.val then ((sig2 qr kr b h r j.val * Real.log 2 : ℝ) : EReal) else ⊥ := by
  unfold rscore
  congr 1
  simp only [hq, hk, ← EReal.coe_mul, coe_sum, rscale_eq]
  refine congrArg _ ?_
  unfold sig2
  rw [key_val, mul_inv, mul_assoc _ (_ * _) _, mul_assoc (Real.sqrt 192)⁻¹, inv_mul_cancel₀ log_two_ne, mul_one]

theorem rmax_real (q k : S2x8192x32x192.Idx → EReal) (hq : ∀ i, q i = ((qr i : ℝ) : EReal)) (hk : ∀ i, k i = ((kr i : ℝ) : EReal))
    (b : Fin 2) (h : Fin 32) (r : Fin 8192) : ∃ M : ℝ, rmax q k b h r = (M : EReal) := by
  unfold rmax
  refine real_max (by simp) (fold_max_ne_top _ fun j => ?_) (Or.inr (fold_max_ne_bot _ 0 ?_))
  · rw [rscore_eq qr kr q k hq hk]
    split
    · exact EReal.coe_ne_top _
    · simp
  · rw [rscore_eq qr kr q k hq hk, if_pos (show ((0 : Fin 8192)).val ≤ r.val from Nat.zero_le _)]
    exact EReal.coe_ne_bot _

variable (m : (ℓ : Loc nD τ sig) → Buf (Elt Ideal) ℓ) (c : Dev nD)

theorem sc_eq (hq : ∀ i, argQ m c i = ((qr i : ℝ) : EReal)) (hk : ∀ i, argK m c i = ((kr i : ℝ) : EReal)) (t : Fin cfg0.N) (x : Fin 1024) (j : ℕ) :
    sc (iblk m c 0 t) (iblk m c 1 t) x j = ((sig2 qr kr (bOf t) (hOf t) (rOf t x) j : ℝ) : EReal) := by
  unfold sc
  have e1 : ∀ d : Fin 192, @Eq EReal (iblk m c 1 t (ix4 0 0 (key j) d)) ((kr (ix4 (bOf t) (key j) (hOf t) d) : ℝ) : EReal) := fun d =>
    (blk1 m c t (key j) d).trans ((hostK m c _ _ _ _).trans (hk _))
  have e0 : ∀ d : Fin 192, @Eq EReal (iblk m c 0 t (ix4 0 0 d x)) ((qr (ix4 (bOf t) (rOf t x) (hOf t) d) * (Real.sqrt 192 * Real.log 2)⁻¹ : ℝ) : EReal) := fun d =>
    (blk0 m c t d x).trans ((hostQ m c _ _ _ _).trans (by rw [hq, scale_eq, EReal.coe_mul]))
  refine (Finset.sum_congr rfl fun d _ => (congrArg₂ (fun a b : EReal => a * b) (e1 d) (e0 d)).trans (EReal.coe_mul _ _).symm).trans ?_
  rw [coe_sum]
  refine congrArg _ ?_
  unfold sig2
  rw [Finset.sum_mul]
  exact Finset.sum_congr rfl fun d _ => by ring

/-- The kernel's result: the reference's. -/
theorem value (hq : ∀ i, argQ m c i = ((qr i : ℝ) : EReal)) (hk : ∀ i, argK m c i = ((kr i : ℝ) : EReal)) :
    (dats m 0 c).arrAt 4 cfg0.N = Cert.ReferenceIdeal.Read.val_main_v29 (F := Ideal) (argQ m c) (argK m c) (argV m c) (argG m c) := by
  refine final4 m c _ fun t x d => ?_
  have ht := lt_N t
  have hsc := sc_eq qr kr m c hq hk t x
  have h1 : ∀ j, vrow (iblk m c 2 t) 128 j = (1 : EReal) := fun j => (blk2 m c t 128 (key j)).trans (hostOne m c _ _ _)
  obtain ⟨μ, hμ⟩ := out_apply (Q := iblk m c 0 t) (K := iblk m c 1 t) (V := iblk m c 2 t) (i := t.val % 8) (by omega) x
    (fun j => by rw [hsc]; exact EReal.coe_ne_top _) (by rw [hsc]; exact EReal.coe_ne_bot _) (iblk m c 3 t) d h1
  obtain ⟨M, hM⟩ := rmax_real qr kr (argQ m c) (argK m c) hq hk (bOf t) (hOf t) (rOf t x)
  rw [hμ, v29_eq (argQ m c) (argK m c) (argV m c) (argG m c) (bOf t) (hOf t) (rOf t x) d (rowOf t x) (colOf t d)
    (by show (t.val / 256 * 8 + t.val % 8) * 1024 + x.val = t.val / 256 * 8192 + (t.val % 8 * 1024 + x.val); omega) rfl, hM]
  have hg : ((iblk m c 3 t : S1024x128.Idx → EReal) (ix2 x d) : EReal) = argG m c (ix3 (bOf t) (rOf t x) (colOf t d)) := by
    refine (blk3 m c t x d).trans ((hostG m c (rowOf t x) (colOf t d)).trans ?_)
    have hx := x.isLt
    have e1 : ∀ p, (⟨(rowOf t x).val / 8192, p⟩ : Fin 2) = bOf t := fun _ => Fin.ext (by
      show ((t.val / 256 * 8 + t.val % 8) * 1024 + x.val) / 8192 = t.val / 256; omega)
    have e2 : ∀ p, (⟨(rowOf t x).val % 8192, p⟩ : Fin 8192) = rOf t x := fun _ => Fin.ext (by
      show ((t.val / 256 * 8 + t.val % 8) * 1024 + x.val) % 8192 = t.val % 8 * 1024 + x.val; omega)
    rw [e1, e2]
  refine congrArg₂ (fun a b : EReal => a * b) ?_ hg
  have hx := x.isLt
  have hv : ∀ j, vrow (iblk m c 2 t) ⟨d.val, by have := d.isLt; omega⟩ j = argV m c (ix4 (bOf t) (key j) (hOf t) d) := fun j =>
    (blk2 m c t ⟨d.val, by have := d.isLt; omega⟩ (key j)).trans (hostV m c _ _ _ _ d.isLt)
  have hfin := finish (S := score (iblk m c 0 t) (iblk m c 1 t) (t.val % 8) x)
    (T := fun j => if j ≤ 1024 * (t.val % 8) + x.val then ((sig2 qr kr (bOf t) (hOf t) (rOf t x) j * Real.log 2 : ℝ) : EReal) else ⊥)
    (v := fun j => argV m c (ix4 (bOf t) (key j) (hOf t) d))
    (σ := sig2 qr kr (bOf t) (hOf t) (rOf t x)) (r := 1024 * (t.val % 8) + x.val) (N := 8192) (by omega)
    (fun j => by unfold score; rw [hsc]) (fun j => rfl) μ M
  simp only [hv]
  refine hfin.trans ?_
  have hT : ∀ j : Fin 8192, (if j.val ≤ 1024 * (t.val % 8) + x.val then ((sig2 qr kr (bOf t) (hOf t) (rOf t x) j.val * Real.log 2 : ℝ) : EReal) else ⊥)
      = rscore (argQ m c) (argK m c) (bOf t) (hOf t) (rOf t x) j := fun j => by
    rw [rscore_eq qr kr _ _ hq hk, show (rOf t x).val = 1024 * (t.val % 8) + x.val from by show t.val % 8 * 1024 + x.val = _; omega]
  rw [Finset.sum_range, Finset.sum_range]
  simp only [hT, key_val]

end Cert.KernelIdeal.Attn

end
-- ==== Proof.Attn.Pre.lean ====
/- The precondition read at an index: every query and every key is a real number. -/
module

public import proofs.«01_k».proof.Pre_finite_scores
public import Idealize.ShloMosaic.PureOps.Ideal
public import Idealize.ShloMosaic.Lib.ReduceAll

@[expose] public section

noncomputable section

namespace Cert.Pre_finite_scores

open Idealize.ShloMosaic

theorem facts : Facts where
  bcast_S_S2x8192x32x192 := by decide
  reducesTo_S2x8192x32x192_S_d0_1_2_3 := by decide
  h_S_ := by decide

instance : Subsingleton S_.Idx := ⟨fun a b => funext fun i => i.elim0⟩

theorem pinf_eq : Ideal.ofBits .f32 0x7F800000#32 = (⊤ : EReal) := by simp [Ideal.ofBits, Ideal.ieee]

/-- A number whose absolute value is below infinity is real. -/
theorem real_of_lt {x : EReal} (h : FloatOps.cmpf (F := Ideal) .olt (φ := .f32) (FloatOps.absf (F := Ideal) (φ := .f32) x) (Ideal.ofBits .f32 0x7F800000#32) = 1#1) :
    ∃ r : ℝ, x = ↑r := by
  rw [pinf_eq] at h
  induction x with
  | coe r => exact ⟨r, rfl⟩
  | bot => exact absurd h (by simp [FloatOps.cmpf, FloatOps.absf, Ideal.cmp])
  | top => exact absurd h (by simp [FloatOps.cmpf, FloatOps.absf, Ideal.cmp])

variable [Facts]

theorem real (q k : S2x8192x32x192.Idx → EReal) (v : S2x8192x32x128.Idx → EReal) (g : S2x8192x4096.Idx → EReal)
    (h : fn (F := Ideal) q k v g = fun _ => 1#1) : (∀ i, ∃ r : ℝ, q i = ↑r) ∧ ∀ i, ∃ r : ℝ, k i = ↑r := by
  have h0 := congrFun h (Shape.Idx.first Facts.h_S_)
  dsimp only [fn] at h0
  obtain ⟨hq, hk⟩ := IntOp.andi_eq_one.1 h0
  exact ⟨fun i => real_of_lt (Host.reduce_andi_all _ _ _ _ _ hq i), fun i => real_of_lt (Host.reduce_andi_all _ _ _ _ _ hk i)⟩

end Cert.Pre_finite_scores

end
-- ==== Proof.In.Blocks.lean ====
/- The blocks a point of the input projection's call is handed, at an index; and its result, when every point leaves its
   block of it. -/
module

public import proofs.«01_k».proof.Proof.Gen.InIdeal.Value
public import Idealize.ShloMosaic.Lib.Pointwise
public import Idealize.ShloMosaic.Lib.Pipeline.Value
public import Idealize.ShloMosaic.Lib.Pipeline.ValueKit

@[expose] public section

set_option maxRecDepth 16384

noncomputable section

namespace Cert.InIdeal.Mat

open Cert.InIdeal Cert.InIdeal.Gen
open Idealize.ShloMosaic Idealize.ShloMosaic.TcCoe

variable (m : (ℓ : Loc nD τ sig) → Buf (Elt Ideal) ℓ) (c : Dev nD)

theorem lt_N (t : Fin cfg0.N) : t.val < 256 := lt_of_lt_of_eq t.isLt (show cfg0.N = 256 from N_0)

theorem idx0 : ∀ t : Fin grid0.N, win0_0.index t 0 = t.val / 16 ∧ win0_0.index t 1 = 0 := by decide +kernel
theorem idx1 : ∀ t : Fin grid0.N, win0_1.index t 0 = 0 ∧ win0_1.index t 1 = t.val % 16 := by decide +kernel
theorem idx2 : ∀ t : Fin grid0.N, win0_2.index t 0 = t.val / 16 ∧ win0_2.index t 1 = 0 := by decide +kernel
theorem idx3 : ∀ t : Fin grid0.N, win0_3.index t 0 = t.val / 16 ∧ win0_3.index t 1 = t.val % 16 := by decide +kernel

/-- The row and the column of the arrays at a row and a column of a point's block. -/
def rowOf (t : Fin cfg0.N) (x : Fin 1024) : Fin 16384 := ⟨t.val / 16 * 1024 + x.val, by have := lt_N t; have := x.isLt; omega⟩
def colOf (t : Fin cfg0.N) (y : Fin 1024) : Fin 16384 := ⟨t.val % 16 * 1024 + y.val, by have := y.isLt; omega⟩

/-- The three arrays the host hands the call, as arrays of extended reals. -/
abbrev arrX : S16384x4096.Idx → EReal := V m c main_v4
abbrev arrW : S4096x16384.Idx → EReal := V m c main_v13
abbrev arrS : S16384x1.Idx → EReal := V m c main_v12

theorem blk0 (t : Fin cfg0.N) (x : Fin 1024) (k : Fin 4096) :
    (iblk m c 0 t : S1024x4096.Idx → EReal) (ix2 x k) = (V m c main_v4 : S16384x4096.Idx → EReal) (ix2 (rowOf t x) k) := by
  obtain ⟨e0, e1⟩ := idx0 t
  refine congrArg (V m c main_v4 : S16384x4096.Idx → EReal) (funext fun a => Fin.ext ?_)
  match a with
  | ⟨0, _⟩ => show win0_0.index t 0 * 1024 + 1 * x.val = t.val / 16 * 1024 + x.val; rw [e0]; omega
  | ⟨1, _⟩ => show win0_0.index t 1 * 4096 + 1 * k.val = k.val; rw [e1]; omega

theorem blk1 (t : Fin cfg0.N) (k : Fin 4096) (y : Fin 1024) :
    (iblk m c 1 t : S4096x1024.Idx → EReal) (ix2 k y) = (V m c main_v13 : S4096x16384.Idx → EReal) (ix2 k (colOf t y)) := by
  obtain ⟨e0, e1⟩ := idx1 t
  refine congrArg (V m c main_v13 : S4096x16384.Idx → EReal) (funext fun a => Fin.ext ?_)
  match a with
  | ⟨0, _⟩ => show win0_1.index t 0 * 4096 + 1 * k.val = k.val; rw [e0]; omega
  | ⟨1, _⟩ => show win0_1.index t 1 * 1024 + 1 * y.val = t.val % 16 * 1024 + y.val; rw [e1]; omega

theorem blk2 (t : Fin cfg0.N) (x : Fin 1024) (z : Fin 1) :
    (iblk m c 2 t : S1024x1.Idx → EReal) (ix2 x z) = (V m c main_v12 : S16384x1.Idx → EReal) (ix2 (rowOf t x) z) := by
  obtain ⟨e0, e1⟩ := idx2 t
  refine congrArg (V m c main_v12 : S16384x1.Idx → EReal) (funext fun a => Fin.ext ?_)
  match a with
  | ⟨0, _⟩ => show win0_2.index t 0 * 1024 + 1 * x.val = t.val / 16 * 1024 + x.val; rw [e0]; omega
  | ⟨1, _⟩ => show win0_2.index t 1 * 1 + 1 * z.val = z.val; rw [e1]; omega

/-- Where an index of a point's block of results lies in the result. -/
theorem emb3 (t : Fin cfg0.N) (x : Fin 1024) (y : Fin 1024) :
    ((cfg0.win 3).blk t).view.emb (ix2 x y : S1024x1024.Idx) = (ix2 (rowOf t x) (colOf t y) : S16384x16384.Idx) := by
  obtain ⟨e0, e1⟩ := idx3 t
  refine funext fun a => Fin.ext ?_
  match a with
  | ⟨0, _⟩ => show win0_3.index t 0 * 1024 + 1 * x.val = t.val / 16 * 1024 + x.val; rw [e0]; omega
  | ⟨1, _⟩ => show win0_3.index t 1 * 1024 + 1 * y.val = t.val % 16 * 1024 + y.val; rw [e1]; omega

theorem out_eq (x0 : Vec Ideal S1024x4096 .bf16) (x1 : Vec Ideal S4096x1024 .bf16) (x2 : Vec Ideal S1024x1 .f32) :
    out0_3 (F := Ideal) x0 x1 x2 = k0_pay1 (F := Ideal) x0 x1 x2 := by
  have hz3 : (![0, 0] : Fin S1024x1024.rank → Nat) = fun _ => 0 := funext fun a => by fin_cases a <;> rfl
  have hz0 : (![0, 0] : Fin S1024x4096.rank → Nat) = fun _ => 0 := funext fun a => by fin_cases a <;> rfl
  have hz1 : (![0, 0] : Fin S4096x1024.rank → Nat) = fun _ => 0 := funext fun a => by fin_cases a <;> rfl
  have hz2 : (![0, 0] : Fin S1024x1.rank → Nat) = fun _ => 0 := funext fun a => by fin_cases a <;> rfl
  unfold out0_3
  rw [View.canon_unit_zero hz3, View.ld_unit_zero hz0, View.ld_unit_zero hz1, View.ld_unit_zero hz2]

/-- What a point's body writes at an index of its block. -/
theorem pay_eq (x0 : Vec Ideal S1024x4096 .bf16) (x1 : Vec Ideal S4096x1024 .bf16) (x2 : Vec Ideal S1024x1 .f32)
    (x : Fin 1024) (y : Fin 1024) :
    (k0_pay1 (F := Ideal) x0 x1 x2 : S1024x1024.Idx → EReal) (ix2 x y)
      = (∑ k : Fin 4096, (x0 : S1024x4096.Idx → EReal) (ix2 x k) * (x1 : S4096x1024.Idx → EReal) (ix2 k y))
        * (x2 : S1024x1.Idx → EReal) (ix2 x 0) := by
  pointwise [k0_pay1]

/-- The result array after the run is `G`, if every point leaves its block of `G`. -/
theorem final3 (G : S16384x16384.Idx → EReal)
    (hG : ∀ (t : Fin cfg0.N) (x : Fin 1024) (y : Fin 1024),
      (∑ k : Fin 4096, arrX m c (ix2 (rowOf t x) k) * arrW m c (ix2 k (colOf t y))) * arrS m c (ix2 (rowOf t x) 0) = G (ix2 (rowOf t x) (colOf t y))) :
    (dats m 0 c).arrAt 3 cfg0.N = G := by
  refine (dats m 0 c).arrAt_eq_of_covers 3 G (by decide +kernel) fun t hf i => ?_
  obtain ⟨x, y, rfl⟩ : ∃ (x : Fin 1024) (y : Fin 1024), i = (ix2 x y : S1024x1024.Idx) := ⟨i 0, i 1, eq_ix2 (n0 := 1024) (n1 := 1024) i⟩
  refine Eq.trans ?_ ((hG t x y).trans (congrArg G (emb3 t x y)).symm)
  show (dats m 0 c).after 3 t (ix2 x y : S1024x1024.Idx) = _
  rw [after0_3, out_eq]
  refine (pay_eq _ _ _ x y).trans ?_
  refine congrArg₂ (fun a b : EReal => a * b) (Finset.sum_congr rfl fun k _ => ?_) (blk2 m c t x 0)
  exact congrArg₂ (fun a b : EReal => a * b) (blk0 m c t x k) (blk1 m c t k y)

end Cert.InIdeal.Mat

end
-- ==== Proof.In.Host.lean ====
/- The arrays the host hands the input projection's call, at an index, of the arguments. -/
module

public import proofs.«01_k».proof.Proof.In.Blocks

@[expose] public section

set_option maxRecDepth 16384

noncomputable section

namespace Cert.InIdeal.Mat

open Cert.InIdeal Cert.InIdeal.Gen
open Idealize.ShloMosaic Idealize.ShloMosaic.TcCoe

variable (m : (ℓ : Loc nD τ sig) → Buf (Elt Ideal) ℓ) (c : Dev nD)

/-- The arguments, as arrays of extended reals. -/
abbrev argX : S2x8192x4096.Idx → EReal := m ((c : Thread nD τ).loc main_arg0)
abbrev argG : S4096.Idx → EReal := m ((c : Thread nD τ).loc main_arg1)
abbrev argW : S4096x16384.Idx → EReal := m ((c : Thread nD τ).loc main_arg2)

/-- A row's batch and position. -/
def bat (r : Fin 16384) : Fin 2 := ⟨r.val / 8192, by have := r.isLt; omega⟩
def pos (r : Fin 16384) : Fin 8192 := ⟨r.val % 8192, by omega⟩

theorem hostX (r : Fin 16384) (k : Fin 4096) :
    arrX m c (ix2 r k) = argX m c (ix3 (bat r) (pos r) k) * argG m c (ix1 k) := by
  dsimp only [arrX, V, hostOps0]
  after_results
  pointwise
  rfl

theorem hostW (k : Fin 4096) (y : Fin 16384) : arrW m c (ix2 k y) = argW m c (ix2 k y) := by
  dsimp only [arrW, V, hostOps0]
  after_results
  pointwise

theorem hostS (r : Fin 16384) :
    arrS m c (ix2 r 0) = Ideal.rsqrt ((∑ k : Fin 4096, argX m c (ix3 (bat r) (pos r) k) * argX m c (ix3 (bat r) (pos r) k))
        * Ideal.ofBits .f32 0x39800000#32 + Ideal.ofBits .f32 0x358637BD#32) := by
  dsimp only [arrS, V, hostOps0]
  after_results
  pointwise
  rfl

end Cert.InIdeal.Mat

end
-- ==== Proof.In.Ref.lean ====
/- The input projection's reference, at an index. -/
module

public import proofs.«01_k».proof.Proof.Gen.InRefIdeal.Read
public import Idealize.ShloMosaic.Lib.Pointwise

@[expose] public section

set_option maxRecDepth 16384

noncomputable section

namespace Cert.InRefIdeal.Mat

open Cert.InRefIdeal Cert.InRefIdeal.Gen Cert.InRefIdeal.Read
open Idealize.ShloMosaic Idealize.ShloMosaic.TcCoe

/-- A row's batch and position. -/
def bat (r : Fin 16384) : Fin 2 := ⟨r.val / 8192, by have := r.isLt; omega⟩
def pos (r : Fin 16384) : Fin 8192 := ⟨r.val % 8192, by omega⟩

theorem ref_eq (x : S2x8192x4096.Idx → EReal) (g : S4096.Idx → EReal) (w : S4096x16384.Idx → EReal)
    (r : Fin 16384) (y : Fin 16384) :
    (val_main_v15 (F := Ideal) x g w : S16384x16384.Idx → EReal) (ix2 r y)
      = ∑ k : Fin 4096, x (ix3 (bat r) (pos r) k) * Ideal.rsqrt (Ideal.div (∑ j : Fin 4096, x (ix3 (bat r) (pos r) j) * x (ix3 (bat r) (pos r) j))
          (Ideal.ofBits .f32 0x45800000#32) + Ideal.ofBits .f32 0x358637BD#32) * g (ix1 k) * w (ix2 k y) := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.InRefIdeal.Mat

end
-- ==== Proof.In.Norm.lean ====
/- The inverse root mean square over the extended reals: it is a nonnegative real whatever the values are, so it goes into
   and out of a sum. -/
module

public import proofs.«01_k».proof.Proof.Attn.Online

@[expose] public section

noncomputable section

namespace Cert.Norm

open Idealize.ShloMosaic

theorem c4096 : Ideal.ofBits .f32 0x45800000#32 = ((4096 : ℝ) : EReal) := by
  simp [Ideal.ofBits, Ideal.ieee]
  rw [← EReal.coe_mul]
  norm_num

theorem cinv : Ideal.ofBits .f32 0x39800000#32 = (((4096 : ℝ)⁻¹ : ℝ) : EReal) := by
  simp [Ideal.ofBits, Ideal.ieee]
  rw [← EReal.coe_mul]
  norm_num

theorem ceps : ∃ e : ℝ, 0 < e ∧ Ideal.ofBits .f32 0x358637BD#32 = (e : EReal) := by
  refine ⟨(8796093 : ℝ) * (2 ^ 43)⁻¹, by positivity, ?_⟩
  simp [Ideal.ofBits, Ideal.ieee]

/-- Dividing by the width is scaling by its inverse. -/
theorem mean_eq (S : EReal) : Ideal.div S (Ideal.ofBits .f32 0x45800000#32) = S * Ideal.ofBits .f32 0x39800000#32 := by
  rw [c4096, cinv, Cert.KernelIdeal.Attn.div_coe S (by norm_num)]

/-- A sum of squares is nonnegative. -/
theorem sq_nonneg' (x : EReal) : 0 ≤ x * x := by
  rcases le_total 0 x with h | h
  · exact mul_nonneg h h
  · have h' : 0 ≤ -x := EReal.neg_nonneg.mpr h
    have := mul_nonneg h' h'
    rwa [neg_mul_neg] at this

theorem sumsq_nonneg {ι : Type} (s : Finset ι) (f : ι → EReal) : 0 ≤ ∑ i ∈ s, f i * f i :=
  Finset.sum_nonneg fun i _ => sq_nonneg' (f i)

/-- The inverse root of a nonnegative mean plus the epsilon is a nonnegative real. -/
theorem rsqrt_real (S : EReal) (h : 0 ≤ S) :
    ∃ ρ : ℝ, 0 ≤ ρ ∧ Ideal.rsqrt (S * Ideal.ofBits .f32 0x39800000#32 + Ideal.ofBits .f32 0x358637BD#32) = (ρ : EReal) := by
  obtain ⟨e, he, hε⟩ := ceps
  rw [cinv, hε]
  induction S with
  | bot => exact absurd h (by simp)
  | top =>
    rw [EReal.top_mul_coe_of_pos (by norm_num), EReal.top_add_coe]
    exact ⟨0, le_refl _, rfl⟩
  | coe s =>
    have hs : 0 ≤ s := by exact_mod_cast h
    have hp : 0 < s * (4096 : ℝ)⁻¹ + e := by positivity
    refine ⟨(Real.sqrt (s * (4096 : ℝ)⁻¹ + e))⁻¹, by positivity, ?_⟩
    rw [← EReal.coe_mul, ← EReal.coe_add]
    show (if s * (4096 : ℝ)⁻¹ + e < 0 then (⊥ : EReal) else if s * (4096 : ℝ)⁻¹ + e = 0 then ⊤ else _) = _
    rw [if_neg (not_lt.mpr hp.le), if_neg hp.ne']

/-- The norm of the rows before the projection, and after it. -/
theorem norm_out {n : ℕ} (x g w : Fin n → EReal) (S : EReal) (h : 0 ≤ S) :
    (∑ k : Fin n, x k * g k * w k) * Ideal.rsqrt (S * Ideal.ofBits .f32 0x39800000#32 + Ideal.ofBits .f32 0x358637BD#32)
      = ∑ k : Fin n, x k * Ideal.rsqrt (Ideal.div S (Ideal.ofBits .f32 0x45800000#32) + Ideal.ofBits .f32 0x358637BD#32)
          * g k * w k := by
  rw [mean_eq]
  obtain ⟨ρ, hρ, e⟩ := rsqrt_real S h
  rw [e, mul_comm, Cert.KernelIdeal.Attn.coe_mul_sum ρ hρ]
  refine Finset.sum_congr rfl fun k _ => ?_
  rw [mul_comm (x k) (ρ : EReal), mul_assoc, mul_assoc, mul_assoc]

end Cert.Norm

end
-- ==== Proof.In.Value.lean ====
/- The input projection: the call and the reference leave the same array. -/
module

public import proofs.«01_k».proof.Proof.In.Host
public import proofs.«01_k».proof.Proof.In.Ref
public import proofs.«01_k».proof.Proof.In.Norm

@[expose] public section

set_option maxRecDepth 16384

noncomputable section

namespace Cert.InIdeal.Mat

open Cert.InIdeal Cert.InIdeal.Gen
open Idealize.ShloMosaic Idealize.ShloMosaic.TcCoe

variable (m : (ℓ : Loc nD τ sig) → Buf (Elt Ideal) ℓ) (c : Dev nD)

theorem value : (dats m 0 c).arrAt 3 cfg0.N
    = (Cert.InRefIdeal.Read.val_main_v15 (F := Ideal) (argX m c) (argG m c) (argW m c) : S16384x16384.Idx → EReal) := by
  refine final3 m c _ fun t x y => ?_
  refine Eq.trans ?_ (Cert.InRefIdeal.Mat.ref_eq (argX m c) (argG m c) (argW m c) (rowOf t x) (colOf t y)).symm
  rw [hostS]
  refine Eq.trans (congrArg₂ (fun a b : EReal => a * b) (Finset.sum_congr rfl fun k _ => ?_) rfl)
    (Cert.Norm.norm_out (fun k => argX m c (ix3 (bat (rowOf t x)) (pos (rowOf t x)) k)) (fun k => argG m c (ix1 k))
      (fun k => argW m c (ix2 k (colOf t y))) _ (Cert.Norm.sumsq_nonneg Finset.univ _))
  rw [hostX, hostW]

end Cert.InIdeal.Mat

end
-- ==== Proof.Gate.Blocks.lean ====
/- The blocks a point of the gate's call is handed, at an index; and its result, when every point leaves its
   block of it. -/
module

public import proofs.«01_k».proof.Proof.Gen.GateIdeal.Value
public import Idealize.ShloMosaic.Lib.Pointwise
public import Idealize.ShloMosaic.Lib.Pipeline.Value
public import Idealize.ShloMosaic.Lib.Pipeline.ValueKit

@[expose] public section

set_option maxRecDepth 16384

noncomputable section

namespace Cert.GateIdeal.Mat

open Cert.GateIdeal Cert.GateIdeal.Gen
open Idealize.ShloMosaic Idealize.ShloMosaic.TcCoe

variable (m : (ℓ : Loc nD τ sig) → Buf (Elt Ideal) ℓ) (c : Dev nD)

theorem lt_N (t : Fin cfg0.N) : t.val < 64 := lt_of_lt_of_eq t.isLt (show cfg0.N = 64 from N_0)

theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = t.val % 4 := by decide +kernel

/-- The row and the column of the arrays at a row and a column of a point's block. -/
def rowOf (t : Fin cfg0.N) (x : Fin 1024) : Fin 16384 := ⟨t.val / 4 * 1024 + x.val, by have := lt_N t; have := x.isLt; omega⟩
def colOf (t : Fin cfg0.N) (y : Fin 1024) : Fin 4096 := ⟨t.val % 4 * 1024 + y.val, by have := y.isLt; omega⟩

/-- The two arrays the host hands the call, as arrays of extended reals. -/
abbrev arrX : S16384x4096.Idx → EReal := V m c main_v14
abbrev arrW : S4096x4096.Idx → EReal := V m c main_v16

theorem blk0 (t : Fin cfg0.N) (x : Fin 1024) (k : Fin 4096) :
    (iblk m c 0 t : S1024x4096.Idx → EReal) (ix2 x k) = (V m c main_v14 : S16384x4096.Idx → EReal) (ix2 (rowOf t x) k) := by
  obtain ⟨e0, e1⟩ := idx0 t
  refine congrArg (V m c main_v14 : S16384x4096.Idx → EReal) (funext fun a => Fin.ext ?_)
  match a with
  | ⟨0, _⟩ => show win0_0.index t 0 * 1024 + 1 * x.val = t.val / 4 * 1024 + x.val; rw [e0]; omega
  | ⟨1, _⟩ => show win0_0.index t 1 * 4096 + 1 * k.val = k.val; rw [e1]; omega

theorem blk1 (t : Fin cfg0.N) (k : Fin 4096) (y : Fin 1024) :
    (iblk m c 1 t : S4096x1024.Idx → EReal) (ix2 k y) = (V m c main_v16 : S4096x4096.Idx → EReal) (ix2 k (colOf t y)) := by
  obtain ⟨e0, e1⟩ := idx1 t
  refine congrArg (V m c main_v16 : S4096x4096.Idx → EReal) (funext fun a => Fin.ext ?_)
  match a with
  | ⟨0, _⟩ => show win0_1.index t 0 * 4096 + 1 * k.val = k.val; rw [e0]; omega
  | ⟨1, _⟩ => show win0_1.index t 1 * 1024 + 1 * y.val = t.val % 4 * 1024 + y.val; rw [e1]; omega

/-- Where an index of a point's block of results lies in the result. -/
theorem emb2 (t : Fin cfg0.N) (x : Fin 1024) (y : Fin 1024) :
    ((cfg0.win 2).blk t).view.emb (ix2 x y : S1024x1024.Idx) = (ix2 (rowOf t x) (colOf t y) : S16384x4096.Idx) := by
  obtain ⟨e0, e1⟩ := idx2 t
  refine funext fun a => Fin.ext ?_
  match a with
  | ⟨0, _⟩ => show win0_2.index t 0 * 1024 + 1 * x.val = t.val / 4 * 1024 + x.val; rw [e0]; omega
  | ⟨1, _⟩ => show win0_2.index t 1 * 1024 + 1 * y.val = t.val % 4 * 1024 + y.val; rw [e1]; omega

theorem out_eq (x0 : Vec Ideal S1024x4096 .bf16) (x1 : Vec Ideal S4096x1024 .bf16) :
    out0_2 (F := Ideal) x0 x1 = k0_pay1 (F := Ideal) x0 x1 := by
  have hz2 : (![0, 0] : Fin S1024x1024.rank → Nat) = fun _ => 0 := funext fun a => by fin_cases a <;> rfl
  have hz0 : (![0, 0] : Fin S1024x4096.rank → Nat) = fun _ => 0 := funext fun a => by fin_cases a <;> rfl
  have hz1 : (![0, 0] : Fin S4096x1024.rank → Nat) = fun _ => 0 := funext fun a => by fin_cases a <;> rfl
  unfold out0_2
  rw [View.canon_unit_zero hz2, View.ld_unit_zero hz0, View.ld_unit_zero hz1]

/-- The activation. -/
def silu (z : EReal) : EReal := z * Ideal.div 1 (1 + Ideal.exp (-z))

/-- What a point's body writes at an index of its block. -/
theorem pay_eq (x0 : Vec Ideal S1024x4096 .bf16) (x1 : Vec Ideal S4096x1024 .bf16) (x : Fin 1024) (y : Fin 1024) :
    (k0_pay1 (F := Ideal) x0 x1 : S1024x1024.Idx → EReal) (ix2 x y)
      = silu (∑ k : Fin 4096, (x0 : S1024x4096.Idx → EReal) (ix2 x k) * (x1 : S4096x1024.Idx → EReal) (ix2 k y)) := by
  unfold silu
  rw [← zero_sub]
  pointwise [k0_pay1]

/-- The result array after the run is `G`, if every point leaves its block of `G`. -/
theorem final2 (G : S16384x4096.Idx → EReal)
    (hG : ∀ (t : Fin cfg0.N) (x : Fin 1024) (y : Fin 1024),
      silu (∑ k : Fin 4096, arrX m c (ix2 (rowOf t x) k) * arrW m c (ix2 k (colOf t y))) = G (ix2 (rowOf t x) (colOf t y))) :
    (dats m 0 c).arrAt 2 cfg0.N = G := by
  refine (dats m 0 c).arrAt_eq_of_covers 2 G (by decide +kernel) fun t hf i => ?_
  obtain ⟨x, y, rfl⟩ : ∃ (x : Fin 1024) (y : Fin 1024), i = (ix2 x y : S1024x1024.Idx) := ⟨i 0, i 1, eq_ix2 (n0 := 1024) (n1 := 1024) i⟩
  refine Eq.trans ?_ ((hG t x y).trans (congrArg G (emb2 t x y)).symm)
  show (dats m 0 c).after 2 t (ix2 x y : S1024x1024.Idx) = _
  rw [after0_2, out_eq]
  refine (pay_eq _ _ x y).trans (congrArg silu (Finset.sum_congr rfl fun k _ => ?_))
  exact congrArg₂ (fun a b : EReal => a * b) (blk0 m c t x k) (blk1 m c t k y)

end Cert.GateIdeal.Mat

end
-- ==== Proof.Gate.Host.lean ====
/- The arrays the host hands the gate's call, at an index, of the arguments. -/
module

public import proofs.«01_k».proof.Proof.Gate.Blocks

@[expose] public section

set_option maxRecDepth 16384

noncomputable section

namespace Cert.GateIdeal.Mat

open Cert.GateIdeal Cert.GateIdeal.Gen
open Idealize.ShloMosaic Idealize.ShloMosaic.TcCoe

variable (m : (ℓ : Loc nD τ sig) → Buf (Elt Ideal) ℓ) (c : Dev nD)

/-- The arguments, as arrays of extended reals. -/
abbrev argX : S2x8192x4096.Idx → EReal := m ((c : Thread nD τ).loc main_arg0)
abbrev argG : S4096.Idx → EReal := m ((c : Thread nD τ).loc main_arg1)
abbrev argW : S4096x5696.Idx → EReal := m ((c : Thread nD τ).loc main_arg2)

/-- A row's batch and position. -/
def bat (r : Fin 16384) : Fin 2 := ⟨r.val / 8192, by have := r.isLt; omega⟩
def pos (r : Fin 16384) : Fin 8192 := ⟨r.val % 8192, by omega⟩

theorem hostX (r : Fin 16384) (k : Fin 4096) :
    arrX m c (ix2 r k) = argX m c (ix3 (bat r) (pos r) k)
        * Ideal.rsqrt (Ideal.div (∑ j : Fin 4096, argX m c (ix3 (bat r) (pos r) j) * argX m c (ix3 (bat r) (pos r) j))
          (Ideal.ofBits .f32 0x45800000#32) + Ideal.ofBits .f32 0x358637BD#32) * argG m c (ix1 k) := by
  dsimp only [arrX, V, hostOps0]
  after_results
  pointwise
  rfl

/-- The column of the layer's projection weights a column of the gate is. -/
def wcol (y : Fin 4096) : Fin 5696 := ⟨1600 + y.val, by have := y.isLt; omega⟩

theorem hostW (k : Fin 4096) (y : Fin 4096) : arrW m c (ix2 k y) = argW m c (ix2 k (wcol y)) := by
  dsimp only [arrW, V, hostOps0]
  after_results
  pointwise
  rfl

end Cert.GateIdeal.Mat

end
-- ==== Proof.Gate.Ref.lean ====
/- The gate's reference, at an index. -/
module

public import proofs.«01_k».proof.Proof.Gen.GateRefIdeal.Read
public import Idealize.ShloMosaic.Lib.Pointwise

@[expose] public section

set_option maxRecDepth 16384

noncomputable section

namespace Cert.GateRefIdeal.Mat

open Cert.GateRefIdeal Cert.GateRefIdeal.Gen Cert.GateRefIdeal.Read
open Idealize.ShloMosaic Idealize.ShloMosaic.TcCoe

/-- A row's batch and position. -/
def bat (r : Fin 16384) : Fin 2 := ⟨r.val / 8192, by have := r.isLt; omega⟩
def pos (r : Fin 16384) : Fin 8192 := ⟨r.val % 8192, by omega⟩

/-- The column of the layer's projection weights a column of the gate is. -/
def wcol (y : Fin 4096) : Fin 5696 := ⟨1600 + y.val, by have := y.isLt; omega⟩

/-- The activation. -/
def silu (z : EReal) : EReal := z * Ideal.div 1 (1 + Ideal.exp (-z))

theorem lin_eq (x : S2x8192x4096.Idx → EReal) (g : S4096.Idx → EReal) (w : S4096x5696.Idx → EReal)
    (r : Fin 16384) (y : Fin 4096) :
    (val_main_v14 (F := Ideal) x g w : S2x8192x4096.Idx → EReal) (ix3 (bat r) (pos r) y)
      = ∑ k : Fin 4096, x (ix3 (bat r) (pos r) k) * Ideal.rsqrt (Ideal.div (∑ j : Fin 4096, x (ix3 (bat r) (pos r) j) * x (ix3 (bat r) (pos r) j))
          (Ideal.ofBits .f32 0x45800000#32) + Ideal.ofBits .f32 0x358637BD#32) * g (ix1 k) * w (ix2 k (wcol y)) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem act_eq (x : S2x8192x4096.Idx → EReal) (g : S4096.Idx → EReal) (w : S4096x5696.Idx → EReal)
    (r : Fin 16384) (y : Fin 4096) :
    (val_main_v17 (F := Ideal) x g w : S16384x4096.Idx → EReal) (ix2 r y)
      = silu ((val_main_v14 (F := Ideal) x g w : S2x8192x4096.Idx → EReal) (ix3 (bat r) (pos r) y)) := by
  unfold val_main_v17 val_main_v16 val_main_v15 val_main_call0_v5 val_main_call0_v3 val_main_call0_v1 val_main_call0_v0
  generalize (val_main_v14 (F := Ideal) x g w) = z
  unfold silu
  pointwise [val_main_call0_v4, val_main_call0_v2, val_main_call0_cst, val_main_call0_cst_0]
  rfl

end Cert.GateRefIdeal.Mat

end
-- ==== Proof.Gate.Value.lean ====
/- The gate: the call and the reference leave the same array. -/
module

public import proofs.«01_k».proof.Proof.Gate.Host
public import proofs.«01_k».proof.Proof.Gate.Ref

@[expose] public section

set_option maxRecDepth 16384

noncomputable section

namespace Cert.GateIdeal.Mat

open Cert.GateIdeal Cert.GateIdeal.Gen
open Idealize.ShloMosaic Idealize.ShloMosaic.TcCoe

variable (m : (ℓ : Loc nD τ sig) → Buf (Elt Ideal) ℓ) (c : Dev nD)

theorem value : (dats m 0 c).arrAt 2 cfg0.N
    = (Cert.GateRefIdeal.Read.val_main_v17 (F := Ideal) (argX m c) (argG m c) (argW m c) : S16384x4096.Idx → EReal) := by
  refine final2 m c _ fun t x y => ?_
  refine Eq.trans ?_ (Cert.GateRefIdeal.Mat.act_eq (argX m c) (argG m c) (argW m c) (rowOf t x) (colOf t y)).symm
  rw [Cert.GateRefIdeal.Mat.lin_eq]
  refine congrArg silu (Finset.sum_congr rfl fun k _ => ?_)
  rw [hostX, hostW]
  rfl

end Cert.GateIdeal.Mat

end
-- ==== Proof.Stats.Cases.lean ====
/- What the body of the first output projection leaves at a point, in each of its three cases. -/
module

public import proofs.«01_k».proof.Proof.Gen.StatsIdeal.Value
public import Idealize.ShloMosaic.Lib.Pipeline.Value
public import Idealize.ShloMosaic.Lib.Tactic

@[expose] public section

set_option maxRecDepth 16384

noncomputable section

namespace Cert.StatsIdeal.Mat

open Cert.StatsIdeal Cert.StatsIdeal.Gen
open Idealize.ShloMosaic Idealize.ShloMosaic.TcCoe Idealize.ShloMosaic.Tactic

variable {F : FTy → Type} [FloatOps F]

theorem hz : (![0, 0] : Fin 2 → Nat) = fun _ => 0 := funext fun a => by fin_cases a <;> rfl

theorem out0_A_4_eq (c : Dev nD) (i : grid0.Coords) (a2 : Memref sig .tc .vmem S1024x4096 .bf16) (h2 : a2.IsWhole) (a3 : Memref sig .tc .vmem S4096x512 .bf16) (h3 : a3.IsWhole) (a4 : Memref sig .tc .vmem S1024x512 .f32) (h4 : a4.IsWhole) (a5 : Memref sig .tc .vmem S1x512 .f32) (h5 : a5.IsWhole) (a6 : Memref sig .tc .vmem S1024x512 .f32) (h6 : a6.IsWhole) (a7 : Memref sig .tc .vmem S1024x512 .bf16) (h7 : a7.IsWhole) (a8 : Memref sig .tc .vmem S1024x1 .f32) (h8 : a8.IsWhole) (a9 : Memref sig .tc .vmem S1024x1 .f32) (h9 : a9.IsWhole)
    (hc0 : cond0_0 i) (hc1 : ¬cond0_1 i) (hc2 : ¬cond0_2 i) (x0 : Vec F S1024x4096 .bf16) (x1 : Vec F S4096x512 .bf16) (x2 : Vec F S1024x512 .f32) (x3 : Vec F S1x512 .f32) :
    out0_A_4 c i a2 h2 a3 h3 a4 h4 a5 h5 a6 h6 a7 h7 a8 h8 a9 h9 hc0 hc1 hc2 x0 x1 x2 x3 = k0_pay1 (F := F) x0 x1 x2 := by
  unfold out0_A_4
  rw [View.read_writes_eq_canon _ _ _ (cover0_A_4 c i a2 h2 a3 h3 a4 h4 a5 h5 a6 h6 a7 h7 a8 h8 a9 h9 hc0 hc1 hc2 x0 x1 x2 x3)]
  unfold kernelRun0_A
  dsimp only
  sl_unfold_words
  rw [View.canon_unit_zero hz]
  simp only [View.readAt_eq_ld, h2.read_unread, h3.read_unread, h4.read_unread, h5.read_unread, h9.read_unread,
    View.ld_unit_zero (S := S1024x4096) hz, View.ld_unit_zero (S := S4096x512) hz, View.ld_unit_zero (S := S1024x512) hz,
    View.ld_unit_zero (S := S1x512) hz, View.ld_unit_zero (S := S1024x1) hz, View.readCov_unit_zero (S := S1024x1) _ hz]

theorem out0_A_5_eq (c : Dev nD) (i : grid0.Coords) (a2 : Memref sig .tc .vmem S1024x4096 .bf16) (h2 : a2.IsWhole) (a3 : Memref sig .tc .vmem S4096x512 .bf16) (h3 : a3.IsWhole) (a4 : Memref sig .tc .vmem S1024x512 .f32) (h4 : a4.IsWhole) (a5 : Memref sig .tc .vmem S1x512 .f32) (h5 : a5.IsWhole) (a6 : Memref sig .tc .vmem S1024x512 .f32) (h6 : a6.IsWhole) (a7 : Memref sig .tc .vmem S1024x512 .bf16) (h7 : a7.IsWhole) (a8 : Memref sig .tc .vmem S1024x1 .f32) (h8 : a8.IsWhole) (a9 : Memref sig .tc .vmem S1024x1 .f32) (h9 : a9.IsWhole)
    (hc0 : cond0_0 i) (hc1 : ¬cond0_1 i) (hc2 : ¬cond0_2 i) (x0 : Vec F S1024x4096 .bf16) (x1 : Vec F S4096x512 .bf16) (x2 : Vec F S1024x512 .f32) (x3 : Vec F S1x512 .f32) :
    out0_A_5 c i a2 h2 a3 h3 a4 h4 a5 h5 a6 h6 a7 h7 a8 h8 a9 h9 hc0 hc1 hc2 x0 x1 x2 x3 = k0_pay2 (F := F) x0 x1 x2 x3 := by
  unfold out0_A_5
  rw [View.read_writes_eq_canon _ _ _ (cover0_A_5 c i a2 h2 a3 h3 a4 h4 a5 h5 a6 h6 a7 h7 a8 h8 a9 h9 hc0 hc1 hc2 x0 x1 x2 x3)]
  unfold kernelRun0_A
  dsimp only
  sl_unfold_words
  rw [View.canon_unit_zero hz]
  simp only [View.readAt_eq_ld, h2.read_unread, h3.read_unread, h4.read_unread, h5.read_unread, h9.read_unread,
    View.ld_unit_zero (S := S1024x4096) hz, View.ld_unit_zero (S := S4096x512) hz, View.ld_unit_zero (S := S1024x512) hz,
    View.ld_unit_zero (S := S1x512) hz, View.ld_unit_zero (S := S1024x1) hz, View.readCov_unit_zero (S := S1024x1) _ hz]

theorem sout0_A_0_eq (c : Dev nD) (i : grid0.Coords) (a2 : Memref sig .tc .vmem S1024x4096 .bf16) (h2 : a2.IsWhole) (a3 : Memref sig .tc .vmem S4096x512 .bf16) (h3 : a3.IsWhole) (a4 : Memref sig .tc .vmem S1024x512 .f32) (h4 : a4.IsWhole) (a5 : Memref sig .tc .vmem S1x512 .f32) (h5 : a5.IsWhole) (a6 : Memref sig .tc .vmem S1024x512 .f32) (h6 : a6.IsWhole) (a7 : Memref sig .tc .vmem S1024x512 .bf16) (h7 : a7.IsWhole) (a8 : Memref sig .tc .vmem S1024x1 .f32) (h8 : a8.IsWhole) (a9 : Memref sig .tc .vmem S1024x1 .f32) (h9 : a9.IsWhole)
    (hc0 : cond0_0 i) (hc1 : ¬cond0_1 i) (hc2 : ¬cond0_2 i) (x0 : Vec F S1024x4096 .bf16) (x1 : Vec F S4096x512 .bf16) (x2 : Vec F S1024x512 .f32) (x3 : Vec F S1x512 .f32) :
    sout0_A_0 c i a2 h2 a3 h3 a4 h4 a5 h5 a6 h6 a7 h7 a8 h8 a9 h9 hc0 hc1 hc2 x0 x1 x2 x3 = k0_pay4 (F := F) x0 x1 x2 := by
  unfold sout0_A_0
  rw [View.read_writes_eq_canon _ _ _ (scover0_A_0 c i a2 h2 a3 h3 a4 h4 a5 h5 a6 h6 a7 h7 a8 h8 a9 h9 hc0 hc1 hc2 x0 x1 x2 x3)]
  unfold kernelRun0_A
  dsimp only
  sl_unfold_words
  rw [View.canon_unit_zero hz]
  simp only [View.readAt_eq_ld, h2.read_unread, h3.read_unread, h4.read_unread, h5.read_unread, h9.read_unread,
    View.ld_unit_zero (S := S1024x4096) hz, View.ld_unit_zero (S := S4096x512) hz, View.ld_unit_zero (S := S1024x512) hz,
    View.ld_unit_zero (S := S1x512) hz, View.ld_unit_zero (S := S1024x1) hz, View.readCov_unit_zero (S := S1024x1) _ hz]

theorem out0_B_4_eq (c : Dev nD) (i : grid0.Coords) (a2 : Memref sig .tc .vmem S1024x4096 .bf16) (h2 : a2.IsWhole) (a3 : Memref sig .tc .vmem S4096x512 .bf16) (h3 : a3.IsWhole) (a4 : Memref sig .tc .vmem S1024x512 .f32) (h4 : a4.IsWhole) (a5 : Memref sig .tc .vmem S1x512 .f32) (h5 : a5.IsWhole) (a6 : Memref sig .tc .vmem S1024x512 .f32) (h6 : a6.IsWhole) (a7 : Memref sig .tc .vmem S1024x512 .bf16) (h7 : a7.IsWhole) (a8 : Memref sig .tc .vmem S1024x1 .f32) (h8 : a8.IsWhole) (a9 : Memref sig .tc .vmem S1024x1 .f32) (h9 : a9.IsWhole)
    (hc0 : ¬cond0_0 i) (hc1 : cond0_1 i) (hc2 : ¬cond0_2 i) (x0 : Vec F S1024x4096 .bf16) (x1 : Vec F S4096x512 .bf16) (x2 : Vec F S1024x512 .f32) (x3 : Vec F S1x512 .f32) (xs0 : Vec F S1024x1 .f32) :
    out0_B_4 c i a2 h2 a3 h3 a4 h4 a5 h5 a6 h6 a7 h7 a8 h8 a9 h9 hc0 hc1 hc2 x0 x1 x2 x3 xs0 = k0_pay1 (F := F) x0 x1 x2 := by
  unfold out0_B_4
  rw [View.read_writes_eq_canon _ _ _ (cover0_B_4 c i a2 h2 a3 h3 a4 h4 a5 h5 a6 h6 a7 h7 a8 h8 a9 h9 hc0 hc1 hc2 x0 x1 x2 x3 xs0)]
  unfold kernelRun0_B
  dsimp only
  sl_unfold_words
  rw [View.canon_unit_zero hz]
  simp only [View.readAt_eq_ld, h2.read_unread, h3.read_unread, h4.read_unread, h5.read_unread, h9.read_unread,
    View.ld_unit_zero (S := S1024x4096) hz, View.ld_unit_zero (S := S4096x512) hz, View.ld_unit_zero (S := S1024x512) hz,
    View.ld_unit_zero (S := S1x512) hz, View.ld_unit_zero (S := S1024x1) hz, View.readCov_unit_zero (S := S1024x1) _ hz]

theorem out0_B_5_eq (c : Dev nD) (i : grid0.Coords) (a2 : Memref sig .tc .vmem S1024x4096 .bf16) (h2 : a2.IsWhole) (a3 : Memref sig .tc .vmem S4096x512 .bf16) (h3 : a3.IsWhole) (a4 : Memref sig .tc .vmem S1024x512 .f32) (h4 : a4.IsWhole) (a5 : Memref sig .tc .vmem S1x512 .f32) (h5 : a5.IsWhole) (a6 : Memref sig .tc .vmem S1024x512 .f32) (h6 : a6.IsWhole) (a7 : Memref sig .tc .vmem S1024x512 .bf16) (h7 : a7.IsWhole) (a8 : Memref sig .tc .vmem S1024x1 .f32) (h8 : a8.IsWhole) (a9 : Memref sig .tc .vmem S1024x1 .f32) (h9 : a9.IsWhole)
    (hc0 : ¬cond0_0 i) (hc1 : cond0_1 i) (hc2 : ¬cond0_2 i) (x0 : Vec F S1024x4096 .bf16) (x1 : Vec F S4096x512 .bf16) (x2 : Vec F S1024x512 .f32) (x3 : Vec F S1x512 .f32) (xs0 : Vec F S1024x1 .f32) :
    out0_B_5 c i a2 h2 a3 h3 a4 h4 a5 h5 a6 h6 a7 h7 a8 h8 a9 h9 hc0 hc1 hc2 x0 x1 x2 x3 xs0 = k0_pay2 (F := F) x0 x1 x2 x3 := by
  unfold out0_B_5
  rw [View.read_writes_eq_canon _ _ _ (cover0_B_5 c i a2 h2 a3 h3 a4 h4 a5 h5 a6 h6 a7 h7 a8 h8 a9 h9 hc0 hc1 hc2 x0 x1 x2 x3 xs0)]
  unfold kernelRun0_B
  dsimp only
  sl_unfold_words
  rw [View.canon_unit_zero hz]
  simp only [View.readAt_eq_ld, h2.read_unread, h3.read_unread, h4.read_unread, h5.read_unread, h9.read_unread,
    View.ld_unit_zero (S := S1024x4096) hz, View.ld_unit_zero (S := S4096x512) hz, View.ld_unit_zero (S := S1024x512) hz,
    View.ld_unit_zero (S := S1x512) hz, View.ld_unit_zero (S := S1024x1) hz, View.readCov_unit_zero (S := S1024x1) _ hz]

theorem sout0_B_0_eq (c : Dev nD) (i : grid0.Coords) (a2 : Memref sig .tc .vmem S1024x4096 .bf16) (h2 : a2.IsWhole) (a3 : Memref sig .tc .vmem S4096x512 .bf16) (h3 : a3.IsWhole) (a4 : Memref sig .tc .vmem S1024x512 .f32) (h4 : a4.IsWhole) (a5 : Memref sig .tc .vmem S1x512 .f32) (h5 : a5.IsWhole) (a6 : Memref sig .tc .vmem S1024x512 .f32) (h6 : a6.IsWhole) (a7 : Memref sig .tc .vmem S1024x512 .bf16) (h7 : a7.IsWhole) (a8 : Memref sig .tc .vmem S1024x1 .f32) (h8 : a8.IsWhole) (a9 : Memref sig .tc .vmem S1024x1 .f32) (h9 : a9.IsWhole)
    (hc0 : ¬cond0_0 i) (hc1 : cond0_1 i) (hc2 : ¬cond0_2 i) (x0 : Vec F S1024x4096 .bf16) (x1 : Vec F S4096x512 .bf16) (x2 : Vec F S1024x512 .f32) (x3 : Vec F S1x512 .f32) (xs0 : Vec F S1024x1 .f32) :
    sout0_B_0 c i a2 h2 a3 h3 a4 h4 a5 h5 a6 h6 a7 h7 a8 h8 a9 h9 hc0 hc1 hc2 x0 x1 x2 x3 xs0 = k0_pay5 (F := F) x0 x1 x2 xs0 := by
  unfold sout0_B_0
  rw [View.read_writes_eq_canon _ _ _ (scover0_B_0 c i a2 h2 a3 h3 a4 h4 a5 h5 a6 h6 a7 h7 a8 h8 a9 h9 hc0 hc1 hc2 x0 x1 x2 x3 xs0)]
  unfold kernelRun0_B
  dsimp only
  sl_unfold_words
  rw [View.canon_unit_zero hz]
  simp only [View.readAt_eq_ld, h2.read_unread, h3.read_unread, h4.read_unread, h5.read_unread, h9.read_unread,
    View.ld_unit_zero (S := S1024x4096) hz, View.ld_unit_zero (S := S4096x512) hz, View.ld_unit_zero (S := S1024x512) hz,
    View.ld_unit_zero (S := S1x512) hz, View.ld_unit_zero (S := S1024x1) hz, View.readCov_unit_zero (S := S1024x1) _ hz]

theorem out0_C_4_eq (c : Dev nD) (i : grid0.Coords) (a2 : Memref sig .tc .vmem S1024x4096 .bf16) (h2 : a2.IsWhole) (a3 : Memref sig .tc .vmem S4096x512 .bf16) (h3 : a3.IsWhole) (a4 : Memref sig .tc .vmem S1024x512 .f32) (h4 : a4.IsWhole) (a5 : Memref sig .tc .vmem S1x512 .f32) (h5 : a5.IsWhole) (a6 : Memref sig .tc .vmem S1024x512 .f32) (h6 : a6.IsWhole) (a7 : Memref sig .tc .vmem S1024x512 .bf16) (h7 : a7.IsWhole) (a8 : Memref sig .tc .vmem S1024x1 .f32) (h8 : a8.IsWhole) (a9 : Memref sig .tc .vmem S1024x1 .f32) (h9 : a9.IsWhole)
    (hc0 : ¬cond0_0 i) (hc1 : cond0_1 i) (hc2 : cond0_2 i) (x0 : Vec F S1024x4096 .bf16) (x1 : Vec F S4096x512 .bf16) (x2 : Vec F S1024x512 .f32) (x3 : Vec F S1x512 .f32) (xs0 : Vec F S1024x1 .f32) :
    out0_C_4 c i a2 h2 a3 h3 a4 h4 a5 h5 a6 h6 a7 h7 a8 h8 a9 h9 hc0 hc1 hc2 x0 x1 x2 x3 xs0 = k0_pay1 (F := F) x0 x1 x2 := by
  unfold out0_C_4
  rw [View.read_writes_eq_canon _ _ _ (cover0_C_4 c i a2 h2 a3 h3 a4 h4 a5 h5 a6 h6 a7 h7 a8 h8 a9 h9 hc0 hc1 hc2 x0 x1 x2 x3 xs0)]
  unfold kernelRun0_C
  dsimp only
  sl_unfold_words
  rw [View.canon_unit_zero hz]
  simp only [View.readAt_eq_ld, h2.read_unread, h3.read_unread, h4.read_unread, h5.read_unread, h9.read_unread,
    View.ld_unit_zero (S := S1024x4096) hz, View.ld_unit_zero (S := S4096x512) hz, View.ld_unit_zero (S := S1024x512) hz,
    View.ld_unit_zero (S := S1x512) hz, View.ld_unit_zero (S := S1024x1) hz, View.readCov_unit_zero (S := S1024x1) _ hz]

theorem out0_C_5_eq (c : Dev nD) (i : grid0.Coords) (a2 : Memref sig .tc .vmem S1024x4096 .bf16) (h2 : a2.IsWhole) (a3 : Memref sig .tc .vmem S4096x512 .bf16) (h3 : a3.IsWhole) (a4 : Memref sig .tc .vmem S1024x512 .f32) (h4 : a4.IsWhole) (a5 : Memref sig .tc .vmem S1x512 .f32) (h5 : a5.IsWhole) (a6 : Memref sig .tc .vmem S1024x512 .f32) (h6 : a6.IsWhole) (a7 : Memref sig .tc .vmem S1024x512 .bf16) (h7 : a7.IsWhole) (a8 : Memref sig .tc .vmem S1024x1 .f32) (h8 : a8.IsWhole) (a9 : Memref sig .tc .vmem S1024x1 .f32) (h9 : a9.IsWhole)
    (hc0 : ¬cond0_0 i) (hc1 : cond0_1 i) (hc2 : cond0_2 i) (x0 : Vec F S1024x4096 .bf16) (x1 : Vec F S4096x512 .bf16) (x2 : Vec F S1024x512 .f32) (x3 : Vec F S1x512 .f32) (xs0 : Vec F S1024x1 .f32) :
    out0_C_5 c i a2 h2 a3 h3 a4 h4 a5 h5 a6 h6 a7 h7 a8 h8 a9 h9 hc0 hc1 hc2 x0 x1 x2 x3 xs0 = k0_pay2 (F := F) x0 x1 x2 x3 := by
  unfold out0_C_5
  rw [View.read_writes_eq_canon _ _ _ (cover0_C_5 c i a2 h2 a3 h3 a4 h4 a5 h5 a6 h6 a7 h7 a8 h8 a9 h9 hc0 hc1 hc2 x0 x1 x2 x3 xs0)]
  unfold kernelRun0_C
  dsimp only
  sl_unfold_words
  rw [View.canon_unit_zero hz]
  simp only [View.readAt_eq_ld, h2.read_unread, h3.read_unread, h4.read_unread, h5.read_unread, h9.read_unread,
    View.ld_unit_zero (S := S1024x4096) hz, View.ld_unit_zero (S := S4096x512) hz, View.ld_unit_zero (S := S1024x512) hz,
    View.ld_unit_zero (S := S1x512) hz, View.ld_unit_zero (S := S1024x1) hz, View.readCov_unit_zero (S := S1024x1) _ hz]

theorem sout0_C_0_eq (c : Dev nD) (i : grid0.Coords) (a2 : Memref sig .tc .vmem S1024x4096 .bf16) (h2 : a2.IsWhole) (a3 : Memref sig .tc .vmem S4096x512 .bf16) (h3 : a3.IsWhole) (a4 : Memref sig .tc .vmem S1024x512 .f32) (h4 : a4.IsWhole) (a5 : Memref sig .tc .vmem S1x512 .f32) (h5 : a5.IsWhole) (a6 : Memref sig .tc .vmem S1024x512 .f32) (h6 : a6.IsWhole) (a7 : Memref sig .tc .vmem S1024x512 .bf16) (h7 : a7.IsWhole) (a8 : Memref sig .tc .vmem S1024x1 .f32) (h8 : a8.IsWhole) (a9 : Memref sig .tc .vmem S1024x1 .f32) (h9 : a9.IsWhole)
    (hc0 : ¬cond0_0 i) (hc1 : cond0_1 i) (hc2 : cond0_2 i) (x0 : Vec F S1024x4096 .bf16) (x1 : Vec F S4096x512 .bf16) (x2 : Vec F S1024x512 .f32) (x3 : Vec F S1x512 .f32) (xs0 : Vec F S1024x1 .f32) :
    sout0_C_0 c i a2 h2 a3 h3 a4 h4 a5 h5 a6 h6 a7 h7 a8 h8 a9 h9 hc0 hc1 hc2 x0 x1 x2 x3 xs0 = k0_pay5 (F := F) x0 x1 x2 xs0 := by
  unfold sout0_C_0
  rw [View.read_writes_eq_canon _ _ _ (scover0_C_0 c i a2 h2 a3 h3 a4 h4 a5 h5 a6 h6 a7 h7 a8 h8 a9 h9 hc0 hc1 hc2 x0 x1 x2 x3 xs0)]
  unfold kernelRun0_C
  dsimp only
  sl_unfold_words
  rw [View.canon_unit_zero hz]
  simp only [View.readAt_eq_ld, h2.read_unread, h3.read_unread, h4.read_unread, h5.read_unread, h9.read_unread,
    View.ld_unit_zero (S := S1024x4096) hz, View.ld_unit_zero (S := S4096x512) hz, View.ld_unit_zero (S := S1024x512) hz,
    View.ld_unit_zero (S := S1x512) hz, View.ld_unit_zero (S := S1024x1) hz, View.readCov_unit_zero (S := S1024x1) _ hz]

theorem out0_C_6_eq (c : Dev nD) (i : grid0.Coords) (a2 : Memref sig .tc .vmem S1024x4096 .bf16) (h2 : a2.IsWhole) (a3 : Memref sig .tc .vmem S4096x512 .bf16) (h3 : a3.IsWhole) (a4 : Memref sig .tc .vmem S1024x512 .f32) (h4 : a4.IsWhole) (a5 : Memref sig .tc .vmem S1x512 .f32) (h5 : a5.IsWhole) (a6 : Memref sig .tc .vmem S1024x512 .f32) (h6 : a6.IsWhole) (a7 : Memref sig .tc .vmem S1024x512 .bf16) (h7 : a7.IsWhole) (a8 : Memref sig .tc .vmem S1024x1 .f32) (h8 : a8.IsWhole) (a9 : Memref sig .tc .vmem S1024x1 .f32) (h9 : a9.IsWhole)
    (hc0 : ¬cond0_0 i) (hc1 : cond0_1 i) (hc2 : cond0_2 i) (x0 : Vec F S1024x4096 .bf16) (x1 : Vec F S4096x512 .bf16) (x2 : Vec F S1024x512 .f32) (x3 : Vec F S1x512 .f32) (xs0 : Vec F S1024x1 .f32) :
    out0_C_6 c i a2 h2 a3 h3 a4 h4 a5 h5 a6 h6 a7 h7 a8 h8 a9 h9 hc0 hc1 hc2 x0 x1 x2 x3 xs0 = k0_pay6 (F := F) (k0_pay5 (F := F) x0 x1 x2 xs0) := by
  unfold out0_C_6
  rw [View.read_writes_eq_canon _ _ _ (cover0_C_6 c i a2 h2 a3 h3 a4 h4 a5 h5 a6 h6 a7 h7 a8 h8 a9 h9 hc0 hc1 hc2 x0 x1 x2 x3 xs0)]
  unfold kernelRun0_C
  dsimp only
  sl_unfold_words
  rw [View.canon_unit_zero hz]
  simp only [View.readAt_eq_ld, h2.read_unread, h3.read_unread, h4.read_unread, h5.read_unread, h9.read_unread,
    View.ld_unit_zero (S := S1024x4096) hz, View.ld_unit_zero (S := S4096x512) hz, View.ld_unit_zero (S := S1024x512) hz,
    View.ld_unit_zero (S := S1x512) hz, View.ld_unit_zero (S := S1024x1) hz, View.readCov_unit_zero (S := S1024x1) _ hz]

end Cert.StatsIdeal.Mat

end
-- ==== Proof.Stats.Blocks.lean ====
/- The blocks a point of the output projection's call is handed, at an index; what a point leaves in each of its results
   and in the carried column of sums of squares. -/
module

public import proofs.«01_k».proof.Proof.Stats.Cases
public import Idealize.ShloMosaic.Lib.Pointwise
public import Idealize.ShloMosaic.Lib.Pipeline.ValueKit

@[expose] public section

set_option maxRecDepth 16384

noncomputable section

namespace Cert.StatsIdeal.Mat

open Cert.StatsIdeal Cert.StatsIdeal.Gen
open Idealize.ShloMosaic Idealize.ShloMosaic.TcCoe

variable (m : (ℓ : Loc nD τ sig) → Buf (Elt Ideal) ℓ) (c : Dev nD)

theorem lt_N (t : Fin cfg0.N) : t.val < 128 := lt_of_lt_of_eq t.isLt (show cfg0.N = 128 from N_0)

theorem idx0 : ∀ t : Fin grid0.N, win0_0.index t 0 = t.val / 8 ∧ win0_0.index t 1 = 0 := by decide +kernel
theorem idx1 : ∀ t : Fin grid0.N, win0_1.index t 0 = 0 ∧ win0_1.index t 1 = t.val % 8 := by decide +kernel
theorem idx2 : ∀ t : Fin grid0.N, win0_2.index t 0 = t.val / 8 ∧ win0_2.index t 1 = t.val % 8 := by decide +kernel
theorem idx3 : ∀ t : Fin grid0.N, win0_3.index t 0 = 0 ∧ win0_3.index t 1 = t.val % 8 := by decide +kernel
theorem idx4 : ∀ t : Fin grid0.N, win0_4.index t 0 = t.val / 8 ∧ win0_4.index t 1 = t.val % 8 := by decide +kernel
theorem idx5 : ∀ t : Fin grid0.N, win0_5.index t 0 = t.val / 8 ∧ win0_5.index t 1 = t.val % 8 := by decide +kernel
theorem idx6 : ∀ t : Fin grid0.N, win0_6.index t 0 = t.val / 8 ∧ win0_6.index t 1 = 0 := by decide +kernel

/-- The row and the column of the arrays at a row and a column of a point's block. -/
def rowOf (t : Fin cfg0.N) (x : Fin 1024) : Fin 16384 := ⟨t.val / 8 * 1024 + x.val, by have := lt_N t; have := x.isLt; omega⟩
def colOf (t : Fin cfg0.N) (y : Fin 512) : Fin 4096 := ⟨t.val % 8 * 512 + y.val, by have := y.isLt; omega⟩

/-- The four arrays the host hands the call, as arrays of extended reals. -/
abbrev arrA : S16384x4096.Idx → EReal := V m c main_v1
abbrev arrW : S4096x4096.Idx → EReal := V m c main_v2
abbrev arrR : S16384x4096.Idx → EReal := V m c main_v3
abbrev arrG : S1x4096.Idx → EReal := V m c main_v4

theorem blk0 (t : Fin cfg0.N) (x : Fin 1024) (k : Fin 4096) :
    (iblk m c 0 t : S1024x4096.Idx → EReal) (ix2 x k) = arrA m c (ix2 (rowOf t x) k) := by
  obtain ⟨e0, e1⟩ := idx0 t
  refine congrArg (V m c main_v1 : S16384x4096.Idx → EReal) (funext fun a => Fin.ext ?_)
  match a with
  | ⟨0, _⟩ => show win0_0.index t 0 * 1024 + 1 * x.val = t.val / 8 * 1024 + x.val; rw [e0]; omega
  | ⟨1, _⟩ => show win0_0.index t 1 * 4096 + 1 * k.val = k.val; rw [e1]; omega

theorem blk1 (t : Fin cfg0.N) (k : Fin 4096) (y : Fin 512) :
    (iblk m c 1 t : S4096x512.Idx → EReal) (ix2 k y) = arrW m c (ix2 k (colOf t y)) := by
  obtain ⟨e0, e1⟩ := idx1 t
  refine congrArg (V m c main_v2 : S4096x4096.Idx → EReal) (funext fun a => Fin.ext ?_)
  match a with
  | ⟨0, _⟩ => show win0_1.index t 0 * 4096 + 1 * k.val = k.val; rw [e0]; omega
  | ⟨1, _⟩ => show win0_1.index t 1 * 512 + 1 * y.val = t.val % 8 * 512 + y.val; rw [e1]; omega

theorem blk2 (t : Fin cfg0.N) (x : Fin 1024) (y : Fin 512) :
    (iblk m c 2 t : S1024x512.Idx → EReal) (ix2 x y) = arrR m c (ix2 (rowOf t x) (colOf t y)) := by
  obtain ⟨e0, e1⟩ := idx2 t
  refine congrArg (V m c main_v3 : S16384x4096.Idx → EReal) (funext fun a => Fin.ext ?_)
  match a with
  | ⟨0, _⟩ => show win0_2.index t 0 * 1024 + 1 * x.val = t.val / 8 * 1024 + x.val; rw [e0]; omega
  | ⟨1, _⟩ => show win0_2.index t 1 * 512 + 1 * y.val = t.val % 8 * 512 + y.val; rw [e1]; omega

theorem blk3 (t : Fin cfg0.N) (z : Fin 1) (y : Fin 512) :
    (iblk m c 3 t : S1x512.Idx → EReal) (ix2 z y) = arrG m c (ix2 z (colOf t y)) := by
  obtain ⟨e0, e1⟩ := idx3 t
  refine congrArg (V m c main_v4 : S1x4096.Idx → EReal) (funext fun a => Fin.ext ?_)
  match a with
  | ⟨0, _⟩ => show win0_3.index t 0 * 1 + 1 * z.val = z.val; rw [e0]; omega
  | ⟨1, _⟩ => show win0_3.index t 1 * 512 + 1 * y.val = t.val % 8 * 512 + y.val; rw [e1]; omega

/-- Where an index of a point's block of results lies in the result. -/
theorem emb4 (t : Fin cfg0.N) (x : Fin 1024) (y : Fin 512) :
    ((cfg0.win 4).blk t).view.emb (ix2 x y : S1024x512.Idx) = (ix2 (rowOf t x) (colOf t y) : S16384x4096.Idx) := by
  obtain ⟨e0, e1⟩ := idx4 t
  refine funext fun a => Fin.ext ?_
  match a with
  | ⟨0, _⟩ => show win0_4.index t 0 * 1024 + 1 * x.val = t.val / 8 * 1024 + x.val; rw [e0]; omega
  | ⟨1, _⟩ => show win0_4.index t 1 * 512 + 1 * y.val = t.val % 8 * 512 + y.val; rw [e1]; omega

theorem emb5 (t : Fin cfg0.N) (x : Fin 1024) (y : Fin 512) :
    ((cfg0.win 5).blk t).view.emb (ix2 x y : S1024x512.Idx) = (ix2 (rowOf t x) (colOf t y) : S16384x4096.Idx) := by
  obtain ⟨e0, e1⟩ := idx5 t
  refine funext fun a => Fin.ext ?_
  match a with
  | ⟨0, _⟩ => show win0_5.index t 0 * 1024 + 1 * x.val = t.val / 8 * 1024 + x.val; rw [e0]; omega
  | ⟨1, _⟩ => show win0_5.index t 1 * 512 + 1 * y.val = t.val % 8 * 512 + y.val; rw [e1]; omega

theorem emb6 (t : Fin cfg0.N) (x : Fin 1024) (z : Fin 1) :
    ((cfg0.win 6).blk t).view.emb (ix2 x z : S1024x1.Idx) = (ix2 (rowOf t x) z : S16384x1.Idx) := by
  obtain ⟨e0, e1⟩ := idx6 t
  refine funext fun a => Fin.ext ?_
  match a with
  | ⟨0, _⟩ => show win0_6.index t 0 * 1024 + 1 * x.val = t.val / 8 * 1024 + x.val; rw [e0]; omega
  | ⟨1, _⟩ => show win0_6.index t 1 * 1 + 1 * z.val = z.val; rw [e1]; omega

/-- The projection with the residual added, at a row and a column. -/
def yAt (r : Fin 16384) (q : Fin 4096) : EReal :=
  (∑ k : Fin 4096, arrA m c (ix2 r k) * arrW m c (ix2 k q)) + arrR m c (ix2 r q)

theorem pay1_eq (x0 : Vec Ideal S1024x4096 .bf16) (x1 : Vec Ideal S4096x512 .bf16) (x2 : Vec Ideal S1024x512 .f32)
    (x : Fin 1024) (y : Fin 512) :
    (k0_pay1 (F := Ideal) x0 x1 x2 : S1024x512.Idx → EReal) (ix2 x y)
      = (∑ k : Fin 4096, (x0 : S1024x4096.Idx → EReal) (ix2 x k) * (x1 : S4096x512.Idx → EReal) (ix2 k y))
        + (x2 : S1024x512.Idx → EReal) (ix2 x y) := by
  pointwise [k0_pay1]

theorem pay2_eq (x0 : Vec Ideal S1024x4096 .bf16) (x1 : Vec Ideal S4096x512 .bf16) (x2 : Vec Ideal S1024x512 .f32)
    (x3 : Vec Ideal S1x512 .f32) (x : Fin 1024) (y : Fin 512) :
    (k0_pay2 (F := Ideal) x0 x1 x2 x3 : S1024x512.Idx → EReal) (ix2 x y)
      = (k0_pay1 (F := Ideal) x0 x1 x2 : S1024x512.Idx → EReal) (ix2 x y) * (x3 : S1x512.Idx → EReal) (ix2 0 y) := by
  rw [pay1_eq]
  pointwise [k0_pay2, k0_pay1]

theorem pay4_eq (x0 : Vec Ideal S1024x4096 .bf16) (x1 : Vec Ideal S4096x512 .bf16) (x2 : Vec Ideal S1024x512 .f32)
    (x : Fin 1024) :
    (k0_pay4 (F := Ideal) x0 x1 x2 : S1024x1.Idx → EReal) (ix2 x 0)
      = ∑ y : Fin 512, (k0_pay1 (F := Ideal) x0 x1 x2 : S1024x512.Idx → EReal) (ix2 x y)
          * (k0_pay1 (F := Ideal) x0 x1 x2 : S1024x512.Idx → EReal) (ix2 x y) := by
  simp only [pay1_eq]
  pointwise [k0_pay4, k0_pay3, k0_pay1]

theorem pay5_eq (x0 : Vec Ideal S1024x4096 .bf16) (x1 : Vec Ideal S4096x512 .bf16) (x2 : Vec Ideal S1024x512 .f32)
    (s : Vec Ideal S1024x1 .f32) (x : Fin 1024) :
    (k0_pay5 (F := Ideal) x0 x1 x2 s : S1024x1.Idx → EReal) (ix2 x 0)
      = (s : S1024x1.Idx → EReal) (ix2 x 0) + ∑ y : Fin 512, (k0_pay1 (F := Ideal) x0 x1 x2 : S1024x512.Idx → EReal) (ix2 x y)
          * (k0_pay1 (F := Ideal) x0 x1 x2 : S1024x512.Idx → EReal) (ix2 x y) := by
  simp only [pay1_eq]
  pointwise [k0_pay5, k0_pay3, k0_pay1]

theorem pay6_eq (s : Vec Ideal S1024x1 .f32) (x : Fin 1024) :
    (k0_pay6 (F := Ideal) s : S1024x1.Idx → EReal) (ix2 x 0)
      = Ideal.rsqrt ((s : S1024x1.Idx → EReal) (ix2 x 0) * Ideal.ofBits .f32 0x39800000#32 + Ideal.ofBits .f32 0x358637BD#32) := by
  pointwise [k0_pay6]

/-- A point's projection with its residual, at an index of its block. -/
theorem y_blk (t : Fin cfg0.N) (x : Fin 1024) (y : Fin 512) :
    (k0_pay1 (F := Ideal) (iblk m c 0 t) (iblk m c 1 t) (iblk m c 2 t) : S1024x512.Idx → EReal) (ix2 x y)
      = yAt m c (rowOf t x) (colOf t y) := by
  refine (pay1_eq _ _ _ x y).trans ?_
  refine congrArg₂ (fun a b : EReal => a + b) (Finset.sum_congr rfl fun k _ => ?_) (blk2 m c t x y)
  exact congrArg₂ (fun a b : EReal => a * b) (blk0 m c t x k) (blk1 m c t k y)

end Cert.StatsIdeal.Mat

end
-- ==== Proof.Stats.Carry.lean ====
/- The column of sums of squares the output projection carries from point to point, and its three results after the run. -/
module

public import proofs.«01_k».proof.Proof.Stats.Blocks

@[expose] public section

set_option maxRecDepth 16384

noncomputable section

namespace Cert.StatsIdeal.Mat

open Cert.StatsIdeal Cert.StatsIdeal.Gen
open Idealize.ShloMosaic Idealize.ShloMosaic.TcCoe

variable (m : (ℓ : Loc nD τ sig) → Buf (Elt Ideal) ℓ) (c : Dev nD)

theorem out_y (t : Fin cfg0.N) : (outsAt0 m c t.val t.isLt).1 = k0_pay1 (F := Ideal) (iblk m c 0 t) (iblk m c 1 t) (iblk m c 2 t) := by
  by_cases h0 : t.val % 8 = 0
  · rw [outsAt0_A m c t h0 (by omega) (by omega)]; dsimp only; exact out0_A_4_eq (F := Ideal) ..
  · by_cases h2 : t.val % 8 = 7
    · rw [outsAt0_C m c t h0 (by omega) h2]; dsimp only; exact out0_C_4_eq (F := Ideal) ..
    · rw [outsAt0_B m c t h0 (by omega) h2]; dsimp only; exact out0_B_4_eq (F := Ideal) ..

theorem out_yg (t : Fin cfg0.N) :
    (outsAt0 m c t.val t.isLt).2.1 = k0_pay2 (F := Ideal) (iblk m c 0 t) (iblk m c 1 t) (iblk m c 2 t) (iblk m c 3 t) := by
  by_cases h0 : t.val % 8 = 0
  · rw [outsAt0_A m c t h0 (by omega) (by omega)]; dsimp only; exact out0_A_5_eq (F := Ideal) ..
  · by_cases h2 : t.val % 8 = 7
    · rw [outsAt0_C m c t h0 (by omega) h2]; dsimp only; exact out0_C_5_eq (F := Ideal) ..
    · rw [outsAt0_B m c t h0 (by omega) h2]; dsimp only; exact out0_B_5_eq (F := Ideal) ..

/-- At the first column of blocks the carried column is the block's own sums. -/
theorem carry_zero (t : Fin cfg0.N) (h0 : t.val % 8 = 0) :
    (outsAt0 m c t.val t.isLt).2.2.2 = k0_pay4 (F := Ideal) (iblk m c 0 t) (iblk m c 1 t) (iblk m c 2 t) := by
  rw [outsAt0_A m c t h0 (by omega) (by omega)]; dsimp only; exact sout0_A_0_eq (F := Ideal) ..

/-- At a later one it is the column before with the block's sums added. -/
theorem carry_succ (t : Fin cfg0.N) (h0 : ¬t.val % 8 = 0) :
    (outsAt0 m c t.val t.isLt).2.2.2 = k0_pay5 (F := Ideal) (iblk m c 0 t) (iblk m c 1 t) (iblk m c 2 t)
      (outsAt0 m c (t.val - 1) (Nat.lt_of_le_of_lt (Nat.sub_le _ _) t.isLt)).2.2.2 := by
  by_cases h2 : t.val % 8 = 7
  · rw [outsAt0_C m c t h0 (by omega) h2]; dsimp only; exact sout0_C_0_eq (F := Ideal) ..
  · rw [outsAt0_B m c t h0 (by omega) h2]; dsimp only; exact sout0_B_0_eq (F := Ideal) ..

theorem out_inv (t : Fin cfg0.N) (h2 : t.val % 8 = 7) :
    (outsAt0 m c t.val t.isLt).2.2.1 = k0_pay6 (F := Ideal) (outsAt0 m c t.val t.isLt).2.2.2 := by
  rw [carry_succ m c t (by omega), outsAt0_C m c t (by omega) (by omega) h2]; dsimp only; exact out0_C_6_eq (F := Ideal) ..

/-- The square of the projection at a row and a column counted past the last as zero. -/
def sq (r : Fin 16384) (n : ℕ) : EReal := if h : n < 4096 then yAt m c r ⟨n, h⟩ * yAt m c r ⟨n, h⟩ else 0

theorem sum_blk (t : Fin cfg0.N) (x : Fin 1024) :
    (∑ y : Fin 512, (k0_pay1 (F := Ideal) (iblk m c 0 t) (iblk m c 1 t) (iblk m c 2 t) : S1024x512.Idx → EReal) (ix2 x y)
          * (k0_pay1 (F := Ideal) (iblk m c 0 t) (iblk m c 1 t) (iblk m c 2 t) : S1024x512.Idx → EReal) (ix2 x y) : EReal)
      = ∑ n ∈ Finset.range 512, sq m c (rowOf t x) (t.val % 8 * 512 + n) := by
  rw [Finset.sum_range]
  refine Finset.sum_congr rfl fun y _ => ?_
  rw [y_blk m c t x y]
  have hy : t.val % 8 * 512 + y.val < 4096 := by have := y.isLt; omega
  unfold sq
  rw [dif_pos hy]
  rfl

/-- The carried column after a point: the sum of the squares of the row up to the point's last column. -/
theorem carry_eq : ∀ (n : ℕ) (h : n < cfg0.N) (x : Fin 1024),
    ((outsAt0 m c n h).2.2.2 : S1024x1.Idx → EReal) (ix2 x 0)
      = ∑ i ∈ Finset.range (n % 8 * 512 + 512), sq m c (rowOf ⟨n, h⟩ x) i := by
  intro n
  induction n with
  | zero =>
    intro h x
    refine (congrFun (carry_zero m c ⟨0, h⟩ rfl) (ix2 x 0)).trans ((pay4_eq _ _ _ x).trans ((sum_blk m c ⟨0, h⟩ x).trans ?_))
    refine Finset.sum_congr rfl fun i _ => ?_
    show sq m c _ (0 % 8 * 512 + i) = _
    rw [show 0 % 8 * 512 + i = i by omega]
  | succ n ih =>
    intro h x
    by_cases h0 : (n + 1) % 8 = 0
    · refine (congrFun (carry_zero m c ⟨n + 1, h⟩ h0) (ix2 x 0)).trans ((pay4_eq _ _ _ x).trans ((sum_blk m c ⟨n + 1, h⟩ x).trans ?_))
      rw [show (n + 1) % 8 * 512 + 512 = 512 by omega]
      refine Finset.sum_congr rfl fun i _ => ?_
      show sq m c _ ((n + 1) % 8 * 512 + i) = _
      rw [show (n + 1) % 8 * 512 + i = i by omega]
    · refine (congrFun (carry_succ m c ⟨n + 1, h⟩ h0) (ix2 x 0)).trans ((pay5_eq _ _ _ _ x).trans ?_)
      rw [Finset.sum_range_add]
      refine congrArg₂ (fun a b : EReal => a + b) ((ih (by omega) x).trans ?_) (sum_blk m c ⟨n + 1, h⟩ x)
      have hr : rowOf ⟨n, by omega⟩ x = rowOf ⟨n + 1, h⟩ x := Fin.ext (by
        show n / 8 * 1024 + x.val = (n + 1) / 8 * 1024 + x.val
        have : (n + 1) / 8 = n / 8 := by omega
        rw [this])
      rw [hr, show n % 8 * 512 + 512 = (n + 1) % 8 * 512 by omega]

/-- At the last column of blocks it is the sum over the whole row. -/
theorem carry_last (t : Fin cfg0.N) (h2 : t.val % 8 = 7) (x : Fin 1024) :
    ((outsAt0 m c t.val t.isLt).2.2.2 : S1024x1.Idx → EReal) (ix2 x 0)
      = ∑ q : Fin 4096, yAt m c (rowOf t x) q * yAt m c (rowOf t x) q := by
  refine (carry_eq m c t.val t.isLt x).trans ?_
  rw [show t.val % 8 * 512 + 512 = 4096 by omega, Finset.sum_range]
  refine Finset.sum_congr rfl fun q _ => ?_
  unfold sq
  rw [dif_pos q.isLt]

/-- The first result after the run. -/
theorem final4 (G : S16384x4096.Idx → EReal) (hG : ∀ r q, yAt m c r q = G (ix2 r q)) : (dats m 0 c).arrAt 4 cfg0.N = G := by
  refine (dats m 0 c).arrAt_eq_of_covers 4 G (by decide +kernel) fun t hf i => ?_
  obtain ⟨x, y, rfl⟩ : ∃ (x : Fin 1024) (y : Fin 512), i = (ix2 x y : S1024x512.Idx) := ⟨i 0, i 1, eq_ix2 (n0 := 1024) (n1 := 512) i⟩
  refine Eq.trans ?_ ((hG (rowOf t x) (colOf t y)).trans (congrArg G (emb4 t x y)).symm)
  show (dats m 0 c).after 4 t (ix2 x y : S1024x512.Idx) = _
  rw [after0_4, out_y]
  exact y_blk m c t x y

/-- The second. -/
theorem final5 (G : S16384x4096.Idx → EReal) (hG : ∀ r q, yAt m c r q * arrG m c (ix2 0 q) = G (ix2 r q)) :
    (dats m 0 c).arrAt 5 cfg0.N = G := by
  refine (dats m 0 c).arrAt_eq_of_covers 5 G (by decide +kernel) fun t hf i => ?_
  obtain ⟨x, y, rfl⟩ : ∃ (x : Fin 1024) (y : Fin 512), i = (ix2 x y : S1024x512.Idx) := ⟨i 0, i 1, eq_ix2 (n0 := 1024) (n1 := 512) i⟩
  refine Eq.trans ?_ ((hG (rowOf t x) (colOf t y)).trans (congrArg G (emb5 t x y)).symm)
  show (dats m 0 c).after 5 t (ix2 x y : S1024x512.Idx) = _
  rw [after0_5, out_yg]
  refine (pay2_eq _ _ _ _ x y).trans ?_
  exact congrArg₂ (fun a b : EReal => a * b) (y_blk m c t x y) (blk3 m c t 0 y)

/-- The third, each of whose blocks is written back at the last column of blocks. -/
theorem final6 (G : S16384x1.Idx → EReal)
    (hG : ∀ r, Ideal.rsqrt ((∑ q : Fin 4096, yAt m c r q * yAt m c r q) * Ideal.ofBits .f32 0x39800000#32
      + Ideal.ofBits .f32 0x358637BD#32) = G (ix2 r 0)) :
    (dats m 0 c).arrAt 6 cfg0.N = G := by
  refine (dats m 0 c).arrAt_eq_of_covers 6 G (by decide +kernel) fun t hf i => ?_
  obtain ⟨x, z, rfl⟩ : ∃ (x : Fin 1024) (z : Fin 1), i = (ix2 x z : S1024x1.Idx) := ⟨i 0, i 1, eq_ix2 (n0 := 1024) (n1 := 1) i⟩
  obtain rfl : z = 0 := Subsingleton.elim _ _
  have h2 := (flush0_6 t).mp hf
  refine Eq.trans ?_ ((hG (rowOf t x)).trans (congrArg G (emb6 t x 0)).symm)
  show (dats m 0 c).after 6 t (ix2 x 0 : S1024x1.Idx) = _
  rw [after0_6, out_inv m c t h2]
  refine (pay6_eq _ x).trans ?_
  rw [carry_last m c t h2 x]

end Cert.StatsIdeal.Mat

end
-- ==== Proof.Stats.Host.lean ====
/- The arrays the host hands the output projection's call, at an index, of the arguments. -/
module

public import proofs.«01_k».proof.Proof.Stats.Blocks

@[expose] public section

set_option maxRecDepth 16384

noncomputable section

namespace Cert.StatsIdeal.Mat

open Cert.StatsIdeal Cert.StatsIdeal.Gen
open Idealize.ShloMosaic Idealize.ShloMosaic.TcCoe

variable (m : (ℓ : Loc nD τ sig) → Buf (Elt Ideal) ℓ) (c : Dev nD)

/-- The arguments, as arrays of extended reals. -/
abbrev argO : S2x8192x4096.Idx → EReal := m ((c : Thread nD τ).loc main_arg0)
abbrev argW : S4096x4096.Idx → EReal := m ((c : Thread nD τ).loc main_arg1)
abbrev argX : S2x8192x4096.Idx → EReal := m ((c : Thread nD τ).loc main_arg2)
abbrev argG : S4096.Idx → EReal := m ((c : Thread nD τ).loc main_arg3)

/-- A row's batch and position. -/
def bat (r : Fin 16384) : Fin 2 := ⟨r.val / 8192, by have := r.isLt; omega⟩
def pos (r : Fin 16384) : Fin 8192 := ⟨r.val % 8192, by omega⟩

theorem hostA (r : Fin 16384) (k : Fin 4096) : arrA m c (ix2 r k) = argO m c (ix3 (bat r) (pos r) k) := by
  dsimp only [arrA, V, hostOps0]
  after_results
  pointwise
  rfl

theorem hostW (k : Fin 4096) (y : Fin 4096) : arrW m c (ix2 k y) = argW m c (ix2 k y) := by
  dsimp only [arrW, V, hostOps0]
  after_results
  pointwise

theorem hostR (r : Fin 16384) (k : Fin 4096) : arrR m c (ix2 r k) = argX m c (ix3 (bat r) (pos r) k) := by
  dsimp only [arrR, V, hostOps0]
  after_results
  pointwise
  rfl

theorem hostG (k : Fin 4096) : arrG m c (ix2 0 k) = argG m c (ix1 k) := by
  dsimp only [arrG, V, hostOps0]
  after_results
  pointwise

end Cert.StatsIdeal.Mat

end
-- ==== Proof.Stats.Ref.lean ====
/- The output projection's reference, at an index. -/
module

public import proofs.«01_k».proof.Proof.Gen.StatsRefIdeal.Read
public import Idealize.ShloMosaic.Lib.Pointwise

@[expose] public section

set_option maxRecDepth 16384

noncomputable section

namespace Cert.StatsRefIdeal.Mat

open Cert.StatsRefIdeal Cert.StatsRefIdeal.Gen Cert.StatsRefIdeal.Read
open Idealize.ShloMosaic Idealize.ShloMosaic.TcCoe

/-- A row's batch and position. -/
def bat (r : Fin 16384) : Fin 2 := ⟨r.val / 8192, by have := r.isLt; omega⟩
def pos (r : Fin 16384) : Fin 8192 := ⟨r.val % 8192, by omega⟩

/-- The layer's output at a row and a column. -/
def yRef (o : S2x8192x4096.Idx → EReal) (w : S4096x4096.Idx → EReal) (x : S2x8192x4096.Idx → EReal) (r : Fin 16384) (q : Fin 4096) : EReal :=
  x (ix3 (bat r) (pos r) q) + ∑ k : Fin 4096, o (ix3 (bat r) (pos r) k) * w (ix2 k q)

variable (o : S2x8192x4096.Idx → EReal) (w : S4096x4096.Idx → EReal) (x : S2x8192x4096.Idx → EReal) (g : S4096.Idx → EReal)

theorem ref_y (r : Fin 16384) (q : Fin 4096) :
    (val_main_v10 (F := Ideal) o w x : S16384x4096.Idx → EReal) (ix2 r q) = yRef o w x r q := by
  unfold yRef
  pointwise [val_main_v10, val_main_v1, val_main_v0]
  rfl

theorem ref_yg (r : Fin 16384) (q : Fin 4096) :
    (val_main_v15 (F := Ideal) o w x g : S16384x4096.Idx → EReal) (ix2 r q) = yRef o w x r q * g (ix1 q) := by
  unfold yRef
  pointwise [val_main_v15, val_main_v14, val_main_v13, val_main_v12, val_main_v11, val_main_v1, val_main_v0]
  rfl

theorem ref_inv (r : Fin 16384) :
    (val_main_v16 (F := Ideal) o w x : S16384x1.Idx → EReal) (ix2 r 0)
      = Ideal.rsqrt (Ideal.div (∑ q : Fin 4096, yRef o w x r q * yRef o w x r q) (Ideal.ofBits .f32 0x45800000#32)
          + Ideal.ofBits .f32 0x358637BD#32) := by
  unfold yRef
  pointwise [val_main_v16, val_main_v9, val_main_v8, val_main_v7, val_main_v6, val_main_v5, val_main_v4, val_main_v3, val_main_v2, val_main_v1, val_main_v0, val_main_cst, val_main_cst_0, val_main_cst_1]
  rfl

end Cert.StatsRefIdeal.Mat

end
-- ==== Proof.Stats.Value.lean ====
/- The output projection: the call and the reference leave the same three arrays. -/
module

public import proofs.«01_k».proof.Proof.Stats.Carry
public import proofs.«01_k».proof.Proof.Stats.Host
public import proofs.«01_k».proof.Proof.Stats.Ref
public import proofs.«01_k».proof.Proof.In.Norm

@[expose] public section

set_option maxRecDepth 16384

noncomputable section

namespace Cert.StatsIdeal.Mat

open Cert.StatsIdeal Cert.StatsIdeal.Gen
open Idealize.ShloMosaic Idealize.ShloMosaic.TcCoe

variable (m : (ℓ : Loc nD τ sig) → Buf (Elt Ideal) ℓ) (c : Dev nD)

theorem y_eq (r : Fin 16384) (q : Fin 4096) :
    yAt m c r q = Cert.StatsRefIdeal.Mat.yRef (argO m c) (argW m c) (argX m c) r q := by
  unfold yAt Cert.StatsRefIdeal.Mat.yRef
  rw [hostR, add_comm]
  refine congrArg₂ (fun a b : EReal => a + b) rfl (Finset.sum_congr rfl fun k _ => ?_)
  rw [hostA, hostW]
  rfl

theorem value4 : (dats m 0 c).arrAt 4 cfg0.N
    = (Cert.StatsRefIdeal.Read.val_main_v10 (F := Ideal) (argO m c) (argW m c) (argX m c) : S16384x4096.Idx → EReal) :=
  final4 m c _ fun r q => (y_eq m c r q).trans (Cert.StatsRefIdeal.Mat.ref_y _ _ _ r q).symm

theorem value5 : (dats m 0 c).arrAt 5 cfg0.N
    = (Cert.StatsRefIdeal.Read.val_main_v15 (F := Ideal) (argO m c) (argW m c) (argX m c) (argG m c) : S16384x4096.Idx → EReal) :=
  final5 m c _ fun r q => by
    refine Eq.trans ?_ (Cert.StatsRefIdeal.Mat.ref_yg (argO m c) (argW m c) (argX m c) (argG m c) r q).symm
    rw [y_eq, hostG]

theorem value6 : (dats m 0 c).arrAt 6 cfg0.N
    = (Cert.StatsRefIdeal.Read.val_main_v16 (F := Ideal) (argO m c) (argW m c) (argX m c) : S16384x1.Idx → EReal) :=
  final6 m c _ fun r => by
    refine Eq.trans ?_ (Cert.StatsRefIdeal.Mat.ref_inv (argO m c) (argW m c) (argX m c) r).symm
    rw [Cert.Norm.mean_eq]
    simp only [y_eq]

end Cert.StatsIdeal.Mat

end
-- ==== Proof.Out.Body.lean ====
/- The body of the last product at a grid point: what it leaves in its block of results and in the column of partial sums. -/
module

public import proofs.«01_k».proof.Proof.Gen.OutIdeal.Frame
public import proofs.«01_k».proof.Proof.Gen.OutIdeal.Skeleton
public import Idealize.ShloMosaic.Lib.VecWindow
public import Idealize.ShloMosaic.Lib.Pipeline.TableIdle
public import Idealize.ShloMosaic.Lib.Pointwise
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.OutIdeal.Hand

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

local notation "𝕄G" => MT nD τ sig Unit (Elt F) ℕ (UR sig nD τ) ℕ

/-- The three conditions of the body. -/
abbrev first (i : grid0.Coords) : Prop := (Scalar.cmpi .ne (Scalar.extui (Scalar.cmpi .eq (BitVec.ofNat 32 (i 1).val) 0#32)) 0#32) = 1#1
abbrev later (i : grid0.Coords) : Prop := (Scalar.cmpi .ne (Scalar.extui (Scalar.cmpi .sgt (BitVec.ofNat 32 (i 1).val) 0#32)) 0#32) = 1#1
abbrev final (i : grid0.Coords) : Prop := (Scalar.cmpi .ne (Scalar.extui (Scalar.cmpi .eq (BitVec.ofNat 32 (i 1).val) 3#32)) 0#32) = 1#1

theorem lt4 (i : grid0.Coords) : (i 1).val < 4 := (i 1).isLt

theorem first_iff (i : grid0.Coords) : first i ↔ (i 1).val = 0 := by
  have h := lt4 i
  unfold first
  generalize (i 1).val = n at *
  rcases (by omega : n = 0 ∨ n = 1 ∨ n = 2 ∨ n = 3) with h | h | h | h <;> subst h <;> decide

theorem later_iff (i : grid0.Coords) : later i ↔ 0 < (i 1).val := by
  have h := lt4 i
  unfold later
  generalize (i 1).val = n at *
  rcases (by omega : n = 0 ∨ n = 1 ∨ n = 2 ∨ n = 3) with h | h | h | h <;> subst h <;> decide

theorem final_iff (i : grid0.Coords) : final i ↔ (i 1).val = 3 := by
  have h := lt4 i
  unfold final
  generalize (i 1).val = n at *
  rcases (by omega : n = 0 ∨ n = 1 ∨ n = 2 ∨ n = 3) with h | h | h | h <;> subst h <;> decide

section Reads
variable {κ : Kind} {sp : Space} {e : EltTy} {Val : EltTy → Type} [∀ e, Nonempty (Val e)]

/-- Loads of whole buffers. -/
theorem ldA (v : View sig κ sp S512x4096 e) (x : S512x4096.Idx → Val e) :
    v.readAt Val (Rect.unit ![0, 0] ![512, 4096] inb_S512x4096_S512x4096_0_0).toLoadRect (v.rep x) = x := View.readAt_rep_full v x _
theorem ldW (v : View sig κ sp S4096x1024 e) (x : S4096x1024.Idx → Val e) :
    v.readAt Val (Rect.unit ![0, 0] ![4096, 1024] inb_S4096x1024_S4096x1024_0_0).toLoadRect (v.rep x) = x := View.readAt_rep_full v x _
theorem ldR (v : View sig κ sp S512x1024 e) (x : S512x1024.Idx → Val e) :
    v.readAt Val (Rect.unit ![0, 0] ![512, 1024] inb_S512x1024_S512x1024_0_0).toLoadRect (v.rep x) = x := View.readAt_rep_full v x _
theorem ldG (v : View sig κ sp S1x4096 e) (x : S1x4096.Idx → Val e) :
    v.readAt Val (Rect.unit ![0, 0] ![1, 4096] inb_S1x4096_S1x4096_0_0).toLoadRect (v.rep x) = x := View.readAt_rep_full v x _
theorem ldS (v : View sig κ sp S512x1 e) (x : S512x1.Idx → Val e) :
    v.readAt Val (Rect.unit ![0, 0] ![512, 1] inb_S512x1_S512x1_0_0).toLoadRect (v.rep x) = x := View.readAt_rep_full v x _

/-- A load of the sums just stored. -/
theorem covS (v : View sig κ sp S512x1 e) (w : (Rect.unit (s := S512x1) ![0, 0] ![512, 1] inb_S512x1_S512x1_0_0).shape.Idx → Val e) (L) :
    v.readCov (⟨Rect.unit ![0, 0] ![512, 1] inb_S512x1_S512x1_0_0, w⟩ :: L) (Rect.unit ![0, 0] ![512, 1] inb_S512x1_S512x1_0_0).toLoadRect = w := View.readCov_full v _ _ _ _

/-- A load of the block with columns written. -/
theorem ldO (v : View sig κ sp S512x4096 e) (x : S512x4096.Idx → Val e) (off : Fin S512x4096.rank → ℕ) (inb) (w : (Rect.unit off ![512, 1024] inb).shape.Idx → Val e) :
    v.readAt Val (Rect.unit ![0, 0] ![512, 4096] inb_S512x4096_S512x4096_0_0).toLoadRect (v.writes Val (v.rep x) [⟨Rect.unit off ![512, 1024] inb, w⟩]) = put x off ![512, 1024] w :=
  (View.readAt_full v _ _).trans (View.read_writes_rep_unit v x inb w rfl)

theorem stS (v : View sig κ sp S512x1 e) (f : v.ty.Contents Val) (w : (Rect.unit (s := S512x1) ![0, 0] ![512, 1] inb_S512x1_S512x1_0_0).shape.Idx → Val e) (L) :
    v.read Val (v.writes Val f (⟨Rect.unit ![0, 0] ![512, 1] inb_S512x1_S512x1_0_0, w⟩ :: L)) = w := View.read_writes_full v f _ _ _
theorem stO (v : View sig κ sp S512x4096 e) (f : v.ty.Contents Val) (w : (Rect.unit (s := S512x4096) ![0, 0] ![512, 4096] inb_S512x4096_S512x4096_0_0).shape.Idx → Val e) (L) :
    v.read Val (v.writes Val f (⟨Rect.unit ![0, 0] ![512, 4096] inb_S512x4096_S512x4096_0_0, w⟩ :: L)) = w := View.read_writes_full v f _ _ _
theorem stC (v : View sig κ sp S512x4096 e) (x : S512x4096.Idx → Val e) (off : Fin S512x4096.rank → ℕ) (inb) (w : (Rect.unit off ![512, 1024] inb).shape.Idx → Val e) :
    v.read Val (v.writes Val (v.rep x) [⟨Rect.unit off ![512, 1024] inb, w⟩]) = put x off ![512, 1024] w := View.read_writes_rep_unit v x inb w rfl
end Reads

section
variable (𝒱 : Variants) (c : Dev nD) (bd : Option 𝒱.V) (E : Set ℕ) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole)
    (A : Vec F S512x4096 .bf16) (W : Vec F S4096x1024 .bf16) (R : Vec F S512x1024 .f32) (G : Vec F S1x4096 .f32)

/-- The point's memory: the four blocks handed in, the block of results and the partial sums. -/
abbrev Mem (o : Vec F S512x4096 .f32) (s : Vec F S512x1 .f32) : sProp 𝕄G :=
  iprop(owns (c : Thread nD τ) arg2 fullShare A ∗ owns (c : Thread nD τ) arg3 fullShare W ∗ owns (c : Thread nD τ) arg4 fullShare R ∗ owns (c : Thread nD τ) arg5 fullShare G
    ∗ owns (c : Thread nD τ) arg6 fullShare o ∗ owns (c : Thread nD τ) arg7 fullShare s)

/-- The block of results with the point's columns written. -/
abbrev cols (o : Vec F S512x4096 .f32) : Vec F S512x4096 .f32 := put o (k0_off1 i) S512x1024.size (k0_pay1 A W R)

/-- At a row's first point the sums are the point's. -/
theorem body_first (h : (i 1).val = 0) (o : Vec F S512x4096 .f32) (s : Vec F S512x1 .f32) :
    Mem c arg2 arg3 arg4 arg5 arg6 arg7 A W R G o s
    ⊢ wp Idealize.ShloMosaic.frame (wpE (defs₀ (F := F)) 𝒱 (c : Thread nD τ) bd) E
        (cc0_proj_norm (F := F) i arg2 harg2 arg3 harg3 arg4 harg4 arg5 harg5 arg6 harg6 arg7 harg7)
        (fun _ => Mem c arg2 arg3 arg4 arg5 arg6 arg7 A W R G (cols i A W R o) (k0_pay3 A W R)) := by
  have hc0 : first i := (first_iff i).mpr h
  have hc1 : ¬ later i := fun h' => absurd ((later_iff i).mp h') (by omega)
  have hc2 : ¬ final i := fun h' => absurd ((final_iff i).mp h') (by omega)
  unfold Mem
  simp only [owns_eq_rep]
  simp only [cc0_proj_norm_eq_skeleton]; unfold cc0_proj_norm_skel
  iintro ⟨H2, H3, H4, H5, H6, H7⟩
  sl_exec (disch := first | sl_exact hc0 | sl_exact hc1 | sl_exact hc2)
  sl_step
  isplitl [H2]; · iexact H2
  isplitl [H3]; · iexact H3
  isplitl [H4]; · iexact H4
  isplitl [H5]; · iexact H5
  isplitl [H6]
  · iapply (pointsTo_rep_of_read (c : Thread nD τ) arg6 _ _ _ ?_); rotate_left; · iexact H6
    sl_unfold_run_names
    rw [stC, ldA, ldW, ldR]
  iapply (pointsTo_rep_of_read (c : Thread nD τ) arg7 _ _ _ ?_); rotate_left; · iexact H7
  sl_unfold_run_names
  rw [stS, ldA, ldW, ldR]

/-- At a row's middle points they are added to. -/
theorem body_middle (h : 0 < (i 1).val) (h' : (i 1).val < 3) (o : Vec F S512x4096 .f32) (s : Vec F S512x1 .f32) :
    Mem c arg2 arg3 arg4 arg5 arg6 arg7 A W R G o s
    ⊢ wp Idealize.ShloMosaic.frame (wpE (defs₀ (F := F)) 𝒱 (c : Thread nD τ) bd) E
        (cc0_proj_norm (F := F) i arg2 harg2 arg3 harg3 arg4 harg4 arg5 harg5 arg6 harg6 arg7 harg7)
        (fun _ => Mem c arg2 arg3 arg4 arg5 arg6 arg7 A W R G (cols i A W R o) (k0_pay4 A W R s)) := by
  have hc0 : ¬ first i := fun h' => absurd ((first_iff i).mp h') (by omega)
  have hc1 : later i := (later_iff i).mpr h
  have hc2 : ¬ final i := fun h' => absurd ((final_iff i).mp h') (by omega)
  unfold Mem
  simp only [owns_eq_rep]
  simp only [cc0_proj_norm_eq_skeleton]; unfold cc0_proj_norm_skel
  iintro ⟨H2, H3, H4, H5, H6, H7⟩
  sl_exec (disch := first | sl_exact hc0 | sl_exact hc1 | sl_exact hc2)
  sl_step
  isplitl [H2]; · iexact H2
  isplitl [H3]; · iexact H3
  isplitl [H4]; · iexact H4
  isplitl [H5]; · iexact H5
  isplitl [H6]
  · iapply (pointsTo_rep_of_read (c : Thread nD τ) arg6 _ _ _ ?_); rotate_left; · iexact H6
    sl_unfold_run_names
    rw [stC, ldA, ldW, ldR]
  iapply (pointsTo_rep_of_read (c : Thread nD τ) arg7 _ _ _ ?_); rotate_left; · iexact H7
  sl_unfold_run_names
  rw [stS, ldA, ldW, ldR, ldS]

/-- At a row's last point the whole block is normalised and scaled. -/
theorem body_last (h : (i 1).val = 3) (o : Vec F S512x4096 .f32) (s : Vec F S512x1 .f32) :
    Mem c arg2 arg3 arg4 arg5 arg6 arg7 A W R G o s
    ⊢ wp Idealize.ShloMosaic.frame (wpE (defs₀ (F := F)) 𝒱 (c : Thread nD τ) bd) E
        (cc0_proj_norm (F := F) i arg2 harg2 arg3 harg3 arg4 harg4 arg5 harg5 arg6 harg6 arg7 harg7)
        (fun _ => Mem c arg2 arg3 arg4 arg5 arg6 arg7 A W R G (k0_pay5 (k0_pay4 A W R s) (cols i A W R o) G) (k0_pay4 A W R s)) := by
  have hc0 : ¬ first i := fun h' => absurd ((first_iff i).mp h') (by omega)
  have hc1 : later i := (later_iff i).mpr (by omega)
  have hc2 : final i := (final_iff i).mpr h
  unfold Mem
  simp only [owns_eq_rep]
  simp only [cc0_proj_norm_eq_skeleton]; unfold cc0_proj_norm_skel
  iintro ⟨H2, H3, H4, H5, H6, H7⟩
  sl_exec (disch := first | sl_exact hc0 | sl_exact hc1 | sl_exact hc2)
  sl_step
  isplitl [H2]; · iexact H2
  isplitl [H3]; · iexact H3
  isplitl [H4]; · iexact H4
  isplitl [H5]; · iexact H5
  isplitl [H6]
  · iapply (pointsTo_rep_of_read (c : Thread nD τ) arg6 _ _ _ ?_); rotate_left; · iexact H6
    sl_unfold_run_names
    rw [stO, covS, ldA, ldW, ldR, ldS, ldG, ldO]
  iapply (pointsTo_rep_of_read (c : Thread nD τ) arg7 _ _ _ ?_); rotate_left; · iexact H7
  sl_unfold_run_names
  rw [stS, ldA, ldW, ldR, ldS]
end

end Cert.OutIdeal.Hand

end
-- ==== Proof.Out.Run.lean ====
/- The launch of the last product: its frame, and what each block of its result holds. -/
module

public import proofs.«01_k».proof.Proof.Out.Body
public import Idealize.ShloMosaic.Lib.Pipeline.DatRel
public import Idealize.ShloMosaic.Lib.Pipeline.ArrRel
public import Idealize.ShloMosaic.Lib.Claim

@[expose] public section

set_option maxRecDepth 8192
set_option maxHeartbeats 4000000

noncomputable section

namespace Cert.OutIdeal.Hand

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Idealize.ShloMosaic.Pipeline (Dat RDat Cfg Window BodyObligationRel cellOf)

variable {F : FTy → Type} [FloatOps F]

local notation "𝕄G" => MT nD τ sig Unit (Elt F) ℕ (UR sig nD τ) ℕ

theorem lt128 (t : Fin cfg0.N) : t.val < 128 := lt_of_lt_of_eq t.isLt N_0

/-- The columns' coordinate of a point. -/
theorem coord1 (t : Fin cfg0.N) : ((grid0.coords t) 1).val = t.val % 4 := by
  have e : ((grid0.coords t) 1).val = t.val / 1 % 4 := Pipeline.Grid.coords_val t 1 (by decide) rfl
  rw [e, Nat.div_one]

/-- Where the point's columns begin. -/
theorem off_eq (i : grid0.Coords) : k0_off1 i = ![0, 1024 * (i 1).val] := by
  have h := lt4 i
  unfold k0_off1
  generalize (i 1).val = n at *
  rcases (by omega : n = 0 ∨ n = 1 ∨ n = 2 ∨ n = 3) with h | h | h | h <;> subst h <;> rfl

variable (m : (ℓ : Loc nD τ sig) → Buf (Elt F) ℓ) (ρ : Dev nD → PrngReg)

/-- The sum that a point computes. -/
def yb (c : Dev nD) (t : Fin cfg0.N) : Vec F S512x1024 .f32 := k0_pay1 (iblk m c 0 t) (iblk m c 1 t) (iblk m c 2 t)

/-- The sums of squares after a point. -/
def scr (c : Dev nD) : (n : ℕ) → n < cfg0.N → Vec F S512x1 .f32
  | 0, h => k0_pay3 (iblk m c 0 ⟨0, h⟩) (iblk m c 1 ⟨0, h⟩) (iblk m c 2 ⟨0, h⟩)
  | n + 1, h =>
    if (n + 1) % 4 = 0 then k0_pay3 (iblk m c 0 ⟨n + 1, h⟩) (iblk m c 1 ⟨n + 1, h⟩) (iblk m c 2 ⟨n + 1, h⟩)
    else k0_pay4 (iblk m c 0 ⟨n + 1, h⟩) (iblk m c 1 ⟨n + 1, h⟩) (iblk m c 2 ⟨n + 1, h⟩) (scr c n (Nat.lt_of_succ_lt h))

theorem scr_first (c : Dev nD) (t : Fin cfg0.N) (h : t.val % 4 = 0) :
    scr m c t.val t.isLt = k0_pay3 (iblk m c 0 t) (iblk m c 1 t) (iblk m c 2 t) := by
  obtain ⟨n, hn⟩ := t
  cases n with
  | zero => rfl
  | succ n => exact if_pos h

theorem scr_later (c : Dev nD) (t : Fin cfg0.N) (h : ¬ t.val % 4 = 0) :
    scr m c t.val t.isLt = k0_pay4 (iblk m c 0 t) (iblk m c 1 t) (iblk m c 2 t) (scr m c (t.val - 1) (Nat.lt_of_le_of_lt (Nat.sub_le _ _) t.isLt)) := by
  obtain ⟨n, hn⟩ := t
  cases n with
  | zero => exact absurd rfl h
  | succ n => exact if_neg h

/-- The point of a row of blocks that computes a column. -/
def colPt (t : Fin cfg0.N) (z : S512x4096.Idx) : Fin cfg0.N :=
  ⟨4 * (t.val / 4) + (z 1).val / 1024, by
    have h := lt128 t
    have hz : (z 1).val < 4096 := (z 1).isLt
    have hN : cfg0.N = 128 := N_0
    exact lt_of_lt_of_eq (by omega : 4 * (t.val / 4) + (z 1).val / 1024 < 128) hN.symm⟩

/-- A row of blocks of sums. -/
def full (c : Dev nD) (t : Fin cfg0.N) : Vec F S512x4096 .f32 :=
  fun z => yb m c (colPt t z) (fun a => match a with
    | ⟨0, _⟩ => ⟨(z 0).val, (z 0).isLt⟩
    | ⟨1, _⟩ => ⟨(z 1).val % 1024, Nat.mod_lt _ (by decide)⟩)

/-- The first columns of a block are the sums. -/
def Agree (c : Dev nD) (t : Fin cfg0.N) (n : ℕ) (X : Vec F S512x4096 .f32) : Prop :=
  ∀ z : S512x4096.Idx, (z 1).val < n * 1024 → X z = full m c t z

/-- The row of blocks normalised and scaled. -/
def fin (c : Dev nD) (t : Fin cfg0.N) : Vec F S512x4096 .f32 := k0_pay5 (scr m c t.val t.isLt) (full m c t) (iblk m c 3 t)

/-- What a point leaves in the block of results. -/
def R4 (c : Dev nD) (t : Fin cfg0.N) (X : Vec F S512x4096 .f32) : Prop :=
  if t.val % 4 = 3 then X = fin m c t else Agree m c t (t.val % 4 + 1) X

/-- A point's columns written after the columns before them. -/
theorem agree_cols (c : Dev nD) (t : Fin cfg0.N) (o : Vec F S512x4096 .f32) (h : Agree m c t (t.val % 4) o) :
    Agree m c t (t.val % 4 + 1) (cols (grid0.coords t) (iblk m c 0 t) (iblk m c 1 t) (iblk m c 2 t) o) := by
  intro z hz
  have e : cols (grid0.coords t) (iblk m c 0 t) (iblk m c 1 t) (iblk m c 2 t) o = put o ![0, 1024 * (t.val % 4)] S512x1024.size (yb m c t) := by
    unfold cols yb; rw [off_eq, coord1]
  rw [e]
  unfold put
  split
  · next hin =>
    have h1 : 1024 * (t.val % 4) ≤ (z 1).val := (hin 1).1
    have hp : colPt t z = t := Fin.ext (by show 4 * (t.val / 4) + (z 1).val / 1024 = t.val; omega)
    unfold full
    rw [hp]
    refine congrArg (yb m c t) (funext fun a => Fin.ext ?_)
    match a with
    | ⟨0, _⟩ => show (z 0).val - 0 = (z 0).val; omega
    | ⟨1, _⟩ => show (z 1).val - 1024 * (t.val % 4) = (z 1).val % 1024; omega
  · next hout =>
    refine h z ?_
    by_contra hc
    refine hout fun a => ?_
    match a with
    | ⟨0, _⟩ => exact ⟨Nat.zero_le _, by show (z 0).val < 0 + 512; have : (z 0).val < 512 := (z 0).isLt; omega⟩
    | ⟨1, _⟩ => exact ⟨by show 1024 * (t.val % 4) ≤ (z 1).val; omega, by show (z 1).val < 1024 * (t.val % 4) + 1024; omega⟩

/-- With the last columns the block is whole. -/
theorem agree_whole (c : Dev nD) (t : Fin cfg0.N) (X : Vec F S512x4096 .f32) (h : Agree m c t 4 X) : X = full m c t :=
  funext fun z => h z (by have hz : (z 1).val < 4096 := (z 1).isLt; omega)

theorem full_congr (c : Dev nD) (t u : Fin cfg0.N) (h : t.val / 4 = u.val / 4) : full m c t = full m c u := by
  funext z
  unfold full
  rw [show colPt t z = colPt u z from Fin.ext (by show 4 * (t.val / 4) + _ = 4 * (u.val / 4) + _; rw [h])]

/-- The column of sums, as the body is handed it. -/
abbrev scM : Memref sig .tc .vmem S512x1 .f32 := Memref.whole cc0_scratch0

theorem PhiA_eq (c : Dev nD) :
    (Pipeline.ΦA spec0 c : sProp 𝕄G) = iprop((∃ d, owns (c : Thread nD τ) scM fullShare d) ∗ (∃ r, prngReg c r)) := by
  unfold Pipeline.ΦA; rw [scopedRest0_eq]; simp only [scM, owns_whole]; try rfl

/-- What is held between points: the sums after the point before. -/
def Phi (c : Dev nD) : (n : ℕ) → n ≤ cfg0.N → sProp 𝕄G
  | 0, _ => Pipeline.ΦA spec0 c
  | n + 1, hn => iprop(owns (c : Thread nD τ) scM fullShare (scr m c n hn) ∗ (∃ r, prngReg c r))

theorem Phi_pos (c : Dev nD) (n : ℕ) (h : n ≤ cfg0.N) (hz : n ≠ 0) :
    Phi m c n h = iprop(owns (c : Thread nD τ) scM fullShare (scr m c (n - 1) (by omega)) ∗ (∃ r, prngReg c r)) := by
  cases n with
  | zero => exact absurd rfl hz
  | succ n => rfl

theorem Phi_any (c : Dev nD) (n : ℕ) (h : n ≤ cfg0.N) :
    Phi m c n h ⊢ iprop((∃ d, owns (c : Thread nD τ) scM fullShare d) ∗ (∃ r, prngReg c r)) := by
  cases n with
  | zero => unfold Phi; rw [PhiA_eq]
  | succ n =>
    unfold Phi
    iintro ⟨H, Hr⟩
    isplitl [H]; · iexists _; iexact H
    iexact Hr

/-- The region's proof data. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fin m c t
  Φ t := Phi m c t.val (Nat.le_of_lt_succ t.isLt)
  q _ := fullShare
  owed _ := 0

/-- The window of results is held to a predicate. -/
def fgt (w : Fin cfg0.W) : Bool := match w with
  | ⟨0, _⟩ => false
  | ⟨1, _⟩ => false
  | ⟨2, _⟩ => false
  | ⟨3, _⟩ => false
  | ⟨4, _⟩ => true

def Rl (c : Dev nD) (w : Fin cfg0.W) : Fin cfg0.N → ((cfg0.win w).block.Idx → Elt F (cfg0.win w).elt) → Prop := match w with
  | ⟨0, _⟩ => fun _ _ => True
  | ⟨1, _⟩ => fun _ _ => True
  | ⟨2, _⟩ => fun _ _ => True
  | ⟨3, _⟩ => fun _ _ => True
  | ⟨4, _⟩ => fun t X => R4 m c t X

theorem A_eq (c : Dev nD) (w : Fin cfg0.W) : (dats m 0 c).A w = Gen.V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d

/-- The relational data. -/
abbrev rdat (c : Dev nD) : RDat τ (Elt F) Unit ℕ (UR sig nD τ) ℕ cfg0 c := (dats m 0 c).toRRel fgt (Rl m c)

/-- What a point leaves in its block meets the predicate. -/
theorem leaves_R4 (c : Dev nD) (t : Fin cfg0.N) (X : Vec F S512x4096 .f32) (h : (rdat m c).Leaves 4 t X) : R4 m c t X :=
  (dats m 0 c).toRRel_leaves (fgt := fgt) (Rl := Rl m c) (w := 4) rfl h

/-- A point that is not its row's first finds the columns before its own. -/
theorem finds_agree (c : Dev nD) (t : Fin cfg0.N) (X : Vec F S512x4096 .f32) (h : (rdat m c).Finds 4 t X) : Agree m c t (t.val % 4) X := by
  by_cases ht : t.val % 4 = 0
  · intro z hz; rw [ht] at hz; omega
  have hz : t.val ≠ 0 := fun e => ht (by rw [e])
  have hf : (cfg0.win 4).fetch t = false := rfl
  rcases ((rdat m c).finds_of_pos hf hz X).mp h with hfl | hl
  · have := (flush0_4 _).mp hfl
    have h' : (t.val - 1) % 4 = 3 := this
    omega
  · have hr := leaves_R4 m c _ X hl
    unfold R4 at hr
    rw [if_neg (by show ¬ (t.val - 1) % 4 = 3; omega)] at hr
    intro z hz'
    rw [hr z (by show (z 1).val < ((t.val - 1) % 4 + 1) * 1024; rw [show (t.val - 1) % 4 + 1 = t.val % 4 by omega]; exact hz')]
    exact congrFun (full_congr m c _ _ (by show (t.val - 1) / 4 = t.val / 4; omega)) z

/-- What the body is called with at a point, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdat m c).Finds 4 t Y⌝ ∗ owns (c : Thread nD τ) (st0_4 t) fullShare Y))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜R4 m c t X⌝ ∗ owns (c : Thread nD τ) (st0_4 t) fullShare X))

/-- The body at a point, from any contents that may be there. -/
theorem body_pt (c : Dev nD) (t : Fin cfg0.N) (o : Vec F S512x4096 .f32) (s : Vec F S512x1 .f32) (ho : Agree m c t (t.val % 4) o)
    (hs : ¬ t.val % 4 = 0 → s = scr m c (t.val - 1) (Nat.lt_of_le_of_lt (Nat.sub_le _ _) t.isLt)) :
    Mem c (st0_0 t) (st0_1 t) (st0_2 t) (st0_3 t) (st0_4 t) scM (iblk m c 0 t) (iblk m c 1 t) (iblk m c 2 t) (iblk m c 3 t) o s
    ⊢ wp Idealize.ShloMosaic.frame (wpE (defs₀ (F := F)) Variants.none (c : Thread nD τ) none) Set.univ (bodyAt0 t)
        (fun _ => iprop(∃ X, ⌜R4 m c t X⌝ ∗ Mem c (st0_0 t) (st0_1 t) (st0_2 t) (st0_3 t) (st0_4 t) scM (iblk m c 0 t) (iblk m c 1 t) (iblk m c 2 t) (iblk m c 3 t)
          X (scr m c t.val t.isLt))) := by
  have hag := agree_cols m c t o ho
  unfold bodyAt0
  by_cases h0 : t.val % 4 = 0
  · have hR : R4 m c t (cols (grid0.coords t) (iblk m c 0 t) (iblk m c 1 t) (iblk m c 2 t) o) := by
      unfold R4; rw [if_neg (by omega)]; exact hag
    rw [scr_first m c t h0]
    refine (body_first Variants.none c none Set.univ (grid0.coords t) _ _ _ _ _ _ _ _ _ _ _ _ _ _ _ _ (by rw [coord1]; exact h0) o s).trans (wp_mono _ _ _ fun _ => ?_)
    iintro H
    iexists _
    isplitr
    swap; · iexact H
    ipureintro; exact hR
  · have hs' := hs h0
    subst hs'
    rw [scr_later m c t h0]
    by_cases h3 : t.val % 4 = 3
    · have hR : R4 m c t (k0_pay5 (k0_pay4 (iblk m c 0 t) (iblk m c 1 t) (iblk m c 2 t) (scr m c (t.val - 1) (Nat.lt_of_le_of_lt (Nat.sub_le _ _) t.isLt)))
          (cols (grid0.coords t) (iblk m c 0 t) (iblk m c 1 t) (iblk m c 2 t) o) (iblk m c 3 t)) := by
        unfold R4; rw [if_pos h3]
        rw [h3] at hag
        rw [agree_whole m c t _ hag]; unfold fin; rw [scr_later m c t h0]
      refine (body_last Variants.none c none Set.univ (grid0.coords t) _ _ _ _ _ _ _ _ _ _ _ _ _ _ _ _ (by rw [coord1]; exact h3) o _).trans (wp_mono _ _ _ fun _ => ?_)
      iintro H
      iexists _
      isplitr
      swap; · iexact H
      ipureintro; exact hR
    · have hR : R4 m c t (cols (grid0.coords t) (iblk m c 0 t) (iblk m c 1 t) (iblk m c 2 t) o) := by
        unfold R4; rw [if_neg h3]; exact hag
      refine (body_middle Variants.none c none Set.univ (grid0.coords t) _ _ _ _ _ _ _ _ _ _ _ _ _ _ _ _ (by rw [coord1]; omega) (by rw [coord1]; omega) o _).trans (wp_mono _ _ _ fun _ => ?_)
      iintro H
      iexists _
      isplitr
      swap; · iexact H
      ipureintro; exact hR

/-- What the sums are before a point. -/
theorem Phi_before (c : Dev nD) (t : Fin cfg0.N) :
    Phi m c t.val (Nat.le_of_lt t.isLt) ⊢ iprop(∃ s, ⌜¬ t.val % 4 = 0 → s = scr m c (t.val - 1) (Nat.lt_of_le_of_lt (Nat.sub_le _ _) t.isLt)⌝
      ∗ owns (c : Thread nD τ) scM fullShare s ∗ (∃ r, prngReg c r)) := by
  by_cases h0 : t.val % 4 = 0
  · refine (Phi_any m c _ _).trans ?_
    iintro ⟨⟨%s, H⟩, Hr⟩
    iexists s
    isplitr; · ipureintro; exact fun h => absurd h0 h
    isplitl [H]; · iexact H
    iexact Hr
  · rw [Phi_pos m c _ _ (fun e => h0 (by rw [e]))]
    iintro ⟨H, Hr⟩
    iexists _
    isplitr
    swap
    · isplitl [H]; · iexact H
      iexact Hr
    ipureintro; exact fun _ => rfl

/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost
  simp only [before_0, before_1, before_2, before_3]
  rw [show (dats m 0 c).owesAt () t.succ = (dats m 0 c).owesAt () t.castSucc from rfl, after_0, after_1, after_2, after_3,
    show (dats m 0 c).Φ t.castSucc = Phi m c t.val (Nat.le_of_lt t.isLt) from rfl,
    show (dats m 0 c).Φ t.succ = iprop(owns (c : Thread nD τ) scM fullShare (scr m c t.val t.isLt) ∗ (∃ r, prngReg c r)) from rfl]
  iintro ⟨HP, Ho, ⟨%d0, H0⟩, ⟨%d1, H1⟩, ⟨%d2, H2⟩, ⟨%d3, H3⟩, ⟨%Y, %hY, H4⟩⟩
  ihave HP' := (Phi_before m c t) $$ HP
  icases HP' with ⟨%s, %hs, HS, Hr⟩
  iapply (wp_wand_r Idealize.ShloMosaic.frame (wpE (defs₀ (F := F)) Variants.none (c : Thread nD τ) none) Set.univ)
  isplitl [HS H0 H1 H2 H3 H4]
  · iapply (body_pt m c t Y s (finds_agree m c t Y hY) hs)
    unfold Mem
    isplitl [H0]; · iexact H0
    isplitl [H1]; · iexact H1
    isplitl [H2]; · iexact H2
    isplitl [H3]; · iexact H3
    isplitl [H4]; · iexact H4
    iexact HS
  · iintro %_ ⟨%X, %hX, H0, H1, H2, H3, H4, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    iexists X
    isplitr; · ipureintro; exact hX
    iexact H4

/-- The body table's row at a point. -/
theorem row (t : Fin cfg0.N) : defs₀ (F := F) .tc cfg0.body (cfg0.bodyArgs t (cfg0.slots t)) = bodyAt0 t := by
  unfold defs₀; rw [Defs.onTc_tc]

theorem obligation (c : Dev nD) : BodyObligationRel (dats (F := F) m 0 c) (defs₀ (F := F)) Variants.none () Set.univ fgt (Rl m c) := fun t => by
  rw [bigSep_W0, bigSep_W0, row]
  exact triple_restated (sound_body m c t) rfl .rfl fun _ => .rfl

theorem hin (c : Dev nD) : Pipeline.ΦA spec0 c ⊢ (rdat m c).Φ 0 := by
  rw [show (rdat m c).Φ 0 = Pipeline.ΦA spec0 c from rfl]

theorem hout (c : Dev nD) : (rdat m c).Φ (Fin.last cfg0.N) ⊢ Pipeline.ΦA spec0 c := by
  rw [show (rdat m c).Φ (Fin.last cfg0.N) = Phi m c cfg0.N (Nat.le_refl _) from rfl, PhiA_eq]
  exact Phi_any m c _ _

set_option backward.isDefEq.respectTransparency.types false in
/-- The run: the arrays at what the relational data allow, every counter at zero. -/
theorem run_quiet : θ_run defs (onTc (τ := τ) (main (F := F))) (s₀ m ρ)
    (fun r => RDat.FramePost (cfgs 0) (rdat m) (Gen.V m) r ∧ r.2.sem = fun _ => 0) :=
  RDat.θ_run_frame_track (Q' := _) cfgs (0 : Fin 1) launch0 defs₀ Variants.none (rdat m) m ρ main
    (hbody := fun c => (obligation m c).toRRel) (hshare := fun c => (dats m 0 c).share_full fun _ => rfl)
    (howed := fun _ _ => rfl) (V := Gen.V m) (hmain := hmain m Variants.none) (hA := A_eq m) (hin := hin m) (hout := hout m)

/-- The frame, with the counters. -/
theorem frame_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_quiet m ρ)

end Cert.OutIdeal.Hand

end
-- ==== Proof.Out.Blocks.lean ====
/- The blocks a point of the last product's call is handed, at an index; the sums of squares carried from point to point;
   the result after the run. -/
module

public import proofs.«01_k».proof.Proof.Out.Run
public import Idealize.ShloMosaic.Lib.Pointwise
public import Idealize.ShloMosaic.Lib.Pipeline.ValueKit

@[expose] public section

set_option maxRecDepth 16384

noncomputable section

namespace Cert.OutIdeal.Hand

open Cert.OutIdeal Cert.OutIdeal.Gen
open Idealize.ShloMosaic Idealize.ShloMosaic.TcCoe

variable (m : (ℓ : Loc nD τ sig) → Buf (Elt Ideal) ℓ) (c : Dev nD)

theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = t.val % 4 := by decide +kernel
theorem idx3 : ∀ t : Fin grid0.N, win0_3.index t 0 = 0 ∧ win0_3.index t 1 = 0 := by decide +kernel
theorem idx4 : ∀ t : Fin grid0.N, win0_4.index t 0 = t.val / 4 ∧ win0_4.index t 1 = 0 := by decide +kernel

/-- The row and the column of the arrays at a row and a column of a point's block. -/
def rowOf (t : Fin cfg0.N) (x : Fin 512) : Fin 16384 := ⟨t.val / 4 * 512 + x.val, by have := lt128 t; have := x.isLt; omega⟩
def colOf (t : Fin cfg0.N) (y : Fin 1024) : Fin 4096 := ⟨t.val % 4 * 1024 + y.val, by have := y.isLt; omega⟩

/-- The four arrays the host hands the call, as arrays of extended reals. -/
abbrev arrA : S16384x4096.Idx → EReal := V m c main_v1
abbrev arrW : S4096x4096.Idx → EReal := V m c main_v2
abbrev arrR : S16384x4096.Idx → EReal := V m c main_v3
abbrev arrG : S1x4096.Idx → EReal := V m c main_v4

theorem blk0 (t : Fin cfg0.N) (x : Fin 512) (k : Fin 4096) :
    (iblk m c 0 t : S512x4096.Idx → EReal) (ix2 x k) = arrA m c (ix2 (rowOf t x) k) := by
  obtain ⟨e0, e1⟩ := idx0 t
  refine congrArg (V m c main_v1 : S16384x4096.Idx → EReal) (funext fun a => Fin.ext ?_)
  match a with
  | ⟨0, _⟩ => show win0_0.index t 0 * 512 + 1 * x.val = t.val / 4 * 512 + x.val; rw [e0]; omega
  | ⟨1, _⟩ => show win0_0.index t 1 * 4096 + 1 * k.val = k.val; rw [e1]; omega

theorem blk1 (t : Fin cfg0.N) (k : Fin 4096) (y : Fin 1024) :
    (iblk m c 1 t : S4096x1024.Idx → EReal) (ix2 k y) = arrW m c (ix2 k (colOf t y)) := by
  obtain ⟨e0, e1⟩ := idx1 t
  refine congrArg (V m c main_v2 : S4096x4096.Idx → EReal) (funext fun a => Fin.ext ?_)
  match a with
  | ⟨0, _⟩ => show win0_1.index t 0 * 4096 + 1 * k.val = k.val; rw [e0]; omega
  | ⟨1, _⟩ => show win0_1.index t 1 * 1024 + 1 * y.val = t.val % 4 * 1024 + y.val; rw [e1]; omega

theorem blk2 (t : Fin cfg0.N) (x : Fin 512) (y : Fin 1024) :
    (iblk m c 2 t : S512x1024.Idx → EReal) (ix2 x y) = arrR m c (ix2 (rowOf t x) (colOf t y)) := by
  obtain ⟨e0, e1⟩ := idx2 t
  refine congrArg (V m c main_v3 : S16384x4096.Idx → EReal) (funext fun a => Fin.ext ?_)
  match a with
  | ⟨0, _⟩ => show win0_2.index t 0 * 512 + 1 * x.val = t.val / 4 * 512 + x.val; rw [e0]; omega
  | ⟨1, _⟩ => show win0_2.index t 1 * 1024 + 1 * y.val = t.val % 4 * 1024 + y.val; rw [e1]; omega

theorem blk3 (t : Fin cfg0.N) (z : Fin 1) (y : Fin 4096) :
    (iblk m c 3 t : S1x4096.Idx → EReal) (ix2 z y) = arrG m c (ix2 z y) := by
  obtain ⟨e0, e1⟩ := idx3 t
  refine congrArg (V m c main_v4 : S1x4096.Idx → EReal) (funext fun a => Fin.ext ?_)
  match a with
  | ⟨0, _⟩ => show win0_3.index t 0 * 1 + 1 * z.val = z.val; rw [e0]; omega
  | ⟨1, _⟩ => show win0_3.index t 1 * 4096 + 1 * y.val = y.val; rw [e1]; omega

/-- Where an index of a point's block of results lies in the result. -/
theorem emb4 (t : Fin cfg0.N) (x : Fin 512) (q : Fin 4096) :
    ((cfg0.win 4).blk t).view.emb (ix2 x q : S512x4096.Idx) = (ix2 (rowOf t x) q : S16384x4096.Idx) := by
  obtain ⟨e0, e1⟩ := idx4 t
  refine funext fun a => Fin.ext ?_
  match a with
  | ⟨0, _⟩ => show win0_4.index t 0 * 512 + 1 * x.val = t.val / 4 * 512 + x.val; rw [e0]; omega
  | ⟨1, _⟩ => show win0_4.index t 1 * 4096 + 1 * q.val = q.val; rw [e1]; omega

/-- The product with the residual added, at a row and a column. -/
def yAt (r : Fin 16384) (q : Fin 4096) : EReal :=
  (∑ k : Fin 4096, arrA m c (ix2 r k) * arrW m c (ix2 k q)) + arrR m c (ix2 r q)

theorem pay1_eq (x0 : Vec Ideal S512x4096 .bf16) (x1 : Vec Ideal S4096x1024 .bf16) (x2 : Vec Ideal S512x1024 .f32)
    (x : Fin 512) (y : Fin 1024) :
    (k0_pay1 (F := Ideal) x0 x1 x2 : S512x1024.Idx → EReal) (ix2 x y)
      = (∑ k : Fin 4096, (x0 : S512x4096.Idx → EReal) (ix2 x k) * (x1 : S4096x1024.Idx → EReal) (ix2 k y))
        + (x2 : S512x1024.Idx → EReal) (ix2 x y) := by
  pointwise [k0_pay1]

theorem pay3_eq (x0 : Vec Ideal S512x4096 .bf16) (x1 : Vec Ideal S4096x1024 .bf16) (x2 : Vec Ideal S512x1024 .f32)
    (x : Fin 512) :
    (k0_pay3 (F := Ideal) x0 x1 x2 : S512x1.Idx → EReal) (ix2 x 0)
      = ∑ y : Fin 1024, (k0_pay1 (F := Ideal) x0 x1 x2 : S512x1024.Idx → EReal) (ix2 x y)
          * (k0_pay1 (F := Ideal) x0 x1 x2 : S512x1024.Idx → EReal) (ix2 x y) := by
  simp only [pay1_eq]
  pointwise [k0_pay3, k0_pay2, k0_pay1]

theorem pay4_eq (x0 : Vec Ideal S512x4096 .bf16) (x1 : Vec Ideal S4096x1024 .bf16) (x2 : Vec Ideal S512x1024 .f32)
    (s : Vec Ideal S512x1 .f32) (x : Fin 512) :
    (k0_pay4 (F := Ideal) x0 x1 x2 s : S512x1.Idx → EReal) (ix2 x 0)
      = (s : S512x1.Idx → EReal) (ix2 x 0) + ∑ y : Fin 1024, (k0_pay1 (F := Ideal) x0 x1 x2 : S512x1024.Idx → EReal) (ix2 x y)
          * (k0_pay1 (F := Ideal) x0 x1 x2 : S512x1024.Idx → EReal) (ix2 x y) := by
  simp only [pay1_eq]
  pointwise [k0_pay4, k0_pay2, k0_pay1]

theorem pay5_eq (s : Vec Ideal S512x1 .f32) (o : Vec Ideal S512x4096 .f32) (g : Vec Ideal S1x4096 .f32) (x : Fin 512) (q : Fin 4096) :
    (k0_pay5 (F := Ideal) s o g : S512x4096.Idx → EReal) (ix2 x q)
      = (o : S512x4096.Idx → EReal) (ix2 x q)
          * Ideal.rsqrt ((s : S512x1.Idx → EReal) (ix2 x 0) * Ideal.ofBits .f32 0x39800000#32 + Ideal.ofBits .f32 0x358637BD#32)
          * (g : S1x4096.Idx → EReal) (ix2 0 q) := by
  pointwise [k0_pay5]

/-- A point's product with its residual, at an index of its block. -/
theorem y_blk (t : Fin cfg0.N) (x : Fin 512) (y : Fin 1024) :
    (k0_pay1 (F := Ideal) (iblk m c 0 t) (iblk m c 1 t) (iblk m c 2 t) : S512x1024.Idx → EReal) (ix2 x y)
      = yAt m c (rowOf t x) (colOf t y) := by
  refine (pay1_eq _ _ _ x y).trans ?_
  refine congrArg₂ (fun a b : EReal => a + b) (Finset.sum_congr rfl fun k _ => ?_) (blk2 m c t x y)
  exact congrArg₂ (fun a b : EReal => a * b) (blk0 m c t x k) (blk1 m c t k y)

/-- The row of blocks of sums, at an index. -/
theorem full_eq (t : Fin cfg0.N) (x : Fin 512) (q : Fin 4096) :
    (full (F := Ideal) m c t : S512x4096.Idx → EReal) (ix2 x q) = yAt m c (rowOf t x) q := by
  have hq : q.val < 4096 := q.isLt
  have ht := lt128 t
  have hy : q.val % 1024 < 1024 := Nat.mod_lt _ (by decide)
  refine Eq.trans (congrArg (yb (F := Ideal) m c (colPt t (ix2 x q : S512x4096.Idx))) ?_)
    ((y_blk m c (colPt t (ix2 x q : S512x4096.Idx)) x ⟨q.val % 1024, hy⟩).trans ?_)
  · funext a
    match a with
    | ⟨0, _⟩ => rfl
    | ⟨1, _⟩ => rfl
  · have hr : rowOf (colPt t (ix2 x q : S512x4096.Idx)) x = rowOf t x := Fin.ext (by
      show (4 * (t.val / 4) + q.val / 1024) / 4 * 512 + x.val = t.val / 4 * 512 + x.val
      have : (4 * (t.val / 4) + q.val / 1024) / 4 = t.val / 4 := by omega
      rw [this])
    have hc : colOf (colPt t (ix2 x q : S512x4096.Idx)) ⟨q.val % 1024, hy⟩ = q := Fin.ext (by
      show (4 * (t.val / 4) + q.val / 1024) % 4 * 1024 + q.val % 1024 = q.val
      omega)
    rw [hr, hc]

/-- The square of the product at a row and a column counted past the last as zero. -/
def sq (r : Fin 16384) (n : ℕ) : EReal := if h : n < 4096 then yAt m c r ⟨n, h⟩ * yAt m c r ⟨n, h⟩ else 0

theorem sum_blk (t : Fin cfg0.N) (x : Fin 512) :
    (∑ y : Fin 1024, (k0_pay1 (F := Ideal) (iblk m c 0 t) (iblk m c 1 t) (iblk m c 2 t) : S512x1024.Idx → EReal) (ix2 x y)
          * (k0_pay1 (F := Ideal) (iblk m c 0 t) (iblk m c 1 t) (iblk m c 2 t) : S512x1024.Idx → EReal) (ix2 x y) : EReal)
      = ∑ n ∈ Finset.range 1024, sq m c (rowOf t x) (t.val % 4 * 1024 + n) := by
  rw [Finset.sum_range]
  refine Finset.sum_congr rfl fun y _ => ?_
  rw [y_blk m c t x y]
  have hy : t.val % 4 * 1024 + y.val < 4096 := by have := y.isLt; omega
  unfold sq
  rw [dif_pos hy]
  rfl

/-- The carried column after a point: the sum of the squares of the row up to the point's last column. -/
theorem carry_eq : ∀ (n : ℕ) (h : n < cfg0.N) (x : Fin 512),
    (scr (F := Ideal) m c n h : S512x1.Idx → EReal) (ix2 x 0)
      = ∑ i ∈ Finset.range (n % 4 * 1024 + 1024), sq m c (rowOf ⟨n, h⟩ x) i := by
  intro n
  induction n with
  | zero =>
    intro h x
    refine (congrFun (scr_first m c ⟨0, h⟩ rfl) (ix2 x 0)).trans ((pay3_eq _ _ _ x).trans ((sum_blk m c ⟨0, h⟩ x).trans ?_))
    refine Finset.sum_congr rfl fun i _ => ?_
    show sq m c _ (0 % 4 * 1024 + i) = _
    rw [show 0 % 4 * 1024 + i = i by omega]
  | succ n ih =>
    intro h x
    by_cases h0 : (n + 1) % 4 = 0
    · refine (congrFun (scr_first m c ⟨n + 1, h⟩ h0) (ix2 x 0)).trans ((pay3_eq _ _ _ x).trans ((sum_blk m c ⟨n + 1, h⟩ x).trans ?_))
      rw [show (n + 1) % 4 * 1024 + 1024 = 1024 by omega]
      refine Finset.sum_congr rfl fun i _ => ?_
      show sq m c _ ((n + 1) % 4 * 1024 + i) = _
      rw [show (n + 1) % 4 * 1024 + i = i by omega]
    · refine (congrFun (scr_later m c ⟨n + 1, h⟩ h0) (ix2 x 0)).trans ((pay4_eq _ _ _ _ x).trans ?_)
      rw [Finset.sum_range_add]
      refine congrArg₂ (fun a b : EReal => a + b) ((ih (by omega) x).trans ?_) (sum_blk m c ⟨n + 1, h⟩ x)
      have hr : rowOf ⟨n, by omega⟩ x = rowOf ⟨n + 1, h⟩ x := Fin.ext (by
        show n / 4 * 512 + x.val = (n + 1) / 4 * 512 + x.val
        have : (n + 1) / 4 = n / 4 := by omega
        rw [this])
      rw [hr, show n % 4 * 1024 + 1024 = (n + 1) % 4 * 1024 by omega]

/-- At the last column of blocks it is the sum over the whole row. -/
theorem carry_last (t : Fin cfg0.N) (h3 : t.val % 4 = 3) (x : Fin 512) :
    (scr (F := Ideal) m c t.val t.isLt : S512x1.Idx → EReal) (ix2 x 0)
      = ∑ q : Fin 4096, yAt m c (rowOf t x) q * yAt m c (rowOf t x) q := by
  refine (carry_eq m c t.val t.isLt x).trans ?_
  rw [show t.val % 4 * 1024 + 1024 = 4096 by omega, Finset.sum_range]
  refine Finset.sum_congr rfl fun q _ => ?_
  unfold sq
  rw [dif_pos q.isLt]

/-- The normalised row of blocks, at an index. -/
theorem fin_eq (t : Fin cfg0.N) (h3 : t.val % 4 = 3) (x : Fin 512) (q : Fin 4096) :
    (fin (F := Ideal) m c t : S512x4096.Idx → EReal) (ix2 x q)
      = yAt m c (rowOf t x) q
          * Ideal.rsqrt ((∑ p : Fin 4096, yAt m c (rowOf t x) p * yAt m c (rowOf t x) p) * Ideal.ofBits .f32 0x39800000#32
              + Ideal.ofBits .f32 0x358637BD#32)
          * arrG m c (ix2 0 q) := by
  unfold fin
  refine (pay5_eq _ _ _ x q).trans ?_
  rw [carry_last m c t h3 x]
  exact congrArg₂ (fun a b : EReal => a * b) (congrArg₂ (fun a b : EReal => a * b) (full_eq m c t x q) rfl) (blk3 m c t 0 q)

/-- The result after the run, of any data whose blocks at the points written back are what a point leaves. -/
theorem final4 (after : (w : Fin cfg0.W) → Fin cfg0.N → (cfg0.win w).block.Idx → Elt Ideal (cfg0.win w).elt)
    (hL : ∀ (w : Fin cfg0.W) (u : Fin cfg0.N), (cfg0.win w).flush u = true → (rdat (F := Ideal) m c).Leaves w u (after w u))
    (G : S16384x4096.Idx → EReal)
    (hG : ∀ r q, yAt m c r q
        * Ideal.rsqrt ((∑ p : Fin 4096, yAt m c r p * yAt m c r p) * Ideal.ofBits .f32 0x39800000#32 + Ideal.ofBits .f32 0x358637BD#32)
        * arrG m c (ix2 0 q) = G (ix2 r q)) :
    ((rdat (F := Ideal) m c).withAfter after).arrAt 4 cfg0.N = G := by
  refine ((rdat (F := Ideal) m c).withAfter after).arrAt_eq_of_covers 4 G (by decide +kernel) fun t hf i => ?_
  obtain ⟨x, q, rfl⟩ : ∃ (x : Fin 512) (q : Fin 4096), i = (ix2 x q : S512x4096.Idx) := ⟨i 0, i 1, eq_ix2 (n0 := 512) (n1 := 4096) i⟩
  have h3 := (flush0_4 t).mp hf
  have hR := leaves_R4 m c t (after 4 t) (hL 4 t hf)
  unfold R4 at hR
  rw [if_pos h3] at hR
  refine Eq.trans ?_ ((hG (rowOf t x) q).trans (congrArg G (emb4 t x q)).symm)
  show after 4 t (ix2 x q : S512x4096.Idx) = _
  rw [hR]
  exact fin_eq m c t h3 x q

end Cert.OutIdeal.Hand

end
-- ==== Proof.Out.Host.lean ====
/- The arrays the host hands the last product's call, at an index, of the arguments. -/
module

public import proofs.«01_k».proof.Proof.Out.Blocks

@[expose] public section

set_option maxRecDepth 16384

noncomputable section

namespace Cert.OutIdeal.Hand

open Cert.OutIdeal Cert.OutIdeal.Gen
open Idealize.ShloMosaic Idealize.ShloMosaic.TcCoe

variable (m : (ℓ : Loc nD τ sig) → Buf (Elt Ideal) ℓ) (c : Dev nD)

/-- The arguments, as arrays of extended reals. -/
abbrev argO : S2x8192x4096.Idx → EReal := m ((c : Thread nD τ).loc main_arg0)
abbrev argW : S4096x4096.Idx → EReal := m ((c : Thread nD τ).loc main_arg1)
abbrev argX : S2x8192x4096.Idx → EReal := m ((c : Thread nD τ).loc main_arg2)
abbrev argG : S4096.Idx → EReal := m ((c : Thread nD τ).loc main_arg3)

/-- A row's batch and position. -/
def bat (r : Fin 16384) : Fin 2 := ⟨r.val / 8192, by have := r.isLt; omega⟩
def pos (r : Fin 16384) : Fin 8192 := ⟨r.val % 8192, by omega⟩

theorem hostA (r : Fin 16384) (k : Fin 4096) : arrA m c (ix2 r k) = argO m c (ix3 (bat r) (pos r) k) := by
  dsimp only [arrA, V, hostOps0]
  after_results
  pointwise
  rfl

theorem hostW (k : Fin 4096) (y : Fin 4096) : arrW m c (ix2 k y) = argW m c (ix2 k y) := by
  dsimp only [arrW, V, hostOps0]
  after_results
  pointwise

theorem hostR (r : Fin 16384) (k : Fin 4096) : arrR m c (ix2 r k) = argX m c (ix3 (bat r) (pos r) k) := by
  dsimp only [arrR, V, hostOps0]
  after_results
  pointwise
  rfl

theorem hostG (k : Fin 4096) : arrG m c (ix2 0 k) = argG m c (ix1 k) := by
  dsimp only [arrG, V, hostOps0]
  after_results
  pointwise

end Cert.OutIdeal.Hand

end
-- ==== Proof.Out.Ref.lean ====
/- The last product's reference, at an index. -/
module

public import proofs.«01_k».proof.Proof.Gen.OutRefIdeal.Read
public import Idealize.ShloMosaic.Lib.Pointwise

@[expose] public section

set_option maxRecDepth 16384

noncomputable section

namespace Cert.OutRefIdeal.Hand

open Cert.OutRefIdeal Cert.OutRefIdeal.Gen Cert.OutRefIdeal.Read
open Idealize.ShloMosaic Idealize.ShloMosaic.TcCoe

/-- A row's batch and position. -/
def bat (r : Fin 16384) : Fin 2 := ⟨r.val / 8192, by have := r.isLt; omega⟩
def pos (r : Fin 16384) : Fin 8192 := ⟨r.val % 8192, by omega⟩

/-- The layer's output before the norm at a row and a column. -/
def yRef (o : S2x8192x4096.Idx → EReal) (w : S4096x4096.Idx → EReal) (x : S2x8192x4096.Idx → EReal) (r : Fin 16384) (q : Fin 4096) : EReal :=
  x (ix3 (bat r) (pos r) q) + ∑ k : Fin 4096, o (ix3 (bat r) (pos r) k) * w (ix2 k q)

variable (o : S2x8192x4096.Idx → EReal) (w : S4096x4096.Idx → EReal) (x : S2x8192x4096.Idx → EReal) (g : S4096.Idx → EReal)

theorem ref_out (r : Fin 16384) (q : Fin 4096) :
    (val_main_v15 (F := Ideal) o w x g : S16384x4096.Idx → EReal) (ix2 r q)
      = yRef o w x r q
          * Ideal.rsqrt (Ideal.div (∑ p : Fin 4096, yRef o w x r p * yRef o w x r p) (Ideal.ofBits .f32 0x45800000#32)
              + Ideal.ofBits .f32 0x358637BD#32)
          * g (ix1 q) := by
  unfold yRef
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.OutRefIdeal.Hand

end
-- ==== Proof.Out.Value.lean ====
/- The last product's call and its reference leave the same array. -/
module

public import proofs.«01_k».proof.Proof.Out.Host
public import proofs.«01_k».proof.Proof.Out.Ref
public import proofs.«01_k».proof.Proof.In.Norm

@[expose] public section

set_option maxRecDepth 16384

noncomputable section

namespace Cert.OutIdeal.Hand

open Cert.OutIdeal Cert.OutIdeal.Gen
open Idealize.ShloMosaic Idealize.ShloMosaic.TcCoe

variable (m : (ℓ : Loc nD τ sig) → Buf (Elt Ideal) ℓ) (c : Dev nD)

theorem y_eq (r : Fin 16384) (q : Fin 4096) :
    yAt m c r q = Cert.OutRefIdeal.Hand.yRef (argO m c) (argW m c) (argX m c) r q := by
  unfold yAt Cert.OutRefIdeal.Hand.yRef
  rw [hostR, add_comm]
  refine congrArg₂ (fun a b : EReal => a + b) rfl (Finset.sum_congr rfl fun k _ => ?_)
  rw [hostA, hostW]
  rfl

/-- The reference's result, of the call's arguments. -/
abbrev result : S16384x4096.Idx → EReal :=
  Cert.OutRefIdeal.Read.val_main_v15 (F := Ideal) (argO m c) (argW m c) (argX m c) (argG m c)

theorem value4 (after : (w : Fin cfg0.W) → Fin cfg0.N → (cfg0.win w).block.Idx → Elt Ideal (cfg0.win w).elt)
    (hL : ∀ (w : Fin cfg0.W) (u : Fin cfg0.N), (cfg0.win w).flush u = true → (rdat (F := Ideal) m c).Leaves w u (after w u)) :
    ((rdat (F := Ideal) m c).withAfter after).arrAt 4 cfg0.N = result m c :=
  final4 m c after hL _ fun r q => by
    refine Eq.trans ?_ (Cert.OutRefIdeal.Hand.ref_out (argO m c) (argW m c) (argX m c) (argG m c) r q).symm
    rw [hostG, Cert.Norm.mean_eq]
    simp only [y_eq]

/-- The run: the result is the reference's, the arguments are as they were. -/
theorem run_value (ρ : Dev nD → PrngReg) :
    θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨after, hL, hA⟩ := Pipeline.RDat.FramePost.exists_exact h.1 c
    exact ⟨(hA 4).trans (value4 m c after hL),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_quiet m ρ)

end Cert.OutIdeal.Hand

end
-- ==== Proof.Down.Math.lean ====
/- What a row of the down projection's call comes to, of a row of the input. -/
module

public import Idealize.ShloMosaic.PureOps.Ideal

@[expose] public section

noncomputable section

namespace Cert.Down

open Idealize.ShloMosaic

/-- A row over its root mean square, times a gain. -/
def nrm {n : Nat} (d : EReal) (v g : Fin n → EReal) (q : Fin n) : EReal :=
  v q * Ideal.rsqrt (Ideal.div (∑ p : Fin n, v p * v p) d + Ideal.ofBits .f32 0x358637BD#32) * g q

/-- The columns of the two compressed rows and of the rotated part among the projection's. -/
def qcol (p : Fin 1024) : Fin 1664 := ⟨p.val, by have := p.isLt; omega⟩
def kcol (p : Fin 512) : Fin 1664 := ⟨1024 + p.val, by have := p.isLt; omega⟩
def rcol (p : Fin 128) : Fin 1664 := ⟨1536 + p.val, by have := p.isLt; omega⟩

/-- The two partners of a column, thirty-two after it and thirty-two before it. -/
def nxt (y : Fin 128) : Fin 128 := ⟨(y.val + 32) % 128, by omega⟩
def prv (y : Fin 128) : Fin 128 := ⟨(y.val + 96) % 128, by omega⟩
def ang (y : Fin 128) : Fin 32 := ⟨y.val % 32, by omega⟩

/-- The rotation, each pair of 32 columns apart by its angle. -/
def rot (t : Fin 128 → EReal) (c s : Fin 32 → EReal) (y : Fin 128) : EReal :=
  if y.val / 32 % 2 = 0 then t y * c (ang y) - t (nxt y) * s (ang y) else t y * c (ang y) + t (prv y) * s (ang y)

variable (x g : Fin 4096 → EReal) (w : Fin 4096 → Fin 1664 → EReal)

def hRow (k : Fin 4096) : EReal := nrm (Ideal.ofBits .f32 0x45800000#32) x g k
def lin (j : Fin 1664) : EReal := ∑ k : Fin 4096, hRow x g k * w k j
def qRow (qn : Fin 1024 → EReal) (q : Fin 1024) : EReal := nrm (Ideal.ofBits .f32 0x44800000#32) (fun p => lin x g w (qcol p)) qn q
def kRow (kn : Fin 512 → EReal) (q : Fin 512) : EReal := nrm (Ideal.ofBits .f32 0x44000000#32) (fun p => lin x g w (kcol p)) kn q
def rRow (c s : Fin 32 → EReal) (y : Fin 128) : EReal := rot (fun p => lin x g w (rcol p)) c s y

end Cert.Down

end
-- ==== Proof.Down.Pay.lean ====
/- What a point of the down projection's call writes, at an index of its blocks. -/
module

public import proofs.«01_k».proof.Proof.Gen.DownIdeal.Value
public import proofs.«01_k».proof.Proof.Down.Math
public import Idealize.ShloMosaic.Lib.Pointwise
public import Idealize.ShloMosaic.Lib.Pipeline.Value
public import Idealize.ShloMosaic.Lib.Pipeline.ValueKit

@[expose] public section

set_option maxRecDepth 16384

noncomputable section

namespace Cert.DownIdeal.Mat

open Cert.DownIdeal Cert.DownIdeal.Gen Cert.Down
open Idealize.ShloMosaic Idealize.ShloMosaic.TcCoe

variable (x0 : Vec Ideal S256x4096 .f32) (x1 : Vec Ideal S1x4096 .f32) (x2 : Vec Ideal S4096x1664 .bf16)
  (x3 : Vec Ideal S1x1024 .f32) (x4 : Vec Ideal S1x512 .f32) (x5 : Vec Ideal S256x128 .f32) (x6 : Vec Ideal S256x128 .f32)

theorem hz {a b : Nat} : (![0, 0] : Fin (Shape.rank ⟨2, ![a, b]⟩) → Nat) = fun _ => 0 := funext fun a => by fin_cases a <;> rfl

/-- The blocks by rows and columns. -/
abbrev bx (x : Fin 256) (k : Fin 4096) : EReal := (x0 : S256x4096.Idx → EReal) (ix2 x k)
abbrev bg (k : Fin 4096) : EReal := (x1 : S1x4096.Idx → EReal) (ix2 0 k)
abbrev bw (k : Fin 4096) (j : Fin 1664) : EReal := (x2 : S4096x1664.Idx → EReal) (ix2 k j)
abbrev bq (k : Fin 1024) : EReal := (x3 : S1x1024.Idx → EReal) (ix2 0 k)
abbrev bk (k : Fin 512) : EReal := (x4 : S1x512.Idx → EReal) (ix2 0 k)
abbrev bc (x : Fin 256) (k : Fin 128) : EReal := (x5 : S256x128.Idx → EReal) (ix2 x k)

theorem pay3 (x : Fin 256) (k : Fin 4096) :
    (k0_pay3 (F := Ideal) x0 x1 : S256x4096.Idx → EReal) (ix2 x k) = hRow (bx x0 x) (bg x1) k := by
  unfold hRow nrm bx bg
  pointwise [k0_pay3]
  try rfl

theorem pay4 (x : Fin 256) (j : Fin 1664) :
    (k0_pay4 (F := Ideal) x0 x1 x2 : S256x1664.Idx → EReal) (ix2 x j) = lin (bx x0 x) (bg x1) (bw x2) j := by
  refine Eq.trans (b := ∑ k : Fin 4096, (k0_pay3 (F := Ideal) x0 x1 : S256x4096.Idx → EReal) (ix2 x k) * (x2 : S4096x1664.Idx → EReal) (ix2 k j)) ?_ ?_
  · unfold k0_pay4
    generalize (k0_pay3 (F := Ideal) x0 x1) = h
    pointwise
    try rfl
  · exact Finset.sum_congr rfl fun k _ => congrArg (fun a : EReal => a * _) (pay3 x0 x1 x k)

theorem pay5 (x : Fin 256) (q : Fin 1024) :
    (k0_pay5 (F := Ideal) x0 x1 x2 x3 : S256x1024.Idx → EReal) (ix2 x q) = qRow (bx x0 x) (bg x1) (bw x2) (bq x3) q := by
  have e : ∀ p, lin (bx x0 x) (bg x1) (bw x2) p = (k0_pay4 (F := Ideal) x0 x1 x2 : S256x1664.Idx → EReal) (ix2 x p) := fun p => (pay4 x0 x1 x2 x p).symm
  unfold qRow nrm bq k0_pay5
  simp only [e]
  generalize (k0_pay4 (F := Ideal) x0 x1 x2) = v
  pointwise [qcol]
  try rfl

theorem pay1 (v : FVec Ideal S256x1664 .f32) (x : Fin 256) (q : Fin 512) :
    (k0_pay1 (F := Ideal) v x4 : S256x512.Idx → EReal) (ix2 x q)
      = nrm (Ideal.ofBits .f32 0x44000000#32) (fun p => (v : S256x1664.Idx → EReal) (ix2 x (kcol p))) (bk x4) q := by
  unfold nrm bk k0_pay1
  pointwise [kcol]
  try rfl

/-- A column's first half test on words. -/
theorem first : ∀ y : Fin 128, IntOp.cmpi .eq (IntOp.andi (BitVec.ofNat 32 y.val) 32#32) 0#32 = if y.val / 32 % 2 = 0 then 1#1 else 0#1 := by decide +kernel

theorem pay2 (v : FVec Ideal S256x1664 .f32) (x : Fin 256) (y : Fin 128) :
    (k0_pay2 (F := Ideal) v x5 x6 : S256x128.Idx → EReal) (ix2 x y)
      = (v : S256x1664.Idx → EReal) (ix2 x (rcol y)) * bc x5 x y
        + (if y.val / 32 % 2 = 0 then (v : S256x1664.Idx → EReal) (ix2 x (rcol (nxt y))) else (v : S256x1664.Idx → EReal) (ix2 x (rcol (prv y))))
          * bc x6 x y := by
  unfold bc k0_pay2
  pointwise [rcol, nxt, prv]
  have e1 : (⟨1536 + (y.val + 128 - 96) % 128, by omega⟩ : Fin 1664) = ⟨1536 + (y.val + 32) % 128, by omega⟩ := Fin.ext (by show 1536 + (y.val + 128 - 96) % 128 = 1536 + (y.val + 32) % 128; omega)
  have e2 : (⟨1536 + (y.val + 128 - 32) % 128, by omega⟩ : Fin 1664) = ⟨1536 + (y.val + 96) % 128, by omega⟩ := Fin.ext (by show 1536 + (y.val + 128 - 32) % 128 = 1536 + (y.val + 96) % 128; omega)
  rw [first y, e1, e2]
  by_cases h : y.val / 32 % 2 = 0
  · simp only [h, if_true]; rfl
  · simp only [h, if_false]; rfl

end Cert.DownIdeal.Mat

end
-- ==== Proof.Down.Blocks.lean ====
/- The blocks a point of the down projection's call is handed, at an index; and its results, when every point
   leaves its block of them. -/
module

public import proofs.«01_k».proof.Proof.Down.Pay

@[expose] public section

set_option maxRecDepth 16384

noncomputable section

namespace Cert.DownIdeal.Mat

open Cert.DownIdeal Cert.DownIdeal.Gen Cert.Down
open Idealize.ShloMosaic Idealize.ShloMosaic.TcCoe

variable (m : (ℓ : Loc nD τ sig) → Buf (Elt Ideal) ℓ) (c : Dev nD)

theorem lt_N (t : Fin cfg0.N) : t.val < 64 := lt_of_lt_of_eq t.isLt (show cfg0.N = 64 from N_0)

/-- The row of the arrays at a row of a point's block. -/
def rowOf (t : Fin cfg0.N) (x : Fin 256) : Fin 16384 := ⟨t.val * 256 + x.val, by have := lt_N t; have := x.isLt; omega⟩

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel

/-- The arrays the host hands the call, as arrays of extended reals. -/
abbrev arrX : S16384x4096.Idx → EReal := V m c main_v8
abbrev arrG : S1x4096.Idx → EReal := V m c main_v9
abbrev arrW : S4096x1664.Idx → EReal := V m c main_v1
abbrev arrQ : S1x1024.Idx → EReal := V m c main_v10
abbrev arrK : S1x512.Idx → EReal := V m c main_v11
abbrev arrC : S16384x128.Idx → EReal := V m c main_v3
abbrev arrS : S16384x128.Idx → EReal := V m c main_v7

theorem blk0 (t : Fin cfg0.N) (x : Fin 256) (k : Fin 4096) :
    (iblk m c 0 t : S256x4096.Idx → EReal) (ix2 x k) = arrX m c (ix2 (rowOf t x) k) := by
  obtain ⟨e0, e1⟩ := idx0 t
  refine congrArg (arrX m c) (funext fun a => Fin.ext ?_)
  match a with
  | ⟨0, _⟩ => show win0_0.index t 0 * 256 + 1 * x.val = t.val * 256 + x.val; rw [e0]; omega
  | ⟨1, _⟩ => show win0_0.index t 1 * 4096 + 1 * k.val = k.val; rw [e1]; omega

theorem blk1 (t : Fin cfg0.N) (x : Fin 1) (k : Fin 4096) :
    (iblk m c 1 t : S1x4096.Idx → EReal) (ix2 x k) = arrG m c (ix2 x k) := by
  obtain ⟨e0, e1⟩ := idx1 t
  refine congrArg (arrG m c) (funext fun a => Fin.ext ?_)
  match a with
  | ⟨0, _⟩ => show win0_1.index t 0 * 1 + 1 * x.val = x.val; rw [e0]; omega
  | ⟨1, _⟩ => show win0_1.index t 1 * 4096 + 1 * k.val = k.val; rw [e1]; omega

theorem blk2 (t : Fin cfg0.N) (x : Fin 4096) (k : Fin 1664) :
    (iblk m c 2 t : S4096x1664.Idx → EReal) (ix2 x k) = arrW m c (ix2 x k) := by
  obtain ⟨e0, e1⟩ := idx2 t
  refine congrArg (arrW m c) (funext fun a => Fin.ext ?_)
  match a with
  | ⟨0, _⟩ => show win0_2.index t 0 * 4096 + 1 * x.val = x.val; rw [e0]; omega
  | ⟨1, _⟩ => show win0_2.index t 1 * 1664 + 1 * k.val = k.val; rw [e1]; omega

theorem blk3 (t : Fin cfg0.N) (x : Fin 1) (k : Fin 1024) :
    (iblk m c 3 t : S1x1024.Idx → EReal) (ix2 x k) = arrQ m c (ix2 x k) := by
  obtain ⟨e0, e1⟩ := idx3 t
  refine congrArg (arrQ m c) (funext fun a => Fin.ext ?_)
  match a with
  | ⟨0, _⟩ => show win0_3.index t 0 * 1 + 1 * x.val = x.val; rw [e0]; omega
  | ⟨1, _⟩ => show win0_3.index t 1 * 1024 + 1 * k.val = k.val; rw [e1]; omega

theorem blk4 (t : Fin cfg0.N) (x : Fin 1) (k : Fin 512) :
    (iblk m c 4 t : S1x512.Idx → EReal) (ix2 x k) = arrK m c (ix2 x k) := by
  obtain ⟨e0, e1⟩ := idx4 t
  refine congrArg (arrK m c) (funext fun a => Fin.ext ?_)
  match a with
  | ⟨0, _⟩ => show win0_4.index t 0 * 1 + 1 * x.val = x.val; rw [e0]; omega
  | ⟨1, _⟩ => show win0_4.index t 1 * 512 + 1 * k.val = k.val; rw [e1]; omega

theorem blk5 (t : Fin cfg0.N) (x : Fin 256) (k : Fin 128) :
    (iblk m c 5 t : S256x128.Idx → EReal) (ix2 x k) = arrC m c (ix2 (rowOf t x) k) := by
  obtain ⟨e0, e1⟩ := idx5 t
  refine congrArg (arrC m c) (funext fun a => Fin.ext ?_)
  match a with
  | ⟨0, _⟩ => show win0_5.index t 0 * 256 + 1 * x.val = t.val * 256 + x.val; rw [e0]; omega
  | ⟨1, _⟩ => show win0_5.index t 1 * 128 + 1 * k.val = k.val; rw [e1]; omega

theorem blk6 (t : Fin cfg0.N) (x : Fin 256) (k : Fin 128) :
    (iblk m c 6 t : S256x128.Idx → EReal) (ix2 x k) = arrS m c (ix2 (rowOf t x) k) := by
  obtain ⟨e0, e1⟩ := idx6 t
  refine congrArg (arrS m c) (funext fun a => Fin.ext ?_)
  match a with
  | ⟨0, _⟩ => show win0_6.index t 0 * 256 + 1 * x.val = t.val * 256 + x.val; rw [e0]; omega
  | ⟨1, _⟩ => show win0_6.index t 1 * 128 + 1 * k.val = k.val; rw [e1]; omega

/-- A row of the input, the gain and the weights. -/
abbrev ax (r : Fin 16384) (k : Fin 4096) : EReal := arrX m c (ix2 r k)
abbrev ag (k : Fin 4096) : EReal := arrG m c (ix2 0 k)
abbrev aw (k : Fin 4096) (j : Fin 1664) : EReal := arrW m c (ix2 k j)

/-- What a point computes of the rows of its blocks, it computes of the rows of the arrays. -/
theorem row_x (t : Fin cfg0.N) (x : Fin 256) : bx (iblk m c 0 t) x = ax m c (rowOf t x) := funext fun k => blk0 m c t x k
theorem row_g (t : Fin cfg0.N) : bg (iblk m c 1 t) = ag m c := funext fun k => blk1 m c t 0 k
theorem row_w (t : Fin cfg0.N) : bw (iblk m c 2 t) = aw m c := funext fun k => funext fun j => blk2 m c t k j
theorem row_q (t : Fin cfg0.N) : bq (iblk m c 3 t) = fun k => arrQ m c (ix2 0 k) := funext fun k => blk3 m c t 0 k
theorem row_k (t : Fin cfg0.N) : bk (iblk m c 4 t) = fun k => arrK m c (ix2 0 k) := funext fun k => blk4 m c t 0 k

theorem emb7 (t : Fin cfg0.N) (x : Fin 256) (y : Fin 4096) :
    ((cfg0.win 7).blk t).view.emb (ix2 x y : S256x4096.Idx) = (ix2 (rowOf t x) y : S16384x4096.Idx) := by
  obtain ⟨e0, e1⟩ := idx7 t
  refine funext fun a => Fin.ext ?_
  match a with
  | ⟨0, _⟩ => show win0_7.index t 0 * 256 + 1 * x.val = t.val * 256 + x.val; rw [e0]; omega
  | ⟨1, _⟩ => show win0_7.index t 1 * 4096 + 1 * y.val = y.val; rw [e1]; omega

theorem out7_eq (x0 : Vec Ideal S256x4096 .f32) (x1 : Vec Ideal S1x4096 .f32) (x2 : Vec Ideal S4096x1664 .bf16)
    (x3 : Vec Ideal S1x1024 .f32) (x4 : Vec Ideal S1x512 .f32) (x5 : Vec Ideal S256x128 .f32) (x6 : Vec Ideal S256x128 .f32) :
    out0_7 (F := Ideal) x0 x1 x2 x3 x4 x5 x6 = k0_pay3 (F := Ideal) x0 x1 := by
  unfold out0_7
  have h256_4096 : (![0, 0] : Fin S256x4096.rank → Nat) = fun _ => 0 := funext fun a => by fin_cases a <;> rfl
  have h1_4096 : (![0, 0] : Fin S1x4096.rank → Nat) = fun _ => 0 := funext fun a => by fin_cases a <;> rfl
  rw [View.canon_unit_zero h256_4096]
  rw [View.ld_unit_zero h256_4096, View.ld_unit_zero h1_4096]

/-- The result array after the run is `G`, if every point leaves its block of `G`. -/
theorem final7 (G : S16384x4096.Idx → EReal)
    (hG : ∀ (t : Fin cfg0.N) (x : Fin 256) (y : Fin 4096),
      hRow (ax m c (rowOf t x)) (ag m c) y = G (ix2 (rowOf t x) y)) :
    (dats m 0 c).arrAt 7 cfg0.N = G := by
  refine (dats m 0 c).arrAt_eq_of_covers 7 G (by decide +kernel) fun t hf i => ?_
  obtain ⟨x, y, rfl⟩ : ∃ (x : Fin 256) (y : Fin 4096), i = (ix2 x y : S256x4096.Idx) := ⟨i 0, i 1, eq_ix2 (n0 := 256) (n1 := 4096) i⟩
  refine Eq.trans ?_ ((hG t x y).trans (congrArg G (emb7 t x y)).symm)
  show (dats m 0 c).after 7 t (ix2 x y : S256x4096.Idx) = _
  rw [after0_7, out7_eq]
  refine (pay3 _ _ x y).trans ?_
  rw [row_x, row_g]

theorem emb8 (t : Fin cfg0.N) (x : Fin 256) (y : Fin 1024) :
    ((cfg0.win 8).blk t).view.emb (ix2 x y : S256x1024.Idx) = (ix2 (rowOf t x) y : S16384x1024.Idx) := by
  obtain ⟨e0, e1⟩ := idx8 t
  refine funext fun a => Fin.ext ?_
  match a with
  | ⟨0, _⟩ => show win0_8.index t 0 * 256 + 1 * x.val = t.val * 256 + x.val; rw [e0]; omega
  | ⟨1, _⟩ => show win0_8.index t 1 * 1024 + 1 * y.val = y.val; rw [e1]; omega

theorem out8_eq (x0 : Vec Ideal S256x4096 .f32) (x1 : Vec Ideal S1x4096 .f32) (x2 : Vec Ideal S4096x1664 .bf16)
    (x3 : Vec Ideal S1x1024 .f32) (x4 : Vec Ideal S1x512 .f32) (x5 : Vec Ideal S256x128 .f32) (x6 : Vec Ideal S256x128 .f32) :
    out0_8 (F := Ideal) x0 x1 x2 x3 x4 x5 x6 = k0_pay5 (F := Ideal) x0 x1 x2 x3 := by
  unfold out0_8
  have h256_1024 : (![0, 0] : Fin S256x1024.rank → Nat) = fun _ => 0 := funext fun a => by fin_cases a <;> rfl
  have h256_4096 : (![0, 0] : Fin S256x4096.rank → Nat) = fun _ => 0 := funext fun a => by fin_cases a <;> rfl
  have h1_4096 : (![0, 0] : Fin S1x4096.rank → Nat) = fun _ => 0 := funext fun a => by fin_cases a <;> rfl
  have h4096_1664 : (![0, 0] : Fin S4096x1664.rank → Nat) = fun _ => 0 := funext fun a => by fin_cases a <;> rfl
  have h1_1024 : (![0, 0] : Fin S1x1024.rank → Nat) = fun _ => 0 := funext fun a => by fin_cases a <;> rfl
  rw [View.canon_unit_zero h256_1024]
  rw [View.ld_unit_zero h256_4096, View.ld_unit_zero h1_4096, View.ld_unit_zero h4096_1664, View.ld_unit_zero h1_1024]

/-- The result array after the run is `G`, if every point leaves its block of `G`. -/
theorem final8 (G : S16384x1024.Idx → EReal)
    (hG : ∀ (t : Fin cfg0.N) (x : Fin 256) (y : Fin 1024),
      qRow (ax m c (rowOf t x)) (ag m c) (aw m c) (fun k => arrQ m c (ix2 0 k)) y = G (ix2 (rowOf t x) y)) :
    (dats m 0 c).arrAt 8 cfg0.N = G := by
  refine (dats m 0 c).arrAt_eq_of_covers 8 G (by decide +kernel) fun t hf i => ?_
  obtain ⟨x, y, rfl⟩ : ∃ (x : Fin 256) (y : Fin 1024), i = (ix2 x y : S256x1024.Idx) := ⟨i 0, i 1, eq_ix2 (n0 := 256) (n1 := 1024) i⟩
  refine Eq.trans ?_ ((hG t x y).trans (congrArg G (emb8 t x y)).symm)
  show (dats m 0 c).after 8 t (ix2 x y : S256x1024.Idx) = _
  rw [after0_8, out8_eq]
  refine (pay5 _ _ _ _ x y).trans ?_
  rw [row_x, row_g, row_w, row_q]

theorem emb9 (t : Fin cfg0.N) (x : Fin 256) (y : Fin 512) :
    ((cfg0.win 9).blk t).view.emb (ix2 x y : S256x512.Idx) = (ix2 (rowOf t x) y : S16384x512.Idx) := by
  obtain ⟨e0, e1⟩ := idx9 t
  refine funext fun a => Fin.ext ?_
  match a with
  | ⟨0, _⟩ => show win0_9.index t 0 * 256 + 1 * x.val = t.val * 256 + x.val; rw [e0]; omega
  | ⟨1, _⟩ => show win0_9.index t 1 * 512 + 1 * y.val = y.val; rw [e1]; omega

theorem out9_eq (x0 : Vec Ideal S256x4096 .f32) (x1 : Vec Ideal S1x4096 .f32) (x2 : Vec Ideal S4096x1664 .bf16)
    (x3 : Vec Ideal S1x1024 .f32) (x4 : Vec Ideal S1x512 .f32) (x5 : Vec Ideal S256x128 .f32) (x6 : Vec Ideal S256x128 .f32) :
    out0_9 (F := Ideal) x0 x1 x2 x3 x4 x5 x6 = k0_pay1 (F := Ideal) (k0_pay4 (F := Ideal) x0 x1 x2) x4 := by
  unfold out0_9 k0_pay6
  have h256_512 : (![0, 0] : Fin S256x512.rank → Nat) = fun _ => 0 := funext fun a => by fin_cases a <;> rfl
  have h256_4096 : (![0, 0] : Fin S256x4096.rank → Nat) = fun _ => 0 := funext fun a => by fin_cases a <;> rfl
  have h1_4096 : (![0, 0] : Fin S1x4096.rank → Nat) = fun _ => 0 := funext fun a => by fin_cases a <;> rfl
  have h4096_1664 : (![0, 0] : Fin S4096x1664.rank → Nat) = fun _ => 0 := funext fun a => by fin_cases a <;> rfl
  have h1_512 : (![0, 0] : Fin S1x512.rank → Nat) = fun _ => 0 := funext fun a => by fin_cases a <;> rfl
  rw [View.canon_unit_zero h256_512]
  rw [View.ld_unit_zero h256_4096, View.ld_unit_zero h1_4096, View.ld_unit_zero h4096_1664, View.ld_unit_zero h1_512]

/-- The result array after the run is `G`, if every point leaves its block of `G`. -/
theorem final9 (G : S16384x512.Idx → EReal)
    (hG : ∀ (t : Fin cfg0.N) (x : Fin 256) (y : Fin 512),
      kRow (ax m c (rowOf t x)) (ag m c) (aw m c) (fun k => arrK m c (ix2 0 k)) y = G (ix2 (rowOf t x) y)) :
    (dats m 0 c).arrAt 9 cfg0.N = G := by
  refine (dats m 0 c).arrAt_eq_of_covers 9 G (by decide +kernel) fun t hf i => ?_
  obtain ⟨x, y, rfl⟩ : ∃ (x : Fin 256) (y : Fin 512), i = (ix2 x y : S256x512.Idx) := ⟨i 0, i 1, eq_ix2 (n0 := 256) (n1 := 512) i⟩
  refine Eq.trans ?_ ((hG t x y).trans (congrArg G (emb9 t x y)).symm)
  show (dats m 0 c).after 9 t (ix2 x y : S256x512.Idx) = _
  rw [after0_9, out9_eq]
  refine (pay1 _ _ x y).trans ?_
  have e : (fun p => (k0_pay4 (F := Ideal) (iblk m c 0 t) (iblk m c 1 t) (iblk m c 2 t) : S256x1664.Idx → EReal) (ix2 x (kcol p)))
      = fun p => lin (ax m c (rowOf t x)) (ag m c) (aw m c) (kcol p) := funext fun p => by rw [pay4, row_x, row_g, row_w]
  rw [row_k]
  exact congrArg (fun f => nrm (Ideal.ofBits .f32 0x44000000#32) f (fun k => arrK m c (ix2 0 k)) y) e

theorem emb10 (t : Fin cfg0.N) (x : Fin 256) (y : Fin 128) :
    ((cfg0.win 10).blk t).view.emb (ix2 x y : S256x128.Idx) = (ix2 (rowOf t x) y : S16384x128.Idx) := by
  obtain ⟨e0, e1⟩ := idx10 t
  refine funext fun a => Fin.ext ?_
  match a with
  | ⟨0, _⟩ => show win0_10.index t 0 * 256 + 1 * x.val = t.val * 256 + x.val; rw [e0]; omega
  | ⟨1, _⟩ => show win0_10.index t 1 * 128 + 1 * y.val = y.val; rw [e1]; omega

theorem out10_eq (x0 : Vec Ideal S256x4096 .f32) (x1 : Vec Ideal S1x4096 .f32) (x2 : Vec Ideal S4096x1664 .bf16)
    (x3 : Vec Ideal S1x1024 .f32) (x4 : Vec Ideal S1x512 .f32) (x5 : Vec Ideal S256x128 .f32) (x6 : Vec Ideal S256x128 .f32) :
    out0_10 (F := Ideal) x0 x1 x2 x3 x4 x5 x6 = k0_pay2 (F := Ideal) (k0_pay4 (F := Ideal) x0 x1 x2) x5 x6 := by
  unfold out0_10 k0_pay6
  have h256_128 : (![0, 0] : Fin S256x128.rank → Nat) = fun _ => 0 := funext fun a => by fin_cases a <;> rfl
  have h256_4096 : (![0, 0] : Fin S256x4096.rank → Nat) = fun _ => 0 := funext fun a => by fin_cases a <;> rfl
  have h1_4096 : (![0, 0] : Fin S1x4096.rank → Nat) = fun _ => 0 := funext fun a => by fin_cases a <;> rfl
  have h4096_1664 : (![0, 0] : Fin S4096x1664.rank → Nat) = fun _ => 0 := funext fun a => by fin_cases a <;> rfl
  rw [View.canon_unit_zero h256_128]
  rw [View.ld_unit_zero h256_128, View.ld_unit_zero h256_128, View.ld_unit_zero h256_4096, View.ld_unit_zero h1_4096, View.ld_unit_zero h4096_1664]

/-- The result array after the run is `G`, if every point leaves its block of `G`. -/
theorem final10 (G : S16384x128.Idx → EReal)
    (hG : ∀ (t : Fin cfg0.N) (x : Fin 256) (y : Fin 128),
      lin (ax m c (rowOf t x)) (ag m c) (aw m c) (rcol y) * arrC m c (ix2 (rowOf t x) y)
        + (if y.val / 32 % 2 = 0 then lin (ax m c (rowOf t x)) (ag m c) (aw m c) (rcol (nxt y)) else lin (ax m c (rowOf t x)) (ag m c) (aw m c) (rcol (prv y)))
          * arrS m c (ix2 (rowOf t x) y) = G (ix2 (rowOf t x) y)) :
    (dats m 0 c).arrAt 10 cfg0.N = G := by
  refine (dats m 0 c).arrAt_eq_of_covers 10 G (by decide +kernel) fun t hf i => ?_
  obtain ⟨x, y, rfl⟩ : ∃ (x : Fin 256) (y : Fin 128), i = (ix2 x y : S256x128.Idx) := ⟨i 0, i 1, eq_ix2 (n0 := 256) (n1 := 128) i⟩
  refine Eq.trans ?_ ((hG t x y).trans (congrArg G (emb10 t x y)).symm)
  show (dats m 0 c).after 10 t (ix2 x y : S256x128.Idx) = _
  rw [after0_10, out10_eq]
  refine (pay2 _ _ _ x y).trans ?_
  rw [pay4, pay4, pay4, row_x, row_g, row_w]
  unfold bc
  rw [blk5, blk6]

end Cert.DownIdeal.Mat

end
-- ==== Proof.Down.Host.lean ====
/- The arrays the host hands the down projection's call, at an index, of the arguments. -/
module

public import proofs.«01_k».proof.Proof.Down.Blocks

@[expose] public section

set_option maxRecDepth 16384

noncomputable section

namespace Cert.DownIdeal.Mat

open Cert.DownIdeal Cert.DownIdeal.Gen Cert.Down
open Idealize.ShloMosaic Idealize.ShloMosaic.TcCoe

variable (m : (ℓ : Loc nD τ sig) → Buf (Elt Ideal) ℓ) (c : Dev nD)

/-- The arguments, as arrays of extended reals. -/
abbrev argX : S2x8192x4096.Idx → EReal := m ((c : Thread nD τ).loc main_arg0)
abbrev argG : S4096.Idx → EReal := m ((c : Thread nD τ).loc main_arg1)
abbrev argW : S4096x5696.Idx → EReal := m ((c : Thread nD τ).loc main_arg2)
abbrev argQ : S1024.Idx → EReal := m ((c : Thread nD τ).loc main_arg3)
abbrev argK : S512.Idx → EReal := m ((c : Thread nD τ).loc main_arg4)
abbrev argC : S2x8192x32.Idx → EReal := m ((c : Thread nD τ).loc main_arg5)
abbrev argS : S2x8192x32.Idx → EReal := m ((c : Thread nD τ).loc main_arg6)

/-- A row's batch and position. -/
def bat (r : Fin 16384) : Fin 2 := ⟨r.val / 8192, by have := r.isLt; omega⟩
def pos (r : Fin 16384) : Fin 8192 := ⟨r.val % 8192, by omega⟩

/-- A column of the projection among all the columns of the layer's projection weights. -/
def wcol (j : Fin 1664) : Fin 5696 := ⟨j.val, by have := j.isLt; omega⟩

theorem hostX (r : Fin 16384) (k : Fin 4096) : arrX m c (ix2 r k) = argX m c (ix3 (bat r) (pos r) k) := by
  dsimp only [arrX, V, hostOps0]
  after_results
  pointwise
  rfl

theorem hostG (k : Fin 4096) : arrG m c (ix2 0 k) = argG m c (ix1 k) := by
  dsimp only [arrG, V, hostOps0]
  after_results
  pointwise
  try rfl

theorem hostW (k : Fin 4096) (j : Fin 1664) : arrW m c (ix2 k j) = argW m c (ix2 k (wcol j)) := by
  dsimp only [arrW, V, hostOps0]
  after_results
  pointwise
  try rfl

theorem hostQ (k : Fin 1024) : arrQ m c (ix2 0 k) = argQ m c (ix1 k) := by
  dsimp only [arrQ, V, hostOps0]
  after_results
  pointwise
  try rfl

theorem hostK (k : Fin 512) : arrK m c (ix2 0 k) = argK m c (ix1 k) := by
  dsimp only [arrK, V, hostOps0]
  after_results
  pointwise
  try rfl

/-- Four copies of an array of angles side by side, and the same with the first and third turned over. -/
def four (a : S2x8192x32.Idx → EReal) : S16384x128.Idx → EReal :=
  (shapeCast S16384x128 (concatenate S2x8192x128 2 [⟨S2x8192x32, a⟩, ⟨S2x8192x32, a⟩, ⟨S2x8192x32, a⟩, ⟨S2x8192x32, a⟩] concatenates_S2x8192x32_S2x8192x32_S2x8192x32_S2x8192x32_S2x8192x128_d2) shapeCasts_S2x8192x128_S16384x128 : S16384x128.Idx → EReal)
def fourN (a : S2x8192x32.Idx → EReal) : S16384x128.Idx → EReal :=
  (shapeCast S16384x128 (concatenate S2x8192x128 2 [⟨S2x8192x32, (Host.negf (F := Ideal) (s := S2x8192x32) (φ := .f32) a)⟩, ⟨S2x8192x32, a⟩, ⟨S2x8192x32, (Host.negf (F := Ideal) (s := S2x8192x32) (φ := .f32) a)⟩, ⟨S2x8192x32, a⟩] concatenates_S2x8192x32_S2x8192x32_S2x8192x32_S2x8192x32_S2x8192x128_d2) shapeCasts_S2x8192x128_S16384x128 : S16384x128.Idx → EReal)

theorem arrC_eq : arrC m c = four (argC m c) := by
  dsimp only [arrC, V, hostOps0]
  after_results
  rfl

theorem arrS_eq : arrS m c = fourN (argS m c) := by
  dsimp only [arrS, V, hostOps0]
  after_results
  rfl

theorem four_at (a : S2x8192x32.Idx → EReal) (r : Fin 16384) (y : Fin 128) : four a (ix2 r y) = a (ix3 (bat r) (pos r) (ang y)) := by
  have hy := y.isLt
  unfold four
  pointwise
  by_cases h0 : y.val < 32
  · rw [dif_pos h0]
    exact congrArg (fun k : Fin 32 => a (ix3 (bat r) (pos r) k)) (show (⟨y.val, by omega⟩ : Fin 32) = ang y from Fin.ext (show y.val = y.val % 32 by omega))
  rw [dif_neg h0]
  by_cases h1 : y.val - 32 < 32
  · rw [dif_pos h1]
    exact congrArg (fun k : Fin 32 => a (ix3 (bat r) (pos r) k)) (show (⟨y.val - 32, by omega⟩ : Fin 32) = ang y from Fin.ext (show y.val - 32 = y.val % 32 by omega))
  rw [dif_neg h1]
  by_cases h2 : y.val - 32 - 32 < 32
  · rw [dif_pos h2]
    exact congrArg (fun k : Fin 32 => a (ix3 (bat r) (pos r) k)) (show (⟨y.val - 32 - 32, by omega⟩ : Fin 32) = ang y from Fin.ext (show y.val - 32 - 32 = y.val % 32 by omega))
  rw [dif_neg h2]
  exact congrArg (fun k : Fin 32 => a (ix3 (bat r) (pos r) k)) (show (⟨y.val - 32 - 32 - 32, by omega⟩ : Fin 32) = ang y from Fin.ext (show y.val - 32 - 32 - 32 = y.val % 32 by omega))

theorem fourN_neg (a : S2x8192x32.Idx → EReal) (r : Fin 16384) (y : Fin 128) (h : y.val / 32 % 2 = 0) :
    fourN a (ix2 r y) = - a (ix3 (bat r) (pos r) (ang y)) := by
  have hy := y.isLt
  unfold fourN
  pointwise
  by_cases h0 : y.val < 32
  · rw [dif_pos h0]
    exact congrArg (fun k : Fin 32 => - a (ix3 (bat r) (pos r) k)) (show (⟨y.val, by omega⟩ : Fin 32) = ang y from Fin.ext (show y.val = y.val % 32 by omega))
  rw [dif_neg h0]
  by_cases h1 : y.val - 32 < 32
  · exact absurd h (by omega)
  rw [dif_neg h1]
  by_cases h2 : y.val - 32 - 32 < 32
  · rw [dif_pos h2]
    exact congrArg (fun k : Fin 32 => - a (ix3 (bat r) (pos r) k)) (show (⟨y.val - 32 - 32, by omega⟩ : Fin 32) = ang y from Fin.ext (show y.val - 32 - 32 = y.val % 32 by omega))
  rw [dif_neg h2]
  exact absurd h (by omega)

theorem fourN_pos (a : S2x8192x32.Idx → EReal) (r : Fin 16384) (y : Fin 128) (h : ¬ y.val / 32 % 2 = 0) :
    fourN a (ix2 r y) = a (ix3 (bat r) (pos r) (ang y)) := by
  have hy := y.isLt
  unfold fourN
  pointwise
  by_cases h0 : y.val < 32
  · exact absurd h (by omega)
  rw [dif_neg h0]
  by_cases h1 : y.val - 32 < 32
  · rw [dif_pos h1]
    exact congrArg (fun k : Fin 32 => a (ix3 (bat r) (pos r) k)) (show (⟨y.val - 32, by omega⟩ : Fin 32) = ang y from Fin.ext (show y.val - 32 = y.val % 32 by omega))
  rw [dif_neg h1]
  by_cases h2 : y.val - 32 - 32 < 32
  · exact absurd h (by omega)
  rw [dif_neg h2]
  exact congrArg (fun k : Fin 32 => a (ix3 (bat r) (pos r) k)) (show (⟨y.val - 32 - 32 - 32, by omega⟩ : Fin 32) = ang y from Fin.ext (show y.val - 32 - 32 - 32 = y.val % 32 by omega))

theorem hostC (r : Fin 16384) (y : Fin 128) : arrC m c (ix2 r y) = argC m c (ix3 (bat r) (pos r) (ang y)) :=
  (congrFun (arrC_eq m c) _).trans (four_at _ r y)

theorem hostS (r : Fin 16384) (y : Fin 128) :
    arrS m c (ix2 r y) = if y.val / 32 % 2 = 0 then - argS m c (ix3 (bat r) (pos r) (ang y)) else argS m c (ix3 (bat r) (pos r) (ang y)) := by
  refine (congrFun (arrS_eq m c) _).trans ?_
  by_cases h : y.val / 32 % 2 = 0
  · rw [if_pos h]; exact fourN_neg _ r y h
  · rw [if_neg h]; exact fourN_pos _ r y h

end Cert.DownIdeal.Mat

end
-- ==== Proof.Down.Ref.lean ====
/- The down projection's reference, at an index. -/
module

public import proofs.«01_k».proof.Proof.Gen.DownRefIdeal.Read
public import proofs.«01_k».proof.Proof.Down.Math
public import Idealize.ShloMosaic.Lib.Pointwise

@[expose] public section

set_option maxRecDepth 16384

noncomputable section

namespace Cert.DownRefIdeal.Mat

open Cert.DownRefIdeal Cert.DownRefIdeal.Gen Cert.DownRefIdeal.Read Cert.Down
open Idealize.ShloMosaic Idealize.ShloMosaic.TcCoe

/-- A row's batch and position. -/
def bat (r : Fin 16384) : Fin 2 := ⟨r.val / 8192, by have := r.isLt; omega⟩
def pos (r : Fin 16384) : Fin 8192 := ⟨r.val % 8192, by omega⟩

/-- A column of the projection among all the columns of the layer's projection weights. -/
def wcol (j : Fin 1664) : Fin 5696 := ⟨j.val, by have := j.isLt; omega⟩

variable (x : S2x8192x4096.Idx → EReal) (g : S4096.Idx → EReal) (w : S4096x5696.Idx → EReal) (qn : S1024.Idx → EReal)
  (kn : S512.Idx → EReal) (cs sn : S2x8192x32.Idx → EReal) (r : Fin 16384)

abbrev rx (k : Fin 4096) : EReal := x (ix3 (bat r) (pos r) k)
abbrev rg (k : Fin 4096) : EReal := g (ix1 k)
abbrev rw' (k : Fin 4096) (j : Fin 1664) : EReal := w (ix2 k (wcol j))

theorem ref_n (k : Fin 4096) :
    (val_main_v12 (F := Ideal) x g : S2x8192x4096.Idx → EReal) (ix3 (bat r) (pos r) k) = hRow (rx x r) (rg g) k := by
  unfold hRow nrm rx rg
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  try rfl

theorem ref_h (k : Fin 4096) :
    (val_main_v19 (F := Ideal) x g : S16384x4096.Idx → EReal) (ix2 r k) = hRow (rx x r) (rg g) k := by
  rw [← ref_n]
  unfold val_main_v19 val_main_v18
  generalize (val_main_v12 (F := Ideal) x g) = v
  pointwise
  try rfl

theorem ref_lin (j : Fin 1664) :
    (val_main_v13 (F := Ideal) x g w : S2x8192x5696.Idx → EReal) (ix3 (bat r) (pos r) (wcol j)) = lin (rx x r) (rg g) (rw' w) j := by
  unfold lin
  simp only [← ref_n]
  unfold val_main_v13 rw'
  generalize (val_main_v12 (F := Ideal) x g) = v
  pointwise
  try rfl

theorem ref_q (q : Fin 1024) :
    (val_main_v34 (F := Ideal) x g w qn : S16384x1024.Idx → EReal) (ix2 r q) = qRow (rx x r) (rg g) (rw' w) (fun q => qn (ix1 q)) q := by
  unfold qRow nrm
  simp only [← ref_lin]
  unfold val_main_v34 val_main_v33 val_main_v32 val_main_v29 val_main_v28 val_main_v27 val_main_v26 val_main_v24 val_main_v22 val_main_v21 val_main_v20 val_main_v14
  generalize (val_main_v13 (F := Ideal) x g w) = v
  pointwise [val_main_v31, val_main_v30, val_main_v25, val_main_v23, val_main_cst_2, val_main_cst_3, val_main_cst_4, qcol, wcol]
  try rfl

theorem ref_k (q : Fin 512) :
    (val_main_v49 (F := Ideal) x g w kn : S16384x512.Idx → EReal) (ix2 r q) = kRow (rx x r) (rg g) (rw' w) (fun q => kn (ix1 q)) q := by
  unfold kRow nrm
  simp only [← ref_lin]
  unfold val_main_v49 val_main_v48 val_main_v47 val_main_v44 val_main_v43 val_main_v42 val_main_v41 val_main_v39 val_main_v37 val_main_v36 val_main_v35 val_main_v15
  generalize (val_main_v13 (F := Ideal) x g w) = v
  pointwise [val_main_v46, val_main_v45, val_main_v40, val_main_v38, val_main_cst_5, val_main_cst_6, val_main_cst_7, kcol, wcol]
  try rfl

theorem ref_r (y : Fin 128) :
    (val_main_v66 (F := Ideal) x g w cs sn : S16384x128.Idx → EReal) (ix2 r y)
      = rRow (rx x r) (rg g) (rw' w) (fun j => cs (ix3 (bat r) (pos r) j)) (fun j => sn (ix3 (bat r) (pos r) j)) y := by
  unfold rRow rot
  simp only [← ref_lin]
  unfold val_main_v66 val_main_v65 val_main_v64 val_main_v63 val_main_v62 val_main_v60 val_main_v58 val_main_v57 val_main_v55 val_main_v53 val_main_v52 val_main_v17 val_main_v16
  generalize (val_main_v13 (F := Ideal) x g w) = v
  by_cases h : y.val / 32 % 2 = 0
  · rw [if_pos h]
    pointwise [val_main_v61, val_main_v59, val_main_v56, val_main_v54, val_main_v51, val_main_v50, rcol, nxt, prv, ang, wcol]
    have e1 : (⟨y.val % 64, by omega⟩ : Fin 32) = ⟨y.val % 32, by omega⟩ := Fin.ext (by show y.val % 64 = y.val % 32; omega)
    have e2 : (⟨1536 + (y.val / 64 * 64 + (32 + y.val % 64)), by omega⟩ : Fin 5696) = ⟨1536 + (y.val + 32) % 128, by omega⟩ :=
      Fin.ext (by show 1536 + (y.val / 64 * 64 + (32 + y.val % 64)) = 1536 + (y.val + 32) % 128; omega)
    rw [dif_pos (show y.val % 64 < 32 by omega)]
    exact congrArg₂ (fun a b : EReal => a - b)
      (congrArg₂ (fun a b : EReal => a * b) rfl (congrArg (fun k : Fin 32 => cs (ix3 (bat r) (pos r) k)) e1))
      (congrArg₂ (fun a b : EReal => a * b) (congrArg (fun k : Fin 5696 => (v : S2x8192x5696.Idx → EReal) (ix3 (bat r) (pos r) k)) e2)
        (congrArg (fun k : Fin 32 => sn (ix3 (bat r) (pos r) k)) e1))
  · rw [if_neg h]
    pointwise [val_main_v61, val_main_v59, val_main_v56, val_main_v54, val_main_v51, val_main_v50, rcol, nxt, prv, ang, wcol]
    have hy := y.isLt
    have e1 : (⟨y.val % 64 - 32, by omega⟩ : Fin 32) = ⟨y.val % 32, by omega⟩ := Fin.ext (by show y.val % 64 - 32 = y.val % 32; omega)
    have e2 : (⟨1536 + (y.val / 64 * 64 + (32 + (y.val % 64 - 32))), by omega⟩ : Fin 5696) = ⟨1536 + y.val, by omega⟩ :=
      Fin.ext (by show 1536 + (y.val / 64 * 64 + (32 + (y.val % 64 - 32))) = 1536 + y.val; omega)
    have e3 : (⟨1536 + (y.val / 64 * 64 + (y.val % 64 - 32)), by omega⟩ : Fin 5696) = ⟨1536 + (y.val + 96) % 128, by omega⟩ :=
      Fin.ext (by show 1536 + (y.val / 64 * 64 + (y.val % 64 - 32)) = 1536 + (y.val + 96) % 128; omega)
    rw [dif_neg (show ¬ y.val % 64 < 32 by omega)]
    exact congrArg₂ (fun a b : EReal => a + b)
      (congrArg₂ (fun a b : EReal => a * b) (congrArg (fun k : Fin 5696 => (v : S2x8192x5696.Idx → EReal) (ix3 (bat r) (pos r) k)) e2)
        (congrArg (fun k : Fin 32 => cs (ix3 (bat r) (pos r) k)) e1))
      (congrArg₂ (fun a b : EReal => a * b) (congrArg (fun k : Fin 5696 => (v : S2x8192x5696.Idx → EReal) (ix3 (bat r) (pos r) k)) e3)
        (congrArg (fun k : Fin 32 => sn (ix3 (bat r) (pos r) k)) e1))

end Cert.DownRefIdeal.Mat

end
-- ==== Proof.Down.Value.lean ====
/- The down projection: the call and the reference leave the same arrays. -/
module

public import proofs.«01_k».proof.Proof.Down.Host
public import proofs.«01_k».proof.Proof.Down.Ref

@[expose] public section

set_option maxRecDepth 16384

noncomputable section

namespace Cert.DownIdeal.Mat

open Cert.DownIdeal Cert.DownIdeal.Gen Cert.Down
open Idealize.ShloMosaic Idealize.ShloMosaic.TcCoe

variable (m : (ℓ : Loc nD τ sig) → Buf (Elt Ideal) ℓ) (c : Dev nD)

theorem rows_x (r : Fin 16384) : ax m c r = Cert.DownRefIdeal.Mat.rx (argX m c) r := funext fun k => hostX m c r k
theorem rows_g : ag m c = Cert.DownRefIdeal.Mat.rg (argG m c) := funext fun k => hostG m c k
theorem rows_w : aw m c = Cert.DownRefIdeal.Mat.rw' (argW m c) := funext fun k => funext fun j => hostW m c k j
theorem rows_q : (fun k => arrQ m c (ix2 0 k)) = fun k => argQ m c (ix1 k) := funext fun k => hostQ m c k
theorem rows_k : (fun k => arrK m c (ix2 0 k)) = fun k => argK m c (ix1 k) := funext fun k => hostK m c k

theorem value_h : (dats m 0 c).arrAt 7 cfg0.N
    = (Cert.DownRefIdeal.Read.val_main_v19 (F := Ideal) (argX m c) (argG m c) : S16384x4096.Idx → EReal) := by
  refine final7 m c _ fun t x y => ?_
  refine Eq.trans ?_ (Cert.DownRefIdeal.Mat.ref_h (argX m c) (argG m c) (rowOf t x) y).symm
  rw [rows_x, rows_g]

theorem value_q : (dats m 0 c).arrAt 8 cfg0.N
    = (Cert.DownRefIdeal.Read.val_main_v34 (F := Ideal) (argX m c) (argG m c) (argW m c) (argQ m c) : S16384x1024.Idx → EReal) := by
  refine final8 m c _ fun t x y => ?_
  refine Eq.trans ?_ (Cert.DownRefIdeal.Mat.ref_q (argX m c) (argG m c) (argW m c) (argQ m c) (rowOf t x) y).symm
  rw [rows_x, rows_g, rows_w, rows_q]

theorem value_k : (dats m 0 c).arrAt 9 cfg0.N
    = (Cert.DownRefIdeal.Read.val_main_v49 (F := Ideal) (argX m c) (argG m c) (argW m c) (argK m c) : S16384x512.Idx → EReal) := by
  refine final9 m c _ fun t x y => ?_
  refine Eq.trans ?_ (Cert.DownRefIdeal.Mat.ref_k (argX m c) (argG m c) (argW m c) (argK m c) (rowOf t x) y).symm
  rw [rows_x, rows_g, rows_w, rows_k]

theorem value_r : (dats m 0 c).arrAt 10 cfg0.N
    = (Cert.DownRefIdeal.Read.val_main_v66 (F := Ideal) (argX m c) (argG m c) (argW m c) (argC m c) (argS m c) : S16384x128.Idx → EReal) := by
  refine final10 m c _ fun t x y => ?_
  refine Eq.trans ?_ (Cert.DownRefIdeal.Mat.ref_r (argX m c) (argG m c) (argW m c) (argC m c) (argS m c) (rowOf t x) y).symm
  rw [rows_x, rows_g, rows_w, hostC, hostS]
  unfold rRow rot
  by_cases h : y.val / 32 % 2 = 0
  · rw [if_pos h, if_pos h, if_pos h, mul_neg, sub_eq_add_neg]
    rfl
  · rw [if_neg h, if_neg h, if_neg h]
    rfl

end Cert.DownIdeal.Mat

end
-- ==== Proof.Qup.Pay.lean ====
/- What a point of the queries' up-projection's call writes, at an index of its blocks. -/
module

public import proofs.«01_k».proof.Proof.Gen.QupIdeal.Value
public import Idealize.ShloMosaic.Lib.Pointwise
public import Idealize.ShloMosaic.Lib.Pipeline.Value
public import Idealize.ShloMosaic.Lib.Tactic

@[expose] public section

set_option maxRecDepth 16384

noncomputable section

namespace Cert.QupIdeal.Mat

open Cert.QupIdeal Cert.QupIdeal.Gen
open Idealize.ShloMosaic Idealize.ShloMosaic.TcCoe Idealize.ShloMosaic.Tactic

theorem hz2 {a b : Nat} : (![0, 0] : Fin (Shape.rank ⟨2, ![a, b]⟩) → Nat) = fun _ => 0 := funext fun a => by fin_cases a <;> rfl

/-- The scale of the scores. -/
def scale : EReal := ((((Real.sqrt 192) * (Real.log 2))⁻¹ : ℝ) : EReal)

theorem scale_eq : Named.named (F := Ideal) κ "scale" (φ := .f32) 0x3DD53B95#32 = scale :=
  show (κ "scale").getD _ = _ from congrArg (fun o : Option EReal => o.getD (Ideal.ofBits .f32 0x3DD53B95#32)) (rfl : κ "scale" = some scale)

/-- A row of a block's transposed products: its head's, `j` of the head's 192. -/
def brow (n j : Nat) (hn : n < 4) (hj : j < 192) : Fin 768 := ⟨192 * n + j, by omega⟩

variable (v : FVec Ideal S768x1024 .f32) (cs sn : FVec Ideal S32x1024 .f32)

/-- A row of the rotated columns, of a head's two halves. -/
def rotA (n : Nat) (hn : n < 4) (j : Fin 32) (r : Fin 1024) : EReal :=
  (v : S768x1024.Idx → EReal) (ix2 (brow n (128 + j.val) hn (by have := j.isLt; omega)) r) * (cs : S32x1024.Idx → EReal) (ix2 j r)
    - (v : S768x1024.Idx → EReal) (ix2 (brow n (160 + j.val) hn (by have := j.isLt; omega)) r) * (sn : S32x1024.Idx → EReal) (ix2 j r)
def rotB (n : Nat) (hn : n < 4) (j : Fin 32) (r : Fin 1024) : EReal :=
  (v : S768x1024.Idx → EReal) (ix2 (brow n (160 + j.val) hn (by have := j.isLt; omega)) r) * (cs : S32x1024.Idx → EReal) (ix2 j r)
    + (v : S768x1024.Idx → EReal) (ix2 (brow n (128 + j.val) hn (by have := j.isLt; omega)) r) * (sn : S32x1024.Idx → EReal) (ix2 j r)

theorem n1 (j : Fin 128) (r : Fin 1024) :
    (k0_pay11 (F := Ideal) v : S1x1x128x1024.Idx → EReal) (ix4 0 0 j r) = (v : S768x1024.Idx → EReal) (ix2 (brow 1 j.val (by omega) (by have := j.isLt; omega)) r) := by
  pointwise [k0_pay11, brow]
  try rfl

theorem n2 (j : Fin 128) (r : Fin 1024) :
    (k0_pay16 (F := Ideal) v : S1x1x128x1024.Idx → EReal) (ix4 0 0 j r) = (v : S768x1024.Idx → EReal) (ix2 (brow 2 j.val (by omega) (by have := j.isLt; omega)) r) := by
  pointwise [k0_pay16, brow]
  try rfl

theorem n3 (j : Fin 128) (r : Fin 1024) :
    (k0_pay21 (F := Ideal) v : S1x1x128x1024.Idx → EReal) (ix4 0 0 j r) = (v : S768x1024.Idx → EReal) (ix2 (brow 3 j.val (by omega) (by have := j.isLt; omega)) r) := by
  pointwise [k0_pay21, brow]
  try rfl

theorem a1 (j : Fin 32) (r : Fin 1024) :
    (k0_pay12 (F := Ideal) v cs sn : S1x1x32x1024.Idx → EReal) (ix4 0 0 j r) = rotA v cs sn 1 (by omega) j r := by
  unfold rotA
  pointwise [k0_pay12, k0_pay9, k0_pay10]
  exact congrArg₂ (fun a b : EReal => a - b)
    (congrArg (fun k : Fin 768 => (v : S768x1024.Idx → EReal) (ix2 k r) * _) (show (⟨320 + j.val, by have := j.isLt; omega⟩ : Fin 768) = brow 1 (128 + j.val) (by omega) (by have := j.isLt; omega) from Fin.ext (by show 320 + j.val = 192 + (128 + j.val); omega)))
    (congrArg (fun k : Fin 768 => (v : S768x1024.Idx → EReal) (ix2 k r) * _) (show (⟨352 + j.val, by have := j.isLt; omega⟩ : Fin 768) = brow 1 (160 + j.val) (by omega) (by have := j.isLt; omega) from Fin.ext (by show 352 + j.val = 192 + (160 + j.val); omega)))

theorem b1 (j : Fin 32) (r : Fin 1024) :
    (k0_pay13 (F := Ideal) v cs sn : S1x1x32x1024.Idx → EReal) (ix4 0 0 j r) = rotB v cs sn 1 (by omega) j r := by
  unfold rotB
  pointwise [k0_pay13, k0_pay9, k0_pay10]
  exact congrArg₂ (fun a b : EReal => a + b)
    (congrArg (fun k : Fin 768 => (v : S768x1024.Idx → EReal) (ix2 k r) * _) (show (⟨352 + j.val, by have := j.isLt; omega⟩ : Fin 768) = brow 1 (160 + j.val) (by omega) (by have := j.isLt; omega) from Fin.ext (by show 352 + j.val = 192 + (160 + j.val); omega)))
    (congrArg (fun k : Fin 768 => (v : S768x1024.Idx → EReal) (ix2 k r) * _) (show (⟨320 + j.val, by have := j.isLt; omega⟩ : Fin 768) = brow 1 (128 + j.val) (by omega) (by have := j.isLt; omega) from Fin.ext (by show 320 + j.val = 192 + (128 + j.val); omega)))

theorem a2 (j : Fin 32) (r : Fin 1024) :
    (k0_pay17 (F := Ideal) cs sn (k0_pay14 (F := Ideal) v) (k0_pay15 (F := Ideal) v) : S1x1x32x1024.Idx → EReal) (ix4 0 0 j r) = rotA v cs sn 2 (by omega) j r := by
  unfold rotA
  pointwise [k0_pay17, k0_pay14, k0_pay15]
  exact congrArg₂ (fun a b : EReal => a - b)
    (congrArg (fun k : Fin 768 => (v : S768x1024.Idx → EReal) (ix2 k r) * _) (show (⟨512 + j.val, by have := j.isLt; omega⟩ : Fin 768) = brow 2 (128 + j.val) (by omega) (by have := j.isLt; omega) from Fin.ext (by show 512 + j.val = 384 + (128 + j.val); omega)))
    (congrArg (fun k : Fin 768 => (v : S768x1024.Idx → EReal) (ix2 k r) * _) (show (⟨544 + j.val, by have := j.isLt; omega⟩ : Fin 768) = brow 2 (160 + j.val) (by omega) (by have := j.isLt; omega) from Fin.ext (by show 544 + j.val = 384 + (160 + j.val); omega)))

theorem b2 (j : Fin 32) (r : Fin 1024) :
    (k0_pay18 (F := Ideal) cs sn (k0_pay14 (F := Ideal) v) (k0_pay15 (F := Ideal) v) : S1x1x32x1024.Idx → EReal) (ix4 0 0 j r) = rotB v cs sn 2 (by omega) j r := by
  unfold rotB
  pointwise [k0_pay18, k0_pay14, k0_pay15]
  exact congrArg₂ (fun a b : EReal => a + b)
    (congrArg (fun k : Fin 768 => (v : S768x1024.Idx → EReal) (ix2 k r) * _) (show (⟨544 + j.val, by have := j.isLt; omega⟩ : Fin 768) = brow 2 (160 + j.val) (by omega) (by have := j.isLt; omega) from Fin.ext (by show 544 + j.val = 384 + (160 + j.val); omega)))
    (congrArg (fun k : Fin 768 => (v : S768x1024.Idx → EReal) (ix2 k r) * _) (show (⟨512 + j.val, by have := j.isLt; omega⟩ : Fin 768) = brow 2 (128 + j.val) (by omega) (by have := j.isLt; omega) from Fin.ext (by show 512 + j.val = 384 + (128 + j.val); omega)))

theorem a3 (j : Fin 32) (r : Fin 1024) :
    (k0_pay22 (F := Ideal) v cs sn : S1x1x32x1024.Idx → EReal) (ix4 0 0 j r) = rotA v cs sn 3 (by omega) j r := by
  unfold rotA
  pointwise [k0_pay22, k0_pay19, k0_pay20]
  exact congrArg₂ (fun a b : EReal => a - b)
    (congrArg (fun k : Fin 768 => (v : S768x1024.Idx → EReal) (ix2 k r) * _) (show (⟨704 + j.val, by have := j.isLt; omega⟩ : Fin 768) = brow 3 (128 + j.val) (by omega) (by have := j.isLt; omega) from Fin.ext (by show 704 + j.val = 576 + (128 + j.val); omega)))
    (congrArg (fun k : Fin 768 => (v : S768x1024.Idx → EReal) (ix2 k r) * _) (show (⟨736 + j.val, by have := j.isLt; omega⟩ : Fin 768) = brow 3 (160 + j.val) (by omega) (by have := j.isLt; omega) from Fin.ext (by show 736 + j.val = 576 + (160 + j.val); omega)))

theorem b3 (j : Fin 32) (r : Fin 1024) :
    (k0_pay23 (F := Ideal) v cs sn : S1x1x32x1024.Idx → EReal) (ix4 0 0 j r) = rotB v cs sn 3 (by omega) j r := by
  unfold rotB
  pointwise [k0_pay23, k0_pay19, k0_pay20]
  exact congrArg₂ (fun a b : EReal => a + b)
    (congrArg (fun k : Fin 768 => (v : S768x1024.Idx → EReal) (ix2 k r) * _) (show (⟨736 + j.val, by have := j.isLt; omega⟩ : Fin 768) = brow 3 (160 + j.val) (by omega) (by have := j.isLt; omega) from Fin.ext (by show 736 + j.val = 576 + (160 + j.val); omega)))
    (congrArg (fun k : Fin 768 => (v : S768x1024.Idx → EReal) (ix2 k r) * _) (show (⟨704 + j.val, by have := j.isLt; omega⟩ : Fin 768) = brow 3 (128 + j.val) (by omega) (by have := j.isLt; omega) from Fin.ext (by show 704 + j.val = 576 + (128 + j.val); omega)))

variable (x0 : Vec Ideal S1024x1024 .bf16) (x1 : Vec Ideal S1024x768 .bf16) (x2 x3 : Vec Ideal S32x1024 .f32)

theorem n0 (j : Fin 128) (r : Fin 1024) :
    (k0_pay6 (F := Ideal) x0 x1 : S1x1x128x1024.Idx → EReal) (ix4 0 0 j r) = (k0_pay1 (F := Ideal) x0 x1 : S768x1024.Idx → EReal) (ix2 (brow 0 j.val (by omega) (by have := j.isLt; omega)) r) := by
  unfold k0_pay6
  generalize (k0_pay1 (F := Ideal) x0 x1) = v
  pointwise [brow]
  try rfl

theorem a0 (j : Fin 32) (r : Fin 1024) :
    (k0_pay7 (F := Ideal) x0 x1 x2 x3 : S1x1x32x1024.Idx → EReal) (ix4 0 0 j r) = rotA (k0_pay1 (F := Ideal) x0 x1) x2 x3 0 (by omega) j r := by
  unfold rotA
  unfold k0_pay7 k0_pay4 k0_pay5
  generalize (k0_pay1 (F := Ideal) x0 x1) = v
  pointwise [k0_pay2, k0_pay3]
  exact congrArg₂ (fun a b : EReal => a - b)
    (congrArg (fun k : Fin 768 => (v : S768x1024.Idx → EReal) (ix2 k r) * _) (show (⟨128 + j.val, by have := j.isLt; omega⟩ : Fin 768) = brow 0 (128 + j.val) (by omega) (by have := j.isLt; omega) from Fin.ext (by show 128 + j.val = 0 + (128 + j.val); omega)))
    (congrArg (fun k : Fin 768 => (v : S768x1024.Idx → EReal) (ix2 k r) * _) (show (⟨160 + j.val, by have := j.isLt; omega⟩ : Fin 768) = brow 0 (160 + j.val) (by omega) (by have := j.isLt; omega) from Fin.ext (by show 160 + j.val = 0 + (160 + j.val); omega)))

theorem b0 (j : Fin 32) (r : Fin 1024) :
    (k0_pay8 (F := Ideal) (k0_pay2 (F := Ideal) x2) (k0_pay3 (F := Ideal) x3) (k0_pay4 (F := Ideal) x0 x1) (k0_pay5 (F := Ideal) x0 x1) : S1x1x32x1024.Idx → EReal) (ix4 0 0 j r) = rotB (k0_pay1 (F := Ideal) x0 x1) x2 x3 0 (by omega) j r := by
  unfold rotB
  unfold k0_pay8 k0_pay4 k0_pay5
  generalize (k0_pay1 (F := Ideal) x0 x1) = v
  pointwise [k0_pay2, k0_pay3]
  exact congrArg₂ (fun a b : EReal => a + b)
    (congrArg (fun k : Fin 768 => (v : S768x1024.Idx → EReal) (ix2 k r) * _) (show (⟨160 + j.val, by have := j.isLt; omega⟩ : Fin 768) = brow 0 (160 + j.val) (by omega) (by have := j.isLt; omega) from Fin.ext (by show 160 + j.val = 0 + (160 + j.val); omega)))
    (congrArg (fun k : Fin 768 => (v : S768x1024.Idx → EReal) (ix2 k r) * _) (show (⟨128 + j.val, by have := j.isLt; omega⟩ : Fin 768) = brow 0 (128 + j.val) (by omega) (by have := j.isLt; omega) from Fin.ext (by show 128 + j.val = 0 + (128 + j.val); omega)))

theorem cs_eq : k0_pay2 (F := Ideal) x2 = x2 := by
  refine funext fun i => ?_
  obtain ⟨a, b, rfl⟩ : ∃ (a : Fin 32) (b : Fin 1024), i = (ix2 a b : S32x1024.Idx) := ⟨i 0, i 1, eq_ix2 (n0 := 32) (n1 := 1024) i⟩
  pointwise [k0_pay2]
  try rfl
theorem sn_eq : k0_pay3 (F := Ideal) x3 = x3 := by
  refine funext fun i => ?_
  obtain ⟨a, b, rfl⟩ : ∃ (a : Fin 32) (b : Fin 1024), i = (ix2 a b : S32x1024.Idx) := ⟨i 0, i 1, eq_ix2 (n0 := 32) (n1 := 1024) i⟩
  pointwise [k0_pay3]
  try rfl

/-- The products, scaled, before the transposition. -/
def prods : FVec Ideal S1024x768 .f32 :=
  mulf (matmul (φ₁ := .bf16) (φ₂ := .bf16) dot_S1024x1024_S1024x768_S1024x768_1_0_0_1_n_n none (shapeCast (α := Ideal .bf16) S1024x1024 x0 shapeCasts_S1024x1024_S1024x1024)
    (shapeCast (α := Ideal .bf16) S1024x768 x1 shapeCasts_S1024x768_S1024x768) (constant S1024x768 .f32 0x00000000#32))
    (broadcast S1024x768 (Named.named κ "scale" 0x3DD53B95#32))

theorem prods_at (r : Fin 1024) (j : Fin 768) :
    (prods x0 x1 : S1024x768.Idx → EReal) (ix2 r j) = (∑ k : Fin 1024, (x0 : S1024x1024.Idx → EReal) (ix2 r k) * (x1 : S1024x768.Idx → EReal) (ix2 k j)) * scale := by
  unfold prods
  pointwise [scale_eq]
  try rfl

/-- Six pieces of 128 columns, each transposed, one below the other. -/
def turn (p : FVec Ideal S1024x768 .f32) : FVec Ideal S768x1024 .f32 :=
  concatenate S768x1024 0 [
    ⟨S128x1024, transpose S128x1024 [1, 0] (extractStridedSlice S1024x128 ![0, 0] p slices_S1024x768_o0_0_S1024x128) transposes_S1024x128_p1_0_S128x1024⟩,
    ⟨S128x1024, transpose S128x1024 [1, 0] (extractStridedSlice S1024x128 ![0, 128] p slices_S1024x768_o0_128_S1024x128) transposes_S1024x128_p1_0_S128x1024⟩,
    ⟨S128x1024, transpose S128x1024 [1, 0] (extractStridedSlice S1024x128 ![0, 256] p slices_S1024x768_o0_256_S1024x128) transposes_S1024x128_p1_0_S128x1024⟩,
    ⟨S128x1024, transpose S128x1024 [1, 0] (extractStridedSlice S1024x128 ![0, 384] p slices_S1024x768_o0_384_S1024x128) transposes_S1024x128_p1_0_S128x1024⟩,
    ⟨S128x1024, transpose S128x1024 [1, 0] (extractStridedSlice S1024x128 ![0, 512] p slices_S1024x768_o0_512_S1024x128) transposes_S1024x128_p1_0_S128x1024⟩,
    ⟨S128x1024, transpose S128x1024 [1, 0] (extractStridedSlice S1024x128 ![0, 640] p slices_S1024x768_o0_640_S1024x128) transposes_S1024x128_p1_0_S128x1024⟩] concatenates_S128x1024_S128x1024_S128x1024_S128x1024_S128x1024_S128x1024_S768x1024_d0

theorem turn_at (p : FVec Ideal S1024x768 .f32) (j : Fin 768) (r : Fin 1024) :
    (turn p : S768x1024.Idx → EReal) (ix2 j r) = (p : S1024x768.Idx → EReal) (ix2 r j) := by
  have hj := j.isLt
  unfold turn
  pointwise
  by_cases h0 : j.val < 128
  · rw [dif_pos h0]
    try rfl
  rw [dif_neg h0]
  by_cases h1 : j.val - 128 < 128
  · rw [dif_pos h1]
    exact congrArg (fun k : Fin 768 => (p : S1024x768.Idx → EReal) (ix2 r k)) (Fin.ext (by show 128 + (j.val - 128) = j.val; omega))
  rw [dif_neg h1]
  by_cases h2 : j.val - 128 - 128 < 128
  · rw [dif_pos h2]
    exact congrArg (fun k : Fin 768 => (p : S1024x768.Idx → EReal) (ix2 r k)) (Fin.ext (by show 256 + (j.val - 128 - 128) = j.val; omega))
  rw [dif_neg h2]
  by_cases h3 : j.val - 128 - 128 - 128 < 128
  · rw [dif_pos h3]
    exact congrArg (fun k : Fin 768 => (p : S1024x768.Idx → EReal) (ix2 r k)) (Fin.ext (by show 384 + (j.val - 128 - 128 - 128) = j.val; omega))
  rw [dif_neg h3]
  by_cases h4 : j.val - 128 - 128 - 128 - 128 < 128
  · rw [dif_pos h4]
    exact congrArg (fun k : Fin 768 => (p : S1024x768.Idx → EReal) (ix2 r k)) (Fin.ext (by show 512 + (j.val - 128 - 128 - 128 - 128) = j.val; omega))
  rw [dif_neg h4]
  exact congrArg (fun k : Fin 768 => (p : S1024x768.Idx → EReal) (ix2 r k)) (Fin.ext (by show 640 + (j.val - 128 - 128 - 128 - 128 - 128) = j.val; omega))

theorem pay1_eq : k0_pay1 (F := Ideal) x0 x1 = turn (prods x0 x1) := rfl

theorem prod (j : Fin 768) (r : Fin 1024) :
    (k0_pay1 (F := Ideal) x0 x1 : S768x1024.Idx → EReal) (ix2 j r)
      = (∑ k : Fin 1024, (x0 : S1024x1024.Idx → EReal) (ix2 r k) * (x1 : S1024x768.Idx → EReal) (ix2 k j)) * scale := by
  rw [pay1_eq, turn_at, prods_at]

end Cert.QupIdeal.Mat

end
-- ==== Proof.Qup.Blocks.lean ====
/- What a point of the queries' up-projection's call leaves of its result block, whole. -/
module

public import proofs.«01_k».proof.Proof.Qup.Pay

@[expose] public section

set_option maxRecDepth 16384

noncomputable section

namespace Cert.QupIdeal.Mat

open Cert.QupIdeal Cert.QupIdeal.Gen
open Idealize.ShloMosaic Idealize.ShloMosaic.TcCoe Idealize.ShloMosaic.Tactic

/-- The query block, of the transposed products and the angles' cosines and sines. -/
def qB (v : FVec Ideal S768x1024 .f32) (cs sn : FVec Ideal S32x1024 .f32) (y : S1x4x192x1024.Idx) : EReal :=
  if h : (y 2).val < 128 then (v : S768x1024.Idx → EReal) (ix2 (brow (y 1).val (y 2).val (y 1).isLt (by omega)) (y 3))
  else if h' : (y 2).val - 128 < 32 then rotA v cs sn (y 1).val (y 1).isLt ⟨(y 2).val - 128, h'⟩ (y 3)
  else rotB v cs sn (y 1).val (y 1).isLt ⟨(y 2).val - 160, by have : (y 2).val < 192 := (y 2).isLt; omega⟩ (y 3)

theorem qB_at (v : FVec Ideal S768x1024 .f32) (cs sn : FVec Ideal S32x1024 .f32) (a : Fin 1) (n : Fin 4) (j : Fin 192) (x : Fin 1024) :
    qB v cs sn (ix4 a n j x) = if h : j.val < 128 then (v : S768x1024.Idx → EReal) (ix2 (brow n.val j.val n.isLt (by omega)) x)
      else if h' : j.val - 128 < 32 then rotA v cs sn n.val n.isLt ⟨j.val - 128, h'⟩ x
      else rotB v cs sn n.val n.isLt ⟨j.val - 160, by have := j.isLt; omega⟩ x := rfl

variable (v : FVec Ideal S768x1024 .f32) (cs sn : FVec Ideal S32x1024 .f32)

/-- Every piece of the block is its rectangle of it. -/
theorem piece_n (n : Nat) (hn : n < 4) (inb : ∀ a, (![0, n, 0, 0] : Fin 4 → Nat) a + S1x1x128x1024.size a ≤ S1x4x192x1024.size a)
    (P : S1x1x128x1024.Idx → EReal) (hP : ∀ (j : Fin 128) (r : Fin 1024), P (ix4 0 0 j r) = (v : S768x1024.Idx → EReal) (ix2 (brow n j.val hn (by have := j.isLt; omega)) r))
    (x : S1x1x128x1024.Idx) : P x = qB v cs sn ((Rect.unit (s := S1x4x192x1024) ![0, n, 0, 0] S1x1x128x1024.size inb).emb x) := by
  obtain ⟨a, b, j, r, rfl⟩ : ∃ (a : Fin 1) (b : Fin 1) (j : Fin 128) (r : Fin 1024), x = (ix4 a b j r : S1x1x128x1024.Idx) :=
    ⟨x 0, x 1, x 2, x 3, eq_ix4 (n0 := 1) (n1 := 1) (n2 := 128) (n3 := 1024) x⟩
  obtain rfl : a = 0 := Subsingleton.elim _ _
  obtain rfl : b = 0 := Subsingleton.elim _ _
  have hj := j.isLt
  have e : (Rect.unit (s := S1x4x192x1024) ![0, n, 0, 0] S1x1x128x1024.size inb).emb (ix4 0 0 j r : S1x1x128x1024.Idx)
      = (ix4 0 ⟨n, hn⟩ ⟨0 + j.val, by omega⟩ r : S1x4x192x1024.Idx) := by
    refine funext fun k => Fin.ext ?_
    match k with
    | ⟨0, _⟩ => rfl
    | ⟨1, _⟩ => show n + 1 * 0 = n; omega
    | ⟨2, _⟩ => show 0 + 1 * j.val = 0 + j.val; omega
    | ⟨3, _⟩ => show 0 + 1 * r.val = r.val; omega
  rw [e, hP, qB_at]
  rw [dif_pos (show 0 + j.val < 128 by omega)]
  exact congrArg (fun k : Fin 768 => (v : S768x1024.Idx → EReal) (ix2 k r)) (Fin.ext (by show 192 * n + j.val = 192 * n + (0 + j.val); omega))

theorem piece_a (n : Nat) (hn : n < 4) (inb : ∀ a, (![0, n, 128, 0] : Fin 4 → Nat) a + S1x1x32x1024.size a ≤ S1x4x192x1024.size a)
    (P : S1x1x32x1024.Idx → EReal) (hP : ∀ (j : Fin 32) (r : Fin 1024), P (ix4 0 0 j r) = rotA v cs sn n hn j r)
    (x : S1x1x32x1024.Idx) : P x = qB v cs sn ((Rect.unit (s := S1x4x192x1024) ![0, n, 128, 0] S1x1x32x1024.size inb).emb x) := by
  obtain ⟨a, b, j, r, rfl⟩ : ∃ (a : Fin 1) (b : Fin 1) (j : Fin 32) (r : Fin 1024), x = (ix4 a b j r : S1x1x32x1024.Idx) :=
    ⟨x 0, x 1, x 2, x 3, eq_ix4 (n0 := 1) (n1 := 1) (n2 := 32) (n3 := 1024) x⟩
  obtain rfl : a = 0 := Subsingleton.elim _ _
  obtain rfl : b = 0 := Subsingleton.elim _ _
  have hj := j.isLt
  have e : (Rect.unit (s := S1x4x192x1024) ![0, n, 128, 0] S1x1x32x1024.size inb).emb (ix4 0 0 j r : S1x1x32x1024.Idx)
      = (ix4 0 ⟨n, hn⟩ ⟨128 + j.val, by omega⟩ r : S1x4x192x1024.Idx) := by
    refine funext fun k => Fin.ext ?_
    match k with
    | ⟨0, _⟩ => rfl
    | ⟨1, _⟩ => show n + 1 * 0 = n; omega
    | ⟨2, _⟩ => show 128 + 1 * j.val = 128 + j.val; omega
    | ⟨3, _⟩ => show 0 + 1 * r.val = r.val; omega
  rw [e, hP, qB_at]
  rw [dif_neg (show ¬ 128 + j.val < 128 by omega), dif_pos (show 128 + j.val - 128 < 32 by omega)]
  exact congrArg (fun k : Fin 32 => rotA v cs sn n hn k r) (Fin.ext (by show j.val = 128 + j.val - 128; omega))

theorem piece_b (n : Nat) (hn : n < 4) (inb : ∀ a, (![0, n, 160, 0] : Fin 4 → Nat) a + S1x1x32x1024.size a ≤ S1x4x192x1024.size a)
    (P : S1x1x32x1024.Idx → EReal) (hP : ∀ (j : Fin 32) (r : Fin 1024), P (ix4 0 0 j r) = rotB v cs sn n hn j r)
    (x : S1x1x32x1024.Idx) : P x = qB v cs sn ((Rect.unit (s := S1x4x192x1024) ![0, n, 160, 0] S1x1x32x1024.size inb).emb x) := by
  obtain ⟨a, b, j, r, rfl⟩ : ∃ (a : Fin 1) (b : Fin 1) (j : Fin 32) (r : Fin 1024), x = (ix4 a b j r : S1x1x32x1024.Idx) :=
    ⟨x 0, x 1, x 2, x 3, eq_ix4 (n0 := 1) (n1 := 1) (n2 := 32) (n3 := 1024) x⟩
  obtain rfl : a = 0 := Subsingleton.elim _ _
  obtain rfl : b = 0 := Subsingleton.elim _ _
  have hj := j.isLt
  have e : (Rect.unit (s := S1x4x192x1024) ![0, n, 160, 0] S1x1x32x1024.size inb).emb (ix4 0 0 j r : S1x1x32x1024.Idx)
      = (ix4 0 ⟨n, hn⟩ ⟨160 + j.val, by omega⟩ r : S1x4x192x1024.Idx) := by
    refine funext fun k => Fin.ext ?_
    match k with
    | ⟨0, _⟩ => rfl
    | ⟨1, _⟩ => show n + 1 * 0 = n; omega
    | ⟨2, _⟩ => show 160 + 1 * j.val = 160 + j.val; omega
    | ⟨3, _⟩ => show 0 + 1 * r.val = r.val; omega
  rw [e, hP, qB_at]
  rw [dif_neg (show ¬ 160 + j.val < 128 by omega), dif_neg (show ¬ 160 + j.val - 128 < 32 by omega)]
  exact congrArg (fun k : Fin 32 => rotB v cs sn n hn k r) (Fin.ext (by show j.val = 160 + j.val - 160; omega))

theorem a0c (x0 : Vec Ideal S1024x1024 .bf16) (x1 : Vec Ideal S1024x768 .bf16) (x2 x3 : Vec Ideal S32x1024 .f32) (j : Fin 32) (r : Fin 1024) :
    ((k0_pay7 (F := Ideal) x0 x1 x2 x3) : S1x1x32x1024.Idx → EReal) (ix4 0 0 j r) = rotA (k0_pay1 (F := Ideal) x0 x1) (k0_pay2 (F := Ideal) x2) (k0_pay3 (F := Ideal) x3) 0 (by omega) j r := by
  rw [cs_eq, sn_eq]
  exact a0 x0 x1 x2 x3 j r
theorem b0c (x0 : Vec Ideal S1024x1024 .bf16) (x1 : Vec Ideal S1024x768 .bf16) (x2 x3 : Vec Ideal S32x1024 .f32) (j : Fin 32) (r : Fin 1024) :
    ((k0_pay8 (F := Ideal) (k0_pay2 (F := Ideal) x2) (k0_pay3 (F := Ideal) x3) (k0_pay4 (F := Ideal) x0 x1) (k0_pay5 (F := Ideal) x0 x1)) : S1x1x32x1024.Idx → EReal) (ix4 0 0 j r) = rotB (k0_pay1 (F := Ideal) x0 x1) (k0_pay2 (F := Ideal) x2) (k0_pay3 (F := Ideal) x3) 0 (by omega) j r := by
  refine (b0 x0 x1 x2 x3 j r).trans ?_
  rw [cs_eq, sn_eq]

theorem out_4 (c : Dev nD) (i : grid0.Coords) (g2 : Memref sig .tc .vmem S1024x1024 .bf16) (h2 : g2.IsWhole) (g3 : Memref sig .tc .vmem S1024x768 .bf16) (h3 : g3.IsWhole) (g4 : Memref sig .tc .vmem S32x1024 .f32) (h4 : g4.IsWhole) (g5 : Memref sig .tc .vmem S32x1024 .f32) (h5 : g5.IsWhole) (g6 : Memref sig .tc .vmem S1x4x192x1024 .bf16) (h6 : g6.IsWhole)
    (x0 : Vec Ideal S1024x1024 .bf16) (x1 : Vec Ideal S1024x768 .bf16) (x2 x3 : Vec Ideal S32x1024 .f32)
    (y : S1x4x192x1024.Idx) :
    out0_A_4 c i g2 h2 g3 h3 g4 h4 g5 h5 g6 h6 x0 x1 x2 x3 y = qB (k0_pay1 (F := Ideal) x0 x1) x2 x3 y := by
  have hc := cover0_A_4 c i g2 h2 g3 h3 g4 h4 g5 h5 g6 h6 x0 x1 x2 x3
  refine Eq.trans (b := qB (k0_pay1 (F := Ideal) x0 x1) (k0_pay2 (F := Ideal) x2) (k0_pay3 (F := Ideal) x3) y) ?_ (by rw [cs_eq, sn_eq])
  unfold out0_A_4
  rw [View.read_writes_eq_canon _ _ _ hc]
  refine View.canon_apply_of_pieces _ _ ?_ y (hc y)
  unfold kernelRun0_A
  dsimp only
  sl_unfold_words
  simp only [View.readAt_eq_ld, h2.read_unread, h3.read_unread, h4.read_unread, h5.read_unread]
  rw [View.ld_unit_zero (hz2 (a := 1024) (b := 1024)), View.ld_unit_zero (hz2 (a := 1024) (b := 768)), View.ld_unit_zero (hz2 (a := 32) (b := 1024)), View.ld_unit_zero (hz2 (a := 32) (b := 1024))]
  intro p hp
  simp only [List.mem_cons, List.not_mem_nil, or_false] at hp
  rcases hp with rfl | rfl | rfl | rfl | rfl | rfl | rfl | rfl | rfl | rfl | rfl | rfl
  · exact piece_b (k0_pay1 (F := Ideal) x0 x1) (k0_pay2 (F := Ideal) x2) (k0_pay3 (F := Ideal) x3) 3 (by omega) inb_S1x4x192x1024_S1x1x32x1024_0_3_160_0 (k0_pay23 (F := Ideal) (k0_pay1 (F := Ideal) x0 x1) (k0_pay2 (F := Ideal) x2) (k0_pay3 (F := Ideal) x3)) (b3 (k0_pay1 (F := Ideal) x0 x1) (k0_pay2 (F := Ideal) x2) (k0_pay3 (F := Ideal) x3))
  · exact piece_a (k0_pay1 (F := Ideal) x0 x1) (k0_pay2 (F := Ideal) x2) (k0_pay3 (F := Ideal) x3) 3 (by omega) inb_S1x4x192x1024_S1x1x32x1024_0_3_128_0 (k0_pay22 (F := Ideal) (k0_pay1 (F := Ideal) x0 x1) (k0_pay2 (F := Ideal) x2) (k0_pay3 (F := Ideal) x3)) (a3 (k0_pay1 (F := Ideal) x0 x1) (k0_pay2 (F := Ideal) x2) (k0_pay3 (F := Ideal) x3))
  · exact piece_n (k0_pay1 (F := Ideal) x0 x1) (k0_pay2 (F := Ideal) x2) (k0_pay3 (F := Ideal) x3) 3 (by omega) inb_S1x4x192x1024_S1x1x128x1024_0_3_0_0 (k0_pay21 (F := Ideal) (k0_pay1 (F := Ideal) x0 x1)) (n3 (k0_pay1 (F := Ideal) x0 x1))
  · exact piece_b (k0_pay1 (F := Ideal) x0 x1) (k0_pay2 (F := Ideal) x2) (k0_pay3 (F := Ideal) x3) 2 (by omega) inb_S1x4x192x1024_S1x1x32x1024_0_2_160_0 (k0_pay18 (F := Ideal) (k0_pay2 (F := Ideal) x2) (k0_pay3 (F := Ideal) x3) (k0_pay14 (F := Ideal) (k0_pay1 (F := Ideal) x0 x1)) (k0_pay15 (F := Ideal) (k0_pay1 (F := Ideal) x0 x1))) (b2 (k0_pay1 (F := Ideal) x0 x1) (k0_pay2 (F := Ideal) x2) (k0_pay3 (F := Ideal) x3))
  · exact piece_a (k0_pay1 (F := Ideal) x0 x1) (k0_pay2 (F := Ideal) x2) (k0_pay3 (F := Ideal) x3) 2 (by omega) inb_S1x4x192x1024_S1x1x32x1024_0_2_128_0 (k0_pay17 (F := Ideal) (k0_pay2 (F := Ideal) x2) (k0_pay3 (F := Ideal) x3) (k0_pay14 (F := Ideal) (k0_pay1 (F := Ideal) x0 x1)) (k0_pay15 (F := Ideal) (k0_pay1 (F := Ideal) x0 x1))) (a2 (k0_pay1 (F := Ideal) x0 x1) (k0_pay2 (F := Ideal) x2) (k0_pay3 (F := Ideal) x3))
  · exact piece_n (k0_pay1 (F := Ideal) x0 x1) (k0_pay2 (F := Ideal) x2) (k0_pay3 (F := Ideal) x3) 2 (by omega) inb_S1x4x192x1024_S1x1x128x1024_0_2_0_0 (k0_pay16 (F := Ideal) (k0_pay1 (F := Ideal) x0 x1)) (n2 (k0_pay1 (F := Ideal) x0 x1))
  · exact piece_b (k0_pay1 (F := Ideal) x0 x1) (k0_pay2 (F := Ideal) x2) (k0_pay3 (F := Ideal) x3) 1 (by omega) inb_S1x4x192x1024_S1x1x32x1024_0_1_160_0 (k0_pay13 (F := Ideal) (k0_pay1 (F := Ideal) x0 x1) (k0_pay2 (F := Ideal) x2) (k0_pay3 (F := Ideal) x3)) (b1 (k0_pay1 (F := Ideal) x0 x1) (k0_pay2 (F := Ideal) x2) (k0_pay3 (F := Ideal) x3))
  · exact piece_a (k0_pay1 (F := Ideal) x0 x1) (k0_pay2 (F := Ideal) x2) (k0_pay3 (F := Ideal) x3) 1 (by omega) inb_S1x4x192x1024_S1x1x32x1024_0_1_128_0 (k0_pay12 (F := Ideal) (k0_pay1 (F := Ideal) x0 x1) (k0_pay2 (F := Ideal) x2) (k0_pay3 (F := Ideal) x3)) (a1 (k0_pay1 (F := Ideal) x0 x1) (k0_pay2 (F := Ideal) x2) (k0_pay3 (F := Ideal) x3))
  · exact piece_n (k0_pay1 (F := Ideal) x0 x1) (k0_pay2 (F := Ideal) x2) (k0_pay3 (F := Ideal) x3) 1 (by omega) inb_S1x4x192x1024_S1x1x128x1024_0_1_0_0 (k0_pay11 (F := Ideal) (k0_pay1 (F := Ideal) x0 x1)) (n1 (k0_pay1 (F := Ideal) x0 x1))
  · exact piece_b (k0_pay1 (F := Ideal) x0 x1) (k0_pay2 (F := Ideal) x2) (k0_pay3 (F := Ideal) x3) 0 (by omega) inb_S1x4x192x1024_S1x1x32x1024_0_0_160_0 (k0_pay8 (F := Ideal) (k0_pay2 (F := Ideal) x2) (k0_pay3 (F := Ideal) x3) (k0_pay4 (F := Ideal) x0 x1) (k0_pay5 (F := Ideal) x0 x1)) (b0c x0 x1 x2 x3)
  · exact piece_a (k0_pay1 (F := Ideal) x0 x1) (k0_pay2 (F := Ideal) x2) (k0_pay3 (F := Ideal) x3) 0 (by omega) inb_S1x4x192x1024_S1x1x32x1024_0_0_128_0 (k0_pay7 (F := Ideal) x0 x1 x2 x3) (a0c x0 x1 x2 x3)
  · exact piece_n (k0_pay1 (F := Ideal) x0 x1) (k0_pay2 (F := Ideal) x2) (k0_pay3 (F := Ideal) x3) 0 (by omega) inb_S1x4x192x1024_S1x1x128x1024_0_0_0_0 (k0_pay6 (F := Ideal) x0 x1) (n0 x0 x1)

end Cert.QupIdeal.Mat

end
-- ==== Proof.Qup.Ref.lean ====
/- The queries' up-projection's reference, at an index. -/
module

public import proofs.«01_k».proof.Proof.Gen.QupRefIdeal.Read
public import Idealize.ShloMosaic.Lib.Pointwise

@[expose] public section

set_option maxRecDepth 16384

noncomputable section

namespace Cert.QupRefIdeal.Mat

open Cert.QupRefIdeal Cert.QupRefIdeal.Gen Cert.QupRefIdeal.Read
open Idealize.ShloMosaic Idealize.ShloMosaic.TcCoe

/-- A column of the products: its head's, `j` of the head's 192. -/
def hcol (h : Fin 32) (j : Nat) (hj : j < 192) : Fin 6144 := ⟨192 * h.val + j, by have := h.isLt; omega⟩

variable (x : S2x8192x1024.Idx → EReal) (w : S1024x6144.Idx → EReal) (cs sn : S2x8192x32.Idx → EReal) (b : Fin 2) (h : Fin 32) (r : Fin 8192)

theorem ref_prod (j : Fin 6144) :
    (val_main_v0 (F := Ideal) x w : S2x8192x6144.Idx → EReal) (ix3 b r j) = ∑ k : Fin 1024, x (ix3 b r k) * w (ix2 k j) := by
  pointwise [val_main_v0]
  try rfl

theorem ref_head (j : Fin 192) :
    (val_main_v1 (F := Ideal) x w : S2x8192x32x192.Idx → EReal) (ix4 b r h j) = (val_main_v0 (F := Ideal) x w : S2x8192x6144.Idx → EReal) (ix3 b r (hcol h j.val j.isLt)) := by
  unfold val_main_v1
  generalize (val_main_v0 (F := Ideal) x w) = v
  pointwise [hcol]
  exact congrArg (fun k : Fin 6144 => (v : S2x8192x6144.Idx → EReal) (ix3 b r k)) (Fin.ext (by show h.val * 192 + j.val = 192 * h.val + j.val; omega))

theorem f192 : Ideal.ofBits .f32 0x43400000#32 = ((192 : ℝ) : EReal) := by
  simp [Ideal.ofBits, Ideal.ieee]
  rw [← EReal.coe_mul]; norm_num
theorem f2 : Ideal.ofBits .f32 0x40000000#32 = ((2 : ℝ) : EReal) := by
  simp [Ideal.ofBits, Ideal.ieee]
  rw [← EReal.coe_mul]; norm_num
theorem f1 : Ideal.ofBits .f32 0x3F800000#32 = (1 : EReal) := by
  simp [Ideal.ofBits, Ideal.ieee]
  rw [← EReal.coe_mul]; norm_num

/-- The reference's scale is one over the root of 192 times the logarithm of two. -/
theorem scale_ref : Ideal.div (Ideal.ofBits .f32 0x3F800000#32) (Ideal.sqrt (Ideal.ofBits .f32 0x43400000#32) * Ideal.log (Ideal.ofBits .f32 0x40000000#32))
    = ((((Real.sqrt 192) * (Real.log 2))⁻¹ : ℝ) : EReal) := by
  rw [f192, f2, f1]
  have e1 : Ideal.sqrt ((192 : ℝ) : EReal) = ((Real.sqrt 192 : ℝ) : EReal) := if_neg (by norm_num : ¬ (192 : ℝ) < 0)
  have e2 : Ideal.log ((2 : ℝ) : EReal) = ((Real.log 2 : ℝ) : EReal) := if_neg (by norm_num : ¬ (2 : ℝ) ≤ 0)
  have hp : (0 : ℝ) < Real.sqrt 192 * Real.log 2 := mul_pos (Real.sqrt_pos.mpr (by norm_num)) (Real.log_pos (by norm_num))
  rw [e1, e2, ← EReal.coe_mul]
  unfold Ideal.div
  rw [if_neg (by rw [← EReal.coe_zero, EReal.coe_eq_coe_iff]; exact ne_of_gt hp), one_mul, EReal.coe_inv]

theorem ref_scale (i : S2x8192x32x192.Idx) :
    (val_main_v24 (F := Ideal) : S2x8192x32x192.Idx → EReal) i = ((((Real.sqrt 192) * (Real.log 2))⁻¹ : ℝ) : EReal) := by
  rw [← scale_ref]
  rfl

/-- The entry of the products at a batch, a position, a head and a column of it. -/
abbrev pr (j : Nat) (hj : j < 192) : EReal := (val_main_v0 (F := Ideal) x w : S2x8192x6144.Idx → EReal) (ix3 b r (hcol h j hj))

theorem ref_nope (j : Fin 192) (hj : j.val < 128) :
    (val_main_v19 (F := Ideal) x w cs sn : S2x8192x32x192.Idx → EReal) (ix4 b r h j) = pr x w b h r j.val j.isLt := by
  rw [pr, ← ref_head x w b h r ⟨j.val, by omega⟩]
  unfold val_main_v19 val_main_v18 val_main_v2
  generalize (val_main_v12 (F := Ideal) x w cs sn) = p
  generalize (val_main_v17 (F := Ideal) x w cs sn) = q
  generalize (val_main_v1 (F := Ideal) x w) = v
  pointwise
  rw [dif_pos hj]
  try rfl

theorem ref_a (j : Fin 192) (h1 : ¬ j.val < 128) (h2 : j.val - 128 < 32) :
    (val_main_v19 (F := Ideal) x w cs sn : S2x8192x32x192.Idx → EReal) (ix4 b r h j)
      = pr x w b h r (128 + (j.val - 128)) (by omega) * cs (ix3 b r ⟨j.val - 128, h2⟩) - pr x w b h r (160 + (j.val - 128)) (by omega) * sn (ix3 b r ⟨j.val - 128, h2⟩) := by
  rw [pr, pr, ← ref_head x w b h r ⟨128 + (j.val - 128), by omega⟩, ← ref_head x w b h r ⟨160 + (j.val - 128), by omega⟩]
  refine Eq.trans (b := (val_main_v12 (F := Ideal) x w cs sn : S2x8192x32x32.Idx → EReal) (ix4 b r h ⟨j.val - 128, h2⟩)) ?_ ?_
  · unfold val_main_v19 val_main_v18
    generalize (val_main_v12 (F := Ideal) x w cs sn) = p
    generalize (val_main_v17 (F := Ideal) x w cs sn) = q
    generalize (val_main_v2 (F := Ideal) x w) = v
    pointwise
    rw [dif_neg h1, dif_pos h2]
    try rfl
  · unfold val_main_v12 val_main_v9 val_main_v11 val_main_v7 val_main_v6 val_main_v3
    generalize (val_main_v1 (F := Ideal) x w) = v
    pointwise [val_main_v8, val_main_v10, val_main_v4, val_main_v5]
    exact congrArg₂ (fun a b : EReal => a - b)
      (congrArg (fun k : Fin 192 => (v : S2x8192x32x192.Idx → EReal) (ix4 b r h k) * _) (Fin.ext (by first | rfl | (show 128 + (j.val - 128) = 128 + (j.val - 128); omega))))
      (congrArg (fun k : Fin 192 => (v : S2x8192x32x192.Idx → EReal) (ix4 b r h k) * _) (Fin.ext (by first | rfl | (show 128 + (32 + (j.val - 128)) = 160 + (j.val - 128); omega) | (show 160 + (j.val - 128) = 160 + (j.val - 128); omega))))

theorem ref_b (j : Fin 192) (h1 : ¬ j.val < 128) (h2 : ¬ j.val - 128 < 32) :
    (val_main_v19 (F := Ideal) x w cs sn : S2x8192x32x192.Idx → EReal) (ix4 b r h j)
      = pr x w b h r (160 + (j.val - 160)) (by have := j.isLt; omega) * cs (ix3 b r ⟨j.val - 160, by have := j.isLt; omega⟩)
        + pr x w b h r (128 + (j.val - 160)) (by have := j.isLt; omega) * sn (ix3 b r ⟨j.val - 160, by have := j.isLt; omega⟩) := by
  have hj := j.isLt
  rw [pr, pr, ← ref_head x w b h r ⟨160 + (j.val - 160), by omega⟩, ← ref_head x w b h r ⟨128 + (j.val - 160), by omega⟩]
  refine Eq.trans (b := (val_main_v17 (F := Ideal) x w cs sn : S2x8192x32x32.Idx → EReal) (ix4 b r h ⟨j.val - 160, by omega⟩)) ?_ ?_
  · unfold val_main_v19 val_main_v18
    generalize (val_main_v12 (F := Ideal) x w cs sn) = p
    generalize (val_main_v17 (F := Ideal) x w cs sn) = q
    generalize (val_main_v2 (F := Ideal) x w) = v
    pointwise
    rw [dif_neg h1, dif_neg h2]
    exact congrArg (fun k : Fin 32 => (q : S2x8192x32x32.Idx → EReal) (ix4 b r h k)) (Fin.ext (by show j.val - 128 - 32 = j.val - 160; omega))
  · unfold val_main_v17 val_main_v14 val_main_v16 val_main_v7 val_main_v6 val_main_v3
    generalize (val_main_v1 (F := Ideal) x w) = v
    pointwise [val_main_v13, val_main_v15, val_main_v4, val_main_v5]
    exact congrArg₂ (fun a b : EReal => a + b)
      (congrArg (fun k : Fin 192 => (v : S2x8192x32x192.Idx → EReal) (ix4 b r h k) * _) (Fin.ext (by first | rfl | (show 128 + (32 + (j.val - 160)) = 160 + (j.val - 160); omega) | (show 160 + (j.val - 160) = 160 + (j.val - 160); omega))))
      (congrArg (fun k : Fin 192 => (v : S2x8192x32x192.Idx → EReal) (ix4 b r h k) * _) (Fin.ext (by first | rfl | (show 128 + (j.val - 160) = 128 + (j.val - 160); omega))))

theorem ref_q (j : Fin 192) :
    (val_main_v27 (F := Ideal) x w cs sn : S2x32x192x8192.Idx → EReal) (ix4 b h j r)
      = (val_main_v19 (F := Ideal) x w cs sn : S2x8192x32x192.Idx → EReal) (ix4 b r h j) * ((((Real.sqrt 192) * (Real.log 2))⁻¹ : ℝ) : EReal) := by
  rw [← ref_scale (ix4 b r h j)]
  unfold val_main_v27 val_main_v26 val_main_v25
  generalize (val_main_v19 (F := Ideal) x w cs sn) = v
  generalize (val_main_v24 (F := Ideal)) = z
  pointwise
  try rfl

end Cert.QupRefIdeal.Mat

end
-- ==== Proof.Qup.Value.lean ====
/- The queries' up-projection: the call and the reference leave the same array. -/
module

public import proofs.«01_k».proof.Proof.Qup.Blocks
public import proofs.«01_k».proof.Proof.Qup.Ref
public import Idealize.ShloMosaic.Lib.Pipeline.ValueKit

@[expose] public section

set_option maxRecDepth 16384

noncomputable section

namespace Cert.QupIdeal.Mat

open Cert.QupIdeal Cert.QupIdeal.Gen
open Idealize.ShloMosaic Idealize.ShloMosaic.TcCoe

variable (m : (ℓ : Loc nD τ sig) → Buf (Elt Ideal) ℓ) (c : Dev nD)

/-- The arguments, as arrays of extended reals. -/
abbrev argA : S2x8192x1024.Idx → EReal := m ((c : Thread nD τ).loc main_arg0)
abbrev argW : S1024x6144.Idx → EReal := m ((c : Thread nD τ).loc main_arg1)
abbrev argC : S2x8192x32.Idx → EReal := m ((c : Thread nD τ).loc main_arg2)
abbrev argS : S2x8192x32.Idx → EReal := m ((c : Thread nD τ).loc main_arg3)

/-- The arrays the host hands the call. -/
abbrev arrA : S16384x1024.Idx → EReal := V m c main_v1
abbrev arrW : S1024x6144.Idx → EReal := V m c main_v2
abbrev arrC : S32x16384.Idx → EReal := V m c main_v4
abbrev arrS : S32x16384.Idx → EReal := V m c main_v6

/-- A row's batch and position. -/
def bat (r : Fin 16384) : Fin 2 := ⟨r.val / 8192, by have := r.isLt; omega⟩
def pos (r : Fin 16384) : Fin 8192 := ⟨r.val % 8192, by omega⟩

theorem hostA (r : Fin 16384) (k : Fin 1024) : arrA m c (ix2 r k) = argA m c (ix3 (bat r) (pos r) k) := by
  dsimp only [arrA, V, hostOps0]
  after_results
  pointwise
  rfl

theorem hostW (k : Fin 1024) (j : Fin 6144) : arrW m c (ix2 k j) = argW m c (ix2 k j) := by
  dsimp only [arrW, V, hostOps0]
  after_results
  pointwise
  try rfl

theorem hostC (k : Fin 32) (r : Fin 16384) : arrC m c (ix2 k r) = argC m c (ix3 (bat r) (pos r) k) := by
  dsimp only [arrC, V, hostOps0]
  after_results
  pointwise
  rfl

theorem hostS (k : Fin 32) (r : Fin 16384) : arrS m c (ix2 k r) = argS m c (ix3 (bat r) (pos r) k) := by
  dsimp only [arrS, V, hostOps0]
  after_results
  pointwise
  rfl

theorem lt_N (t : Fin cfg0.N) : t.val < 128 := lt_of_lt_of_eq t.isLt (show cfg0.N = 128 from N_0)

/-- The row and the column of the arrays at a row and a column of a point's blocks, and their batch, position and head. -/
def rowOf (t : Fin cfg0.N) (x : Fin 1024) : Fin 16384 := ⟨t.val / 8 * 1024 + x.val, by have := lt_N t; have := x.isLt; omega⟩
def colOf (t : Fin cfg0.N) (j : Fin 768) : Fin 6144 := ⟨t.val % 8 * 768 + j.val, by have := j.isLt; omega⟩
def batOf (t : Fin cfg0.N) : Fin 2 := ⟨t.val / 64, by have := lt_N t; omega⟩
def posOf (t : Fin cfg0.N) (x : Fin 1024) : Fin 8192 := ⟨t.val / 8 % 8 * 1024 + x.val, by have := x.isLt; omega⟩
def headOf (t : Fin cfg0.N) (n : Fin 4) : Fin 32 := ⟨t.val % 8 * 4 + n.val, by have := n.isLt; omega⟩

theorem bat_rowOf (t : Fin cfg0.N) (x : Fin 1024) : bat (rowOf t x) = batOf t :=
  Fin.ext (by have := x.isLt; show (t.val / 8 * 1024 + x.val) / 8192 = t.val / 64; omega)
theorem pos_rowOf (t : Fin cfg0.N) (x : Fin 1024) : pos (rowOf t x) = posOf t x :=
  Fin.ext (by have := x.isLt; show (t.val / 8 * 1024 + x.val) % 8192 = t.val / 8 % 8 * 1024 + x.val; omega)
theorem colOf_brow (t : Fin cfg0.N) (n : Fin 4) (j : Nat) (hj : j < 192) :
    colOf t (brow n.val j n.isLt hj) = Cert.QupRefIdeal.Mat.hcol (headOf t n) j hj :=
  Fin.ext (by show t.val % 8 * 768 + (192 * n.val + j) = 192 * (t.val % 8 * 4 + n.val) + j; omega)

theorem idx0 : ∀ t : Fin grid0.N, win0_0.index t 0 = t.val / 8 ∧ win0_0.index t 1 = 0 := by decide +kernel
theorem idx1 : ∀ t : Fin grid0.N, win0_1.index t 0 = 0 ∧ win0_1.index t 1 = t.val % 8 := by decide +kernel
theorem idx2 : ∀ t : Fin grid0.N, win0_2.index t 0 = 0 ∧ win0_2.index t 1 = t.val / 8 := by decide +kernel
theorem idx3 : ∀ t : Fin grid0.N, win0_3.index t 0 = 0 ∧ win0_3.index t 1 = t.val / 8 := by decide +kernel
theorem idx4 : ∀ t : Fin grid0.N, win0_4.index t 0 = t.val / 64 ∧ win0_4.index t 1 = t.val % 8 ∧ win0_4.index t 2 = 0 ∧ win0_4.index t 3 = t.val / 8 % 8 := by decide +kernel

theorem blk0 (t : Fin cfg0.N) (x k : Fin 1024) :
    (iblk m c 0 t : S1024x1024.Idx → EReal) (ix2 x k) = arrA m c (ix2 (rowOf t x) k) := by
  obtain ⟨e0, e1⟩ := idx0 t
  refine congrArg (arrA m c) (funext fun a => Fin.ext ?_)
  match a with
  | ⟨0, _⟩ => show win0_0.index t 0 * 1024 + 1 * x.val = t.val / 8 * 1024 + x.val; rw [e0]; omega
  | ⟨1, _⟩ => show win0_0.index t 1 * 1024 + 1 * k.val = k.val; rw [e1]; omega

theorem blk1 (t : Fin cfg0.N) (k : Fin 1024) (j : Fin 768) :
    (iblk m c 1 t : S1024x768.Idx → EReal) (ix2 k j) = arrW m c (ix2 k (colOf t j)) := by
  obtain ⟨e0, e1⟩ := idx1 t
  refine congrArg (arrW m c) (funext fun a => Fin.ext ?_)
  match a with
  | ⟨0, _⟩ => show win0_1.index t 0 * 1024 + 1 * k.val = k.val; rw [e0]; omega
  | ⟨1, _⟩ => show win0_1.index t 1 * 768 + 1 * j.val = t.val % 8 * 768 + j.val; rw [e1]; omega

theorem blk2 (t : Fin cfg0.N) (k : Fin 32) (x : Fin 1024) :
    (iblk m c 2 t : S32x1024.Idx → EReal) (ix2 k x) = arrC m c (ix2 k (rowOf t x)) := by
  obtain ⟨e0, e1⟩ := idx2 t
  refine congrArg (arrC m c) (funext fun a => Fin.ext ?_)
  match a with
  | ⟨0, _⟩ => show win0_2.index t 0 * 32 + 1 * k.val = k.val; rw [e0]; omega
  | ⟨1, _⟩ => show win0_2.index t 1 * 1024 + 1 * x.val = t.val / 8 * 1024 + x.val; rw [e1]; omega

theorem blk3 (t : Fin cfg0.N) (k : Fin 32) (x : Fin 1024) :
    (iblk m c 3 t : S32x1024.Idx → EReal) (ix2 k x) = arrS m c (ix2 k (rowOf t x)) := by
  obtain ⟨e0, e1⟩ := idx3 t
  refine congrArg (arrS m c) (funext fun a => Fin.ext ?_)
  match a with
  | ⟨0, _⟩ => show win0_3.index t 0 * 32 + 1 * k.val = k.val; rw [e0]; omega
  | ⟨1, _⟩ => show win0_3.index t 1 * 1024 + 1 * x.val = t.val / 8 * 1024 + x.val; rw [e1]; omega

theorem cos_at (t : Fin cfg0.N) (k : Fin 32) (x : Fin 1024) :
    (iblk m c 2 t : S32x1024.Idx → EReal) (ix2 k x) = argC m c (ix3 (batOf t) (posOf t x) k) := by
  rw [blk2, hostC, bat_rowOf, pos_rowOf]
theorem sin_at (t : Fin cfg0.N) (k : Fin 32) (x : Fin 1024) :
    (iblk m c 3 t : S32x1024.Idx → EReal) (ix2 k x) = argS m c (ix3 (batOf t) (posOf t x) k) := by
  rw [blk3, hostS, bat_rowOf, pos_rowOf]

/-- A product of a point's blocks, scaled, is the reference's of the arguments times the scale. -/
theorem prod_at (t : Fin cfg0.N) (n : Fin 4) (j : Nat) (hj : j < 192) (x : Fin 1024) :
    (k0_pay1 (F := Ideal) (iblk m c 0 t) (iblk m c 1 t) : S768x1024.Idx → EReal) (ix2 (brow n.val j n.isLt hj) x)
      = Cert.QupRefIdeal.Mat.pr (argA m c) (argW m c) (batOf t) (headOf t n) (posOf t x) j hj * scale := by
  refine (prod (iblk m c 0 t) (iblk m c 1 t) (brow n.val j n.isLt hj) x).trans (congrArg (fun z : EReal => z * scale) ?_)
  unfold Cert.QupRefIdeal.Mat.pr
  refine Eq.trans ?_ (Cert.QupRefIdeal.Mat.ref_prod (argA m c) (argW m c) (batOf t) (posOf t x) (Cert.QupRefIdeal.Mat.hcol (headOf t n) j hj)).symm
  refine Finset.sum_congr rfl fun k _ => ?_
  rw [blk0, blk1, hostA, hostW, bat_rowOf, pos_rowOf, colOf_brow]

theorem emb4 (t : Fin cfg0.N) (a : Fin 1) (n : Fin 4) (j : Fin 192) (x : Fin 1024) :
    ((cfg0.win 4).blk t).view.emb (ix4 a n j x : S1x4x192x1024.Idx) = (ix4 (batOf t) (headOf t n) j (posOf t x) : S2x32x192x8192.Idx) := by
  obtain ⟨e0, e1, e2, e3⟩ := idx4 t
  refine funext fun b => Fin.ext ?_
  match b with
  | ⟨0, _⟩ => show win0_4.index t 0 * 1 + 1 * a.val = t.val / 64; rw [e0]; have := a.isLt; omega
  | ⟨1, _⟩ => show win0_4.index t 1 * 4 + 1 * n.val = t.val % 8 * 4 + n.val; rw [e1]; omega
  | ⟨2, _⟩ => show win0_4.index t 2 * 192 + 1 * j.val = j.val; rw [e2]; omega
  | ⟨3, _⟩ => show win0_4.index t 3 * 1024 + 1 * x.val = t.val / 8 % 8 * 1024 + x.val; rw [e3]; omega

theorem after_4 (t : Fin cfg0.N) (i : S1x4x192x1024.Idx) :
    (dats m 0 c).after 4 t i = qB (k0_pay1 (F := Ideal) (iblk m c 0 t) (iblk m c 1 t)) (iblk m c 2 t) (iblk m c 3 t) i := by
  refine (congrFun (after0_4 m c t) i).trans ?_
  unfold outsAt0
  exact out_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) i

/-- The scale is positive and finite, so it distributes. -/
theorem scale_nonneg : 0 ≤ scale := by
  unfold scale
  rw [EReal.coe_nonneg]
  exact inv_nonneg.mpr (mul_nonneg (Real.sqrt_nonneg _) (Real.log_nonneg (by norm_num)))
theorem scale_ne_top : scale ≠ ⊤ := EReal.coe_ne_top _

theorem scale_add (a b p q : EReal) : a * scale * p + b * scale * q = (a * p + b * q) * scale := by
  rw [EReal.right_distrib_of_nonneg_of_ne_top scale_nonneg scale_ne_top, mul_right_comm a, mul_right_comm b]
theorem scale_sub (a b p q : EReal) : a * scale * p - b * scale * q = (a * p - b * q) * scale := by
  rw [sub_eq_add_neg, sub_eq_add_neg, EReal.right_distrib_of_nonneg_of_ne_top scale_nonneg scale_ne_top, mul_right_comm a, mul_right_comm b, EReal.neg_mul]

theorem value : (dats m 0 c).arrAt 4 cfg0.N
    = (Cert.QupRefIdeal.Read.val_main_v27 (F := Ideal) (argA m c) (argW m c) (argC m c) (argS m c) : S2x32x192x8192.Idx → EReal) := by
  refine (dats m 0 c).arrAt_eq_of_covers 4 _ (by decide +kernel) fun t hf i => ?_
  obtain ⟨a, n, j, x, rfl⟩ : ∃ (a : Fin 1) (n : Fin 4) (j : Fin 192) (x : Fin 1024), i = (ix4 a n j x : S1x4x192x1024.Idx) :=
    ⟨i 0, i 1, i 2, i 3, eq_ix4 (n0 := 1) (n1 := 4) (n2 := 192) (n3 := 1024) i⟩
  refine Eq.trans ?_ (congrArg (Cert.QupRefIdeal.Read.val_main_v27 (F := Ideal) (argA m c) (argW m c) (argC m c) (argS m c) : S2x32x192x8192.Idx → EReal) (emb4 t a n j x)).symm
  refine Eq.trans ?_ (Cert.QupRefIdeal.Mat.ref_q (argA m c) (argW m c) (argC m c) (argS m c) (batOf t) (headOf t n) (posOf t x) j).symm
  refine (after_4 m c t (ix4 a n j x : S1x4x192x1024.Idx)).trans ?_
  rw [qB_at]
  change _ = _ * scale
  have hj := j.isLt
  by_cases h1 : j.val < 128
  · rw [dif_pos h1, prod_at, Cert.QupRefIdeal.Mat.ref_nope _ _ _ _ _ _ _ j h1]
  · by_cases h2 : j.val - 128 < 32
    · rw [dif_neg h1, dif_pos h2, Cert.QupRefIdeal.Mat.ref_a _ _ _ _ _ _ _ j h1 h2]
      unfold rotA
      rw [prod_at, prod_at, cos_at, sin_at]
      exact scale_sub _ _ _ _
    · rw [dif_neg h1, dif_neg h2, Cert.QupRefIdeal.Mat.ref_b _ _ _ _ _ _ _ j h1 h2]
      unfold rotB
      rw [prod_at, prod_at, cos_at, sin_at]
      exact scale_add _ _ _ _

end Cert.QupIdeal.Mat

end
-- ==== Proof.Kv.Pay.lean ====
/- What a point of the key and value up-projection's call writes, at an index of its blocks. -/
module

public import proofs.«01_k».proof.Proof.Gen.KvIdeal.Value
public import Idealize.ShloMosaic.Lib.Pointwise
public import Idealize.ShloMosaic.Lib.Pipeline.Value
public import Idealize.ShloMosaic.Lib.Tactic

@[expose] public section

set_option maxRecDepth 16384

noncomputable section

namespace Cert.KvIdeal.Mat

open Cert.KvIdeal Cert.KvIdeal.Gen
open Idealize.ShloMosaic Idealize.ShloMosaic.TcCoe Idealize.ShloMosaic.Tactic

theorem hz2 {a b : Nat} : (![0, 0] : Fin (Shape.rank ⟨2, ![a, b]⟩) → Nat) = fun _ => 0 := funext fun a => by fin_cases a <;> rfl

/-- A column of a block's products: its head's, `j` of the head's 256. -/
def bcol (n j : Nat) (hn : n < 4) (hj : j < 256) : Fin 1024 := ⟨256 * n + j, by omega⟩

variable (v : FVec Ideal S1024x1024 .f32) (q : FVec Ideal S1024x64 .bf16)

theorem k2 (r : Fin 1024) (j : Fin 128) :
    (k0_pay18 (F := Ideal) v : S1x1x1024x128.Idx → EReal) (ix4 0 0 r j) = (v : S1024x1024.Idx → EReal) (ix2 r (bcol 2 j.val (by omega) (by have := j.isLt; omega))) := by
  pointwise [k0_pay18, bcol]
  try rfl

theorem k3 (r : Fin 1024) (j : Fin 128) :
    (k0_pay3 (F := Ideal) v : S1x1x1024x128.Idx → EReal) (ix4 0 0 r j) = (v : S1024x1024.Idx → EReal) (ix2 r (bcol 3 j.val (by omega) (by have := j.isLt; omega))) := by
  pointwise [k0_pay3, bcol]
  try rfl

theorem r1 (r : Fin 1024) (j : Fin 64) :
    (k0_pay15 (F := Ideal) q : S1x1x1024x64.Idx → EReal) (ix4 0 0 r j) = (q : S1024x64.Idx → EReal) (ix2 r j) := by
  pointwise [k0_pay15]
  try rfl

theorem r2 (r : Fin 1024) (j : Fin 64) :
    (k0_pay19 (F := Ideal) q : S1x1x1024x64.Idx → EReal) (ix4 0 0 r j) = (q : S1024x64.Idx → EReal) (ix2 r j) := by
  pointwise [k0_pay19]
  try rfl

theorem r3 (r : Fin 1024) (j : Fin 64) :
    (k0_pay4 (F := Ideal) q : S1x1x1024x64.Idx → EReal) (ix4 0 0 r j) = (q : S1024x64.Idx → EReal) (ix2 r j) := by
  pointwise [k0_pay4]
  try rfl

theorem v1 (j : Fin 128) (r : Fin 1024) :
    (k0_pay16 (F := Ideal) v : S1x1x128x1024.Idx → EReal) (ix4 0 0 j r) = (v : S1024x1024.Idx → EReal) (ix2 r (bcol 1 (128 + j.val) (by omega) (by have := j.isLt; omega))) := by
  pointwise [k0_pay16, bcol]
  exact congrArg (fun k : Fin 1024 => (v : S1024x1024.Idx → EReal) (ix2 r k)) (Fin.ext (by show 384 + j.val = 256 + (128 + j.val); omega))

theorem v2 (j : Fin 128) (r : Fin 1024) :
    (k0_pay1 (F := Ideal) (k0_pay20 (F := Ideal) v) : S1x1x128x1024.Idx → EReal) (ix4 0 0 j r) = (v : S1024x1024.Idx → EReal) (ix2 r (bcol 2 (128 + j.val) (by omega) (by have := j.isLt; omega))) := by
  pointwise [k0_pay1, k0_pay20, bcol]
  exact congrArg (fun k : Fin 1024 => (v : S1024x1024.Idx → EReal) (ix2 r k)) (Fin.ext (by show 640 + j.val = 512 + (128 + j.val); omega))

theorem v3 (j : Fin 128) (r : Fin 1024) :
    (k0_pay5 (F := Ideal) v : S1x1x128x1024.Idx → EReal) (ix4 0 0 j r) = (v : S1024x1024.Idx → EReal) (ix2 r (bcol 3 (128 + j.val) (by omega) (by have := j.isLt; omega))) := by
  pointwise [k0_pay5, bcol]
  exact congrArg (fun k : Fin 1024 => (v : S1024x1024.Idx → EReal) (ix2 r k)) (Fin.ext (by show 896 + j.val = 768 + (128 + j.val); omega))

theorem o0 (j : Fin 16) (r : Fin 1024) :
    (k0_pay12 (F := Ideal) : S1x1x16x1024.Idx → EReal) (ix4 0 0 j r) = Ideal.ofBits .bf16 0x3F80#16 := by
  pointwise [k0_pay12]
  try rfl

theorem o1 (j : Fin 16) (r : Fin 1024) :
    (k0_pay17 (F := Ideal) : S1x1x16x1024.Idx → EReal) (ix4 0 0 j r) = Ideal.ofBits .bf16 0x3F80#16 := by
  pointwise [k0_pay17]
  try rfl

theorem o2 (j : Fin 16) (r : Fin 1024) :
    (k0_pay2 (F := Ideal) : S1x1x16x1024.Idx → EReal) (ix4 0 0 j r) = Ideal.ofBits .bf16 0x3F80#16 := by
  pointwise [k0_pay2]
  try rfl

theorem o3 (j : Fin 16) (r : Fin 1024) :
    (k0_pay6 (F := Ideal) : S1x1x16x1024.Idx → EReal) (ix4 0 0 j r) = Ideal.ofBits .bf16 0x3F80#16 := by
  pointwise [k0_pay6]
  try rfl

variable (x0 : Vec Ideal S1024x512 .bf16) (x1 : Vec Ideal S512x1024 .bf16) (x2 : Vec Ideal S1024x128 .bf16)

theorem k0 (r : Fin 1024) (j : Fin 128) :
    (k0_pay9 (F := Ideal) x0 x1 : S1x1x1024x128.Idx → EReal) (ix4 0 0 r j) = (k0_pay7 (F := Ideal) x0 x1 : S1024x1024.Idx → EReal) (ix2 r (bcol 0 j.val (by omega) (by have := j.isLt; omega))) := by
  unfold k0_pay9
  generalize (k0_pay7 (F := Ideal) x0 x1) = v
  pointwise [bcol]
  try rfl

theorem k1 (r : Fin 1024) (j : Fin 128) :
    (k0_pay14 (F := Ideal) (k0_pay13 (F := Ideal) x0 x1) : S1x1x1024x128.Idx → EReal) (ix4 0 0 r j) = (k0_pay7 (F := Ideal) x0 x1 : S1024x1024.Idx → EReal) (ix2 r (bcol 1 j.val (by omega) (by have := j.isLt; omega))) := by
  unfold k0_pay14 k0_pay13
  generalize (k0_pay7 (F := Ideal) x0 x1) = v
  pointwise [bcol]
  try rfl

theorem v0 (j : Fin 128) (r : Fin 1024) :
    (k0_pay11 (F := Ideal) x0 x1 : S1x1x128x1024.Idx → EReal) (ix4 0 0 j r) = (k0_pay7 (F := Ideal) x0 x1 : S1024x1024.Idx → EReal) (ix2 r (bcol 0 (128 + j.val) (by omega) (by have := j.isLt; omega))) := by
  unfold k0_pay11
  generalize (k0_pay7 (F := Ideal) x0 x1) = v
  pointwise [bcol]
  try rfl

theorem r0 (r : Fin 1024) (j : Fin 64) :
    (k0_pay10 (F := Ideal) x2 : S1x1x1024x64.Idx → EReal) (ix4 0 0 r j) = (k0_pay8 (F := Ideal) x2 : S1024x64.Idx → EReal) (ix2 r j) := by
  unfold k0_pay10
  generalize (k0_pay8 (F := Ideal) x2) = q
  pointwise
  try rfl

theorem prod (r j : Fin 1024) :
    (k0_pay7 (F := Ideal) x0 x1 : S1024x1024.Idx → EReal) (ix2 r j) = ∑ k : Fin 512, (x0 : S1024x512.Idx → EReal) (ix2 r k) * (x1 : S512x1024.Idx → EReal) (ix2 k j) := by
  pointwise [k0_pay7]
  try rfl

theorem roped (r : Fin 1024) (j : Fin 64) :
    (k0_pay8 (F := Ideal) x2 : S1024x64.Idx → EReal) (ix2 r j) = (x2 : S1024x128.Idx → EReal) (ix2 r ⟨j.val, by have := j.isLt; omega⟩) := by
  pointwise [k0_pay8]
  try rfl

end Cert.KvIdeal.Mat

end
-- ==== Proof.Kv.Blocks.lean ====
/- What a point of the key and value up-projection's call leaves of its two result blocks, whole. -/
module

public import proofs.«01_k».proof.Proof.Kv.Pay

@[expose] public section

set_option maxRecDepth 16384

noncomputable section

namespace Cert.KvIdeal.Mat

open Cert.KvIdeal Cert.KvIdeal.Gen
open Idealize.ShloMosaic Idealize.ShloMosaic.TcCoe Idealize.ShloMosaic.Tactic

/-- The key block and the value block, of the products and the rotated part. -/
def keyB (v : S1024x1024.Idx → EReal) (q : S1024x64.Idx → EReal) (y : S1x4x1024x192.Idx) : EReal :=
  if h : (y 3).val < 128 then v (ix2 (y 2) (bcol (y 1).val (y 3).val (y 1).isLt (by omega)))
  else q (ix2 (y 2) ⟨(y 3).val - 128, by have : (y 3).val < 192 := (y 3).isLt; omega⟩)
def valB (v : S1024x1024.Idx → EReal) (y : S1x4x144x1024.Idx) : EReal :=
  if h : (y 2).val < 128 then v (ix2 (y 3) (bcol (y 1).val (128 + (y 2).val) (y 1).isLt (by omega)))
  else Ideal.ofBits .bf16 0x3F80#16

variable (v : S1024x1024.Idx → EReal) (q : S1024x64.Idx → EReal)

/-- Every piece of a block is its rectangle of the block. -/
theorem piece_k (n : Nat) (hn : n < 4) (inb : ∀ a, (![0, n, 0, 0] : Fin 4 → Nat) a + S1x1x1024x128.size a ≤ S1x4x1024x192.size a)
    (P : S1x1x1024x128.Idx → EReal) (hP : ∀ (r : Fin 1024) (j : Fin 128), P (ix4 0 0 r j) = v (ix2 r (bcol n j.val hn (by have := j.isLt; omega))))
    (x : S1x1x1024x128.Idx) : P x = keyB v q ((Rect.unit (s := S1x4x1024x192) ![0, n, 0, 0] S1x1x1024x128.size inb).emb x) := by
  obtain ⟨a, b, r, j, rfl⟩ : ∃ (a : Fin 1) (b : Fin 1) (r : Fin 1024) (j : Fin 128), x = (ix4 a b r j : S1x1x1024x128.Idx) :=
    ⟨x 0, x 1, x 2, x 3, eq_ix4 (n0 := 1) (n1 := 1) (n2 := 1024) (n3 := 128) x⟩
  obtain rfl : a = 0 := Subsingleton.elim _ _
  obtain rfl : b = 0 := Subsingleton.elim _ _
  have e : (Rect.unit (s := S1x4x1024x192) ![0, n, 0, 0] S1x1x1024x128.size inb).emb (ix4 0 0 r j : S1x1x1024x128.Idx)
      = (ix4 0 ⟨n, hn⟩ r ⟨j.val, by have := j.isLt; omega⟩ : S1x4x1024x192.Idx) := by
    refine funext fun k => Fin.ext ?_
    match k with
    | ⟨0, _⟩ => rfl
    | ⟨1, _⟩ => show n + 1 * 0 = n; omega
    | ⟨2, _⟩ => show 0 + 1 * r.val = r.val; omega
    | ⟨3, _⟩ => show 0 + 1 * j.val = j.val; omega
  have hj := j.isLt
  rw [e, hP]
  show _ = (if h : j.val < 128 then v (ix2 r (bcol n j.val hn (by omega))) else q (ix2 r ⟨j.val - 128, by omega⟩))
  rw [dif_pos hj]

theorem piece_r (n : Nat) (hn : n < 4) (inb : ∀ a, (![0, n, 0, 128] : Fin 4 → Nat) a + S1x1x1024x64.size a ≤ S1x4x1024x192.size a)
    (P : S1x1x1024x64.Idx → EReal) (hP : ∀ (r : Fin 1024) (j : Fin 64), P (ix4 0 0 r j) = q (ix2 r j))
    (x : S1x1x1024x64.Idx) : P x = keyB v q ((Rect.unit (s := S1x4x1024x192) ![0, n, 0, 128] S1x1x1024x64.size inb).emb x) := by
  obtain ⟨a, b, r, j, rfl⟩ : ∃ (a : Fin 1) (b : Fin 1) (r : Fin 1024) (j : Fin 64), x = (ix4 a b r j : S1x1x1024x64.Idx) :=
    ⟨x 0, x 1, x 2, x 3, eq_ix4 (n0 := 1) (n1 := 1) (n2 := 1024) (n3 := 64) x⟩
  obtain rfl : a = 0 := Subsingleton.elim _ _
  obtain rfl : b = 0 := Subsingleton.elim _ _
  have e : (Rect.unit (s := S1x4x1024x192) ![0, n, 0, 128] S1x1x1024x64.size inb).emb (ix4 0 0 r j : S1x1x1024x64.Idx)
      = (ix4 0 ⟨n, hn⟩ r ⟨128 + j.val, by have := j.isLt; omega⟩ : S1x4x1024x192.Idx) := by
    refine funext fun k => Fin.ext ?_
    match k with
    | ⟨0, _⟩ => rfl
    | ⟨1, _⟩ => show n + 1 * 0 = n; omega
    | ⟨2, _⟩ => show 0 + 1 * r.val = r.val; omega
    | ⟨3, _⟩ => show 128 + 1 * j.val = 128 + j.val; omega
  rw [e, hP]
  have hj := j.isLt
  show _ = (if h : 128 + j.val < 128 then v (ix2 r (bcol n (128 + j.val) hn (by omega))) else q (ix2 r ⟨128 + j.val - 128, by omega⟩))
  rw [dif_neg (show ¬ 128 + j.val < 128 by omega)]
  exact congrArg (fun k : Fin 64 => q (ix2 r k)) (Fin.ext (by show j.val = 128 + j.val - 128; omega))

theorem piece_v (n : Nat) (hn : n < 4) (inb : ∀ a, (![0, n, 0, 0] : Fin 4 → Nat) a + S1x1x128x1024.size a ≤ S1x4x144x1024.size a)
    (P : S1x1x128x1024.Idx → EReal) (hP : ∀ (j : Fin 128) (r : Fin 1024), P (ix4 0 0 j r) = v (ix2 r (bcol n (128 + j.val) hn (by have := j.isLt; omega))))
    (x : S1x1x128x1024.Idx) : P x = valB v ((Rect.unit (s := S1x4x144x1024) ![0, n, 0, 0] S1x1x128x1024.size inb).emb x) := by
  obtain ⟨a, b, j, r, rfl⟩ : ∃ (a : Fin 1) (b : Fin 1) (j : Fin 128) (r : Fin 1024), x = (ix4 a b j r : S1x1x128x1024.Idx) :=
    ⟨x 0, x 1, x 2, x 3, eq_ix4 (n0 := 1) (n1 := 1) (n2 := 128) (n3 := 1024) x⟩
  obtain rfl : a = 0 := Subsingleton.elim _ _
  obtain rfl : b = 0 := Subsingleton.elim _ _
  have e : (Rect.unit (s := S1x4x144x1024) ![0, n, 0, 0] S1x1x128x1024.size inb).emb (ix4 0 0 j r : S1x1x128x1024.Idx)
      = (ix4 0 ⟨n, hn⟩ ⟨j.val, by have := j.isLt; omega⟩ r : S1x4x144x1024.Idx) := by
    refine funext fun k => Fin.ext ?_
    match k with
    | ⟨0, _⟩ => rfl
    | ⟨1, _⟩ => show n + 1 * 0 = n; omega
    | ⟨2, _⟩ => show 0 + 1 * j.val = j.val; omega
    | ⟨3, _⟩ => show 0 + 1 * r.val = r.val; omega
  have hj := j.isLt
  rw [e, hP]
  show _ = (if h : j.val < 128 then v (ix2 r (bcol n (128 + j.val) hn (by omega))) else Ideal.ofBits .bf16 0x3F80#16)
  rw [dif_pos hj]

theorem piece_o (n : Nat) (hn : n < 4) (inb : ∀ a, (![0, n, 128, 0] : Fin 4 → Nat) a + S1x1x16x1024.size a ≤ S1x4x144x1024.size a)
    (P : S1x1x16x1024.Idx → EReal) (hP : ∀ (j : Fin 16) (r : Fin 1024), P (ix4 0 0 j r) = Ideal.ofBits .bf16 0x3F80#16)
    (x : S1x1x16x1024.Idx) : P x = valB v ((Rect.unit (s := S1x4x144x1024) ![0, n, 128, 0] S1x1x16x1024.size inb).emb x) := by
  obtain ⟨a, b, j, r, rfl⟩ : ∃ (a : Fin 1) (b : Fin 1) (j : Fin 16) (r : Fin 1024), x = (ix4 a b j r : S1x1x16x1024.Idx) :=
    ⟨x 0, x 1, x 2, x 3, eq_ix4 (n0 := 1) (n1 := 1) (n2 := 16) (n3 := 1024) x⟩
  obtain rfl : a = 0 := Subsingleton.elim _ _
  obtain rfl : b = 0 := Subsingleton.elim _ _
  have e : (Rect.unit (s := S1x4x144x1024) ![0, n, 128, 0] S1x1x16x1024.size inb).emb (ix4 0 0 j r : S1x1x16x1024.Idx)
      = (ix4 0 ⟨n, hn⟩ ⟨128 + j.val, by have := j.isLt; omega⟩ r : S1x4x144x1024.Idx) := by
    refine funext fun k => Fin.ext ?_
    match k with
    | ⟨0, _⟩ => rfl
    | ⟨1, _⟩ => show n + 1 * 0 = n; omega
    | ⟨2, _⟩ => show 128 + 1 * j.val = 128 + j.val; omega
    | ⟨3, _⟩ => show 0 + 1 * r.val = r.val; omega
  rw [e, hP]
  have hj := j.isLt
  show _ = (if h : 128 + j.val < 128 then v (ix2 r (bcol n (128 + (128 + j.val)) hn (by omega))) else Ideal.ofBits .bf16 0x3F80#16)
  rw [dif_neg (show ¬ 128 + j.val < 128 by omega)]

theorem out_3 (c : Dev nD) (i : grid0.Coords) (a2 : Memref sig .tc .vmem S1024x512 .bf16) (h2 : a2.IsWhole) (a3 : Memref sig .tc .vmem S512x1024 .bf16) (h3 : a3.IsWhole) (a4 : Memref sig .tc .vmem S1024x128 .bf16) (h4 : a4.IsWhole) (a5 : Memref sig .tc .vmem S1x4x1024x192 .bf16) (h5 : a5.IsWhole) (a6 : Memref sig .tc .vmem S1x4x144x1024 .bf16) (h6 : a6.IsWhole)
    (x0 : Vec Ideal S1024x512 .bf16) (x1 : Vec Ideal S512x1024 .bf16) (x2 : Vec Ideal S1024x128 .bf16)
    (y : S1x4x1024x192.Idx) :
    out0_A_3 c i a2 h2 a3 h3 a4 h4 a5 h5 a6 h6 x0 x1 x2 y = keyB (k0_pay7 (F := Ideal) x0 x1) (k0_pay8 (F := Ideal) x2) y := by
  have hc := cover0_A_3 c i a2 h2 a3 h3 a4 h4 a5 h5 a6 h6 x0 x1 x2
  unfold out0_A_3
  rw [View.read_writes_eq_canon _ _ _ hc]
  refine View.canon_apply_of_pieces _ _ ?_ y (hc y)
  unfold kernelRun0_A
  dsimp only
  sl_unfold_words
  simp only [View.readAt_eq_ld, h2.read_unread, h3.read_unread, h4.read_unread]
  rw [View.ld_unit_zero (hz2 (a := 1024) (b := 512)), View.ld_unit_zero (hz2 (a := 512) (b := 1024)), View.ld_unit_zero (hz2 (a := 1024) (b := 128))]
  intro p hp
  simp only [List.mem_cons, List.not_mem_nil, or_false] at hp
  rcases hp with rfl | rfl | rfl | rfl | rfl | rfl | rfl | rfl
  · exact piece_r (k0_pay7 (F := Ideal) x0 x1) (k0_pay8 (F := Ideal) x2) 3 (by omega) inb_S1x4x1024x192_S1x1x1024x64_0_3_0_128 (k0_pay4 (F := Ideal) (k0_pay8 (F := Ideal) x2)) (r3 (k0_pay8 (F := Ideal) x2))
  · exact piece_k (k0_pay7 (F := Ideal) x0 x1) (k0_pay8 (F := Ideal) x2) 3 (by omega) inb_S1x4x1024x192_S1x1x1024x128_0_3_0_0 (k0_pay3 (F := Ideal) (k0_pay7 (F := Ideal) x0 x1)) (k3 (k0_pay7 (F := Ideal) x0 x1))
  · exact piece_r (k0_pay7 (F := Ideal) x0 x1) (k0_pay8 (F := Ideal) x2) 2 (by omega) inb_S1x4x1024x192_S1x1x1024x64_0_2_0_128 (k0_pay19 (F := Ideal) (k0_pay8 (F := Ideal) x2)) (r2 (k0_pay8 (F := Ideal) x2))
  · exact piece_k (k0_pay7 (F := Ideal) x0 x1) (k0_pay8 (F := Ideal) x2) 2 (by omega) inb_S1x4x1024x192_S1x1x1024x128_0_2_0_0 (k0_pay18 (F := Ideal) (k0_pay7 (F := Ideal) x0 x1)) (k2 (k0_pay7 (F := Ideal) x0 x1))
  · exact piece_r (k0_pay7 (F := Ideal) x0 x1) (k0_pay8 (F := Ideal) x2) 1 (by omega) inb_S1x4x1024x192_S1x1x1024x64_0_1_0_128 (k0_pay15 (F := Ideal) (k0_pay8 (F := Ideal) x2)) (r1 (k0_pay8 (F := Ideal) x2))
  · exact piece_k (k0_pay7 (F := Ideal) x0 x1) (k0_pay8 (F := Ideal) x2) 1 (by omega) inb_S1x4x1024x192_S1x1x1024x128_0_1_0_0 (k0_pay14 (F := Ideal) (k0_pay13 (F := Ideal) x0 x1)) (k1 x0 x1)
  · exact piece_r (k0_pay7 (F := Ideal) x0 x1) (k0_pay8 (F := Ideal) x2) 0 (by omega) inb_S1x4x1024x192_S1x1x1024x64_0_0_0_128 (k0_pay10 (F := Ideal) x2) (r0 x2)
  · exact piece_k (k0_pay7 (F := Ideal) x0 x1) (k0_pay8 (F := Ideal) x2) 0 (by omega) inb_S1x4x1024x192_S1x1x1024x128_0_0_0_0 (k0_pay9 (F := Ideal) x0 x1) (k0 x0 x1)

theorem out_4 (c : Dev nD) (i : grid0.Coords) (a2 : Memref sig .tc .vmem S1024x512 .bf16) (h2 : a2.IsWhole) (a3 : Memref sig .tc .vmem S512x1024 .bf16) (h3 : a3.IsWhole) (a4 : Memref sig .tc .vmem S1024x128 .bf16) (h4 : a4.IsWhole) (a5 : Memref sig .tc .vmem S1x4x1024x192 .bf16) (h5 : a5.IsWhole) (a6 : Memref sig .tc .vmem S1x4x144x1024 .bf16) (h6 : a6.IsWhole)
    (x0 : Vec Ideal S1024x512 .bf16) (x1 : Vec Ideal S512x1024 .bf16) (x2 : Vec Ideal S1024x128 .bf16)
    (y : S1x4x144x1024.Idx) :
    out0_A_4 c i a2 h2 a3 h3 a4 h4 a5 h5 a6 h6 x0 x1 x2 y = valB (k0_pay7 (F := Ideal) x0 x1) y := by
  have hc := cover0_A_4 c i a2 h2 a3 h3 a4 h4 a5 h5 a6 h6 x0 x1 x2
  unfold out0_A_4
  rw [View.read_writes_eq_canon _ _ _ hc]
  refine View.canon_apply_of_pieces _ _ ?_ y (hc y)
  unfold kernelRun0_A
  dsimp only
  sl_unfold_words
  simp only [View.readAt_eq_ld, h2.read_unread, h3.read_unread, h4.read_unread]
  rw [View.ld_unit_zero (hz2 (a := 1024) (b := 512)), View.ld_unit_zero (hz2 (a := 512) (b := 1024))]
  intro p hp
  simp only [List.mem_cons, List.not_mem_nil, or_false] at hp
  rcases hp with rfl | rfl | rfl | rfl | rfl | rfl | rfl | rfl
  · exact piece_o (k0_pay7 (F := Ideal) x0 x1) 3 (by omega) inb_S1x4x144x1024_S1x1x16x1024_0_3_128_0 (k0_pay6 (F := Ideal)) o3
  · exact piece_v (k0_pay7 (F := Ideal) x0 x1) 3 (by omega) inb_S1x4x144x1024_S1x1x128x1024_0_3_0_0 (k0_pay5 (F := Ideal) (k0_pay7 (F := Ideal) x0 x1)) (v3 (k0_pay7 (F := Ideal) x0 x1))
  · exact piece_o (k0_pay7 (F := Ideal) x0 x1) 2 (by omega) inb_S1x4x144x1024_S1x1x16x1024_0_2_128_0 (k0_pay2 (F := Ideal)) o2
  · exact piece_v (k0_pay7 (F := Ideal) x0 x1) 2 (by omega) inb_S1x4x144x1024_S1x1x128x1024_0_2_0_0 (k0_pay1 (F := Ideal) (k0_pay20 (F := Ideal) (k0_pay7 (F := Ideal) x0 x1))) (v2 (k0_pay7 (F := Ideal) x0 x1))
  · exact piece_o (k0_pay7 (F := Ideal) x0 x1) 1 (by omega) inb_S1x4x144x1024_S1x1x16x1024_0_1_128_0 (k0_pay17 (F := Ideal)) o1
  · exact piece_v (k0_pay7 (F := Ideal) x0 x1) 1 (by omega) inb_S1x4x144x1024_S1x1x128x1024_0_1_0_0 (k0_pay16 (F := Ideal) (k0_pay7 (F := Ideal) x0 x1)) (v1 (k0_pay7 (F := Ideal) x0 x1))
  · exact piece_o (k0_pay7 (F := Ideal) x0 x1) 0 (by omega) inb_S1x4x144x1024_S1x1x16x1024_0_0_128_0 (k0_pay12 (F := Ideal)) o0
  · exact piece_v (k0_pay7 (F := Ideal) x0 x1) 0 (by omega) inb_S1x4x144x1024_S1x1x128x1024_0_0_0_0 (k0_pay11 (F := Ideal) x0 x1) (v0 x0 x1)

end Cert.KvIdeal.Mat

end
-- ==== Proof.Kv.Ref.lean ====
/- The key and value up-projection's reference, at an index. -/
module

public import proofs.«01_k».proof.Proof.Gen.KvRefIdeal.Read
public import Idealize.ShloMosaic.Lib.Pointwise

@[expose] public section

set_option maxRecDepth 16384

noncomputable section

namespace Cert.KvRefIdeal.Mat

open Cert.KvRefIdeal Cert.KvRefIdeal.Gen Cert.KvRefIdeal.Read
open Idealize.ShloMosaic Idealize.ShloMosaic.TcCoe

/-- A column of the products: its head's, `j` of the head's 256. -/
def hcol (h : Fin 32) (j : Nat) (hj : j < 256) : Fin 8192 := ⟨256 * h.val + j, by have := h.isLt; omega⟩

variable (x : S2x8192x512.Idx → EReal) (w : S512x8192.Idx → EReal) (p : S2x8192x128.Idx → EReal) (b : Fin 2) (h : Fin 32) (r : Fin 8192)

theorem ref_prod (j : Fin 8192) :
    (val_main_v0 (F := Ideal) x w : S2x8192x8192.Idx → EReal) (ix3 b r j) = ∑ k : Fin 512, x (ix3 b r k) * w (ix2 k j) := by
  pointwise [val_main_v0]
  try rfl

theorem ref_head (j : Fin 256) :
    (val_main_v1 (F := Ideal) x w : S2x8192x32x256.Idx → EReal) (ix4 b r h j) = (val_main_v0 (F := Ideal) x w : S2x8192x8192.Idx → EReal) (ix3 b r (hcol h j.val j.isLt)) := by
  unfold val_main_v1
  generalize (val_main_v0 (F := Ideal) x w) = v
  pointwise [hcol]
  exact congrArg (fun k : Fin 8192 => (v : S2x8192x8192.Idx → EReal) (ix3 b r k)) (Fin.ext (by show h.val * 256 + j.val = 256 * h.val + j.val; omega))

theorem ref_k (j : Fin 192) :
    (val_main_v12 (F := Ideal) x w p : S2x32x8192x192.Idx → EReal) (ix4 b h r j)
      = if hj : j.val < 128 then (val_main_v0 (F := Ideal) x w : S2x8192x8192.Idx → EReal) (ix3 b r (hcol h j.val (by omega)))
        else p (ix3 b r ⟨j.val - 128, by have := j.isLt; omega⟩) := by
  by_cases hj : j.val < 128
  · rw [dif_pos hj, ← ref_head x w b h r ⟨j.val, by omega⟩]
    unfold val_main_v12 val_main_v11 val_main_v7 val_main_v2
    generalize (val_main_v1 (F := Ideal) x w) = v
    pointwise [val_main_v6, val_main_v5, val_main_v4]
    rw [dif_pos hj]
    try rfl
  · rw [dif_neg hj]
    unfold val_main_v12 val_main_v11 val_main_v7 val_main_v2
    generalize (val_main_v1 (F := Ideal) x w) = v
    pointwise [val_main_v6, val_main_v5, val_main_v4]
    rw [dif_neg hj]
    try rfl

theorem ref_v (j : Fin 144) :
    (val_main_v13 (F := Ideal) x w : S2x32x144x8192.Idx → EReal) (ix4 b h j r)
      = if hj : j.val < 128 then (val_main_v0 (F := Ideal) x w : S2x8192x8192.Idx → EReal) (ix3 b r (hcol h (128 + j.val) (by omega)))
        else Ideal.ofBits .f32 0x3F800000#32 := by
  by_cases hj : j.val < 128
  · rw [dif_pos hj]
    refine Eq.trans ?_ (ref_head x w b h r ⟨128 + j.val, by omega⟩)
    unfold val_main_v13 val_main_v10 val_main_v9 val_main_v3
    generalize (val_main_v1 (F := Ideal) x w) = v
    pointwise [val_main_v8, val_main_cst]
    rw [dif_pos hj]
    try rfl
  · rw [dif_neg hj]
    unfold val_main_v13 val_main_v10 val_main_v9 val_main_v3
    generalize (val_main_v1 (F := Ideal) x w) = v
    pointwise [val_main_v8, val_main_cst]
    rw [dif_neg hj]
    try rfl

end Cert.KvRefIdeal.Mat

end
-- ==== Proof.Kv.Value.lean ====
/- The key and value up-projection: the call and the reference leave the same arrays. -/
module

public import proofs.«01_k».proof.Proof.Kv.Blocks
public import proofs.«01_k».proof.Proof.Kv.Ref
public import Idealize.ShloMosaic.Lib.Pipeline.ValueKit

@[expose] public section

set_option maxRecDepth 16384

noncomputable section

namespace Cert.KvIdeal.Mat

open Cert.KvIdeal Cert.KvIdeal.Gen
open Idealize.ShloMosaic Idealize.ShloMosaic.TcCoe

variable (m : (ℓ : Loc nD τ sig) → Buf (Elt Ideal) ℓ) (c : Dev nD)

/-- The arguments, as arrays of extended reals. -/
abbrev argA : S2x8192x512.Idx → EReal := m ((c : Thread nD τ).loc main_arg0)
abbrev argW : S512x8192.Idx → EReal := m ((c : Thread nD τ).loc main_arg1)
abbrev argP : S2x8192x128.Idx → EReal := m ((c : Thread nD τ).loc main_arg2)

/-- The arrays the host hands the call. -/
abbrev arrA : S16384x512.Idx → EReal := V m c main_v1
abbrev arrW : S512x8192.Idx → EReal := V m c main_v2
abbrev arrP : S16384x128.Idx → EReal := V m c main_v4

/-- A row's batch and position. -/
def bat (r : Fin 16384) : Fin 2 := ⟨r.val / 8192, by have := r.isLt; omega⟩
def pos (r : Fin 16384) : Fin 8192 := ⟨r.val % 8192, by omega⟩

theorem hostA (r : Fin 16384) (k : Fin 512) : arrA m c (ix2 r k) = argA m c (ix3 (bat r) (pos r) k) := by
  dsimp only [arrA, V, hostOps0]
  after_results
  pointwise
  rfl

theorem hostW (k : Fin 512) (j : Fin 8192) : arrW m c (ix2 k j) = argW m c (ix2 k j) := by
  dsimp only [arrW, V, hostOps0]
  after_results
  pointwise
  try rfl

theorem hostP (r : Fin 16384) (k : Fin 128) : arrP m c (ix2 r k) = argP m c (ix3 (bat r) (pos r) k) := by
  dsimp only [arrP, V, hostOps0]
  after_results
  pointwise
  rfl

theorem lt_N (t : Fin cfg0.N) : t.val < 128 := lt_of_lt_of_eq t.isLt (show cfg0.N = 128 from N_0)

/-- The row and the column of the arrays at a row and a column of a point's blocks, and their batch, position and head. -/
def rowOf (t : Fin cfg0.N) (x : Fin 1024) : Fin 16384 := ⟨t.val / 8 * 1024 + x.val, by have := lt_N t; have := x.isLt; omega⟩
def colOf (t : Fin cfg0.N) (j : Fin 1024) : Fin 8192 := ⟨t.val % 8 * 1024 + j.val, by have := j.isLt; omega⟩
def batOf (t : Fin cfg0.N) : Fin 2 := ⟨t.val / 64, by have := lt_N t; omega⟩
def posOf (t : Fin cfg0.N) (x : Fin 1024) : Fin 8192 := ⟨t.val / 8 % 8 * 1024 + x.val, by have := x.isLt; omega⟩
def headOf (t : Fin cfg0.N) (n : Fin 4) : Fin 32 := ⟨t.val % 8 * 4 + n.val, by have := n.isLt; omega⟩

theorem bat_rowOf (t : Fin cfg0.N) (x : Fin 1024) : bat (rowOf t x) = batOf t :=
  Fin.ext (by have := x.isLt; show (t.val / 8 * 1024 + x.val) / 8192 = t.val / 64; omega)
theorem pos_rowOf (t : Fin cfg0.N) (x : Fin 1024) : pos (rowOf t x) = posOf t x :=
  Fin.ext (by have := x.isLt; show (t.val / 8 * 1024 + x.val) % 8192 = t.val / 8 % 8 * 1024 + x.val; omega)
theorem colOf_bcol (t : Fin cfg0.N) (n : Fin 4) (j : Nat) (hj : j < 256) :
    colOf t (bcol n.val j n.isLt hj) = Cert.KvRefIdeal.Mat.hcol (headOf t n) j hj :=
  Fin.ext (by show t.val % 8 * 1024 + (256 * n.val + j) = 256 * (t.val % 8 * 4 + n.val) + j; omega)

theorem idx0 : ∀ t : Fin grid0.N, win0_0.index t 0 = t.val / 8 ∧ win0_0.index t 1 = 0 := by decide +kernel
theorem idx1 : ∀ t : Fin grid0.N, win0_1.index t 0 = 0 ∧ win0_1.index t 1 = t.val % 8 := by decide +kernel
theorem idx2 : ∀ t : Fin grid0.N, win0_2.index t 0 = t.val / 8 ∧ win0_2.index t 1 = 0 := by decide +kernel
theorem idx3 : ∀ t : Fin grid0.N, win0_3.index t 0 = t.val / 64 ∧ win0_3.index t 1 = t.val % 8 ∧ win0_3.index t 2 = t.val / 8 % 8 ∧ win0_3.index t 3 = 0 := by decide +kernel
theorem idx4 : ∀ t : Fin grid0.N, win0_4.index t 0 = t.val / 64 ∧ win0_4.index t 1 = t.val % 8 ∧ win0_4.index t 2 = 0 ∧ win0_4.index t 3 = t.val / 8 % 8 := by decide +kernel

theorem blk0 (t : Fin cfg0.N) (x : Fin 1024) (k : Fin 512) :
    (iblk m c 0 t : S1024x512.Idx → EReal) (ix2 x k) = arrA m c (ix2 (rowOf t x) k) := by
  obtain ⟨e0, e1⟩ := idx0 t
  refine congrArg (arrA m c) (funext fun a => Fin.ext ?_)
  match a with
  | ⟨0, _⟩ => show win0_0.index t 0 * 1024 + 1 * x.val = t.val / 8 * 1024 + x.val; rw [e0]; omega
  | ⟨1, _⟩ => show win0_0.index t 1 * 512 + 1 * k.val = k.val; rw [e1]; omega

theorem blk1 (t : Fin cfg0.N) (k : Fin 512) (j : Fin 1024) :
    (iblk m c 1 t : S512x1024.Idx → EReal) (ix2 k j) = arrW m c (ix2 k (colOf t j)) := by
  obtain ⟨e0, e1⟩ := idx1 t
  refine congrArg (arrW m c) (funext fun a => Fin.ext ?_)
  match a with
  | ⟨0, _⟩ => show win0_1.index t 0 * 512 + 1 * k.val = k.val; rw [e0]; omega
  | ⟨1, _⟩ => show win0_1.index t 1 * 1024 + 1 * j.val = t.val % 8 * 1024 + j.val; rw [e1]; omega

theorem blk2 (t : Fin cfg0.N) (x : Fin 1024) (k : Fin 128) :
    (iblk m c 2 t : S1024x128.Idx → EReal) (ix2 x k) = arrP m c (ix2 (rowOf t x) k) := by
  obtain ⟨e0, e1⟩ := idx2 t
  refine congrArg (arrP m c) (funext fun a => Fin.ext ?_)
  match a with
  | ⟨0, _⟩ => show win0_2.index t 0 * 1024 + 1 * x.val = t.val / 8 * 1024 + x.val; rw [e0]; omega
  | ⟨1, _⟩ => show win0_2.index t 1 * 128 + 1 * k.val = k.val; rw [e1]; omega

/-- A product of a point's blocks is the reference's of the arguments. -/
theorem prod_at (t : Fin cfg0.N) (x j : Fin 1024) :
    (k0_pay7 (F := Ideal) (iblk m c 0 t) (iblk m c 1 t) : S1024x1024.Idx → EReal) (ix2 x j)
      = (Cert.KvRefIdeal.Read.val_main_v0 (F := Ideal) (argA m c) (argW m c) : Cert.KvRefIdeal.S2x8192x8192.Idx → EReal) (ix3 (batOf t) (posOf t x) (colOf t j)) := by
  refine (prod _ _ x j).trans (Eq.trans ?_ (Cert.KvRefIdeal.Mat.ref_prod (argA m c) (argW m c) (batOf t) (posOf t x) (colOf t j)).symm)
  refine Finset.sum_congr rfl fun k _ => ?_
  rw [blk0, blk1, hostA, hostW, bat_rowOf, pos_rowOf]

theorem roped_at (t : Fin cfg0.N) (x : Fin 1024) (j : Fin 64) :
    (k0_pay8 (F := Ideal) (iblk m c 2 t) : S1024x64.Idx → EReal) (ix2 x j) = argP m c (ix3 (batOf t) (posOf t x) ⟨j.val, by have := j.isLt; omega⟩) := by
  refine (roped _ x j).trans ?_
  rw [blk2, hostP, bat_rowOf, pos_rowOf]

theorem emb3 (t : Fin cfg0.N) (a : Fin 1) (n : Fin 4) (x : Fin 1024) (j : Fin 192) :
    ((cfg0.win 3).blk t).view.emb (ix4 a n x j : S1x4x1024x192.Idx) = (ix4 (batOf t) (headOf t n) (posOf t x) j : S2x32x8192x192.Idx) := by
  obtain ⟨e0, e1, e2, e3⟩ := idx3 t
  refine funext fun b => Fin.ext ?_
  match b with
  | ⟨0, _⟩ => show win0_3.index t 0 * 1 + 1 * a.val = t.val / 64; rw [e0]; have := a.isLt; omega
  | ⟨1, _⟩ => show win0_3.index t 1 * 4 + 1 * n.val = t.val % 8 * 4 + n.val; rw [e1]; omega
  | ⟨2, _⟩ => show win0_3.index t 2 * 1024 + 1 * x.val = t.val / 8 % 8 * 1024 + x.val; rw [e2]; omega
  | ⟨3, _⟩ => show win0_3.index t 3 * 192 + 1 * j.val = j.val; rw [e3]; omega

theorem emb4 (t : Fin cfg0.N) (a : Fin 1) (n : Fin 4) (j : Fin 144) (x : Fin 1024) :
    ((cfg0.win 4).blk t).view.emb (ix4 a n j x : S1x4x144x1024.Idx) = (ix4 (batOf t) (headOf t n) j (posOf t x) : S2x32x144x8192.Idx) := by
  obtain ⟨e0, e1, e2, e3⟩ := idx4 t
  refine funext fun b => Fin.ext ?_
  match b with
  | ⟨0, _⟩ => show win0_4.index t 0 * 1 + 1 * a.val = t.val / 64; rw [e0]; have := a.isLt; omega
  | ⟨1, _⟩ => show win0_4.index t 1 * 4 + 1 * n.val = t.val % 8 * 4 + n.val; rw [e1]; omega
  | ⟨2, _⟩ => show win0_4.index t 2 * 144 + 1 * j.val = j.val; rw [e2]; omega
  | ⟨3, _⟩ => show win0_4.index t 3 * 1024 + 1 * x.val = t.val / 8 % 8 * 1024 + x.val; rw [e3]; omega

theorem after_3 (t : Fin cfg0.N) (i : S1x4x1024x192.Idx) :
    (dats m 0 c).after 3 t i = keyB (k0_pay7 (F := Ideal) (iblk m c 0 t) (iblk m c 1 t)) (k0_pay8 (F := Ideal) (iblk m c 2 t)) i := by
  refine (congrFun (after0_3 m c t) i).trans ?_
  unfold outsAt0
  dsimp only
  exact out_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) i

theorem after_4 (t : Fin cfg0.N) (i : S1x4x144x1024.Idx) :
    (dats m 0 c).after 4 t i = valB (k0_pay7 (F := Ideal) (iblk m c 0 t) (iblk m c 1 t)) i := by
  rw [after0_4]
  unfold outsAt0
  exact out_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) i

theorem keyB_at (v : S1024x1024.Idx → EReal) (q : S1024x64.Idx → EReal) (a : Fin 1) (n : Fin 4) (x : Fin 1024) (j : Fin 192) :
    keyB v q (ix4 a n x j) = if h : j.val < 128 then v (ix2 x (bcol n.val j.val n.isLt (by omega)))
      else q (ix2 x ⟨j.val - 128, by have := j.isLt; omega⟩) := rfl

theorem valB_at (v : S1024x1024.Idx → EReal) (a : Fin 1) (n : Fin 4) (j : Fin 144) (x : Fin 1024) :
    valB v (ix4 a n j x) = if h : j.val < 128 then v (ix2 x (bcol n.val (128 + j.val) n.isLt (by omega)))
      else Ideal.ofBits .bf16 0x3F80#16 := rfl

theorem value_k : (dats m 0 c).arrAt 3 cfg0.N
    = (Cert.KvRefIdeal.Read.val_main_v12 (F := Ideal) (argA m c) (argW m c) (argP m c) : S2x32x8192x192.Idx → EReal) := by
  refine (dats m 0 c).arrAt_eq_of_covers 3 _ (by decide +kernel) fun t hf i => ?_
  obtain ⟨a, n, x, j, rfl⟩ : ∃ (a : Fin 1) (n : Fin 4) (x : Fin 1024) (j : Fin 192), i = (ix4 a n x j : S1x4x1024x192.Idx) :=
    ⟨i 0, i 1, i 2, i 3, eq_ix4 (n0 := 1) (n1 := 4) (n2 := 1024) (n3 := 192) i⟩
  refine Eq.trans ?_ (congrArg (Cert.KvRefIdeal.Read.val_main_v12 (F := Ideal) (argA m c) (argW m c) (argP m c) : S2x32x8192x192.Idx → EReal) (emb3 t a n x j)).symm
  refine Eq.trans ?_ (Cert.KvRefIdeal.Mat.ref_k (argA m c) (argW m c) (argP m c) (batOf t) (headOf t n) (posOf t x) j).symm
  refine (after_3 m c t (ix4 a n x j : S1x4x1024x192.Idx)).trans ?_
  rw [keyB_at]
  by_cases hj : j.val < 128
  · rw [dif_pos hj, dif_pos hj, prod_at, colOf_bcol]
  · rw [dif_neg hj, dif_neg hj, roped_at]

theorem bf_one : Ideal.ofBits .bf16 0x3F80#16 = (1 : EReal) := by
  simp [Ideal.ofBits, Ideal.ieee]
  rw [← EReal.coe_mul]; norm_num
theorem f_one : Ideal.ofBits .f32 0x3F800000#32 = (1 : EReal) := by
  simp [Ideal.ofBits, Ideal.ieee]
  rw [← EReal.coe_mul]; norm_num

theorem value_v : (dats m 0 c).arrAt 4 cfg0.N
    = (Cert.KvRefIdeal.Read.val_main_v13 (F := Ideal) (argA m c) (argW m c) : S2x32x144x8192.Idx → EReal) := by
  refine (dats m 0 c).arrAt_eq_of_covers 4 _ (by decide +kernel) fun t hf i => ?_
  obtain ⟨a, n, j, x, rfl⟩ : ∃ (a : Fin 1) (n : Fin 4) (j : Fin 144) (x : Fin 1024), i = (ix4 a n j x : S1x4x144x1024.Idx) :=
    ⟨i 0, i 1, i 2, i 3, eq_ix4 (n0 := 1) (n1 := 4) (n2 := 144) (n3 := 1024) i⟩
  refine Eq.trans ?_ (congrArg (Cert.KvRefIdeal.Read.val_main_v13 (F := Ideal) (argA m c) (argW m c) : S2x32x144x8192.Idx → EReal) (emb4 t a n j x)).symm
  refine Eq.trans ?_ (Cert.KvRefIdeal.Mat.ref_v (argA m c) (argW m c) (batOf t) (headOf t n) (posOf t x) j).symm
  refine (after_4 m c t (ix4 a n j x : S1x4x144x1024.Idx)).trans ?_
  rw [valB_at]
  by_cases hj : j.val < 128
  · rw [dif_pos hj, dif_pos hj, prod_at, colOf_bcol]
  · rw [dif_neg hj, dif_neg hj, bf_one, f_one]

end Cert.KvIdeal.Mat

end
-- ==== Proof.lean ====
/- The claims: of the attention, from its two runs, its reference's run and the table of named constants; of the products,
   from their runs and their references'. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.In
public import proofs.«01_k».proof.Proof.Gen.In.Frame
public import proofs.«01_k».proof.Proof.Gen.InIdeal
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Gate
public import proofs.«01_k».proof.Proof.Gen.Gate.Frame
public import proofs.«01_k».proof.Proof.Gen.GateIdeal
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Stats
public import proofs.«01_k».proof.Proof.Gen.Stats.Frame
public import proofs.«01_k».proof.Proof.Gen.StatsIdeal
public import proofs.«01_k».proof.Proof.Gen.StatsIdeal.Value
public import proofs.«01_k».proof.Proof.Gen.StatsRefIdeal
public import proofs.«01_k».proof.Proof.Gen.StatsRefIdeal.Run
public import proofs.«01_k».proof.Proof.Gen.StatsRefIdeal.Read
public import proofs.«01_k».proof.Proof.Attn.Run
public import proofs.«01_k».proof.Proof.Attn.Value
public import proofs.«01_k».proof.Proof.Attn.Pre
public import proofs.«01_k».proof.Proof.AttnK.Run
public import proofs.«01_k».proof.Proof.In.Value
public import proofs.«01_k».proof.Proof.Gate.Value
public import proofs.«01_k».proof.Proof.Stats.Value
public import proofs.«01_k».proof.Proof.Gen.Out.Frame
public import proofs.«01_k».proof.Proof.Gen.OutIdeal.Frame
public import proofs.«01_k».proof.Proof.Out.Value
public import proofs.«01_k».proof.Proof.OutK.Run
public import proofs.«01_k».proof.Proof.Gen.OutIdeal.Skeleton
public import proofs.«01_k».proof.Proof.Gen.Out.Skeleton
public import proofs.«01_k».proof.Proof.Gen.OutRefIdeal.Run
public import proofs.«01_k».proof.Proof.Gen.OutRefIdeal.Read
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Down.Value
public import proofs.«01_k».proof.Proof.Qup.Value
public import proofs.«01_k».proof.Proof.Kv.Value
public import proofs.«01_k».proof.Proof.Gen.Kv
public import proofs.«01_k».proof.Proof.Gen.Kv.Frame
public import proofs.«01_k».proof.Proof.Gen.KvIdeal
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.Qup
public import proofs.«01_k».proof.Proof.Gen.Qup.Frame
public import proofs.«01_k».proof.Proof.Gen.QupIdeal
public import proofs.«01_k».proof.Proof.Gen.QupIdeal.Value
public import proofs.«01_k».proof.Proof.Gen.QupRefIdeal
public import proofs.«01_k».proof.Proof.Gen.QupRefIdeal.Run
public import proofs.«01_k».proof.Proof.Gen.QupRefIdeal.Read
public import Idealize.ShloMosaic.Adequacy
public import Idealize.ShloMosaic.Init

@[expose] public section

noncomputable section

namespace Cert.Proof

open Idealize.ShloMosaic Idealize.SL.Sem

/-- The reference's frame, with the counters. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_pi : Cert.quiescent_KernelIdeal := fun m ρ _ => Cert.KernelIdeal.Attn.frame_quiet (F := Ideal) m ρ

theorem frame_p : Cert.quiescent_Kernel := fun m ρ _ => Cert.Kernel.Attn.frame_quiet (F := Bits) m ρ

/-- The kernel's result: the reference's, of real queries and keys. -/
theorem algebraic : Cert.algebraic_KernelIdeal_ReferenceIdeal_pre_finite_scores (hPre_finite_scores := Cert.Pre_finite_scores.facts) := by
  haveI := Cert.Pre_finite_scores.facts
  intro m g m' g' hpre hargs
  refine ⟨fun c => Cert.ReferenceIdeal.Read.val_main_v29 (F := Ideal) (Cert.KernelIdeal.Attn.argQ m c) (Cert.KernelIdeal.Attn.argK m c)
    (Cert.KernelIdeal.Attn.argV m c) (Cert.KernelIdeal.Attn.argG m c), ?_, ?_⟩
  · refine (θ_run Cert.KernelIdeal.defs _ _).mono (fun r h c => ⟨?_,
      ((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).2 Cert.KernelIdeal.main_arg3 (Pipeline.mem_restRefs_of Cert.KernelIdeal.main_arg3 (by decide) (by decide))).trans (Cert.KernelIdeal.Gen.V_main_arg3 m c)⟩)
      (Cert.KernelIdeal.Attn.run_quiet (F := Ideal) m g)
    obtain ⟨hq, hk⟩ := Cert.Pre_finite_scores.real (Cert.KernelIdeal.Attn.argQ m c) (Cert.KernelIdeal.Attn.argK m c) (Cert.KernelIdeal.Attn.argV m c)
      (Cert.KernelIdeal.Attn.argG m c) (hpre c)
    choose qr hqr using hq
    choose kr hkr using hk
    exact ((h.1 c).1 4).trans (Cert.KernelIdeal.Attn.value qr kr m c hqr hkr)
  · refine (θ_run Cert.ReferenceIdeal.defs _ _).mono (fun r h c => ⟨(h c).1.trans ?_, (h c).2⟩) (Cert.ReferenceIdeal.Value.run (F := Ideal) m' g')
    obtain ⟨e0, e1, e2, e3⟩ := hargs c
    rw [Cert.ReferenceIdeal.Read.val_main_v29_eq]
    exact congr (congr (congr (congrArg (Cert.ReferenceIdeal.Read.val_main_v29 (F := Ideal)) e0) e1) e2) e3

theorem frame_in : Cert.quiescent_In := fun m ρ _ => Cert.In.Gen.frame (F := Bits) m ρ

theorem frame_in_i : Cert.quiescent_InIdeal := fun m ρ _ => Cert.InIdeal.Gen.frame (F := Ideal) m ρ

theorem frame_in_r : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

/-- The call's result and its reference's. -/
theorem algebraic_in : Cert.algebraic_InIdeal_InRefIdeal := by
  intro m g m' g' hpre hargs
  refine ⟨fun c => Cert.InRefIdeal.Read.val_main_v15 (F := Ideal) (Cert.InIdeal.Mat.argX m c) (Cert.InIdeal.Mat.argG m c)
    (Cert.InIdeal.Mat.argW m c), ?_, ?_⟩
  · exact (θ_run Cert.InIdeal.defs _ _).mono (fun r h c => ⟨(h c).1.trans (Cert.InIdeal.Mat.value m c), (h c).2⟩)
      (Cert.InIdeal.Value.run_blocks (F := Ideal) m g)
  · refine (θ_run Cert.InRefIdeal.defs _ _).mono (fun r h c => ⟨(h c).1.trans ?_, (h c).2⟩) (Cert.InRefIdeal.Value.run (F := Ideal) m' g')
    obtain ⟨e0, e1, e2⟩ := hargs c
    rw [Cert.InRefIdeal.Read.val_main_v15_eq]
    exact congr (congr (congrArg (Cert.InRefIdeal.Read.val_main_v15 (F := Ideal)) e0) e1) e2

theorem frame_gate : Cert.quiescent_Gate := fun m ρ _ => Cert.Gate.Gen.frame (F := Bits) m ρ

theorem frame_gate_i : Cert.quiescent_GateIdeal := fun m ρ _ => Cert.GateIdeal.Gen.frame (F := Ideal) m ρ

theorem frame_gate_r : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

/-- The call's result and its reference's. -/
theorem algebraic_gate : Cert.algebraic_GateIdeal_GateRefIdeal := by
  intro m g m' g' hpre hargs
  refine ⟨fun c => Cert.GateRefIdeal.Read.val_main_v17 (F := Ideal) (Cert.GateIdeal.Mat.argX m c) (Cert.GateIdeal.Mat.argG m c)
    (Cert.GateIdeal.Mat.argW m c), ?_, ?_⟩
  · exact (θ_run Cert.GateIdeal.defs _ _).mono (fun r h c => ⟨(h c).1.trans (Cert.GateIdeal.Mat.value m c), (h c).2⟩)
      (Cert.GateIdeal.Value.run_blocks (F := Ideal) m g)
  · refine (θ_run Cert.GateRefIdeal.defs _ _).mono (fun r h c => ⟨(h c).1.trans ?_, (h c).2⟩) (Cert.GateRefIdeal.Value.run (F := Ideal) m' g')
    obtain ⟨e0, e1, e2⟩ := hargs c
    rw [Cert.GateRefIdeal.Read.val_main_v17_eq]
    exact congr (congr (congrArg (Cert.GateRefIdeal.Read.val_main_v17 (F := Ideal)) e0) e1) e2

theorem frame_stats : Cert.quiescent_Stats := fun m ρ _ => Cert.Stats.Gen.frame (F := Bits) m ρ

theorem frame_stats_i : Cert.quiescent_StatsIdeal := fun m ρ _ => Cert.StatsIdeal.Gen.frame (F := Ideal) m ρ

theorem frame_stats_r : Cert.quiescent_StatsRefIdeal := fun m ρ _ =>
  (θ_run Cert.StatsRefIdeal.defs _ _).mono (fun r h => ⟨fun c => (h c).2.2.2, sem_eq_zero_of_no_sems (by decide) r.2⟩)
    (Cert.StatsRefIdeal.Value.run (F := Ideal) m ρ)

/-- The call's three results and its reference's. -/
theorem algebraic_stats : Cert.algebraic_StatsIdeal_StatsRefIdeal := by
  intro m g m' g' hpre hargs
  refine ⟨fun c => Cert.StatsRefIdeal.Read.val_main_v10 (F := Ideal) (Cert.StatsIdeal.Mat.argO m c) (Cert.StatsIdeal.Mat.argW m c)
      (Cert.StatsIdeal.Mat.argX m c),
    fun c => Cert.StatsRefIdeal.Read.val_main_v15 (F := Ideal) (Cert.StatsIdeal.Mat.argO m c) (Cert.StatsIdeal.Mat.argW m c)
      (Cert.StatsIdeal.Mat.argX m c) (Cert.StatsIdeal.Mat.argG m c),
    fun c => Cert.StatsRefIdeal.Read.val_main_v16 (F := Ideal) (Cert.StatsIdeal.Mat.argO m c) (Cert.StatsIdeal.Mat.argW m c)
      (Cert.StatsIdeal.Mat.argX m c), ?_, ?_⟩
  · exact (θ_run Cert.StatsIdeal.defs _ _).mono
      (fun r h c => ⟨(h c).1.trans (Cert.StatsIdeal.Mat.value4 m c), (h c).2.1.trans (Cert.StatsIdeal.Mat.value5 m c),
        (h c).2.2.1.trans (Cert.StatsIdeal.Mat.value6 m c), (h c).2.2.2⟩)
      (Cert.StatsIdeal.Value.run_blocks (F := Ideal) m g)
  · refine (θ_run Cert.StatsRefIdeal.defs _ _).mono
      (fun r h c => ⟨(h c).1.trans ?_, (h c).2.1.trans ?_, (h c).2.2.1.trans ?_, (h c).2.2.2⟩)
      (Cert.StatsRefIdeal.Value.run (F := Ideal) m' g')
    · obtain ⟨e0, e1, e2, e3⟩ := hargs c
      rw [Cert.StatsRefIdeal.Read.val_main_v10_eq]
      exact congr (congr (congrArg (Cert.StatsRefIdeal.Read.val_main_v10 (F := Ideal)) e0) e1) e2
    · obtain ⟨e0, e1, e2, e3⟩ := hargs c
      rw [Cert.StatsRefIdeal.Read.val_main_v15_eq]
      exact congr (congr (congr (congrArg (Cert.StatsRefIdeal.Read.val_main_v15 (F := Ideal)) e0) e1) e2) e3
    · obtain ⟨e0, e1, e2, e3⟩ := hargs c
      rw [Cert.StatsRefIdeal.Read.val_main_v16_eq]
      exact congr (congr (congrArg (Cert.StatsRefIdeal.Read.val_main_v16 (F := Ideal)) e0) e1) e2

theorem frame_out : Cert.quiescent_Out := fun m ρ _ => Cert.Out.Hand.frame_quiet (F := Bits) m ρ

theorem frame_out_i : Cert.quiescent_OutIdeal := fun m ρ _ => Cert.OutIdeal.Hand.frame_quiet (F := Ideal) m ρ

theorem frame_out_r : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The call's result and its reference's. -/
theorem algebraic_out : Cert.algebraic_OutIdeal_OutRefIdeal := by
  intro m g m' g' hpre hargs
  refine ⟨fun c => Cert.OutIdeal.Hand.result m c, Cert.OutIdeal.Hand.run_value m g, ?_⟩
  refine (θ_run Cert.OutRefIdeal.defs _ _).mono (fun r h c => ⟨(h c).1.trans ?_, (h c).2⟩) (Cert.OutRefIdeal.Value.run (F := Ideal) m' g')
  obtain ⟨e0, e1, e2, e3⟩ := hargs c
  rw [Cert.OutRefIdeal.Read.val_main_v15_eq]
  exact congr (congr (congr (congrArg (Cert.OutRefIdeal.Read.val_main_v15 (F := Ideal)) e0) e1) e2) e3

theorem frame_down : Cert.quiescent_Down := fun m ρ _ => Cert.Down.Gen.frame (F := Bits) m ρ

theorem frame_down_i : Cert.quiescent_DownIdeal := fun m ρ _ => Cert.DownIdeal.Gen.frame (F := Ideal) m ρ

theorem frame_down_r : Cert.quiescent_DownRefIdeal := fun m ρ _ =>
  (θ_run Cert.DownRefIdeal.defs _ _).mono (fun r h => ⟨fun c => (h c).2.2.2.2, sem_eq_zero_of_no_sems (by decide) r.2⟩)
    (Cert.DownRefIdeal.Value.run (F := Ideal) m ρ)

/-- The call's four results and its reference's. -/
theorem algebraic_down : Cert.algebraic_DownIdeal_DownRefIdeal := by
  intro m g m' g' hpre hargs
  refine ⟨fun c => Cert.DownRefIdeal.Read.val_main_v19 (F := Ideal) (Cert.DownIdeal.Mat.argX m c) (Cert.DownIdeal.Mat.argG m c),
    fun c => Cert.DownRefIdeal.Read.val_main_v34 (F := Ideal) (Cert.DownIdeal.Mat.argX m c) (Cert.DownIdeal.Mat.argG m c) (Cert.DownIdeal.Mat.argW m c) (Cert.DownIdeal.Mat.argQ m c),
    fun c => Cert.DownRefIdeal.Read.val_main_v49 (F := Ideal) (Cert.DownIdeal.Mat.argX m c) (Cert.DownIdeal.Mat.argG m c) (Cert.DownIdeal.Mat.argW m c) (Cert.DownIdeal.Mat.argK m c),
    fun c => Cert.DownRefIdeal.Read.val_main_v66 (F := Ideal) (Cert.DownIdeal.Mat.argX m c) (Cert.DownIdeal.Mat.argG m c) (Cert.DownIdeal.Mat.argW m c) (Cert.DownIdeal.Mat.argC m c) (Cert.DownIdeal.Mat.argS m c), ?_, ?_⟩
  · exact (θ_run Cert.DownIdeal.defs _ _).mono
      (fun r h c => ⟨(h c).1.trans (Cert.DownIdeal.Mat.value_h m c), (h c).2.1.trans (Cert.DownIdeal.Mat.value_q m c),
        (h c).2.2.1.trans (Cert.DownIdeal.Mat.value_k m c), (h c).2.2.2.1.trans (Cert.DownIdeal.Mat.value_r m c), (h c).2.2.2.2⟩)
      (Cert.DownIdeal.Value.run_blocks (F := Ideal) m g)
  · refine (θ_run Cert.DownRefIdeal.defs _ _).mono
      (fun r h c => ⟨(h c).1.trans ?_, (h c).2.1.trans ?_, (h c).2.2.1.trans ?_, (h c).2.2.2.1.trans ?_, (h c).2.2.2.2⟩)
      (Cert.DownRefIdeal.Value.run (F := Ideal) m' g')
    · obtain ⟨e0, e1, e2, e3, e4, e5, e6⟩ := hargs c
      rw [Cert.DownRefIdeal.Read.val_main_v19_eq]
      exact congr (congrArg (Cert.DownRefIdeal.Read.val_main_v19 (F := Ideal)) e0) e1
    · obtain ⟨e0, e1, e2, e3, e4, e5, e6⟩ := hargs c
      rw [Cert.DownRefIdeal.Read.val_main_v34_eq]
      exact congr (congr (congr (congrArg (Cert.DownRefIdeal.Read.val_main_v34 (F := Ideal)) e0) e1) e2) e3
    · obtain ⟨e0, e1, e2, e3, e4, e5, e6⟩ := hargs c
      rw [Cert.DownRefIdeal.Read.val_main_v49_eq]
      exact congr (congr (congr (congrArg (Cert.DownRefIdeal.Read.val_main_v49 (F := Ideal)) e0) e1) e2) e4
    · obtain ⟨e0, e1, e2, e3, e4, e5, e6⟩ := hargs c
      rw [Cert.DownRefIdeal.Read.val_main_v66_eq]
      exact congr (congr (congr (congr (congrArg (Cert.DownRefIdeal.Read.val_main_v66 (F := Ideal)) e0) e1) e2) e5) e6

/-! ### The key and value up-projection -/

theorem frame_kv : Cert.quiescent_Kv := fun m ρ _ => Cert.Kv.Gen.frame (F := Bits) m ρ

theorem frame_kv_i : Cert.quiescent_KvIdeal := fun m ρ _ => Cert.KvIdeal.Gen.frame (F := Ideal) m ρ

theorem frame_kv_r : Cert.quiescent_KvRefIdeal := fun m ρ _ =>
  (θ_run Cert.KvRefIdeal.defs _ _).mono (fun r h => ⟨fun c => (h c).2.2, sem_eq_zero_of_no_sems (by decide) r.2⟩)
    (Cert.KvRefIdeal.Value.run (F := Ideal) m ρ)

/-- The key and value up-projection: the call and the reference leave the same two arrays. -/
theorem algebraic_kv : Cert.algebraic_KvIdeal_KvRefIdeal := by
  intro m g m' g' hpre hargs
  refine ⟨fun c => Cert.KvRefIdeal.Read.val_main_v12 (F := Ideal) (Cert.KvIdeal.Mat.argA m c) (Cert.KvIdeal.Mat.argW m c) (Cert.KvIdeal.Mat.argP m c),
    fun c => Cert.KvRefIdeal.Read.val_main_v13 (F := Ideal) (Cert.KvIdeal.Mat.argA m c) (Cert.KvIdeal.Mat.argW m c), ?_, ?_⟩
  · exact (θ_run Cert.KvIdeal.defs _ _).mono
      (fun r h c => ⟨(h c).1.trans (Cert.KvIdeal.Mat.value_k m c), (h c).2.1.trans (Cert.KvIdeal.Mat.value_v m c), (h c).2.2⟩)
      (Cert.KvIdeal.Value.run_blocks (F := Ideal) m g)
  · refine (θ_run Cert.KvRefIdeal.defs _ _).mono
      (fun r h c => ⟨(h c).1.trans ?_, (h c).2.1.trans ?_, (h c).2.2⟩)
      (Cert.KvRefIdeal.Value.run (F := Ideal) m' g')
    · obtain ⟨e0, e1, e2⟩ := hargs c
      rw [Cert.KvRefIdeal.Read.val_main_v12_eq]
      exact congr (congr (congrArg (Cert.KvRefIdeal.Read.val_main_v12 (F := Ideal)) e0) e1) e2
    · obtain ⟨e0, e1, e2⟩ := hargs c
      rw [Cert.KvRefIdeal.Read.val_main_v13_eq]
      exact congr (congrArg (Cert.KvRefIdeal.Read.val_main_v13 (F := Ideal)) e0) e1

/-! ### The queries' up-projection -/

theorem frame_qup : Cert.quiescent_Qup := fun m ρ _ => Cert.Qup.Gen.frame (F := Bits) m ρ

theorem frame_qup_i : Cert.quiescent_QupIdeal := fun m ρ _ => Cert.QupIdeal.Gen.frame (F := Ideal) m ρ

theorem frame_qup_r : Cert.quiescent_QupRefIdeal := fun m ρ _ =>
  (θ_run Cert.QupRefIdeal.defs _ _).mono (fun r h => ⟨fun c => (h c).2, sem_eq_zero_of_no_sems (by decide) r.2⟩)
    (Cert.QupRefIdeal.Value.run (F := Ideal) m ρ)

/-- The queries' up-projection: the call and the reference leave the same array. -/
theorem algebraic_qup : Cert.algebraic_QupIdeal_QupRefIdeal := by
  intro m g m' g' hpre hargs
  refine ⟨fun c => Cert.QupRefIdeal.Read.val_main_v27 (F := Ideal) (Cert.QupIdeal.Mat.argA m c) (Cert.QupIdeal.Mat.argW m c)
    (Cert.QupIdeal.Mat.argC m c) (Cert.QupIdeal.Mat.argS m c), ?_, ?_⟩
  · exact (θ_run Cert.QupIdeal.defs _ _).mono
      (fun r h c => ⟨(h c).1.trans (Cert.QupIdeal.Mat.value m c), (h c).2⟩)
      (Cert.QupIdeal.Value.run_blocks (F := Ideal) m g)
  · refine (θ_run Cert.QupRefIdeal.defs _ _).mono
      (fun r h c => ⟨(h c).1.trans ?_, (h c).2⟩)
      (Cert.QupRefIdeal.Value.run (F := Ideal) m' g')
    obtain ⟨e0, e1, e2, e3⟩ := hargs c
    rw [Cert.QupRefIdeal.Read.val_main_v27_eq]
    exact congr (congr (congr (congrArg (Cert.QupRefIdeal.Read.val_main_v27 (F := Ideal)) e0) e1) e2) e3

theorem claim : Cert.Claim := ⟨Cert.Kernel.Gen.facts, Cert.KernelIdeal.Gen.facts, Cert.ReferenceIdeal.Gen.facts,
  Cert.In.Gen.facts, Cert.InIdeal.Gen.facts, Cert.InRefIdeal.Gen.facts, Cert.Gate.Gen.facts, Cert.GateIdeal.Gen.facts,
  Cert.GateRefIdeal.Gen.facts, Cert.Stats.Gen.facts, Cert.StatsIdeal.Gen.facts, Cert.StatsRefIdeal.Gen.facts,
  Cert.Out.Gen.facts, Cert.OutIdeal.Gen.facts, Cert.OutRefIdeal.Gen.facts,
  Cert.Down.Gen.facts, Cert.DownIdeal.Gen.facts, Cert.DownRefIdeal.Gen.facts, Cert.Kv.Gen.facts, Cert.KvIdeal.Gen.facts, Cert.KvRefIdeal.Gen.facts, Cert.Qup.Gen.facts, Cert.QupIdeal.Gen.facts, Cert.QupRefIdeal.Gen.facts, Cert.Pre_finite_scores.facts,
  frame_p, frame_pi, fun m ρ _ => frame_pi m ρ trivial, frame_ri, fun m ρ _ => frame_ri m ρ trivial,
  frame_in, frame_in_i, frame_in_r, frame_gate, frame_gate_i, frame_gate_r, frame_stats, frame_stats_i, frame_stats_r,
  frame_out, frame_out_i, frame_out_r, frame_down, frame_down_i, frame_down_r, frame_kv, frame_kv_i, frame_kv_r, frame_qup, frame_qup_i, frame_qup_r,
  IdealRules.named_const.statement Cert.KernelIdeal.κ "mask" .f32 0xF149F2CA#32 ⊥ rfl, algebraic,
  trivial, algebraic_in, trivial, algebraic_gate, trivial, algebraic_stats, trivial, algebraic_out, trivial, algebraic_down, trivial, algebraic_kv, IdealRules.named_const.statement Cert.QupIdeal.κ "scale" .f32 0x3DD53B95#32 ((((Real.sqrt 192) * (Real.log 2))⁻¹ : ℝ) : EReal) rfl, algebraic_qup⟩

end Cert.Proof

end
